-- ==== Defs.lean ====
def Pre_Lstm (m : (ℓ : Loc Cert.Lstm.nD Cert.Lstm.τ Cert.Lstm.sig) → Buf (Elt Bits) ℓ) : Prop :=
  True

def Pre_LstmIdeal (m : (ℓ : Loc Cert.LstmIdeal.nD Cert.LstmIdeal.τ Cert.LstmIdeal.sig) → Buf (Elt Ideal) ℓ) : Prop :=
  True

def Pre_LstmRefIdeal (m : (ℓ : Loc Cert.LstmRefIdeal.nD Cert.LstmRefIdeal.τ Cert.LstmRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Dots (m : (ℓ : Loc Cert.Dots.nD Cert.Dots.τ Cert.Dots.sig) → Buf (Elt Bits) ℓ) : Prop :=
  True

def Pre_DotsIdeal (m : (ℓ : Loc Cert.DotsIdeal.nD Cert.DotsIdeal.τ Cert.DotsIdeal.sig) → Buf (Elt Ideal) ℓ) : Prop :=
  True

def Pre_DotsRefIdeal (m : (ℓ : Loc Cert.DotsRefIdeal.nD Cert.DotsRefIdeal.τ Cert.DotsRefIdeal.sig) → Buf (Elt Ideal) ℓ) : Prop :=
  True

def Pre_Focus (m : (ℓ : Loc Cert.Focus.nD Cert.Focus.τ Cert.Focus.sig) → Buf (Elt Bits) ℓ) : Prop :=
  True

def Pre_FocusIdeal (m : (ℓ : Loc Cert.FocusIdeal.nD Cert.FocusIdeal.τ Cert.FocusIdeal.sig) → Buf (Elt Ideal) ℓ) : Prop :=
  True

def Pre_FocusRefIdeal (m : (ℓ : Loc Cert.FocusRefIdeal.nD Cert.FocusRefIdeal.τ Cert.FocusRefIdeal.sig) → Buf (Elt Ideal) ℓ) : Prop :=
  True

def quiescent_Lstm [hLstm : Cert.Lstm.Facts] : Prop :=
  ∀ (m : (ℓ : Loc Cert.Lstm.nD Cert.Lstm.τ Cert.Lstm.sig) → Buf (Elt Bits) ℓ) (g : Dev Cert.Lstm.nD → PrngReg), Pre_Lstm m →
    θ_run (Cert.Lstm.defs (F := Bits)) (onTc (τ := Cert.Lstm.τ) (Cert.Lstm.main (F := Bits))) ⟨m, fun _ => 0, g⟩ (fun r => (∀ c : Dev Cert.Lstm.nD,
      r.2.mem ((c.tc : Thread Cert.Lstm.nD Cert.Lstm.τ).loc Cert.Lstm.main_arg0) = m ((c.tc : Thread Cert.Lstm.nD Cert.Lstm.τ).loc Cert.Lstm.main_arg0)
      ∧ r.2.mem ((c.tc : Thread Cert.Lstm.nD Cert.Lstm.τ).loc Cert.Lstm.main_arg1) = m ((c.tc : Thread Cert.Lstm.nD Cert.Lstm.τ).loc Cert.Lstm.main_arg1)
      ∧ r.2.mem ((c.tc : Thread Cert.Lstm.nD Cert.Lstm.τ).loc Cert.Lstm.main_arg2) = m ((c.tc : Thread Cert.Lstm.nD Cert.Lstm.τ).loc Cert.Lstm.main_arg2)
      ∧ r.2.mem ((c.tc : Thread Cert.Lstm.nD Cert.Lstm.τ).loc Cert.Lstm.main_arg3) = m ((c.tc : Thread Cert.Lstm.nD Cert.Lstm.τ).loc Cert.Lstm.main_arg3)
      ∧ r.2.mem ((c.tc : Thread Cert.Lstm.nD Cert.Lstm.τ).loc Cert.Lstm.main_arg4) = m ((c.tc : Thread Cert.Lstm.nD Cert.Lstm.τ).loc Cert.Lstm.main_arg4)
      ∧ r.2.mem ((c.tc : Thread Cert.Lstm.nD Cert.Lstm.τ).loc Cert.Lstm.main_arg5) = m ((c.tc : Thread Cert.Lstm.nD Cert.Lstm.τ).loc Cert.Lstm.main_arg5))
      ∧ r.2.sem = fun _ => 0)

def quiescent_LstmIdeal [hLstmIdeal : Cert.LstmIdeal.Facts] : Prop :=
  ∀ (m : (ℓ : Loc Cert.LstmIdeal.nD Cert.LstmIdeal.τ Cert.LstmIdeal.sig) → Buf (Elt Ideal) ℓ) (g : Dev Cert.LstmIdeal.nD → PrngReg), Pre_LstmIdeal m →
    θ_run (Cert.LstmIdeal.defs (F := Ideal)) (onTc (τ := Cert.LstmIdeal.τ) (Cert.LstmIdeal.main (F := Ideal))) ⟨m, fun _ => 0, g⟩ (fun r => (∀ c : Dev Cert.LstmIdeal.nD,
      r.2.mem ((c.tc : Thread Cert.LstmIdeal.nD Cert.LstmIdeal.τ).loc Cert.LstmIdeal.main_arg0) = m ((c.tc : Thread Cert.LstmIdeal.nD Cert.LstmIdeal.τ).loc Cert.LstmIdeal.main_arg0)
      ∧ r.2.mem ((c.tc : Thread Cert.LstmIdeal.nD Cert.LstmIdeal.τ).loc Cert.LstmIdeal.main_arg1) = m ((c.tc : Thread Cert.LstmIdeal.nD Cert.LstmIdeal.τ).loc Cert.LstmIdeal.main_arg1)
      ∧ r.2.mem ((c.tc : Thread Cert.LstmIdeal.nD Cert.LstmIdeal.τ).loc Cert.LstmIdeal.main_arg2) = m ((c.tc : Thread Cert.LstmIdeal.nD Cert.LstmIdeal.τ).loc Cert.LstmIdeal.main_arg2)
      ∧ r.2.mem ((c.tc : Thread Cert.LstmIdeal.nD Cert.LstmIdeal.τ).loc Cert.LstmIdeal.main_arg3) = m ((c.tc : Thread Cert.LstmIdeal.nD Cert.LstmIdeal.τ).loc Cert.LstmIdeal.main_arg3)
      ∧ r.2.mem ((c.tc : Thread Cert.LstmIdeal.nD Cert.LstmIdeal.τ).loc Cert.LstmIdeal.main_arg4) = m ((c.tc : Thread Cert.LstmIdeal.nD Cert.LstmIdeal.τ).loc Cert.LstmIdeal.main_arg4)
      ∧ r.2.mem ((c.tc : Thread Cert.LstmIdeal.nD Cert.LstmIdeal.τ).loc Cert.LstmIdeal.main_arg5) = m ((c.tc : Thread Cert.LstmIdeal.nD Cert.LstmIdeal.τ).loc Cert.LstmIdeal.main_arg5))
      ∧ r.2.sem = fun _ => 0)

def quiescent_LstmRefIdeal [hLstmRefIdeal : Cert.LstmRefIdeal.Facts] : Prop :=
  ∀ (m : (ℓ : Loc Cert.LstmRefIdeal.nD Cert.LstmRefIdeal.τ Cert.LstmRefIdeal.sig) → Buf (Elt Ideal) ℓ) (g : Dev Cert.LstmRefIdeal.nD → PrngReg), Pre_LstmRefIdeal m →
    θ_run (Cert.LstmRefIdeal.defs (F := Ideal)) (onTc (τ := Cert.LstmRefIdeal.τ) (Cert.LstmRefIdeal.main (F := Ideal))) ⟨m, fun _ => 0, g⟩ (fun r => (∀ c : Dev Cert.LstmRefIdeal.nD,
      r.2.mem ((c.tc : Thread Cert.LstmRefIdeal.nD Cert.LstmRefIdeal.τ).loc Cert.LstmRefIdeal.main_arg0) = m ((c.tc : Thread Cert.LstmRefIdeal.nD Cert.LstmRefIdeal.τ).loc Cert.LstmRefIdeal.main_arg0)
      ∧ r.2.mem ((c.tc : Thread Cert.LstmRefIdeal.nD Cert.LstmRefIdeal.τ).loc Cert.LstmRefIdeal.main_arg1) = m ((c.tc : Thread Cert.LstmRefIdeal.nD Cert.LstmRefIdeal.τ).loc Cert.LstmRefIdeal.main_arg1)
      ∧ r.2.mem ((c.tc : Thread Cert.LstmRefIdeal.nD Cert.LstmRefIdeal.τ).loc Cert.LstmRefIdeal.main_arg2) = m ((c.tc : Thread Cert.LstmRefIdeal.nD Cert.LstmRefIdeal.τ).loc Cert.LstmRefIdeal.main_arg2)
      ∧ r.2.mem ((c.tc : Thread Cert.LstmRefIdeal.nD Cert.LstmRefIdeal.τ).loc Cert.LstmRefIdeal.main_arg3) = m ((c.tc : Thread Cert.LstmRefIdeal.nD Cert.LstmRefIdeal.τ).loc Cert.LstmRefIdeal.main_arg3)
      ∧ r.2.mem ((c.tc : Thread Cert.LstmRefIdeal.nD Cert.LstmRefIdeal.τ).loc Cert.LstmRefIdeal.main_arg4) = m ((c.tc : Thread Cert.LstmRefIdeal.nD Cert.LstmRefIdeal.τ).loc Cert.LstmRefIdeal.main_arg4)
      ∧ r.2.mem ((c.tc : Thread Cert.LstmRefIdeal.nD Cert.LstmRefIdeal.τ).loc Cert.LstmRefIdeal.main_arg5) = m ((c.tc : Thread Cert.LstmRefIdeal.nD Cert.LstmRefIdeal.τ).loc Cert.LstmRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9)
      ∧ r.2.mem ((c.tc : Thread Cert.Conv.nD Cert.Conv.τ).loc Cert.Conv.main_arg10) = m ((c.tc : Thread Cert.Conv.nD Cert.Conv.τ).loc Cert.Conv.main_arg10)
      ∧ r.2.mem ((c.tc : Thread Cert.Conv.nD Cert.Conv.τ).loc Cert.Conv.main_arg11) = m ((c.tc : Thread Cert.Conv.nD Cert.Conv.τ).loc Cert.Conv.main_arg11)
      ∧ r.2.mem ((c.tc : Thread Cert.Conv.nD Cert.Conv.τ).loc Cert.Conv.main_arg12) = m ((c.tc : Thread Cert.Conv.nD Cert.Conv.τ).loc Cert.Conv.main_arg12)
      ∧ r.2.mem ((c.tc : Thread Cert.Conv.nD Cert.Conv.τ).loc Cert.Conv.main_arg13) = m ((c.tc : Thread Cert.Conv.nD Cert.Conv.τ).loc Cert.Conv.main_arg13)
      ∧ r.2.mem ((c.tc : Thread Cert.Conv.nD Cert.Conv.τ).loc Cert.Conv.main_arg14) = m ((c.tc : Thread Cert.Conv.nD Cert.Conv.τ).loc Cert.Conv.main_arg14))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
      ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10)
      ∧ r.2.mem ((c.tc : Thread Cert.ConvIdeal.nD Cert.ConvIdeal.τ).loc Cert.ConvIdeal.main_arg11) = m ((c.tc : Thread Cert.ConvIdeal.nD Cert.ConvIdeal.τ).loc Cert.ConvIdeal.main_arg11)
      ∧ r.2.mem ((c.tc : Thread Cert.ConvIdeal.nD Cert.ConvIdeal.τ).loc Cert.ConvIdeal.main_arg12) = m ((c.tc : Thread Cert.ConvIdeal.nD Cert.ConvIdeal.τ).loc Cert.ConvIdeal.main_arg12)
      ∧ r.2.mem ((c.tc : Thread Cert.ConvIdeal.nD Cert.ConvIdeal.τ).loc Cert.ConvIdeal.main_arg13) = m ((c.tc : Thread Cert.ConvIdeal.nD Cert.ConvIdeal.τ).loc Cert.ConvIdeal.main_arg13)
      ∧ r.2.mem ((c.tc : Thread Cert.ConvIdeal.nD Cert.ConvIdeal.τ).loc Cert.ConvIdeal.main_arg14) = m ((c.tc : Thread Cert.ConvIdeal.nD Cert.ConvIdeal.τ).loc Cert.ConvIdeal.main_arg14))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9)
      ∧ r.2.mem ((c.tc : Thread Cert.ConvRefIdeal.nD Cert.ConvRefIdeal.τ).loc Cert.ConvRefIdeal.main_arg10) = m ((c.tc : Thread Cert.ConvRefIdeal.nD Cert.ConvRefIdeal.τ).loc Cert.ConvRefIdeal.main_arg10)
      ∧ r.2.mem ((c.tc : Thread Cert.ConvRefIdeal.nD Cert.ConvRefIdeal.τ).loc Cert.ConvRefIdeal.main_arg11) = m ((c.tc : Thread Cert.ConvRefIdeal.nD Cert.ConvRefIdeal.τ).loc Cert.ConvRefIdeal.main_arg11)
      ∧ r.2.mem ((c.tc : Thread Cert.ConvRefIdeal.nD Cert.ConvRefIdeal.τ).loc Cert.ConvRefIdeal.main_arg12) = m ((c.tc : Thread Cert.ConvRefIdeal.nD Cert.ConvRefIdeal.τ).loc Cert.ConvRefIdeal.main_arg12)
      ∧ r.2.mem ((c.tc : Thread Cert.ConvRefIdeal.nD Cert.ConvRefIdeal.τ).loc Cert.ConvRefIdeal.main_arg13) = m ((c.tc : Thread Cert.ConvRefIdeal.nD Cert.ConvRefIdeal.τ).loc Cert.ConvRefIdeal.main_arg13)
      ∧ r.2.mem ((c.tc : Thread Cert.ConvRefIdeal.nD Cert.ConvRefIdeal.τ).loc Cert.ConvRefIdeal.main_arg14) = m ((c.tc : Thread Cert.ConvRefIdeal.nD Cert.ConvRefIdeal.τ).loc Cert.ConvRefIdeal.main_arg14))
      ∧ r.2.sem = fun _ => 0)

def quiescent_Dots [hDots : Cert.Dots.Facts] : Prop :=
  ∀ (m : (ℓ : Loc Cert.Dots.nD Cert.Dots.τ Cert.Dots.sig) → Buf (Elt Bits) ℓ) (g : Dev Cert.Dots.nD → PrngReg), Pre_Dots m →
    θ_run (Cert.Dots.defs (F := Bits)) (onTc (τ := Cert.Dots.τ) (Cert.Dots.main (F := Bits))) ⟨m, fun _ => 0, g⟩ (fun r => (∀ c : Dev Cert.Dots.nD,
      r.2.mem ((c.tc : Thread Cert.Dots.nD Cert.Dots.τ).loc Cert.Dots.main_arg0) = m ((c.tc : Thread Cert.Dots.nD Cert.Dots.τ).loc Cert.Dots.main_arg0)
      ∧ r.2.mem ((c.tc : Thread Cert.Dots.nD Cert.Dots.τ).loc Cert.Dots.main_arg1) = m ((c.tc : Thread Cert.Dots.nD Cert.Dots.τ).loc Cert.Dots.main_arg1)
      ∧ r.2.mem ((c.tc : Thread Cert.Dots.nD Cert.Dots.τ).loc Cert.Dots.main_arg2) = m ((c.tc : Thread Cert.Dots.nD Cert.Dots.τ).loc Cert.Dots.main_arg2)
      ∧ r.2.mem ((c.tc : Thread Cert.Dots.nD Cert.Dots.τ).loc Cert.Dots.main_arg3) = m ((c.tc : Thread Cert.Dots.nD Cert.Dots.τ).loc Cert.Dots.main_arg3))
      ∧ r.2.sem = fun _ => 0)

def quiescent_DotsIdeal [hDotsIdeal : Cert.DotsIdeal.Facts] : Prop :=
  ∀ (m : (ℓ : Loc Cert.DotsIdeal.nD Cert.DotsIdeal.τ Cert.DotsIdeal.sig) → Buf (Elt Ideal) ℓ) (g : Dev Cert.DotsIdeal.nD → PrngReg), Pre_DotsIdeal m →
    θ_run (Cert.DotsIdeal.defs (F := Ideal)) (onTc (τ := Cert.DotsIdeal.τ) (Cert.DotsIdeal.main (F := Ideal))) ⟨m, fun _ => 0, g⟩ (fun r => (∀ c : Dev Cert.DotsIdeal.nD,
      r.2.mem ((c.tc : Thread Cert.DotsIdeal.nD Cert.DotsIdeal.τ).loc Cert.DotsIdeal.main_arg0) = m ((c.tc : Thread Cert.DotsIdeal.nD Cert.DotsIdeal.τ).loc Cert.DotsIdeal.main_arg0)
      ∧ r.2.mem ((c.tc : Thread Cert.DotsIdeal.nD Cert.DotsIdeal.τ).loc Cert.DotsIdeal.main_arg1) = m ((c.tc : Thread Cert.DotsIdeal.nD Cert.DotsIdeal.τ).loc Cert.DotsIdeal.main_arg1)
      ∧ r.2.mem ((c.tc : Thread Cert.DotsIdeal.nD Cert.DotsIdeal.τ).loc Cert.DotsIdeal.main_arg2) = m ((c.tc : Thread Cert.DotsIdeal.nD Cert.DotsIdeal.τ).loc Cert.DotsIdeal.main_arg2)
      ∧ r.2.mem ((c.tc : Thread Cert.DotsIdeal.nD Cert.DotsIdeal.τ).loc Cert.DotsIdeal.main_arg3) = m ((c.tc : Thread Cert.DotsIdeal.nD Cert.DotsIdeal.τ).loc Cert.DotsIdeal.main_arg3))
      ∧ r.2.sem = fun _ => 0)

def quiescent_DotsRefIdeal [hDotsRefIdeal : Cert.DotsRefIdeal.Facts] : Prop :=
  ∀ (m : (ℓ : Loc Cert.DotsRefIdeal.nD Cert.DotsRefIdeal.τ Cert.DotsRefIdeal.sig) → Buf (Elt Ideal) ℓ) (g : Dev Cert.DotsRefIdeal.nD → PrngReg), Pre_DotsRefIdeal m →
    θ_run (Cert.DotsRefIdeal.defs (F := Ideal)) (onTc (τ := Cert.DotsRefIdeal.τ) (Cert.DotsRefIdeal.main (F := Ideal))) ⟨m, fun _ => 0, g⟩ (fun r => (∀ c : Dev Cert.DotsRefIdeal.nD,
      r.2.mem ((c.tc : Thread Cert.DotsRefIdeal.nD Cert.DotsRefIdeal.τ).loc Cert.DotsRefIdeal.main_arg0) = m ((c.tc : Thread Cert.DotsRefIdeal.nD Cert.DotsRefIdeal.τ).loc Cert.DotsRefIdeal.main_arg0)
      ∧ r.2.mem ((c.tc : Thread Cert.DotsRefIdeal.nD Cert.DotsRefIdeal.τ).loc Cert.DotsRefIdeal.main_arg1) = m ((c.tc : Thread Cert.DotsRefIdeal.nD Cert.DotsRefIdeal.τ).loc Cert.DotsRefIdeal.main_arg1)
      ∧ r.2.mem ((c.tc : Thread Cert.DotsRefIdeal.nD Cert.DotsRefIdeal.τ).loc Cert.DotsRefIdeal.main_arg2) = m ((c.tc : Thread Cert.DotsRefIdeal.nD Cert.DotsRefIdeal.τ).loc Cert.DotsRefIdeal.main_arg2)
      ∧ r.2.mem ((c.tc : Thread Cert.DotsRefIdeal.nD Cert.DotsRefIdeal.τ).loc Cert.DotsRefIdeal.main_arg3) = m ((c.tc : Thread Cert.DotsRefIdeal.nD Cert.DotsRefIdeal.τ).loc Cert.DotsRefIdeal.main_arg3))
      ∧ r.2.sem = fun _ => 0)

def quiescent_Focus [hFocus : Cert.Focus.Facts] : Prop :=
  ∀ (m : (ℓ : Loc Cert.Focus.nD Cert.Focus.τ Cert.Focus.sig) → Buf (Elt Bits) ℓ) (g : Dev Cert.Focus.nD → PrngReg), Pre_Focus m →
    θ_run (Cert.Focus.defs (F := Bits)) (onTc (τ := Cert.Focus.τ) (Cert.Focus.main (F := Bits))) ⟨m, fun _ => 0, g⟩ (fun r => (∀ c : Dev Cert.Focus.nD,
      r.2.mem ((c.tc : Thread Cert.Focus.nD Cert.Focus.τ).loc Cert.Focus.main_arg0) = m ((c.tc : Thread Cert.Focus.nD Cert.Focus.τ).loc Cert.Focus.main_arg0)
      ∧ r.2.mem ((c.tc : Thread Cert.Focus.nD Cert.Focus.τ).loc Cert.Focus.main_arg1) = m ((c.tc : Thread Cert.Focus.nD Cert.Focus.τ).loc Cert.Focus.main_arg1)
      ∧ r.2.mem ((c.tc : Thread Cert.Focus.nD Cert.Focus.τ).loc Cert.Focus.main_arg2) = m ((c.tc : Thread Cert.Focus.nD Cert.Focus.τ).loc Cert.Focus.main_arg2)
      ∧ r.2.mem ((c.tc : Thread Cert.Focus.nD Cert.Focus.τ).loc Cert.Focus.main_arg3) = m ((c.tc : Thread Cert.Focus.nD Cert.Focus.τ).loc Cert.Focus.main_arg3)
      ∧ r.2.mem ((c.tc : Thread Cert.Focus.nD Cert.Focus.τ).loc Cert.Focus.main_arg4) = m ((c.tc : Thread Cert.Focus.nD Cert.Focus.τ).loc Cert.Focus.main_arg4)
      ∧ r.2.mem ((c.tc : Thread Cert.Focus.nD Cert.Focus.τ).loc Cert.Focus.main_arg5) = m ((c.tc : Thread Cert.Focus.nD Cert.Focus.τ).loc Cert.Focus.main_arg5)
      ∧ r.2.mem ((c.tc : Thread Cert.Focus.nD Cert.Focus.τ).loc Cert.Focus.main_arg6) = m ((c.tc : Thread Cert.Focus.nD Cert.Focus.τ).loc Cert.Focus.main_arg6)
      ∧ r.2.mem ((c.tc : Thread Cert.Focus.nD Cert.Focus.τ).loc Cert.Focus.main_arg7) = m ((c.tc : Thread Cert.Focus.nD Cert.Focus.τ).loc Cert.Focus.main_arg7)
      ∧ r.2.mem ((c.tc : Thread Cert.Focus.nD Cert.Focus.τ).loc Cert.Focus.main_arg8) = m ((c.tc : Thread Cert.Focus.nD Cert.Focus.τ).loc Cert.Focus.main_arg8)
      ∧ r.2.mem ((c.tc : Thread Cert.Focus.nD Cert.Focus.τ).loc Cert.Focus.main_arg9) = m ((c.tc : Thread Cert.Focus.nD Cert.Focus.τ).loc Cert.Focus.main_arg9)
      ∧ r.2.mem ((c.tc : Thread Cert.Focus.nD Cert.Focus.τ).loc Cert.Focus.main_arg10) = m ((c.tc : Thread Cert.Focus.nD Cert.Focus.τ).loc Cert.Focus.main_arg10)
      ∧ r.2.mem ((c.tc : Thread Cert.Focus.nD Cert.Focus.τ).loc Cert.Focus.main_arg11) = m ((c.tc : Thread Cert.Focus.nD Cert.Focus.τ).loc Cert.Focus.main_arg11))
      ∧ r.2.sem = fun _ => 0)

def quiescent_FocusIdeal [hFocusIdeal : Cert.FocusIdeal.Facts] : Prop :=
  ∀ (m : (ℓ : Loc Cert.FocusIdeal.nD Cert.FocusIdeal.τ Cert.FocusIdeal.sig) → Buf (Elt Ideal) ℓ) (g : Dev Cert.FocusIdeal.nD → PrngReg), Pre_FocusIdeal m →
    θ_run (Cert.FocusIdeal.defs (F := Ideal)) (onTc (τ := Cert.FocusIdeal.τ) (Cert.FocusIdeal.main (F := Ideal))) ⟨m, fun _ => 0, g⟩ (fun r => (∀ c : Dev Cert.FocusIdeal.nD,
      r.2.mem ((c.tc : Thread Cert.FocusIdeal.nD Cert.FocusIdeal.τ).loc Cert.FocusIdeal.main_arg0) = m ((c.tc : Thread Cert.FocusIdeal.nD Cert.FocusIdeal.τ).loc Cert.FocusIdeal.main_arg0)
      ∧ r.2.mem ((c.tc : Thread Cert.FocusIdeal.nD Cert.FocusIdeal.τ).loc Cert.FocusIdeal.main_arg1) = m ((c.tc : Thread Cert.FocusIdeal.nD Cert.FocusIdeal.τ).loc Cert.FocusIdeal.main_arg1)
      ∧ r.2.mem ((c.tc : Thread Cert.FocusIdeal.nD Cert.FocusIdeal.τ).loc Cert.FocusIdeal.main_arg2) = m ((c.tc : Thread Cert.FocusIdeal.nD Cert.FocusIdeal.τ).loc Cert.FocusIdeal.main_arg2)
      ∧ r.2.mem ((c.tc : Thread Cert.FocusIdeal.nD Cert.FocusIdeal.τ).loc Cert.FocusIdeal.main_arg3) = m ((c.tc : Thread Cert.FocusIdeal.nD Cert.FocusIdeal.τ).loc Cert.FocusIdeal.main_arg3)
      ∧ r.2.mem ((c.tc : Thread Cert.FocusIdeal.nD Cert.FocusIdeal.τ).loc Cert.FocusIdeal.main_arg4) = m ((c.tc : Thread Cert.FocusIdeal.nD Cert.FocusIdeal.τ).loc Cert.FocusIdeal.main_arg4)
      ∧ r.2.mem ((c.tc : Thread Cert.FocusIdeal.nD Cert.FocusIdeal.τ).loc Cert.FocusIdeal.main_arg5) = m ((c.tc : Thread Cert.FocusIdeal.nD Cert.FocusIdeal.τ).loc Cert.FocusIdeal.main_arg5)
      ∧ r.2.mem ((c.tc : Thread Cert.FocusIdeal.nD Cert.FocusIdeal.τ).loc Cert.FocusIdeal.main_arg6) = m ((c.tc : Thread Cert.FocusIdeal.nD Cert.FocusIdeal.τ).loc Cert.FocusIdeal.main_arg6)
      ∧ r.2.mem ((c.tc : Thread Cert.FocusIdeal.nD Cert.FocusIdeal.τ).loc Cert.FocusIdeal.main_arg7) = m ((c.tc : Thread Cert.FocusIdeal.nD Cert.FocusIdeal.τ).loc Cert.FocusIdeal.main_arg7)
      ∧ r.2.mem ((c.tc : Thread Cert.FocusIdeal.nD Cert.FocusIdeal.τ).loc Cert.FocusIdeal.main_arg8) = m ((c.tc : Thread Cert.FocusIdeal.nD Cert.FocusIdeal.τ).loc Cert.FocusIdeal.main_arg8)
      ∧ r.2.mem ((c.tc : Thread Cert.FocusIdeal.nD Cert.FocusIdeal.τ).loc Cert.FocusIdeal.main_arg9) = m ((c.tc : Thread Cert.FocusIdeal.nD Cert.FocusIdeal.τ).loc Cert.FocusIdeal.main_arg9)
      ∧ r.2.mem ((c.tc : Thread Cert.FocusIdeal.nD Cert.FocusIdeal.τ).loc Cert.FocusIdeal.main_arg10) = m ((c.tc : Thread Cert.FocusIdeal.nD Cert.FocusIdeal.τ).loc Cert.FocusIdeal.main_arg10)
      ∧ r.2.mem ((c.tc : Thread Cert.FocusIdeal.nD Cert.FocusIdeal.τ).loc Cert.FocusIdeal.main_arg11) = m ((c.tc : Thread Cert.FocusIdeal.nD Cert.FocusIdeal.τ).loc Cert.FocusIdeal.main_arg11))
      ∧ r.2.sem = fun _ => 0)

def quiescent_FocusRefIdeal [hFocusRefIdeal : Cert.FocusRefIdeal.Facts] : Prop :=
  ∀ (m : (ℓ : Loc Cert.FocusRefIdeal.nD Cert.FocusRefIdeal.τ Cert.FocusRefIdeal.sig) → Buf (Elt Ideal) ℓ) (g : Dev Cert.FocusRefIdeal.nD → PrngReg), Pre_FocusRefIdeal m →
    θ_run (Cert.FocusRefIdeal.defs (F := Ideal)) (onTc (τ := Cert.FocusRefIdeal.τ) (Cert.FocusRefIdeal.main (F := Ideal))) ⟨m, fun _ => 0, g⟩ (fun r => (∀ c : Dev Cert.FocusRefIdeal.nD,
      r.2.mem ((c.tc : Thread Cert.FocusRefIdeal.nD Cert.FocusRefIdeal.τ).loc Cert.FocusRefIdeal.main_arg0) = m ((c.tc : Thread Cert.FocusRefIdeal.nD Cert.FocusRefIdeal.τ).loc Cert.FocusRefIdeal.main_arg0)
      ∧ r.2.mem ((c.tc : Thread Cert.FocusRefIdeal.nD Cert.FocusRefIdeal.τ).loc Cert.FocusRefIdeal.main_arg1) = m ((c.tc : Thread Cert.FocusRefIdeal.nD Cert.FocusRefIdeal.τ).loc Cert.FocusRefIdeal.main_arg1)
      ∧ r.2.mem ((c.tc : Thread Cert.FocusRefIdeal.nD Cert.FocusRefIdeal.τ).loc Cert.FocusRefIdeal.main_arg2) = m ((c.tc : Thread Cert.FocusRefIdeal.nD Cert.FocusRefIdeal.τ).loc Cert.FocusRefIdeal.main_arg2)
      ∧ r.2.mem ((c.tc : Thread Cert.FocusRefIdeal.nD Cert.FocusRefIdeal.τ).loc Cert.FocusRefIdeal.main_arg3) = m ((c.tc : Thread Cert.FocusRefIdeal.nD Cert.FocusRefIdeal.τ).loc Cert.FocusRefIdeal.main_arg3)
      ∧ r.2.mem ((c.tc : Thread Cert.FocusRefIdeal.nD Cert.FocusRefIdeal.τ).loc Cert.FocusRefIdeal.main_arg4) = m ((c.tc : Thread Cert.FocusRefIdeal.nD Cert.FocusRefIdeal.τ).loc Cert.FocusRefIdeal.main_arg4)
      ∧ r.2.mem ((c.tc : Thread Cert.FocusRefIdeal.nD Cert.FocusRefIdeal.τ).loc Cert.FocusRefIdeal.main_arg5) = m ((c.tc : Thread Cert.FocusRefIdeal.nD Cert.FocusRefIdeal.τ).loc Cert.FocusRefIdeal.main_arg5)
      ∧ r.2.mem ((c.tc : Thread Cert.FocusRefIdeal.nD Cert.FocusRefIdeal.τ).loc Cert.FocusRefIdeal.main_arg6) = m ((c.tc : Thread Cert.FocusRefIdeal.nD Cert.FocusRefIdeal.τ).loc Cert.FocusRefIdeal.main_arg6)
      ∧ r.2.mem ((c.tc : Thread Cert.FocusRefIdeal.nD Cert.FocusRefIdeal.τ).loc Cert.FocusRefIdeal.main_arg7) = m ((c.tc : Thread Cert.FocusRefIdeal.nD Cert.FocusRefIdeal.τ).loc Cert.FocusRefIdeal.main_arg7)
      ∧ r.2.mem ((c.tc : Thread Cert.FocusRefIdeal.nD Cert.FocusRefIdeal.τ).loc Cert.FocusRefIdeal.main_arg8) = m ((c.tc : Thread Cert.FocusRefIdeal.nD Cert.FocusRefIdeal.τ).loc Cert.FocusRefIdeal.main_arg8)
      ∧ r.2.mem ((c.tc : Thread Cert.FocusRefIdeal.nD Cert.FocusRefIdeal.τ).loc Cert.FocusRefIdeal.main_arg9) = m ((c.tc : Thread Cert.FocusRefIdeal.nD Cert.FocusRefIdeal.τ).loc Cert.FocusRefIdeal.main_arg9)
      ∧ r.2.mem ((c.tc : Thread Cert.FocusRefIdeal.nD Cert.FocusRefIdeal.τ).loc Cert.FocusRefIdeal.main_arg10) = m ((c.tc : Thread Cert.FocusRefIdeal.nD Cert.FocusRefIdeal.τ).loc Cert.FocusRefIdeal.main_arg10)
      ∧ r.2.mem ((c.tc : Thread Cert.FocusRefIdeal.nD Cert.FocusRefIdeal.τ).loc Cert.FocusRefIdeal.main_arg11) = m ((c.tc : Thread Cert.FocusRefIdeal.nD Cert.FocusRefIdeal.τ).loc Cert.FocusRefIdeal.main_arg11))
      ∧ r.2.sem = fun _ => 0)

def preserves_Lstm_LstmIdeal : Prop :=
  True

def algebraic_LstmIdeal_LstmRefIdeal [hLstmIdeal : Cert.LstmIdeal.Facts] [hLstmRefIdeal : Cert.LstmRefIdeal.Facts] : Prop :=
  ∀ (m : (ℓ : Loc Cert.LstmIdeal.nD Cert.LstmIdeal.τ Cert.LstmIdeal.sig) → Buf (Elt Ideal) ℓ) (g : Dev Cert.LstmIdeal.nD → PrngReg)
    (m' : (ℓ : Loc Cert.LstmRefIdeal.nD Cert.LstmRefIdeal.τ Cert.LstmRefIdeal.sig) → Buf (Elt Ideal) ℓ) (g' : Dev Cert.LstmRefIdeal.nD → PrngReg), Pre_LstmIdeal m →
    (∀ c : Dev Cert.LstmIdeal.nD,
      m' ((c.tc : Thread Cert.LstmRefIdeal.nD Cert.LstmRefIdeal.τ).loc Cert.LstmRefIdeal.main_arg0) = m ((c.tc : Thread Cert.LstmIdeal.nD Cert.LstmIdeal.τ).loc Cert.LstmIdeal.main_arg0)
      ∧ m' ((c.tc : Thread Cert.LstmRefIdeal.nD Cert.LstmRefIdeal.τ).loc Cert.LstmRefIdeal.main_arg1) = m ((c.tc : Thread Cert.LstmIdeal.nD Cert.LstmIdeal.τ).loc Cert.LstmIdeal.main_arg1)
      ∧ m' ((c.tc : Thread Cert.LstmRefIdeal.nD Cert.LstmRefIdeal.τ).loc Cert.LstmRefIdeal.main_arg2) = m ((c.tc : Thread Cert.LstmIdeal.nD Cert.LstmIdeal.τ).loc Cert.LstmIdeal.main_arg2)
      ∧ m' ((c.tc : Thread Cert.LstmRefIdeal.nD Cert.LstmRefIdeal.τ).loc Cert.LstmRefIdeal.main_arg3) = m ((c.tc : Thread Cert.LstmIdeal.nD Cert.LstmIdeal.τ).loc Cert.LstmIdeal.main_arg3)
      ∧ m' ((c.tc : Thread Cert.LstmRefIdeal.nD Cert.LstmRefIdeal.τ).loc Cert.LstmRefIdeal.main_arg4) = m ((c.tc : Thread Cert.LstmIdeal.nD Cert.LstmIdeal.τ).loc Cert.LstmIdeal.main_arg4)
      ∧ m' ((c.tc : Thread Cert.LstmRefIdeal.nD Cert.LstmRefIdeal.τ).loc Cert.LstmRefIdeal.main_arg5) = m ((c.tc : Thread Cert.LstmIdeal.nD Cert.LstmIdeal.τ).loc Cert.LstmIdeal.main_arg5)) →
    ∃ (v0 : (c : Dev Cert.LstmIdeal.nD) → Buf (Elt Ideal) ((c.tc : Thread Cert.LstmIdeal.nD Cert.LstmIdeal.τ).loc Cert.LstmIdeal.main_v56)),
      θ_run (Cert.LstmIdeal.defs (F := Ideal)) (onTc (τ := Cert.LstmIdeal.τ) (Cert.LstmIdeal.main (F := Ideal))) ⟨m, fun _ => 0, g⟩ (fun r => ∀ c : Dev Cert.LstmIdeal.nD,
          r.2.mem ((c.tc : Thread Cert.LstmIdeal.nD Cert.LstmIdeal.τ).loc Cert.LstmIdeal.main_v56) = v0 c
          ∧ r.2.mem ((c.tc : Thread Cert.LstmIdeal.nD Cert.LstmIdeal.τ).loc Cert.LstmIdeal.main_arg0) = m ((c.tc : Thread Cert.LstmIdeal.nD Cert.LstmIdeal.τ).loc Cert.LstmIdeal.main_arg0)
          ∧ r.2.mem ((c.tc : Thread Cert.LstmIdeal.nD Cert.LstmIdeal.τ).loc Cert.LstmIdeal.main_arg1) = m ((c.tc : Thread Cert.LstmIdeal.nD Cert.LstmIdeal.τ).loc Cert.LstmIdeal.main_arg1)
          ∧ r.2.mem ((c.tc : Thread Cert.LstmIdeal.nD Cert.LstmIdeal.τ).loc Cert.LstmIdeal.main_arg2) = m ((c.tc : Thread Cert.LstmIdeal.nD Cert.LstmIdeal.τ).loc Cert.LstmIdeal.main_arg2)
          ∧ r.2.mem ((c.tc : Thread Cert.LstmIdeal.nD Cert.LstmIdeal.τ).loc Cert.LstmIdeal.main_arg3) = m ((c.tc : Thread Cert.LstmIdeal.nD Cert.LstmIdeal.τ).loc Cert.LstmIdeal.main_arg3)
          ∧ r.2.mem ((c.tc : Thread Cert.LstmIdeal.nD Cert.LstmIdeal.τ).loc Cert.LstmIdeal.main_arg4) = m ((c.tc : Thread Cert.LstmIdeal.nD Cert.LstmIdeal.τ).loc Cert.LstmIdeal.main_arg4)
          ∧ r.2.mem ((c.tc : Thread Cert.LstmIdeal.nD Cert.LstmIdeal.τ).loc Cert.LstmIdeal.main_arg5) = m ((c.tc : Thread Cert.LstmIdeal.nD Cert.LstmIdeal.τ).loc Cert.LstmIdeal.main_arg5))
      ∧ θ_run (Cert.LstmRefIdeal.defs (F := Ideal)) (onTc (τ := Cert.LstmRefIdeal.τ) (Cert.LstmRefIdeal.main (F := Ideal))) ⟨m', fun _ => 0, g'⟩ (fun r => ∀ c : Dev Cert.LstmRefIdeal.nD,
          r.2.mem ((c.tc : Thread Cert.LstmRefIdeal.nD Cert.LstmRefIdeal.τ).loc Cert.LstmRefIdeal.main_v12) = v0 c
          ∧ r.2.mem ((c.tc : Thread Cert.LstmRefIdeal.nD Cert.LstmRefIdeal.τ).loc Cert.LstmRefIdeal.main_arg0) = m' ((c.tc : Thread Cert.LstmRefIdeal.nD Cert.LstmRefIdeal.τ).loc Cert.LstmRefIdeal.main_arg0)
          ∧ r.2.mem ((c.tc : Thread Cert.LstmRefIdeal.nD Cert.LstmRefIdeal.τ).loc Cert.LstmRefIdeal.main_arg1) = m' ((c.tc : Thread Cert.LstmRefIdeal.nD Cert.LstmRefIdeal.τ).loc Cert.LstmRefIdeal.main_arg1)
          ∧ r.2.mem ((c.tc : Thread Cert.LstmRefIdeal.nD Cert.LstmRefIdeal.τ).loc Cert.LstmRefIdeal.main_arg2) = m' ((c.tc : Thread Cert.LstmRefIdeal.nD Cert.LstmRefIdeal.τ).loc Cert.LstmRefIdeal.main_arg2)
          ∧ r.2.mem ((c.tc : Thread Cert.LstmRefIdeal.nD Cert.LstmRefIdeal.τ).loc Cert.LstmRefIdeal.main_arg3) = m' ((c.tc : Thread Cert.LstmRefIdeal.nD Cert.LstmRefIdeal.τ).loc Cert.LstmRefIdeal.main_arg3)
          ∧ r.2.mem ((c.tc : Thread Cert.LstmRefIdeal.nD Cert.LstmRefIdeal.τ).loc Cert.LstmRefIdeal.main_arg4) = m' ((c.tc : Thread Cert.LstmRefIdeal.nD Cert.LstmRefIdeal.τ).loc Cert.LstmRefIdeal.main_arg4)
          ∧ r.2.mem ((c.tc : Thread Cert.LstmRefIdeal.nD Cert.LstmRefIdeal.τ).loc Cert.LstmRefIdeal.main_arg5) = m' ((c.tc : Thread Cert.LstmRefIdeal.nD Cert.LstmRefIdeal.τ).loc Cert.LstmRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)
      ∧ m' ((c.tc : Thread Cert.ConvRefIdeal.nD Cert.ConvRefIdeal.τ).loc Cert.ConvRefIdeal.main_arg10) = m ((c.tc : Thread Cert.ConvIdeal.nD Cert.ConvIdeal.τ).loc Cert.ConvIdeal.main_arg10)
      ∧ m' ((c.tc : Thread Cert.ConvRefIdeal.nD Cert.ConvRefIdeal.τ).loc Cert.ConvRefIdeal.main_arg11) = m ((c.tc : Thread Cert.ConvIdeal.nD Cert.ConvIdeal.τ).loc Cert.ConvIdeal.main_arg11)
      ∧ m' ((c.tc : Thread Cert.ConvRefIdeal.nD Cert.ConvRefIdeal.τ).loc Cert.ConvRefIdeal.main_arg12) = m ((c.tc : Thread Cert.ConvIdeal.nD Cert.ConvIdeal.τ).loc Cert.ConvIdeal.main_arg12)
      ∧ m' ((c.tc : Thread Cert.ConvRefIdeal.nD Cert.ConvRefIdeal.τ).loc Cert.ConvRefIdeal.main_arg13) = m ((c.tc : Thread Cert.ConvIdeal.nD Cert.ConvIdeal.τ).loc Cert.ConvIdeal.main_arg13)
      ∧ m' ((c.tc : Thread Cert.ConvRefIdeal.nD Cert.ConvRefIdeal.τ).loc Cert.ConvRefIdeal.main_arg14) = m ((c.tc : Thread Cert.ConvIdeal.nD Cert.ConvIdeal.τ).loc Cert.ConvIdeal.main_arg14)) →
    ∃ (v0 : (c : Dev Cert.ConvIdeal.nD) → Buf (Elt Ideal) ((c.tc : Thread Cert.ConvIdeal.nD Cert.ConvIdeal.τ).loc Cert.ConvIdeal.main_v73)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v73) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
          ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10)
          ∧ r.2.mem ((c.tc : Thread Cert.ConvIdeal.nD Cert.ConvIdeal.τ).loc Cert.ConvIdeal.main_arg11) = m ((c.tc : Thread Cert.ConvIdeal.nD Cert.ConvIdeal.τ).loc Cert.ConvIdeal.main_arg11)
          ∧ r.2.mem ((c.tc : Thread Cert.ConvIdeal.nD Cert.ConvIdeal.τ).loc Cert.ConvIdeal.main_arg12) = m ((c.tc : Thread Cert.ConvIdeal.nD Cert.ConvIdeal.τ).loc Cert.ConvIdeal.main_arg12)
          ∧ r.2.mem ((c.tc : Thread Cert.ConvIdeal.nD Cert.ConvIdeal.τ).loc Cert.ConvIdeal.main_arg13) = m ((c.tc : Thread Cert.ConvIdeal.nD Cert.ConvIdeal.τ).loc Cert.ConvIdeal.main_arg13)
          ∧ r.2.mem ((c.tc : Thread Cert.ConvIdeal.nD Cert.ConvIdeal.τ).loc Cert.ConvIdeal.main_arg14) = m ((c.tc : Thread Cert.ConvIdeal.nD Cert.ConvIdeal.τ).loc Cert.ConvIdeal.main_arg14))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v339) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9)
          ∧ r.2.mem ((c.tc : Thread Cert.ConvRefIdeal.nD Cert.ConvRefIdeal.τ).loc Cert.ConvRefIdeal.main_arg10) = m' ((c.tc : Thread Cert.ConvRefIdeal.nD Cert.ConvRefIdeal.τ).loc Cert.ConvRefIdeal.main_arg10)
          ∧ r.2.mem ((c.tc : Thread Cert.ConvRefIdeal.nD Cert.ConvRefIdeal.τ).loc Cert.ConvRefIdeal.main_arg11) = m' ((c.tc : Thread Cert.ConvRefIdeal.nD Cert.ConvRefIdeal.τ).loc Cert.ConvRefIdeal.main_arg11)
          ∧ r.2.mem ((c.tc : Thread Cert.ConvRefIdeal.nD Cert.ConvRefIdeal.τ).loc Cert.ConvRefIdeal.main_arg12) = m' ((c.tc : Thread Cert.ConvRefIdeal.nD Cert.ConvRefIdeal.τ).loc Cert.ConvRefIdeal.main_arg12)
          ∧ r.2.mem ((c.tc : Thread Cert.ConvRefIdeal.nD Cert.ConvRefIdeal.τ).loc Cert.ConvRefIdeal.main_arg13) = m' ((c.tc : Thread Cert.ConvRefIdeal.nD Cert.ConvRefIdeal.τ).loc Cert.ConvRefIdeal.main_arg13)
          ∧ r.2.mem ((c.tc : Thread Cert.ConvRefIdeal.nD Cert.ConvRefIdeal.τ).loc Cert.ConvRefIdeal.main_arg14) = m' ((c.tc : Thread Cert.ConvRefIdeal.nD Cert.ConvRefIdeal.τ).loc Cert.ConvRefIdeal.main_arg14))

def preserves_Dots_DotsIdeal : Prop :=
  True

def algebraic_DotsIdeal_DotsRefIdeal [hDotsIdeal : Cert.DotsIdeal.Facts] [hDotsRefIdeal : Cert.DotsRefIdeal.Facts] : Prop :=
  ∀ (m : (ℓ : Loc Cert.DotsIdeal.nD Cert.DotsIdeal.τ Cert.DotsIdeal.sig) → Buf (Elt Ideal) ℓ) (g : Dev Cert.DotsIdeal.nD → PrngReg)
    (m' : (ℓ : Loc Cert.DotsRefIdeal.nD Cert.DotsRefIdeal.τ Cert.DotsRefIdeal.sig) → Buf (Elt Ideal) ℓ) (g' : Dev Cert.DotsRefIdeal.nD → PrngReg), Pre_DotsIdeal m →
    (∀ c : Dev Cert.DotsIdeal.nD,
      m' ((c.tc : Thread Cert.DotsRefIdeal.nD Cert.DotsRefIdeal.τ).loc Cert.DotsRefIdeal.main_arg0) = m ((c.tc : Thread Cert.DotsIdeal.nD Cert.DotsIdeal.τ).loc Cert.DotsIdeal.main_arg0)
      ∧ m' ((c.tc : Thread Cert.DotsRefIdeal.nD Cert.DotsRefIdeal.τ).loc Cert.DotsRefIdeal.main_arg1) = m ((c.tc : Thread Cert.DotsIdeal.nD Cert.DotsIdeal.τ).loc Cert.DotsIdeal.main_arg1)
      ∧ m' ((c.tc : Thread Cert.DotsRefIdeal.nD Cert.DotsRefIdeal.τ).loc Cert.DotsRefIdeal.main_arg2) = m ((c.tc : Thread Cert.DotsIdeal.nD Cert.DotsIdeal.τ).loc Cert.DotsIdeal.main_arg2)
      ∧ m' ((c.tc : Thread Cert.DotsRefIdeal.nD Cert.DotsRefIdeal.τ).loc Cert.DotsRefIdeal.main_arg3) = m ((c.tc : Thread Cert.DotsIdeal.nD Cert.DotsIdeal.τ).loc Cert.DotsIdeal.main_arg3)) →
    ∃ (v0 : (c : Dev Cert.DotsIdeal.nD) → Buf (Elt Ideal) ((c.tc : Thread Cert.DotsIdeal.nD Cert.DotsIdeal.τ).loc Cert.DotsIdeal.main_v0_0)) (v1 : (c : Dev Cert.DotsIdeal.nD) → Buf (Elt Ideal) ((c.tc : Thread Cert.DotsIdeal.nD Cert.DotsIdeal.τ).loc Cert.DotsIdeal.main_v0_1)) (v2 : (c : Dev Cert.DotsIdeal.nD) → Buf (Elt Ideal) ((c.tc : Thread Cert.DotsIdeal.nD Cert.DotsIdeal.τ).loc Cert.DotsIdeal.main_v0_2)) (v3 : (c : Dev Cert.DotsIdeal.nD) → Buf (Elt Ideal) ((c.tc : Thread Cert.DotsIdeal.nD Cert.DotsIdeal.τ).loc Cert.DotsIdeal.main_v0_3)) (v4 : (c : Dev Cert.DotsIdeal.nD) → Buf (Elt Ideal) ((c.tc : Thread Cert.DotsIdeal.nD Cert.DotsIdeal.τ).loc Cert.DotsIdeal.main_v0_4)) (v5 : (c : Dev Cert.DotsIdeal.nD) → Buf (Elt Ideal) ((c.tc : Thread Cert.DotsIdeal.nD Cert.DotsIdeal.τ).loc Cert.DotsIdeal.main_v0_5)) (v6 : (c : Dev Cert.DotsIdeal.nD) → Buf (Elt Ideal) ((c.tc : Thread Cert.DotsIdeal.nD Cert.DotsIdeal.τ).loc Cert.DotsIdeal.main_v0_6)) (v7 : (c : Dev Cert.DotsIdeal.nD) → Buf (Elt Ideal) ((c.tc : Thread Cert.DotsIdeal.nD Cert.DotsIdeal.τ).loc Cert.DotsIdeal.main_v0_7)) (v8 : (c : Dev Cert.DotsIdeal.nD) → Buf (Elt Ideal) ((c.tc : Thread Cert.DotsIdeal.nD Cert.DotsIdeal.τ).loc Cert.DotsIdeal.main_v0_8)) (v9 : (c : Dev Cert.DotsIdeal.nD) → Buf (Elt Ideal) ((c.tc : Thread Cert.DotsIdeal.nD Cert.DotsIdeal.τ).loc Cert.DotsIdeal.main_v0_9)),
      θ_run (Cert.DotsIdeal.defs (F := Ideal)) (onTc (τ := Cert.DotsIdeal.τ) (Cert.DotsIdeal.main (F := Ideal))) ⟨m, fun _ => 0, g⟩ (fun r => ∀ c : Dev Cert.DotsIdeal.nD,
          r.2.mem ((c.tc : Thread Cert.DotsIdeal.nD Cert.DotsIdeal.τ).loc Cert.DotsIdeal.main_v0_0) = v0 c
          ∧ r.2.mem ((c.tc : Thread Cert.DotsIdeal.nD Cert.DotsIdeal.τ).loc Cert.DotsIdeal.main_v0_1) = v1 c
          ∧ r.2.mem ((c.tc : Thread Cert.DotsIdeal.nD Cert.DotsIdeal.τ).loc Cert.DotsIdeal.main_v0_2) = v2 c
          ∧ r.2.mem ((c.tc : Thread Cert.DotsIdeal.nD Cert.DotsIdeal.τ).loc Cert.DotsIdeal.main_v0_3) = v3 c
          ∧ r.2.mem ((c.tc : Thread Cert.DotsIdeal.nD Cert.DotsIdeal.τ).loc Cert.DotsIdeal.main_v0_4) = v4 c
          ∧ r.2.mem ((c.tc : Thread Cert.DotsIdeal.nD Cert.DotsIdeal.τ).loc Cert.DotsIdeal.main_v0_5) = v5 c
          ∧ r.2.mem ((c.tc : Thread Cert.DotsIdeal.nD Cert.DotsIdeal.τ).loc Cert.DotsIdeal.main_v0_6) = v6 c
          ∧ r.2.mem ((c.tc : Thread Cert.DotsIdeal.nD Cert.DotsIdeal.τ).loc Cert.DotsIdeal.main_v0_7) = v7 c
          ∧ r.2.mem ((c.tc : Thread Cert.DotsIdeal.nD Cert.DotsIdeal.τ).loc Cert.DotsIdeal.main_v0_8) = v8 c
          ∧ r.2.mem ((c.tc : Thread Cert.DotsIdeal.nD Cert.DotsIdeal.τ).loc Cert.DotsIdeal.main_v0_9) = v9 c
          ∧ r.2.mem ((c.tc : Thread Cert.DotsIdeal.nD Cert.DotsIdeal.τ).loc Cert.DotsIdeal.main_arg0) = m ((c.tc : Thread Cert.DotsIdeal.nD Cert.DotsIdeal.τ).loc Cert.DotsIdeal.main_arg0)
          ∧ r.2.mem ((c.tc : Thread Cert.DotsIdeal.nD Cert.DotsIdeal.τ).loc Cert.DotsIdeal.main_arg1) = m ((c.tc : Thread Cert.DotsIdeal.nD Cert.DotsIdeal.τ).loc Cert.DotsIdeal.main_arg1)
          ∧ r.2.mem ((c.tc : Thread Cert.DotsIdeal.nD Cert.DotsIdeal.τ).loc Cert.DotsIdeal.main_arg2) = m ((c.tc : Thread Cert.DotsIdeal.nD Cert.DotsIdeal.τ).loc Cert.DotsIdeal.main_arg2)
          ∧ r.2.mem ((c.tc : Thread Cert.DotsIdeal.nD Cert.DotsIdeal.τ).loc Cert.DotsIdeal.main_arg3) = m ((c.tc : Thread Cert.DotsIdeal.nD Cert.DotsIdeal.τ).loc Cert.DotsIdeal.main_arg3))
      ∧ θ_run (Cert.DotsRefIdeal.defs (F := Ideal)) (onTc (τ := Cert.DotsRefIdeal.τ) (Cert.DotsRefIdeal.main (F := Ideal))) ⟨m', fun _ => 0, g'⟩ (fun r => ∀ c : Dev Cert.DotsRefIdeal.nD,
          r.2.mem ((c.tc : Thread Cert.DotsRefIdeal.nD Cert.DotsRefIdeal.τ).loc Cert.DotsRefIdeal.main_v0) = v0 c
          ∧ r.2.mem ((c.tc : Thread Cert.DotsRefIdeal.nD Cert.DotsRefIdeal.τ).loc Cert.DotsRefIdeal.main_v1) = v1 c
          ∧ r.2.mem ((c.tc : Thread Cert.DotsRefIdeal.nD Cert.DotsRefIdeal.τ).loc Cert.DotsRefIdeal.main_v2) = v2 c
          ∧ r.2.mem ((c.tc : Thread Cert.DotsRefIdeal.nD Cert.DotsRefIdeal.τ).loc Cert.DotsRefIdeal.main_v3) = v3 c
          ∧ r.2.mem ((c.tc : Thread Cert.DotsRefIdeal.nD Cert.DotsRefIdeal.τ).loc Cert.DotsRefIdeal.main_v5) = v4 c
          ∧ r.2.mem ((c.tc : Thread Cert.DotsRefIdeal.nD Cert.DotsRefIdeal.τ).loc Cert.DotsRefIdeal.main_v7) = v5 c
          ∧ r.2.mem ((c.tc : Thread Cert.DotsRefIdeal.nD Cert.DotsRefIdeal.τ).loc Cert.DotsRefIdeal.main_v9) = v6 c
          ∧ r.2.mem ((c.tc : Thread Cert.DotsRefIdeal.nD Cert.DotsRefIdeal.τ).loc Cert.DotsRefIdeal.main_v11) = v7 c
          ∧ r.2.mem ((c.tc : Thread Cert.DotsRefIdeal.nD Cert.DotsRefIdeal.τ).loc Cert.DotsRefIdeal.main_v13) = v8 c
          ∧ r.2.mem ((c.tc : Thread Cert.DotsRefIdeal.nD Cert.DotsRefIdeal.τ).loc Cert.DotsRefIdeal.main_v15) = v9 c
          ∧ r.2.mem ((c.tc : Thread Cert.DotsRefIdeal.nD Cert.DotsRefIdeal.τ).loc Cert.DotsRefIdeal.main_arg0) = m' ((c.tc : Thread Cert.DotsRefIdeal.nD Cert.DotsRefIdeal.τ).loc Cert.DotsRefIdeal.main_arg0)
          ∧ r.2.mem ((c.tc : Thread Cert.DotsRefIdeal.nD Cert.DotsRefIdeal.τ).loc Cert.DotsRefIdeal.main_arg1) = m' ((c.tc : Thread Cert.DotsRefIdeal.nD Cert.DotsRefIdeal.τ).loc Cert.DotsRefIdeal.main_arg1)
          ∧ r.2.mem ((c.tc : Thread Cert.DotsRefIdeal.nD Cert.DotsRefIdeal.τ).loc Cert.DotsRefIdeal.main_arg2) = m' ((c.tc : Thread Cert.DotsRefIdeal.nD Cert.DotsRefIdeal.τ).loc Cert.DotsRefIdeal.main_arg2)
          ∧ r.2.mem ((c.tc : Thread Cert.DotsRefIdeal.nD Cert.DotsRefIdeal.τ).loc Cert.DotsRefIdeal.main_arg3) = m' ((c.tc : Thread Cert.DotsRefIdeal.nD Cert.DotsRefIdeal.τ).loc Cert.DotsRefIdeal.main_arg3))

def preserves_Focus_FocusIdeal : Prop :=
  True

def algebraic_FocusIdeal_FocusRefIdeal [hFocusIdeal : Cert.FocusIdeal.Facts] [hFocusRefIdeal : Cert.FocusRefIdeal.Facts] : Prop :=
  ∀ (m : (ℓ : Loc Cert.FocusIdeal.nD Cert.FocusIdeal.τ Cert.FocusIdeal.sig) → Buf (Elt Ideal) ℓ) (g : Dev Cert.FocusIdeal.nD → PrngReg)
    (m' : (ℓ : Loc Cert.FocusRefIdeal.nD Cert.FocusRefIdeal.τ Cert.FocusRefIdeal.sig) → Buf (Elt Ideal) ℓ) (g' : Dev Cert.FocusRefIdeal.nD → PrngReg), Pre_FocusIdeal m →
    (∀ c : Dev Cert.FocusIdeal.nD,
      m' ((c.tc : Thread Cert.FocusRefIdeal.nD Cert.FocusRefIdeal.τ).loc Cert.FocusRefIdeal.main_arg0) = m ((c.tc : Thread Cert.FocusIdeal.nD Cert.FocusIdeal.τ).loc Cert.FocusIdeal.main_arg0)
      ∧ m' ((c.tc : Thread Cert.FocusRefIdeal.nD Cert.FocusRefIdeal.τ).loc Cert.FocusRefIdeal.main_arg1) = m ((c.tc : Thread Cert.FocusIdeal.nD Cert.FocusIdeal.τ).loc Cert.FocusIdeal.main_arg1)
      ∧ m' ((c.tc : Thread Cert.FocusRefIdeal.nD Cert.FocusRefIdeal.τ).loc Cert.FocusRefIdeal.main_arg2) = m ((c.tc : Thread Cert.FocusIdeal.nD Cert.FocusIdeal.τ).loc Cert.FocusIdeal.main_arg2)
      ∧ m' ((c.tc : Thread Cert.FocusRefIdeal.nD Cert.FocusRefIdeal.τ).loc Cert.FocusRefIdeal.main_arg3) = m ((c.tc : Thread Cert.FocusIdeal.nD Cert.FocusIdeal.τ).loc Cert.FocusIdeal.main_arg3)
      ∧ m' ((c.tc : Thread Cert.FocusRefIdeal.nD Cert.FocusRefIdeal.τ).loc Cert.FocusRefIdeal.main_arg4) = m ((c.tc : Thread Cert.FocusIdeal.nD Cert.FocusIdeal.τ).loc Cert.FocusIdeal.main_arg4)
      ∧ m' ((c.tc : Thread Cert.FocusRefIdeal.nD Cert.FocusRefIdeal.τ).loc Cert.FocusRefIdeal.main_arg5) = m ((c.tc : Thread Cert.FocusIdeal.nD Cert.FocusIdeal.τ).loc Cert.FocusIdeal.main_arg5)
      ∧ m' ((c.tc : Thread Cert.FocusRefIdeal.nD Cert.FocusRefIdeal.τ).loc Cert.FocusRefIdeal.main_arg6) = m ((c.tc : Thread Cert.FocusIdeal.nD Cert.FocusIdeal.τ).loc Cert.FocusIdeal.main_arg6)
      ∧ m' ((c.tc : Thread Cert.FocusRefIdeal.nD Cert.FocusRefIdeal.τ).loc Cert.FocusRefIdeal.main_arg7) = m ((c.tc : Thread Cert.FocusIdeal.nD Cert.FocusIdeal.τ).loc Cert.FocusIdeal.main_arg7)
      ∧ m' ((c.tc : Thread Cert.FocusRefIdeal.nD Cert.FocusRefIdeal.τ).loc Cert.FocusRefIdeal.main_arg8) = m ((c.tc : Thread Cert.FocusIdeal.nD Cert.FocusIdeal.τ).loc Cert.FocusIdeal.main_arg8)
      ∧ m' ((c.tc : Thread Cert.FocusRefIdeal.nD Cert.FocusRefIdeal.τ).loc Cert.FocusRefIdeal.main_arg9) = m ((c.tc : Thread Cert.FocusIdeal.nD Cert.FocusIdeal.τ).loc Cert.FocusIdeal.main_arg9)
      ∧ m' ((c.tc : Thread Cert.FocusRefIdeal.nD Cert.FocusRefIdeal.τ).loc Cert.FocusRefIdeal.main_arg10) = m ((c.tc : Thread Cert.FocusIdeal.nD Cert.FocusIdeal.τ).loc Cert.FocusIdeal.main_arg10)
      ∧ m' ((c.tc : Thread Cert.FocusRefIdeal.nD Cert.FocusRefIdeal.τ).loc Cert.FocusRefIdeal.main_arg11) = m ((c.tc : Thread Cert.FocusIdeal.nD Cert.FocusIdeal.τ).loc Cert.FocusIdeal.main_arg11)) →
    ∃ (v0 : (c : Dev Cert.FocusIdeal.nD) → Buf (Elt Ideal) ((c.tc : Thread Cert.FocusIdeal.nD Cert.FocusIdeal.τ).loc Cert.FocusIdeal.main_v12)),
      θ_run (Cert.FocusIdeal.defs (F := Ideal)) (onTc (τ := Cert.FocusIdeal.τ) (Cert.FocusIdeal.main (F := Ideal))) ⟨m, fun _ => 0, g⟩ (fun r => ∀ c : Dev Cert.FocusIdeal.nD,
          r.2.mem ((c.tc : Thread Cert.FocusIdeal.nD Cert.FocusIdeal.τ).loc Cert.FocusIdeal.main_v12) = v0 c
          ∧ r.2.mem ((c.tc : Thread Cert.FocusIdeal.nD Cert.FocusIdeal.τ).loc Cert.FocusIdeal.main_arg0) = m ((c.tc : Thread Cert.FocusIdeal.nD Cert.FocusIdeal.τ).loc Cert.FocusIdeal.main_arg0)
          ∧ r.2.mem ((c.tc : Thread Cert.FocusIdeal.nD Cert.FocusIdeal.τ).loc Cert.FocusIdeal.main_arg1) = m ((c.tc : Thread Cert.FocusIdeal.nD Cert.FocusIdeal.τ).loc Cert.FocusIdeal.main_arg1)
          ∧ r.2.mem ((c.tc : Thread Cert.FocusIdeal.nD Cert.FocusIdeal.τ).loc Cert.FocusIdeal.main_arg2) = m ((c.tc : Thread Cert.FocusIdeal.nD Cert.FocusIdeal.τ).loc Cert.FocusIdeal.main_arg2)
          ∧ r.2.mem ((c.tc : Thread Cert.FocusIdeal.nD Cert.FocusIdeal.τ).loc Cert.FocusIdeal.main_arg3) = m ((c.tc : Thread Cert.FocusIdeal.nD Cert.FocusIdeal.τ).loc Cert.FocusIdeal.main_arg3)
          ∧ r.2.mem ((c.tc : Thread Cert.FocusIdeal.nD Cert.FocusIdeal.τ).loc Cert.FocusIdeal.main_arg4) = m ((c.tc : Thread Cert.FocusIdeal.nD Cert.FocusIdeal.τ).loc Cert.FocusIdeal.main_arg4)
          ∧ r.2.mem ((c.tc : Thread Cert.FocusIdeal.nD Cert.FocusIdeal.τ).loc Cert.FocusIdeal.main_arg5) = m ((c.tc : Thread Cert.FocusIdeal.nD Cert.FocusIdeal.τ).loc Cert.FocusIdeal.main_arg5)
          ∧ r.2.mem ((c.tc : Thread Cert.FocusIdeal.nD Cert.FocusIdeal.τ).loc Cert.FocusIdeal.main_arg6) = m ((c.tc : Thread Cert.FocusIdeal.nD Cert.FocusIdeal.τ).loc Cert.FocusIdeal.main_arg6)
          ∧ r.2.mem ((c.tc : Thread Cert.FocusIdeal.nD Cert.FocusIdeal.τ).loc Cert.FocusIdeal.main_arg7) = m ((c.tc : Thread Cert.FocusIdeal.nD Cert.FocusIdeal.τ).loc Cert.FocusIdeal.main_arg7)
          ∧ r.2.mem ((c.tc : Thread Cert.FocusIdeal.nD Cert.FocusIdeal.τ).loc Cert.FocusIdeal.main_arg8) = m ((c.tc : Thread Cert.FocusIdeal.nD Cert.FocusIdeal.τ).loc Cert.FocusIdeal.main_arg8)
          ∧ r.2.mem ((c.tc : Thread Cert.FocusIdeal.nD Cert.FocusIdeal.τ).loc Cert.FocusIdeal.main_arg9) = m ((c.tc : Thread Cert.FocusIdeal.nD Cert.FocusIdeal.τ).loc Cert.FocusIdeal.main_arg9)
          ∧ r.2.mem ((c.tc : Thread Cert.FocusIdeal.nD Cert.FocusIdeal.τ).loc Cert.FocusIdeal.main_arg10) = m ((c.tc : Thread Cert.FocusIdeal.nD Cert.FocusIdeal.τ).loc Cert.FocusIdeal.main_arg10)
          ∧ r.2.mem ((c.tc : Thread Cert.FocusIdeal.nD Cert.FocusIdeal.τ).loc Cert.FocusIdeal.main_arg11) = m ((c.tc : Thread Cert.FocusIdeal.nD Cert.FocusIdeal.τ).loc Cert.FocusIdeal.main_arg11))
      ∧ θ_run (Cert.FocusRefIdeal.defs (F := Ideal)) (onTc (τ := Cert.FocusRefIdeal.τ) (Cert.FocusRefIdeal.main (F := Ideal))) ⟨m', fun _ => 0, g'⟩ (fun r => ∀ c : Dev Cert.FocusRefIdeal.nD,
          r.2.mem ((c.tc : Thread Cert.FocusRefIdeal.nD Cert.FocusRefIdeal.τ).loc Cert.FocusRefIdeal.main_v160) = v0 c
          ∧ r.2.mem ((c.tc : Thread Cert.FocusRefIdeal.nD Cert.FocusRefIdeal.τ).loc Cert.FocusRefIdeal.main_arg0) = m' ((c.tc : Thread Cert.FocusRefIdeal.nD Cert.FocusRefIdeal.τ).loc Cert.FocusRefIdeal.main_arg0)
          ∧ r.2.mem ((c.tc : Thread Cert.FocusRefIdeal.nD Cert.FocusRefIdeal.τ).loc Cert.FocusRefIdeal.main_arg1) = m' ((c.tc : Thread Cert.FocusRefIdeal.nD Cert.FocusRefIdeal.τ).loc Cert.FocusRefIdeal.main_arg1)
          ∧ r.2.mem ((c.tc : Thread Cert.FocusRefIdeal.nD Cert.FocusRefIdeal.τ).loc Cert.FocusRefIdeal.main_arg2) = m' ((c.tc : Thread Cert.FocusRefIdeal.nD Cert.FocusRefIdeal.τ).loc Cert.FocusRefIdeal.main_arg2)
          ∧ r.2.mem ((c.tc : Thread Cert.FocusRefIdeal.nD Cert.FocusRefIdeal.τ).loc Cert.FocusRefIdeal.main_arg3) = m' ((c.tc : Thread Cert.FocusRefIdeal.nD Cert.FocusRefIdeal.τ).loc Cert.FocusRefIdeal.main_arg3)
          ∧ r.2.mem ((c.tc : Thread Cert.FocusRefIdeal.nD Cert.FocusRefIdeal.τ).loc Cert.FocusRefIdeal.main_arg4) = m' ((c.tc : Thread Cert.FocusRefIdeal.nD Cert.FocusRefIdeal.τ).loc Cert.FocusRefIdeal.main_arg4)
          ∧ r.2.mem ((c.tc : Thread Cert.FocusRefIdeal.nD Cert.FocusRefIdeal.τ).loc Cert.FocusRefIdeal.main_arg5) = m' ((c.tc : Thread Cert.FocusRefIdeal.nD Cert.FocusRefIdeal.τ).loc Cert.FocusRefIdeal.main_arg5)
          ∧ r.2.mem ((c.tc : Thread Cert.FocusRefIdeal.nD Cert.FocusRefIdeal.τ).loc Cert.FocusRefIdeal.main_arg6) = m' ((c.tc : Thread Cert.FocusRefIdeal.nD Cert.FocusRefIdeal.τ).loc Cert.FocusRefIdeal.main_arg6)
          ∧ r.2.mem ((c.tc : Thread Cert.FocusRefIdeal.nD Cert.FocusRefIdeal.τ).loc Cert.FocusRefIdeal.main_arg7) = m' ((c.tc : Thread Cert.FocusRefIdeal.nD Cert.FocusRefIdeal.τ).loc Cert.FocusRefIdeal.main_arg7)
          ∧ r.2.mem ((c.tc : Thread Cert.FocusRefIdeal.nD Cert.FocusRefIdeal.τ).loc Cert.FocusRefIdeal.main_arg8) = m' ((c.tc : Thread Cert.FocusRefIdeal.nD Cert.FocusRefIdeal.τ).loc Cert.FocusRefIdeal.main_arg8)
          ∧ r.2.mem ((c.tc : Thread Cert.FocusRefIdeal.nD Cert.FocusRefIdeal.τ).loc Cert.FocusRefIdeal.main_arg9) = m' ((c.tc : Thread Cert.FocusRefIdeal.nD Cert.FocusRefIdeal.τ).loc Cert.FocusRefIdeal.main_arg9)
          ∧ r.2.mem ((c.tc : Thread Cert.FocusRefIdeal.nD Cert.FocusRefIdeal.τ).loc Cert.FocusRefIdeal.main_arg10) = m' ((c.tc : Thread Cert.FocusRefIdeal.nD Cert.FocusRefIdeal.τ).loc Cert.FocusRefIdeal.main_arg10)
          ∧ r.2.mem ((c.tc : Thread Cert.FocusRefIdeal.nD Cert.FocusRefIdeal.τ).loc Cert.FocusRefIdeal.main_arg11) = m' ((c.tc : Thread Cert.FocusRefIdeal.nD Cert.FocusRefIdeal.τ).loc Cert.FocusRefIdeal.main_arg11))

def Claim : Prop :=
  ∃ (hLstm : Cert.Lstm.Facts) (hLstmIdeal : Cert.LstmIdeal.Facts) (hLstmRefIdeal : Cert.LstmRefIdeal.Facts) (hConv : Cert.Conv.Facts) (hConvIdeal : Cert.ConvIdeal.Facts) (hConvRefIdeal : Cert.ConvRefIdeal.Facts) (hDots : Cert.Dots.Facts) (hDotsIdeal : Cert.DotsIdeal.Facts) (hDotsRefIdeal : Cert.DotsRefIdeal.Facts) (hFocus : Cert.Focus.Facts) (hFocusIdeal : Cert.FocusIdeal.Facts) (hFocusRefIdeal : Cert.FocusRefIdeal.Facts),
    quiescent_Lstm (hLstm := hLstm)
    ∧ quiescent_LstmIdeal (hLstmIdeal := hLstmIdeal)
    ∧ quiescent_LstmRefIdeal (hLstmRefIdeal := hLstmRefIdeal)
    ∧ quiescent_Conv (hConv := hConv)
    ∧ quiescent_ConvIdeal (hConvIdeal := hConvIdeal)
    ∧ quiescent_ConvRefIdeal (hConvRefIdeal := hConvRefIdeal)
    ∧ quiescent_Dots (hDots := hDots)
    ∧ quiescent_DotsIdeal (hDotsIdeal := hDotsIdeal)
    ∧ quiescent_DotsRefIdeal (hDotsRefIdeal := hDotsRefIdeal)
    ∧ quiescent_Focus (hFocus := hFocus)
    ∧ quiescent_FocusIdeal (hFocusIdeal := hFocusIdeal)
    ∧ quiescent_FocusRefIdeal (hFocusRefIdeal := hFocusRefIdeal)
    ∧ preserves_Lstm_LstmIdeal
    ∧ algebraic_LstmIdeal_LstmRefIdeal (hLstmIdeal := hLstmIdeal) (hLstmRefIdeal := hLstmRefIdeal)
    ∧ preserves_Conv_ConvIdeal
    ∧ algebraic_ConvIdeal_ConvRefIdeal (hConvIdeal := hConvIdeal) (hConvRefIdeal := hConvRefIdeal)
    ∧ preserves_Dots_DotsIdeal
    ∧ algebraic_DotsIdeal_DotsRefIdeal (hDotsIdeal := hDotsIdeal) (hDotsRefIdeal := hDotsRefIdeal)
    ∧ preserves_Focus_FocusIdeal
    ∧ algebraic_FocusIdeal_FocusRefIdeal (hFocusIdeal := hFocusIdeal) (hFocusRefIdeal := hFocusRefIdeal)
-- ==== Lstm.lean ====
abbrev S256x300x32 : Shape := ⟨3, ![256, 300, 32]⟩
abbrev S1000x300 : Shape := ⟨2, ![1000, 300]⟩
abbrev S1000x250 : Shape := ⟨2, ![1000, 250]⟩
abbrev S1000 : Shape := ⟨1, ![1000]⟩
abbrev S32x256x300 : Shape := ⟨3, ![32, 256, 300]⟩
abbrev S32x1024x300 : Shape := ⟨3, ![32, 1024, 300]⟩
abbrev S300x1000 : Shape := ⟨2, ![300, 1000]⟩
abbrev S250x1000 : Shape := ⟨2, ![250, 1000]⟩
abbrev S_ : Shape := ⟨0, ![]⟩
abbrev S300x1024 : Shape := ⟨2, ![300, 1024]⟩
abbrev S256x1024 : Shape := ⟨2, ![256, 1024]⟩
abbrev S1x1024 : Shape := ⟨2, ![1, 1024]⟩
abbrev S1x1000 : Shape := ⟨2, ![1, 1000]⟩
abbrev S300x250 : Shape := ⟨2, ![300, 250]⟩
abbrev S1 : Shape := ⟨1, ![1]⟩
abbrev S250x250 : Shape := ⟨2, ![250, 250]⟩
abbrev S2 : Shape := ⟨1, ![2]⟩
abbrev S1x250 : Shape := ⟨2, ![1, 250]⟩
abbrev S32x1024x256 : Shape := ⟨3, ![32, 1024, 256]⟩
abbrev S32x128x300 : Shape := ⟨3, ![32, 128, 300]⟩
abbrev S32x128x256 : Shape := ⟨3, ![32, 128, 256]⟩
abbrev S128x256 : Shape := ⟨2, ![128, 256]⟩
abbrev S32x128x1024 : Shape := ⟨3, ![32, 128, 1024]⟩
abbrev S4096x300 : Shape := ⟨2, ![4096, 300]⟩
abbrev S4096x1024 : Shape := ⟨2, ![4096, 1024]⟩
abbrev S1x128x1024 : Shape := ⟨3, ![1, 128, 1024]⟩
abbrev S128x1024 : Shape := ⟨2, ![128, 1024]⟩
abbrev S1x128x256 : Shape := ⟨3, ![1, 128, 256]⟩

abbrev nBuf : Space → Nat
  | .hbm => 82
  | .vmem => 10
  | .smem => 0
  | _ => 0

abbrev bufTy : (tb : Table) → Fin (tcTables nBuf tb) → BufTy
  | .hbm, ⟨0, _⟩ => ⟨S256x300x32, .f32⟩
  | .hbm, ⟨1, _⟩ => ⟨S256x300x32, .f32⟩
  | .hbm, ⟨2, _⟩ => ⟨S1000x300, .f32⟩
  | .hbm, ⟨3, _⟩ => ⟨S1000x250, .f32⟩
  | .hbm, ⟨4, _⟩ => ⟨S1000, .f32⟩
  | .hbm, ⟨5, _⟩ => ⟨S1000, .f32⟩
  | .hbm, ⟨6, _⟩ => ⟨S32x256x300, .f32⟩
  | .hbm, ⟨7, _⟩ => ⟨S32x256x300, .f32⟩
  | .hbm, ⟨8, _⟩ => ⟨S32x256x300, .f32⟩
  | .hbm, ⟨9, _⟩ => ⟨S32x256x300, .f32⟩
  | .hbm, ⟨10, _⟩ => ⟨S32x1024x300, .f32⟩
  | .hbm, ⟨11, _⟩ => ⟨S300x1000, .f32⟩
  | .hbm, ⟨12, _⟩ => ⟨S250x1000, .f32⟩
  | .hbm, ⟨13, _⟩ => ⟨S_, .f32⟩
  | .hbm, ⟨14, _⟩ => ⟨S300x1024, .f32⟩
  | .hbm, ⟨15, _⟩ => ⟨S_, .f32⟩
  | .hbm, ⟨16, _⟩ => ⟨S256x1024, .f32⟩
  | .hbm, ⟨17, _⟩ => ⟨S_, .f32⟩
  | .hbm, ⟨18, _⟩ => ⟨S1x1024, .f32⟩
  | .hbm, ⟨19, _⟩ => ⟨S1000, .f32⟩
  | .hbm, ⟨20, _⟩ => ⟨S1x1000, .f32⟩
  | .hbm, ⟨21, _⟩ => ⟨S300x250, .f32⟩
  | .hbm, ⟨22, _⟩ => ⟨S_, .i32⟩
  | .hbm, ⟨23, _⟩ => ⟨S1, .i32⟩
  | .hbm, ⟨24, _⟩ => ⟨S300x1024, .f32⟩
  | .hbm, ⟨25, _⟩ => ⟨S250x250, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S256x1024, .f32⟩
  | .hbm, ⟨32, _⟩ => ⟨S1x250, .f32⟩
  | .hbm, ⟨33, _⟩ => ⟨S_, .i32⟩
  | .hbm, ⟨34, _⟩ => ⟨S1, .i32⟩
  | .hbm, ⟨35, _⟩ => ⟨S1x1024, .f32⟩
  | .hbm, ⟨36, _⟩ => ⟨S300x250, .f32⟩
  | .hbm, ⟨37, _⟩ => ⟨S_, .i32⟩
  | .hbm, ⟨38, _⟩ => ⟨S1, .i32⟩
  | .hbm, ⟨39, _⟩ => ⟨S300x1024, .f32⟩
  | .hbm, ⟨40, _⟩ => ⟨S250x250, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S256x1024, .f32⟩
  | .hbm, ⟨47, _⟩ => ⟨S1x250, .f32⟩
  | .hbm, ⟨48, _⟩ => ⟨S_, .i32⟩
  | .hbm, ⟨49, _⟩ => ⟨S1, .i32⟩
  | .hbm, ⟨50, _⟩ => ⟨S1x1024, .f32⟩
  | .hbm, ⟨51, _⟩ => ⟨S300x250, .f32⟩
  | .hbm, ⟨52, _⟩ => ⟨S_, .i32⟩
  | .hbm, ⟨53, _⟩ => ⟨S1, .i32⟩
  | .hbm, ⟨54, _⟩ => ⟨S300x1024, .f32⟩
  | .hbm, ⟨55, _⟩ => ⟨S250x250, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S256x1024, .f32⟩
  | .hbm, ⟨62, _⟩ => ⟨S1x250, .f32⟩
  | .hbm, ⟨63, _⟩ => ⟨S_, .i32⟩
  | .hbm, ⟨64, _⟩ => ⟨S1, .i32⟩
  | .hbm, ⟨65, _⟩ => ⟨S1x1024, .f32⟩
  | .hbm, ⟨66, _⟩ => ⟨S300x250, .f32⟩
  | .hbm, ⟨67, _⟩ => ⟨S_, .i32⟩
  | .hbm, ⟨68, _⟩ => ⟨S1, .i32⟩
  | .hbm, ⟨69, _⟩ => ⟨S300x1024, .f32⟩
  | .hbm, ⟨70, _⟩ => ⟨S250x250, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S256x1024, .f32⟩
  | .hbm, ⟨77, _⟩ => ⟨S1x250, .f32⟩
  | .hbm, ⟨78, _⟩ => ⟨S_, .i32⟩
  | .hbm, ⟨79, _⟩ => ⟨S1, .i32⟩
  | .hbm, ⟨80, _⟩ => ⟨S1x1024, .f32⟩
  | .hbm, ⟨81, _⟩ => ⟨S32x1024x256, .f32⟩
  | .local _ .vmem, ⟨0, _⟩ => ⟨S32x128x300, .f32⟩
  | .local _ .vmem, ⟨1, _⟩ => ⟨S32x128x300, .f32⟩
  | .local _ .vmem, ⟨2, _⟩ => ⟨S300x1024, .f32⟩
  | .local _ .vmem, ⟨3, _⟩ => ⟨S256x1024, .f32⟩
  | .local _ .vmem, ⟨4, _⟩ => ⟨S1x1024, .f32⟩
  | .local _ .vmem, ⟨5, _⟩ => ⟨S32x128x256, .f32⟩
  | .local _ .vmem, ⟨6, _⟩ => ⟨S32x128x256, .f32⟩
  | .local _ .vmem, ⟨7, _⟩ => ⟨S128x256, .f32⟩
  | .local _ .vmem, ⟨8, _⟩ => ⟨S128x256, .f32⟩
  | .local _ .vmem, ⟨9, _⟩ => ⟨S32x128x1024, .f32⟩
  | _, _ => ⟨S256x300x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_c_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_14 : Ref sig .tc := ⟨.hbm, 71, rfl⟩
abbrev main_v49 : Ref sig .tc := ⟨.hbm, 72, rfl⟩
abbrev main_c_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c32_i32 : BitVec 32 := 32#32
  let v22 : BitVec 32 := Scalar.addi c0_i32 c32_i32
  let c1_i32 : BitVec 32 := 1#32
  ⟨c0_i32, v22, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let v23 : Index := Scalar.indexCast arg10
  let c0_16 : Index := 0#32
  let c0_17 : Index := 0#32
  ![v23.toNat, 0, 0]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let v51 : Index := Scalar.indexCast arg10
  let c0_29 : Index := 0#32
  let c0_30 : Index := 0#32
  ![v51.toNat, 0, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S32x128x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S300x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LstmRefIdeal.lean ====
abbrev S256x300x32 : Shape := ⟨3, ![256, 300, 32]⟩
abbrev S1000x300 : Shape := ⟨2, ![1000, 300]⟩
abbrev S1000x250 : Shape := ⟨2, ![1000, 250]⟩
abbrev S1000 : Shape := ⟨1, ![1000]⟩
abbrev S256x32x300 : Shape := ⟨3, ![256, 32, 300]⟩
abbrev S1024x32x300 : Shape := ⟨3, ![1024, 32, 300]⟩
abbrev S_ : Shape := ⟨0, ![]⟩
abbrev S1024x250 : Shape := ⟨2, ![1024, 250]⟩
abbrev S32x1024x300 : Shape := ⟨3, ![32, 1024, 300]⟩
abbrev S32x1024x250 : Shape := ⟨3, ![32, 1024, 250]⟩
abbrev S1x1024x300 : Shape := ⟨3, ![1, 1024, 300]⟩
abbrev S1024x300 : Shape := ⟨2, ![1024, 300]⟩
abbrev S300x1000 : Shape := ⟨2, ![300, 1000]⟩
abbrev S1024x1000 : Shape := ⟨2, ![1024, 1000]⟩
abbrev S250x1000 : Shape := ⟨2, ![250, 1000]⟩
abbrev S1x1000 : Shape := ⟨2, ![1, 1000]⟩
abbrev S1x1024x250 : Shape := ⟨3, ![1, 1024, 250]⟩
abbrev S1024x32x250 : Shape := ⟨3, ![1024, 32, 250]⟩
abbrev S32x1024x256 : Shape := ⟨3, ![32, 1024, 256]⟩

abbrev nBuf : Space → Nat
  | .hbm => 85
  | .vmem => 0
  | .smem => 0
  | _ => 0

abbrev bufTy : (tb : Table) → Fin (tcTables nBuf tb) → BufTy
  | .hbm, ⟨0, _⟩ => ⟨S256x300x32, .f32⟩
  | .hbm, ⟨1, _⟩ => ⟨S256x300x32, .f32⟩
  | .hbm, ⟨2, _⟩ => ⟨S1000x300, .f32⟩
  | .hbm, ⟨3, _⟩ => ⟨S1000x250, .f32⟩
  | .hbm, ⟨4, _⟩ => ⟨S1000, .f32⟩
  | .hbm, ⟨5, _⟩ => ⟨S1000, .f32⟩
  | .hbm, ⟨6, _⟩ => ⟨S1000, .f32⟩
  | .hbm, ⟨7, _⟩ => ⟨S256x32x300, .f32⟩
  | .hbm, ⟨8, _⟩ => ⟨S256x32x300, .f32⟩
  | .hbm, ⟨9, _⟩ => ⟨S256x32x300, .f32⟩
  | .hbm, ⟨10, _⟩ => ⟨S256x32x300, .f32⟩
  | .hbm, ⟨11, _⟩ => ⟨S1024x32x300, .f32⟩
  | .hbm, ⟨12, _⟩ => ⟨S_, .f32⟩
  | .hbm, ⟨13, _⟩ => ⟨S1024x250, .f32⟩
  | .hbm, ⟨14, _⟩ => ⟨S32x1024x300, .f32⟩
  | .hbm, ⟨15, _⟩ => ⟨S_, .f32⟩
  | .hbm, ⟨16, _⟩ => ⟨S32x1024x250, .f32⟩
  | .hbm, ⟨17, _⟩ => ⟨S_, .i32⟩
  | .hbm, ⟨18, _⟩ => ⟨S32x1024x300, .f32⟩
  | .hbm, ⟨19, _⟩ => ⟨S1000x300, .f32⟩
  | .hbm, ⟨20, _⟩ => ⟨S1000x250, .f32⟩
  | .hbm, ⟨21, _⟩ => ⟨S1000, .f32⟩
  | .hbm, ⟨22, _⟩ => ⟨S_, .i32⟩
  | .hbm, ⟨23, _⟩ => ⟨S1024x250, .f32⟩
  | .hbm, ⟨24, _⟩ => ⟨S1024x250, .f32⟩
  | .hbm, ⟨25, _⟩ => ⟨S32x1024x250, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x1024x300, .f32⟩
  | .hbm, ⟨31, _⟩ => ⟨S1024x300, .f32⟩
  | .hbm, ⟨32, _⟩ => ⟨S300x1000, .f32⟩
  | .hbm, ⟨33, _⟩ => ⟨S1024x1000, .f32⟩
  | .hbm, ⟨34, _⟩ => ⟨S250x1000, .f32⟩
  | .hbm, ⟨35, _⟩ => ⟨S1024x1000, .f32⟩
  | .hbm, ⟨36, _⟩ => ⟨S1024x1000, .f32⟩
  | .hbm, ⟨37, _⟩ => ⟨S1x1000, .f32⟩
  | .hbm, ⟨38, _⟩ => ⟨S1024x1000, .f32⟩
  | .hbm, ⟨39, _⟩ => ⟨S1024x1000, .f32⟩
  | .hbm, ⟨40, _⟩ => ⟨S1024x250, .f32⟩
  | .hbm, ⟨41, _⟩ => ⟨S1024x250, .f32⟩
  | .hbm, ⟨42, _⟩ => ⟨S1024x250, .f32⟩
  | .hbm, ⟨43, _⟩ => ⟨S1024x250, .f32⟩
  | .hbm, ⟨44, _⟩ => ⟨S1024x250, .f32⟩
  | .hbm, ⟨45, _⟩ => ⟨S1024x250, .f32⟩
  | .hbm, ⟨46, _⟩ => ⟨S_, .f32⟩
  | .hbm, ⟨47, _⟩ => ⟨S1024x250, .f32⟩
  | .hbm, ⟨48, _⟩ => ⟨S1024x250, .f32⟩
  | .hbm, ⟨49, _⟩ => ⟨S_, .f32⟩
  | .hbm, ⟨50, _⟩ => ⟨S1024x250, .f32⟩
  | .hbm, ⟨51, _⟩ => ⟨S1024x250, .f32⟩
  | .hbm, ⟨52, _⟩ => ⟨S1024x250, .f32⟩
  | .hbm, ⟨53, _⟩ => ⟨S1024x250, .f32⟩
  | .hbm, ⟨54, _⟩ => ⟨S1024x250, .f32⟩
  | .hbm, ⟨55, _⟩ => ⟨S_, .f32⟩
  | .hbm, ⟨56, _⟩ => ⟨S1024x250, .f32⟩
  | .hbm, ⟨57, _⟩ => ⟨S1024x250, .f32⟩
  | .hbm, ⟨58, _⟩ => ⟨S_, .f32⟩
  | .hbm, ⟨59, _⟩ => ⟨S1024x250, .f32⟩
  | .hbm, ⟨60, _⟩ => ⟨S1024x250, .f32⟩
  | .hbm, ⟨61, _⟩ => ⟨S1024x250, .f32⟩
  | .hbm, ⟨62, _⟩ => ⟨S1024x250, .f32⟩
  | .hbm, ⟨63, _⟩ => ⟨S1024x250, .f32⟩
  | .hbm, ⟨64, _⟩ => ⟨S1024x250, .f32⟩
  | .hbm, ⟨65, _⟩ => ⟨S1024x250, .f32⟩
  | .hbm, ⟨66, _⟩ => ⟨S_, .f32⟩
  | .hbm, ⟨67, _⟩ => ⟨S1024x250, .f32⟩
  | .hbm, ⟨68, _⟩ => ⟨S1024x250, .f32⟩
  | .hbm, ⟨69, _⟩ => ⟨S_, .f32⟩
  | .hbm, ⟨70, _⟩ => ⟨S1024x250, .f32⟩
  | .hbm, ⟨71, _⟩ => ⟨S1024x250, .f32⟩
  | .hbm, ⟨72, _⟩ => ⟨S1024x250, .f32⟩
  | .hbm, ⟨73, _⟩ => ⟨S1024x250, .f32⟩
  | .hbm, ⟨74, _⟩ => ⟨S1x1024x250, .f32⟩
  | .hbm, ⟨75, _⟩ => ⟨S_, .i32⟩
  | .hbm, ⟨76, _⟩ => ⟨S_, .i32⟩
  | .hbm, ⟨77, _⟩ => ⟨S32x1024x250, .f32⟩
  | .hbm, ⟨78, _⟩ => ⟨S_, .i32⟩
  | .hbm, ⟨79, _⟩ => ⟨S_, .i32⟩
  | .hbm, ⟨80, _⟩ => ⟨S1024x32x250, .f32⟩
  | .hbm, ⟨81, _⟩ => ⟨S32x1024x250, .f32⟩
  | .hbm, ⟨82, _⟩ => ⟨S_, .i32⟩
  | .hbm, ⟨83, _⟩ => ⟨S_, .f32⟩
  | .hbm, ⟨84, _⟩ => ⟨S32x1024x256, .f32⟩
  | _, _ => ⟨S256x300x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_while0c_c_9 : Ref sig .tc := ⟨.hbm, 26, rfl⟩
abbrev main_while0c_v13 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_cst_9 : Ref sig .tc := ⟨.hbm, 46, rfl⟩
abbrev main_while0b_v28 : Ref sig .tc := ⟨.hbm, 47, rfl⟩
abbrev main_while0b_v29 : Ref sig .tc := ⟨.hbm, 48, rfl⟩
abbrev main_while0b_cst_10 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_cst_11 : Ref sig .tc := ⟨.hbm, 55, rfl⟩
abbrev main_while0b_v35 : Ref sig .tc := ⟨.hbm, 56, rfl⟩
abbrev main_while0b_v36 : Ref sig .tc := ⟨.hbm, 57, rfl⟩
abbrev main_while0b_cst_12 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_v42 : Ref sig .tc := ⟨.hbm, 64, rfl⟩
abbrev main_while0b_v43 : Ref sig .tc := ⟨.hbm, 65, rfl⟩
abbrev main_while0b_cst_13 : Ref sig .tc := ⟨.hbm, 66, rfl⟩
abbrev main_while0b_v44 : Ref sig .tc := ⟨.hbm, 67, rfl⟩
abbrev main_while0b_v45 : Ref sig .tc := ⟨.hbm, 68, rfl⟩
abbrev main_while0b_cst_14 : Ref sig .tc := ⟨.hbm, 69, rfl⟩
abbrev main_while0b_v46 : Ref sig .tc := ⟨.hbm, 70, rfl⟩
abbrev main_while0b_v47 : Ref sig .tc := ⟨.hbm, 71, rfl⟩
abbrev main_while0b_v48 : Ref sig .tc := ⟨.hbm, 72, rfl⟩
abbrev main_while0b_v49 : Ref sig .tc := ⟨.hbm, 73, rfl⟩
abbrev main_while0b_call1_v0 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_v50 : Ref sig .tc := ⟨.hbm, 77, rfl⟩
abbrev main_while0b_c_15 : Ref sig .tc := ⟨.hbm, 78, rfl⟩
abbrev main_while0b_v51 : Ref sig .tc := ⟨.hbm, 79, rfl⟩
abbrev main_v10 : Ref sig .tc := ⟨.hbm, 80, rfl⟩
abbrev main_v11 : Ref sig .tc := ⟨.hbm, 81, rfl⟩
abbrev main_c_1 : Ref sig .tc := ⟨.hbm, 82, rfl⟩
abbrev main_call2_v0 : Ref sig .tc := ⟨.hbm, 83, rfl⟩
abbrev main_v12 : Ref sig .tc := ⟨.hbm, 84, rfl⟩

abbrev nD : Nat := 1
abbrev τ : Topo := Topo.v7x

variable {F : FTy → Type} [FloatOps F]

abbrev main_while0_count : Scf.Loop 32 := ⟨0#32, 32#32, 1#32⟩
-- ==== Conv.lean ====
abbrev S12x32x32x256 : Shape := ⟨4, ![12, 32, 32, 256]⟩
abbrev S128x12x3x3 : Shape := ⟨4, ![128, 12, 3, 3]⟩
abbrev S128 : Shape := ⟨1, ![128]⟩
abbrev S164x128x3x3 : Shape := ⟨4, ![164, 128, 3, 3]⟩
abbrev S164 : Shape := ⟨1, ![164]⟩
abbrev S192x164x3x3 : Shape := ⟨4, ![192, 164, 3, 3]⟩
abbrev S192 : Shape := ⟨1, ![192]⟩
abbrev S192x192x3x3 : Shape := ⟨4, ![192, 192, 3, 3]⟩
abbrev S128x192x3x3 : Shape := ⟨4, ![128, 192, 3, 3]⟩
abbrev S128x128 : Shape := ⟨2, ![128, 128]⟩
abbrev S5x128 : Shape := ⟨2, ![5, 128]⟩
abbrev S5 : Shape := ⟨1, ![5]⟩
abbrev S_ : Shape := ⟨0, ![]⟩
abbrev S12x34x34x256 : Shape := ⟨4, ![12, 34, 34, 256]⟩
abbrev S1x12x32x32x256 : Shape := ⟨5, ![1, 12, 32, 32, 256]⟩
abbrev S9x12x32x32x256 : Shape := ⟨5, ![9, 12, 32, 32, 256]⟩
abbrev S32x32x256x9x12 : Shape := ⟨5, ![32, 32, 256, 9, 12]⟩
abbrev S32x32x256x108 : Shape := ⟨4, ![32, 32, 256, 108]⟩
abbrev S3x3x12x128 : Shape := ⟨4, ![3, 3, 12, 128]⟩
abbrev S108x128 : Shape := ⟨2, ![108, 128]⟩
abbrev S3x3x128x164 : Shape := ⟨4, ![3, 3, 128, 164]⟩
abbrev S3x3x128x256 : Shape := ⟨4, ![3, 3, 128, 256]⟩
abbrev S1 : Shape := ⟨1, ![1]⟩
abbrev S1152x256 : Shape := ⟨2, ![1152, 256]⟩
abbrev S3x3x164x192 : Shape := ⟨4, ![3, 3, 164, 192]⟩
abbrev S3x3x256x256 : Shape := ⟨4, ![3, 3, 256, 256]⟩
abbrev S2 : Shape := ⟨1, ![2]⟩
abbrev S2304x256 : Shape := ⟨2, ![2304, 256]⟩
abbrev S3x3x192x192 : Shape := ⟨4, ![3, 3, 192, 192]⟩
abbrev S3x3x192x128 : Shape := ⟨4, ![3, 3, 192, 128]⟩
abbrev S3x3x256x128 : Shape := ⟨4, ![3, 3, 256, 128]⟩
abbrev S2304x128 : Shape := ⟨2, ![2304, 128]⟩
abbrev S1x128 : Shape := ⟨2, ![1, 128]⟩
abbrev S1x256 : Shape := ⟨2, ![1, 256]⟩
abbrev S1x164 : Shape := ⟨2, ![1, 164]⟩
abbrev S1x192 : Shape := ⟨2, ![1, 192]⟩
abbrev S128x5 : Shape := ⟨2, ![128, 5]⟩
abbrev S1x5 : Shape := ⟨2, ![1, 5]⟩
abbrev S256x128 : Shape := ⟨2, ![256, 128]⟩
abbrev S32x32x16x108 : Shape := ⟨4, ![32, 32, 16, 108]⟩
abbrev S16x128 : Shape := ⟨2, ![16, 128]⟩
abbrev S16384x108 : Shape := ⟨2, ![16384, 108]⟩
abbrev S16384x128 : Shape := ⟨2, ![16384, 128]⟩
abbrev S32x32x16x128 : Shape := ⟨4, ![32, 32, 16, 128]⟩
abbrev S1x1x1x128 : Shape := ⟨4, ![1, 1, 1, 128]⟩
abbrev S16x2x16x2x16x128 : Shape := ⟨6, ![16, 2, 16, 2, 16, 128]⟩
abbrev S16x2x16x16x128 : Shape := ⟨5, ![16, 2, 16, 16, 128]⟩
abbrev S16x16x16x128 : Shape := ⟨4, ![16, 16, 16, 128]⟩
abbrev S1x16x16x128 : Shape := ⟨4, ![1, 16, 16, 128]⟩
abbrev S18x16x16x128 : Shape := ⟨4, ![18, 16, 16, 128]⟩
abbrev S18x1x16x128 : Shape := ⟨4, ![18, 1, 16, 128]⟩
abbrev S18x18x16x128 : Shape := ⟨4, ![18, 18, 16, 128]⟩
abbrev S16x16x16x1152 : Shape := ⟨4, ![16, 16, 16, 1152]⟩
abbrev S4096x1152 : Shape := ⟨2, ![4096, 1152]⟩
abbrev S4096x256 : Shape := ⟨2, ![4096, 256]⟩
abbrev S16x16x16x256 : Shape := ⟨4, ![16, 16, 16, 256]⟩
abbrev S1x1x1x256 : Shape := ⟨4, ![1, 1, 1, 256]⟩
abbrev S8x2x8x2x16x256 : Shape := ⟨6, ![8, 2, 8, 2, 16, 256]⟩
abbrev S8x2x8x16x256 : Shape := ⟨5, ![8, 2, 8, 16, 256]⟩
abbrev S8x8x16x256 : Shape := ⟨4, ![8, 8, 16, 256]⟩
abbrev S1x8x16x256 : Shape := ⟨4, ![1, 8, 16, 256]⟩
abbrev S10x8x16x256 : Shape := ⟨4, ![10, 8, 16, 256]⟩
abbrev S10x1x16x256 : Shape := ⟨4, ![10, 1, 16, 256]⟩
abbrev S10x10x16x256 : Shape := ⟨4, ![10, 10, 16, 256]⟩
abbrev S8x8x16x2304 : Shape := ⟨4, ![8, 8, 16, 2304]⟩
abbrev S1024x2304 : Shape := ⟨2, ![1024, 2304]⟩
abbrev S1024x256 : Shape := ⟨2, ![1024, 256]⟩
abbrev S4x2x4x2x16x256 : Shape := ⟨6, ![4, 2, 4, 2, 16, 256]⟩
abbrev S4x2x4x16x256 : Shape := ⟨5, ![4, 2, 4, 16, 256]⟩
abbrev S4x4x16x256 : Shape := ⟨4, ![4, 4, 16, 256]⟩
abbrev S1x4x16x256 : Shape := ⟨4, ![1, 4, 16, 256]⟩
abbrev S6x4x16x256 : Shape := ⟨4, ![6, 4, 16, 256]⟩
abbrev S6x1x16x256 : Shape := ⟨4, ![6, 1, 16, 256]⟩
abbrev S6x6x16x256 : Shape := ⟨4, ![6, 6, 16, 256]⟩
abbrev S4x4x16x2304 : Shape := ⟨4, ![4, 4, 16, 2304]⟩
abbrev S256x2304 : Shape := ⟨2, ![256, 2304]⟩
abbrev S256x256 : Shape := ⟨2, ![256, 256]⟩
abbrev S2x2x2x2x16x256 : Shape := ⟨6, ![2, 2, 2, 2, 16, 256]⟩
abbrev S2x2x2x16x256 : Shape := ⟨5, ![2, 2, 2, 16, 256]⟩
abbrev S2x2x16x256 : Shape := ⟨4, ![2, 2, 16, 256]⟩
abbrev S1x2x16x256 : Shape := ⟨4, ![1, 2, 16, 256]⟩
abbrev S4x2x16x256 : Shape := ⟨4, ![4, 2, 16, 256]⟩
abbrev S4x1x16x256 : Shape := ⟨4, ![4, 1, 16, 256]⟩
abbrev S2x2x16x2304 : Shape := ⟨4, ![2, 2, 16, 2304]⟩
abbrev S64x2304 : Shape := ⟨2, ![64, 2304]⟩
abbrev S64x128 : Shape := ⟨2, ![64, 128]⟩
abbrev S2x2x16x128 : Shape := ⟨4, ![2, 2, 16, 128]⟩
abbrev S1x2x1x2x16x128 : Shape := ⟨6, ![1, 2, 1, 2, 16, 128]⟩
abbrev S1x2x1x16x128 : Shape := ⟨5, ![1, 2, 1, 16, 128]⟩
abbrev S1x1x16x128 : Shape := ⟨4, ![1, 1, 16, 128]⟩
abbrev S16 : Shape := ⟨1, ![16]⟩
abbrev S16x1 : Shape := ⟨2, ![16, 1]⟩
abbrev S256x5 : Shape := ⟨2, ![256, 5]⟩

abbrev nBuf : Space → Nat
  | .hbm => 111
  | .vmem => 18
  | .smem => 0
  | _ => 0

abbrev bufTy : (tb : Table) → Fin (tcTables nBuf tb) → BufTy
  | .hbm, ⟨0, _⟩ => ⟨S12x32x32x256, .f32⟩
  | .hbm, ⟨1, _⟩ => ⟨S128x12x3x3, .f32⟩
  | .hbm, ⟨2, _⟩ => ⟨S128, .f32⟩
  | .hbm, ⟨3, _⟩ => ⟨S164x128x3x3, .f32⟩
  | .hbm, ⟨4, _⟩ => ⟨S164, .f32⟩
  | .hbm, ⟨5, _⟩ => ⟨S192x164x3x3, .f32⟩
  | .hbm, ⟨6, _⟩ => ⟨S192, .f32⟩
  | .hbm, ⟨7, _⟩ => ⟨S192x192x3x3, .f32⟩
  | .hbm, ⟨8, _⟩ => ⟨S192, .f32⟩
  | .hbm, ⟨9, _⟩ => ⟨S128x192x3x3, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S5x128, .f32⟩
  | .hbm, ⟨14, _⟩ => ⟨S5, .f32⟩
  | .hbm, ⟨15, _⟩ => ⟨S_, .i32⟩
  | .hbm, ⟨16, _⟩ => ⟨S_, .f32⟩
  | .hbm, ⟨17, _⟩ => ⟨S12x34x34x256, .f32⟩
  | .hbm, ⟨18, _⟩ => ⟨S12x32x32x256, .f32⟩
  | .hbm, ⟨19, _⟩ => ⟨S12x32x32x256, .f32⟩
  | .hbm, ⟨20, _⟩ => ⟨S12x32x32x256, .f32⟩
  | .hbm, ⟨21, _⟩ => ⟨S12x32x32x256, .f32⟩
  | .hbm, ⟨22, _⟩ => ⟨S12x32x32x256, .f32⟩
  | .hbm, ⟨23, _⟩ => ⟨S12x32x32x256, .f32⟩
  | .hbm, ⟨24, _⟩ => ⟨S12x32x32x256, .f32⟩
  | .hbm, ⟨25, _⟩ => ⟨S12x32x32x256, .f32⟩
  | .hbm, ⟨26, _⟩ => ⟨S12x32x32x256, .f32⟩
  | .hbm, ⟨27, _⟩ => ⟨S1x12x32x32x256, .f32⟩
  | .hbm, ⟨28, _⟩ => ⟨S1x12x32x32x256, .f32⟩
  | .hbm, ⟨29, _⟩ => ⟨S1x12x32x32x256, .f32⟩
  | .hbm, ⟨30, _⟩ => ⟨S1x12x32x32x256, .f32⟩
  | .hbm, ⟨31, _⟩ => ⟨S1x12x32x32x256, .f32⟩
  | .hbm, ⟨32, _⟩ => ⟨S1x12x32x32x256, .f32⟩
  | .hbm, ⟨33, _⟩ => ⟨S1x12x32x32x256, .f32⟩
  | .hbm, ⟨34, _⟩ => ⟨S1x12x32x32x256, .f32⟩
  | .hbm, ⟨35, _⟩ => ⟨S1x12x32x32x256, .f32⟩
  | .hbm, ⟨36, _⟩ => ⟨S9x12x32x32x256, .f32⟩
  | .hbm, ⟨37, _⟩ => ⟨S32x32x256x9x12, .f32⟩
  | .hbm, ⟨38, _⟩ => ⟨S32x32x256x108, .f32⟩
  | .hbm, ⟨39, _⟩ => ⟨S3x3x12x128, .f32⟩
  | .hbm, ⟨40, _⟩ => ⟨S108x128, .f32⟩
  | .hbm, ⟨41, _⟩ => ⟨S3x3x128x164, .f32⟩
  | .hbm, ⟨42, _⟩ => ⟨S_, .f32⟩
  | .hbm, ⟨43, _⟩ => ⟨S3x3x128x256, .f32⟩
  | .hbm, ⟨44, _⟩ => ⟨S_, .i32⟩
  | .hbm, ⟨45, _⟩ => ⟨S1, .i32⟩
  | .hbm, ⟨46, _⟩ => ⟨S3x3x128x256, .f32⟩
  | .hbm, ⟨47, _⟩ => ⟨S1152x256, .f32⟩
  | .hbm, ⟨48, _⟩ => ⟨S3x3x164x192, .f32⟩
  | .hbm, ⟨49, _⟩ => ⟨S_, .f32⟩
  | .hbm, ⟨50, _⟩ => ⟨S3x3x256x256, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S3x3x256x256, .f32⟩
  | .hbm, ⟨57, _⟩ => ⟨S2304x256, .f32⟩
  | .hbm, ⟨58, _⟩ => ⟨S3x3x192x192, .f32⟩
  | .hbm, ⟨59, _⟩ => ⟨S_, .f32⟩
  | .hbm, ⟨60, _⟩ => ⟨S3x3x256x256, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S3x3x256x256, .f32⟩
  | .hbm, ⟨67, _⟩ => ⟨S2304x256, .f32⟩
  | .hbm, ⟨68, _⟩ => ⟨S3x3x192x128, .f32⟩
  | .hbm, ⟨69, _⟩ => ⟨S_, .f32⟩
  | .hbm, ⟨70, _⟩ => ⟨S3x3x256x128, .f32⟩
  | .hbm, ⟨71, _⟩ => ⟨S_, .i32⟩
  | .hbm, ⟨72, _⟩ => ⟨S1, .i32⟩
  | .hbm, ⟨73, _⟩ => ⟨S3x3x256x128, .f32⟩
  | .hbm, ⟨74, _⟩ => ⟨S2304x128, .f32⟩
  | .hbm, ⟨75, _⟩ => ⟨S1x128, .f32⟩
  | .hbm, ⟨76, _⟩ => ⟨S_, .f32⟩
  | .hbm, ⟨77, _⟩ => ⟨S1x256, .f32⟩
  | .hbm, ⟨78, _⟩ => ⟨S1x164, .f32⟩
  | .hbm, ⟨79, _⟩ => ⟨S_, .i32⟩
  | .hbm, ⟨80, _⟩ => ⟨S1, .i32⟩
  | .hbm, ⟨81, _⟩ => ⟨S1x256, .f32⟩
  | .hbm, ⟨82, _⟩ => ⟨S_, .f32⟩
  | .hbm, ⟨83, _⟩ => ⟨S1x256, .f32⟩
  | .hbm, ⟨84, _⟩ => ⟨S1x192, .f32⟩
  | .hbm, ⟨85, _⟩ => ⟨S_, .i32⟩
  | .hbm, ⟨86, _⟩ => ⟨S1, .i32⟩
  | .hbm, ⟨87, _⟩ => ⟨S1x256, .f32⟩
  | .hbm, ⟨88, _⟩ => ⟨S_, .f32⟩
  | .hbm, ⟨89, _⟩ => ⟨S1x256, .f32⟩
  | .hbm, ⟨90, _⟩ => ⟨S1x192, .f32⟩
  | .hbm, ⟨91, _⟩ => ⟨S_, .i32⟩
  | .hbm, ⟨92, _⟩ => ⟨S1, .i32⟩
  | .hbm, ⟨93, _⟩ => ⟨S1x256, .f32⟩
  | .hbm, ⟨94, _⟩ => ⟨S1x128, .f32⟩
  | .hbm, ⟨95, _⟩ => ⟨S_, .f32⟩
  | .hbm, ⟨96, _⟩ => ⟨S128x128, .f32⟩
  | .hbm, ⟨97, _⟩ => ⟨S128x5, .f32⟩
  | .hbm, ⟨98, _⟩ => ⟨S_, .i32⟩
  | .hbm, ⟨99, _⟩ => ⟨S1, .i32⟩
  | .hbm, ⟨100, _⟩ => ⟨S128x128, .f32⟩
  | .hbm, ⟨101, _⟩ => ⟨S_, .f32⟩
  | .hbm, ⟨102, _⟩ => ⟨S1x128, .f32⟩
  | .hbm, ⟨103, _⟩ => ⟨S1x5, .f32⟩
  | .hbm, ⟨104, _⟩ => ⟨S_, .i32⟩
  | .hbm, ⟨105, _⟩ => ⟨S1, .i32⟩
  | .hbm, ⟨106, _⟩ => ⟨S1x128, .f32⟩
  | .hbm, ⟨107, _⟩ => ⟨S1x128, .f32⟩
  | .hbm, ⟨108, _⟩ => ⟨S128x128, .f32⟩
  | .hbm, ⟨109, _⟩ => ⟨S256x128, .f32⟩
  | .hbm, ⟨110, _⟩ => ⟨S256x5, .f32⟩
  | .local _ .vmem, ⟨0, _⟩ => ⟨S32x32x16x108, .f32⟩
  | .local _ .vmem, ⟨1, _⟩ => ⟨S32x32x16x108, .f32⟩
  | .local _ .vmem, ⟨2, _⟩ => ⟨S108x128, .f32⟩
  | .local _ .vmem, ⟨3, _⟩ => ⟨S1x128, .f32⟩
  | .local _ .vmem, ⟨4, _⟩ => ⟨S1152x256, .f32⟩
  | .local _ .vmem, ⟨5, _⟩ => ⟨S1x256, .f32⟩
  | .local _ .vmem, ⟨6, _⟩ => ⟨S2304x256, .f32⟩
  | .local _ .vmem, ⟨7, _⟩ => ⟨S1x256, .f32⟩
  | .local _ .vmem, ⟨8, _⟩ => ⟨S2304x256, .f32⟩
  | .local _ .vmem, ⟨9, _⟩ => ⟨S1x256, .f32⟩
  | .local _ .vmem, ⟨10, _⟩ => ⟨S2304x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S16x128, .f32⟩
  | .local _ .vmem, ⟨17, _⟩ => ⟨S16x128, .f32⟩
  | _, _ => ⟨S12x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_c_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_c_2 : Ref sig .tc := ⟨.hbm, 51, rfl⟩
abbrev main_v31 : Ref sig .tc := ⟨.hbm, 52, rfl⟩
abbrev main_c_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_c_18 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x32x16x108 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S108x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1152x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2304x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2304x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2304x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ConvRefIdeal.lean ====
abbrev S12x32x32x256 : Shape := ⟨4, ![12, 32, 32, 256]⟩
abbrev S128x12x3x3 : Shape := ⟨4, ![128, 12, 3, 3]⟩
abbrev S128 : Shape := ⟨1, ![128]⟩
abbrev S164x128x3x3 : Shape := ⟨4, ![164, 128, 3, 3]⟩
abbrev S164 : Shape := ⟨1, ![164]⟩
abbrev S192x164x3x3 : Shape := ⟨4, ![192, 164, 3, 3]⟩
abbrev S192 : Shape := ⟨1, ![192]⟩
abbrev S192x192x3x3 : Shape := ⟨4, ![192, 192, 3, 3]⟩
abbrev S128x192x3x3 : Shape := ⟨4, ![128, 192, 3, 3]⟩
abbrev S128x128 : Shape := ⟨2, ![128, 128]⟩
abbrev S5x128 : Shape := ⟨2, ![5, 128]⟩
abbrev S5 : Shape := ⟨1, ![5]⟩
abbrev S256x12x32x32 : Shape := ⟨4, ![256, 12, 32, 32]⟩
abbrev S_ : Shape := ⟨0, ![]⟩
abbrev S256x12x34x34 : Shape := ⟨4, ![256, 12, 34, 34]⟩
abbrev S128x12x1x1 : Shape := ⟨4, ![128, 12, 1, 1]⟩
abbrev S128x12 : Shape := ⟨2, ![128, 12]⟩
abbrev S128x256x32x32 : Shape := ⟨4, ![128, 256, 32, 32]⟩
abbrev S256x128x32x32 : Shape := ⟨4, ![256, 128, 32, 32]⟩
abbrev S1x128x1x1 : Shape := ⟨4, ![1, 128, 1, 1]⟩
abbrev S256x128x16x2x16x2 : Shape := ⟨6, ![256, 128, 16, 2, 16, 2]⟩
abbrev S256x128x16x16 : Shape := ⟨4, ![256, 128, 16, 16]⟩
abbrev S256x128x18x18 : Shape := ⟨4, ![256, 128, 18, 18]⟩
abbrev S164x128x1x1 : Shape := ⟨4, ![164, 128, 1, 1]⟩
abbrev S164x128 : Shape := ⟨2, ![164, 128]⟩
abbrev S164x256x16x16 : Shape := ⟨4, ![164, 256, 16, 16]⟩
abbrev S256x164x16x16 : Shape := ⟨4, ![256, 164, 16, 16]⟩
abbrev S1x164x1x1 : Shape := ⟨4, ![1, 164, 1, 1]⟩
abbrev S256x164x8x2x8x2 : Shape := ⟨6, ![256, 164, 8, 2, 8, 2]⟩
abbrev S256x164x8x8 : Shape := ⟨4, ![256, 164, 8, 8]⟩
abbrev S256x164x10x10 : Shape := ⟨4, ![256, 164, 10, 10]⟩
abbrev S192x164x1x1 : Shape := ⟨4, ![192, 164, 1, 1]⟩
abbrev S192x164 : Shape := ⟨2, ![192, 164]⟩
abbrev S192x256x8x8 : Shape := ⟨4, ![192, 256, 8, 8]⟩
abbrev S256x192x8x8 : Shape := ⟨4, ![256, 192, 8, 8]⟩
abbrev S1x192x1x1 : Shape := ⟨4, ![1, 192, 1, 1]⟩
abbrev S256x192x4x2x4x2 : Shape := ⟨6, ![256, 192, 4, 2, 4, 2]⟩
abbrev S256x192x4x4 : Shape := ⟨4, ![256, 192, 4, 4]⟩
abbrev S256x192x6x6 : Shape := ⟨4, ![256, 192, 6, 6]⟩
abbrev S192x192x1x1 : Shape := ⟨4, ![192, 192, 1, 1]⟩
abbrev S192x192 : Shape := ⟨2, ![192, 192]⟩
abbrev S192x256x4x4 : Shape := ⟨4, ![192, 256, 4, 4]⟩
abbrev S256x192x2x2x2x2 : Shape := ⟨6, ![256, 192, 2, 2, 2, 2]⟩
abbrev S256x192x2x2 : Shape := ⟨4, ![256, 192, 2, 2]⟩
abbrev S128x192x1x1 : Shape := ⟨4, ![128, 192, 1, 1]⟩
abbrev S128x192 : Shape := ⟨2, ![128, 192]⟩
abbrev S128x256x2x2 : Shape := ⟨4, ![128, 256, 2, 2]⟩
abbrev S256x128x2x2 : Shape := ⟨4, ![256, 128, 2, 2]⟩
abbrev S256x128x1x2x1x2 : Shape := ⟨6, ![256, 128, 1, 2, 1, 2]⟩
abbrev S256x128x1x1 : Shape := ⟨4, ![256, 128, 1, 1]⟩
abbrev S256x128 : Shape := ⟨2, ![256, 128]⟩
abbrev S1x128 : Shape := ⟨2, ![1, 128]⟩
abbrev S128x5 : Shape := ⟨2, ![128, 5]⟩
abbrev S256x5 : Shape := ⟨2, ![256, 5]⟩
abbrev S1x5 : Shape := ⟨2, ![1, 5]⟩
abbrev S256 : Shape := ⟨1, ![256]⟩
abbrev S256x1 : Shape := ⟨2, ![256, 1]⟩

abbrev nBuf : Space → Nat
  | .hbm => 383
  | .vmem => 0
  | .smem => 0
  | _ => 0

abbrev hbmTy0_0 (i : Nat) : BufTy := match i % 128 with
  | 0 => ⟨S12x32x32x256, .f32⟩
  | 1 => ⟨S128x12x3x3, .f32⟩
  | 2 => ⟨S128, .f32⟩
  | 3 => ⟨S164x128x3x3, .f32⟩
  | 4 => ⟨S164, .f32⟩
  | 5 => ⟨S192x164x3x3, .f32⟩
  | 6 => ⟨S192, .f32⟩
  | 7 => ⟨S192x192x3x3, .f32⟩
  | 8 => ⟨S192, .f32⟩
  | 9 => ⟨S128x192x3x3, .f32⟩
  | 10 => ⟨S128, .f32⟩
  | 11 => ⟨S128x128, .f32⟩
  | 12 => ⟨S128, .f32⟩
  | 13 => ⟨S5x128, .f32⟩
  | 14 => ⟨S5, .f32⟩
  | 15 => ⟨S256x12x32x32, .f32⟩
  | 16 => ⟨S_, .i32⟩
  | 17 => ⟨S_, .f32⟩
  | 18 => ⟨S256x12x34x34, .f32⟩
  | 19 => ⟨S256x12x32x32, .f32⟩
  | 20 => ⟨S128x12x1x1, .f32⟩
  | 21 => ⟨S128x12, .f32⟩
  | 22 => ⟨S128x256x32x32, .f32⟩
  | 23 => ⟨S256x128x32x32, .f32⟩
  | 24 => ⟨S_, .f32⟩
  | 25 => ⟨S256x128x32x32, .f32⟩
  | 26 => ⟨S256x128x32x32, .f32⟩
  | 27 => ⟨S256x12x32x32, .f32⟩
  | 28 => ⟨S128x12x1x1, .f32⟩
  | 29 => ⟨S128x12, .f32⟩
  | 30 => ⟨S128x256x32x32, .f32⟩
  | 31 => ⟨S256x128x32x32, .f32⟩
  | 32 => ⟨S256x128x32x32, .f32⟩
  | 33 => ⟨S256x12x32x32, .f32⟩
  | 34 => ⟨S128x12x1x1, .f32⟩
  | 35 => ⟨S128x12, .f32⟩
  | 36 => ⟨S128x256x32x32, .f32⟩
  | 37 => ⟨S256x128x32x32, .f32⟩
  | 38 => ⟨S256x128x32x32, .f32⟩
  | 39 => ⟨S256x12x32x32, .f32⟩
  | 40 => ⟨S128x12x1x1, .f32⟩
  | 41 => ⟨S128x12, .f32⟩
  | 42 => ⟨S128x256x32x32, .f32⟩
  | 43 => ⟨S256x128x32x32, .f32⟩
  | 44 => ⟨S256x128x32x32, .f32⟩
  | 45 => ⟨S256x12x32x32, .f32⟩
  | 46 => ⟨S128x12x1x1, .f32⟩
  | 47 => ⟨S128x12, .f32⟩
  | 48 => ⟨S128x256x32x32, .f32⟩
  | 49 => ⟨S256x128x32x32, .f32⟩
  | 50 => ⟨S256x128x32x32, .f32⟩
  | 51 => ⟨S256x12x32x32, .f32⟩
  | 52 => ⟨S128x12x1x1, .f32⟩
  | 53 => ⟨S128x12, .f32⟩
  | 54 => ⟨S128x256x32x32, .f32⟩
  | 55 => ⟨S256x128x32x32, .f32⟩
  | 56 => ⟨S256x128x32x32, .f32⟩
  | 57 => ⟨S256x12x32x32, .f32⟩
  | 58 => ⟨S128x12x1x1, .f32⟩
  | 59 => ⟨S128x12, .f32⟩
  | 60 => ⟨S128x256x32x32, .f32⟩
  | 61 => ⟨S256x128x32x32, .f32⟩
  | 62 => ⟨S256x128x32x32, .f32⟩
  | 63 => ⟨S256x12x32x32, .f32⟩
  | 64 => ⟨S128x12x1x1, .f32⟩
  | 65 => ⟨S128x12, .f32⟩
  | 66 => ⟨S128x256x32x32, .f32⟩
  | 67 => ⟨S256x128x32x32, .f32⟩
  | 68 => ⟨S256x128x32x32, .f32⟩
  | 69 => ⟨S256x12x32x32, .f32⟩
  | 70 => ⟨S128x12x1x1, .f32⟩
  | 71 => ⟨S128x12, .f32⟩
  | 72 => ⟨S128x256x32x32, .f32⟩
  | 73 => ⟨S256x128x32x32, .f32⟩
  | 74 => ⟨S256x128x32x32, .f32⟩
  | 75 => ⟨S1x128x1x1, .f32⟩
  | 76 => ⟨S256x128x32x32, .f32⟩
  | 77 => ⟨S256x128x32x32, .f32⟩
  | 78 => ⟨S_, .f32⟩
  | 79 => ⟨S256x128x32x32, .f32⟩
  | 80 => ⟨S256x128x32x32, .f32⟩
  | 81 => ⟨S256x128x16x2x16x2, .f32⟩
  | 82 => ⟨S_, .f32⟩
  | 83 => ⟨S256x128x16x16, .f32⟩
  | 84 => ⟨S_, .i32⟩
  | 85 => ⟨S_, .f32⟩
  | 86 => ⟨S256x128x18x18, .f32⟩
  | 87 => ⟨S256x128x16x16, .f32⟩
  | 88 => ⟨S164x128x1x1, .f32⟩
  | 89 => ⟨S164x128, .f32⟩
  | 90 => ⟨S164x256x16x16, .f32⟩
  | 91 => ⟨S256x164x16x16, .f32⟩
  | 92 => ⟨S_, .f32⟩
  | 93 => ⟨S256x164x16x16, .f32⟩
  | 94 => ⟨S256x164x16x16, .f32⟩
  | 95 => ⟨S256x128x16x16, .f32⟩
  | 96 => ⟨S164x128x1x1, .f32⟩
  | 97 => ⟨S164x128, .f32⟩
  | 98 => ⟨S164x256x16x16, .f32⟩
  | 99 => ⟨S256x164x16x16, .f32⟩
  | 100 => ⟨S256x164x16x16, .f32⟩
  | 101 => ⟨S256x128x16x16, .f32⟩
  | 102 => ⟨S164x128x1x1, .f32⟩
  | 103 => ⟨S164x128, .f32⟩
  | 104 => ⟨S164x256x16x16, .f32⟩
  | 105 => ⟨S256x164x16x16, .f32⟩
  | 106 => ⟨S256x164x16x16, .f32⟩
  | 107 => ⟨S256x128x16x16, .f32⟩
  | 108 => ⟨S164x128x1x1, .f32⟩
  | 109 => ⟨S164x128, .f32⟩
  | 110 => ⟨S164x256x16x16, .f32⟩
  | 111 => ⟨S256x164x16x16, .f32⟩
  | 112 => ⟨S256x164x16x16, .f32⟩
  | 113 => ⟨S256x128x16x16, .f32⟩
  | 114 => ⟨S164x128x1x1, .f32⟩
  | 115 => ⟨S164x128, .f32⟩
  | 116 => ⟨S164x256x16x16, .f32⟩
  | 117 => ⟨S256x164x16x16, .f32⟩
  | 118 => ⟨S256x164x16x16, .f32⟩
  | 119 => ⟨S256x128x16x16, .f32⟩
  | 120 => ⟨S164x128x1x1, .f32⟩
  | 121 => ⟨S164x128, .f32⟩
  | 122 => ⟨S164x256x16x16, .f32⟩
  | 123 => ⟨S256x164x16x16, .f32⟩
  | 124 => ⟨S256x164x16x16, .f32⟩
  | 125 => ⟨S256x128x16x16, .f32⟩
  | 126 => ⟨S164x128x1x1, .f32⟩
  | 127 => ⟨S164x128, .f32⟩
  | _ => ⟨S12x32x32x256, .f32⟩

abbrev hbmTy0_1 (i : Nat) : BufTy := match i % 128 with
  | 0 => ⟨S164x256x16x16, .f32⟩
  | 1 => ⟨S256x164x16x16, .f32⟩
  | 2 => ⟨S256x164x16x16, .f32⟩
  | 3 => ⟨S256x128x16x16, .f32⟩
  | 4 => ⟨S164x128x1x1, .f32⟩
  | 5 => ⟨S164x128, .f32⟩
  | 6 => ⟨S164x256x16x16, .f32⟩
  | 7 => ⟨S256x164x16x16, .f32⟩
  | 8 => ⟨S256x164x16x16, .f32⟩
  | 9 => ⟨S256x128x16x16, .f32⟩
  | 10 => ⟨S164x128x1x1, .f32⟩
  | 11 => ⟨S164x128, .f32⟩
  | 12 => ⟨S164x256x16x16, .f32⟩
  | 13 => ⟨S256x164x16x16, .f32⟩
  | 14 => ⟨S256x164x16x16, .f32⟩
  | 15 => ⟨S1x164x1x1, .f32⟩
  | 16 => ⟨S256x164x16x16, .f32⟩
  | 17 => ⟨S256x164x16x16, .f32⟩
  | 18 => ⟨S_, .f32⟩
  | 19 => ⟨S256x164x16x16, .f32⟩
  | 20 => ⟨S256x164x16x16, .f32⟩
  | 21 => ⟨S256x164x8x2x8x2, .f32⟩
  | 22 => ⟨S_, .f32⟩
  | 23 => ⟨S256x164x8x8, .f32⟩
  | 24 => ⟨S_, .i32⟩
  | 25 => ⟨S_, .f32⟩
  | 26 => ⟨S256x164x10x10, .f32⟩
  | 27 => ⟨S256x164x8x8, .f32⟩
  | 28 => ⟨S192x164x1x1, .f32⟩
  | 29 => ⟨S192x164, .f32⟩
  | 30 => ⟨S192x256x8x8, .f32⟩
  | 31 => ⟨S256x192x8x8, .f32⟩
  | 32 => ⟨S_, .f32⟩
  | 33 => ⟨S256x192x8x8, .f32⟩
  | 34 => ⟨S256x192x8x8, .f32⟩
  | 35 => ⟨S256x164x8x8, .f32⟩
  | 36 => ⟨S192x164x1x1, .f32⟩
  | 37 => ⟨S192x164, .f32⟩
  | 38 => ⟨S192x256x8x8, .f32⟩
  | 39 => ⟨S256x192x8x8, .f32⟩
  | 40 => ⟨S256x192x8x8, .f32⟩
  | 41 => ⟨S256x164x8x8, .f32⟩
  | 42 => ⟨S192x164x1x1, .f32⟩
  | 43 => ⟨S192x164, .f32⟩
  | 44 => ⟨S192x256x8x8, .f32⟩
  | 45 => ⟨S256x192x8x8, .f32⟩
  | 46 => ⟨S256x192x8x8, .f32⟩
  | 47 => ⟨S256x164x8x8, .f32⟩
  | 48 => ⟨S192x164x1x1, .f32⟩
  | 49 => ⟨S192x164, .f32⟩
  | 50 => ⟨S192x256x8x8, .f32⟩
  | 51 => ⟨S256x192x8x8, .f32⟩
  | 52 => ⟨S256x192x8x8, .f32⟩
  | 53 => ⟨S256x164x8x8, .f32⟩
  | 54 => ⟨S192x164x1x1, .f32⟩
  | 55 => ⟨S192x164, .f32⟩
  | 56 => ⟨S192x256x8x8, .f32⟩
  | 57 => ⟨S256x192x8x8, .f32⟩
  | 58 => ⟨S256x192x8x8, .f32⟩
  | 59 => ⟨S256x164x8x8, .f32⟩
  | 60 => ⟨S192x164x1x1, .f32⟩
  | 61 => ⟨S192x164, .f32⟩
  | 62 => ⟨S192x256x8x8, .f32⟩
  | 63 => ⟨S256x192x8x8, .f32⟩
  | 64 => ⟨S256x192x8x8, .f32⟩
  | 65 => ⟨S256x164x8x8, .f32⟩
  | 66 => ⟨S192x164x1x1, .f32⟩
  | 67 => ⟨S192x164, .f32⟩
  | 68 => ⟨S192x256x8x8, .f32⟩
  | 69 => ⟨S256x192x8x8, .f32⟩
  | 70 => ⟨S256x192x8x8, .f32⟩
  | 71 => ⟨S256x164x8x8, .f32⟩
  | 72 => ⟨S192x164x1x1, .f32⟩
  | 73 => ⟨S192x164, .f32⟩
  | 74 => ⟨S192x256x8x8, .f32⟩
  | 75 => ⟨S256x192x8x8, .f32⟩
  | 76 => ⟨S256x192x8x8, .f32⟩
  | 77 => ⟨S256x164x8x8, .f32⟩
  | 78 => ⟨S192x164x1x1, .f32⟩
  | 79 => ⟨S192x164, .f32⟩
  | 80 => ⟨S192x256x8x8, .f32⟩
  | 81 => ⟨S256x192x8x8, .f32⟩
  | 82 => ⟨S256x192x8x8, .f32⟩
  | 83 => ⟨S1x192x1x1, .f32⟩
  | 84 => ⟨S256x192x8x8, .f32⟩
  | 85 => ⟨S256x192x8x8, .f32⟩
  | 86 => ⟨S_, .f32⟩
  | 87 => ⟨S256x192x8x8, .f32⟩
  | 88 => ⟨S256x192x8x8, .f32⟩
  | 89 => ⟨S256x192x4x2x4x2, .f32⟩
  | 90 => ⟨S_, .f32⟩
  | 91 => ⟨S256x192x4x4, .f32⟩
  | 92 => ⟨S_, .i32⟩
  | 93 => ⟨S_, .f32⟩
  | 94 => ⟨S256x192x6x6, .f32⟩
  | 95 => ⟨S256x192x4x4, .f32⟩
  | 96 => ⟨S192x192x1x1, .f32⟩
  | 97 => ⟨S192x192, .f32⟩
  | 98 => ⟨S192x256x4x4, .f32⟩
  | 99 => ⟨S256x192x4x4, .f32⟩
  | 100 => ⟨S_, .f32⟩
  | 101 => ⟨S256x192x4x4, .f32⟩
  | 102 => ⟨S256x192x4x4, .f32⟩
  | 103 => ⟨S256x192x4x4, .f32⟩
  | 104 => ⟨S192x192x1x1, .f32⟩
  | 105 => ⟨S192x192, .f32⟩
  | 106 => ⟨S192x256x4x4, .f32⟩
  | 107 => ⟨S256x192x4x4, .f32⟩
  | 108 => ⟨S256x192x4x4, .f32⟩
  | 109 => ⟨S256x192x4x4, .f32⟩
  | 110 => ⟨S192x192x1x1, .f32⟩
  | 111 => ⟨S192x192, .f32⟩
  | 112 => ⟨S192x256x4x4, .f32⟩
  | 113 => ⟨S256x192x4x4, .f32⟩
  | 114 => ⟨S256x192x4x4, .f32⟩
  | 115 => ⟨S256x192x4x4, .f32⟩
  | 116 => ⟨S192x192x1x1, .f32⟩
  | 117 => ⟨S192x192, .f32⟩
  | 118 => ⟨S192x256x4x4, .f32⟩
  | 119 => ⟨S256x192x4x4, .f32⟩
  | 120 => ⟨S256x192x4x4, .f32⟩
  | 121 => ⟨S256x192x4x4, .f32⟩
  | 122 => ⟨S192x192x1x1, .f32⟩
  | 123 => ⟨S192x192, .f32⟩
  | 124 => ⟨S192x256x4x4, .f32⟩
  | 125 => ⟨S256x192x4x4, .f32⟩
  | 126 => ⟨S256x192x4x4, .f32⟩
  | 127 => ⟨S256x192x4x4, .f32⟩
  | _ => ⟨S12x32x32x256, .f32⟩

abbrev hbmTy0_2 (i : Nat) : BufTy := match i % 128 with
  | 0 => ⟨S192x192x1x1, .f32⟩
  | 1 => ⟨S192x192, .f32⟩
  | 2 => ⟨S192x256x4x4, .f32⟩
  | 3 => ⟨S256x192x4x4, .f32⟩
  | 4 => ⟨S256x192x4x4, .f32⟩
  | 5 => ⟨S256x192x4x4, .f32⟩
  | 6 => ⟨S192x192x1x1, .f32⟩
  | 7 => ⟨S192x192, .f32⟩
  | 8 => ⟨S192x256x4x4, .f32⟩
  | 9 => ⟨S256x192x4x4, .f32⟩
  | 10 => ⟨S256x192x4x4, .f32⟩
  | 11 => ⟨S256x192x4x4, .f32⟩
  | 12 => ⟨S192x192x1x1, .f32⟩
  | 13 => ⟨S192x192, .f32⟩
  | 14 => ⟨S192x256x4x4, .f32⟩
  | 15 => ⟨S256x192x4x4, .f32⟩
  | 16 => ⟨S256x192x4x4, .f32⟩
  | 17 => ⟨S256x192x4x4, .f32⟩
  | 18 => ⟨S192x192x1x1, .f32⟩
  | 19 => ⟨S192x192, .f32⟩
  | 20 => ⟨S192x256x4x4, .f32⟩
  | 21 => ⟨S256x192x4x4, .f32⟩
  | 22 => ⟨S256x192x4x4, .f32⟩
  | 23 => ⟨S1x192x1x1, .f32⟩
  | 24 => ⟨S256x192x4x4, .f32⟩
  | 25 => ⟨S256x192x4x4, .f32⟩
  | 26 => ⟨S_, .f32⟩
  | 27 => ⟨S256x192x4x4, .f32⟩
  | 28 => ⟨S256x192x4x4, .f32⟩
  | 29 => ⟨S256x192x2x2x2x2, .f32⟩
  | 30 => ⟨S_, .f32⟩
  | 31 => ⟨S256x192x2x2, .f32⟩
  | 32 => ⟨S_, .i32⟩
  | 33 => ⟨S_, .f32⟩
  | 34 => ⟨S256x192x4x4, .f32⟩
  | 35 => ⟨S256x192x2x2, .f32⟩
  | 36 => ⟨S128x192x1x1, .f32⟩
  | 37 => ⟨S128x192, .f32⟩
  | 38 => ⟨S128x256x2x2, .f32⟩
  | 39 => ⟨S256x128x2x2, .f32⟩
  | 40 => ⟨S_, .f32⟩
  | 41 => ⟨S256x128x2x2, .f32⟩
  | 42 => ⟨S256x128x2x2, .f32⟩
  | 43 => ⟨S256x192x2x2, .f32⟩
  | 44 => ⟨S128x192x1x1, .f32⟩
  | 45 => ⟨S128x192, .f32⟩
  | 46 => ⟨S128x256x2x2, .f32⟩
  | 47 => ⟨S256x128x2x2, .f32⟩
  | 48 => ⟨S256x128x2x2, .f32⟩
  | 49 => ⟨S256x192x2x2, .f32⟩
  | 50 => ⟨S128x192x1x1, .f32⟩
  | 51 => ⟨S128x192, .f32⟩
  | 52 => ⟨S128x256x2x2, .f32⟩
  | 53 => ⟨S256x128x2x2, .f32⟩
  | 54 => ⟨S256x128x2x2, .f32⟩
  | 55 => ⟨S256x192x2x2, .f32⟩
  | 56 => ⟨S128x192x1x1, .f32⟩
  | 57 => ⟨S128x192, .f32⟩
  | 58 => ⟨S128x256x2x2, .f32⟩
  | 59 => ⟨S256x128x2x2, .f32⟩
  | 60 => ⟨S256x128x2x2, .f32⟩
  | 61 => ⟨S256x192x2x2, .f32⟩
  | 62 => ⟨S128x192x1x1, .f32⟩
  | 63 => ⟨S128x192, .f32⟩
  | 64 => ⟨S128x256x2x2, .f32⟩
  | 65 => ⟨S256x128x2x2, .f32⟩
  | 66 => ⟨S256x128x2x2, .f32⟩
  | 67 => ⟨S256x192x2x2, .f32⟩
  | 68 => ⟨S128x192x1x1, .f32⟩
  | 69 => ⟨S128x192, .f32⟩
  | 70 => ⟨S128x256x2x2, .f32⟩
  | 71 => ⟨S256x128x2x2, .f32⟩
  | 72 => ⟨S256x128x2x2, .f32⟩
  | 73 => ⟨S256x192x2x2, .f32⟩
  | 74 => ⟨S128x192x1x1, .f32⟩
  | 75 => ⟨S128x192, .f32⟩
  | 76 => ⟨S128x256x2x2, .f32⟩
  | 77 => ⟨S256x128x2x2, .f32⟩
  | 78 => ⟨S256x128x2x2, .f32⟩
  | 79 => ⟨S256x192x2x2, .f32⟩
  | 80 => ⟨S128x192x1x1, .f32⟩
  | 81 => ⟨S128x192, .f32⟩
  | 82 => ⟨S128x256x2x2, .f32⟩
  | 83 => ⟨S256x128x2x2, .f32⟩
  | 84 => ⟨S256x128x2x2, .f32⟩
  | 85 => ⟨S256x192x2x2, .f32⟩
  | 86 => ⟨S128x192x1x1, .f32⟩
  | 87 => ⟨S128x192, .f32⟩
  | 88 => ⟨S128x256x2x2, .f32⟩
  | 89 => ⟨S256x128x2x2, .f32⟩
  | 90 => ⟨S256x128x2x2, .f32⟩
  | 91 => ⟨S1x128x1x1, .f32⟩
  | 92 => ⟨S256x128x2x2, .f32⟩
  | 93 => ⟨S256x128x2x2, .f32⟩
  | 94 => ⟨S_, .f32⟩
  | 95 => ⟨S256x128x2x2, .f32⟩
  | 96 => ⟨S256x128x2x2, .f32⟩
  | 97 => ⟨S256x128x1x2x1x2, .f32⟩
  | 98 => ⟨S_, .f32⟩
  | 99 => ⟨S256x128x1x1, .f32⟩
  | 100 => ⟨S256x128, .f32⟩
  | 101 => ⟨S128x128, .f32⟩
  | 102 => ⟨S256x128, .f32⟩
  | 103 => ⟨S1x128, .f32⟩
  | 104 => ⟨S256x128, .f32⟩
  | 105 => ⟨S256x128, .f32⟩
  | 106 => ⟨S_, .f32⟩
  | 107 => ⟨S256x128, .f32⟩
  | 108 => ⟨S256x128, .f32⟩
  | 109 => ⟨S128x5, .f32⟩
  | 110 => ⟨S256x5, .f32⟩
  | 111 => ⟨S1x5, .f32⟩
  | 112 => ⟨S256x5, .f32⟩
  | 113 => ⟨S256x5, .f32⟩
  | 114 => ⟨S_, .f32⟩
  | 115 => ⟨S256, .f32⟩
  | 116 => ⟨S256x1, .f32⟩
  | 117 => ⟨S256x5, .f32⟩
  | 118 => ⟨S256x5, .f32⟩
  | 119 => ⟨S256x5, .f32⟩
  | 120 => ⟨S_, .f32⟩
  | 121 => ⟨S256, .f32⟩
  | 122 => ⟨S256x1, .f32⟩
  | 123 => ⟨S256x1, .f32⟩
  | 124 => ⟨S256x1, .f32⟩
  | 125 => ⟨S256x5, .f32⟩
  | 126 => ⟨S256x5, .f32⟩
  | _ => ⟨S12x32x32x256, .f32⟩

abbrev hbmTy (i : Nat) : BufTy := match i / 128 with
  | 0 => hbmTy0_0 i
  | 1 => hbmTy0_1 i
  | 2 => hbmTy0_2 i
  | _ => ⟨S12x32x32x256, .f32⟩

abbrev bufTy : (tb : Table) → Fin (tcTables nBuf tb) → BufTy
  | .hbm, ⟨i, _⟩ => hbmTy i
  | _, _ => ⟨S12x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_1 : Ref sig .tc := ⟨.hbm, 82, rfl⟩
abbrev main_v63 : Ref sig .tc := ⟨.hbm, 83, rfl⟩
abbrev main_c_2 : Ref sig .tc := ⟨.hbm, 84, rfl⟩
abbrev main_call1_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_3 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_4 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_5 : Ref sig .tc := ⟨.hbm, 150, rfl⟩
abbrev main_v126 : Ref sig .tc := ⟨.hbm, 151, rfl⟩
abbrev main_c_6 : Ref sig .tc := ⟨.hbm, 152, rfl⟩
abbrev main_call2_v0 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_7 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_cst_8 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_9 : Ref sig .tc := ⟨.hbm, 218, rfl⟩
abbrev main_v189 : Ref sig .tc := ⟨.hbm, 219, rfl⟩
abbrev main_c_10 : Ref sig .tc := ⟨.hbm, 220, rfl⟩
abbrev main_call3_v0 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_cst_11 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_cst_12 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_cst_13 : Ref sig .tc := ⟨.hbm, 286, rfl⟩
abbrev main_v252 : Ref sig .tc := ⟨.hbm, 287, rfl⟩
abbrev main_c_14 : Ref sig .tc := ⟨.hbm, 288, rfl⟩
abbrev main_call4_v0 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_cst_15 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_cst_16 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_cst_17 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_cst_18 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_cst_19 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_cst_20 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩

abbrev nD : Nat := 1
abbrev τ : Topo := Topo.v7x

variable {F : FTy → Type} [FloatOps F]
-- ==== Dots.lean ====
abbrev S256x32x250 : Shape := ⟨3, ![256, 32, 250]⟩
abbrev S256x32x32 : Shape := ⟨3, ![256, 32, 32]⟩
abbrev S256x32 : Shape := ⟨2, ![256, 32]⟩
abbrev S8x32x250 : Shape := ⟨3, ![8, 32, 250]⟩
abbrev S8x32x32 : Shape := ⟨3, ![8, 32, 32]⟩
abbrev S8x32 : Shape := ⟨2, ![8, 32]⟩
abbrev S16x32x250 : Shape := ⟨3, ![16, 32, 250]⟩
abbrev S512x250 : Shape := ⟨2, ![512, 250]⟩
abbrev S512x512 : Shape := ⟨2, ![512, 512]⟩
abbrev S32x32 : Shape := ⟨2, ![32, 32]⟩
abbrev S1x32x32 : Shape := ⟨3, ![1, 32, 32]⟩

abbrev nBuf : Space → Nat
  | .hbm => 14
  | .vmem => 28
  | .smem => 0
  | _ => 0

abbrev bufTy : (tb : Table) → Fin (tcTables nBuf tb) → BufTy
  | .hbm, ⟨0, _⟩ => ⟨S256x32x250, .f32⟩
  | .hbm, ⟨1, _⟩ => ⟨S256x32x250, .f32⟩
  | .hbm, ⟨2, _⟩ => ⟨S256x32x250, .f32⟩
  | .hbm, ⟨3, _⟩ => ⟨S256x32x250, .f32⟩
  | .hbm, ⟨4, _⟩ => ⟨S256x32x32, .f32⟩
  | .hbm, ⟨5, _⟩ => ⟨S256x32x32, .f32⟩
  | .hbm, ⟨6, _⟩ => ⟨S256x32x32, .f32⟩
  | .hbm, ⟨7, _⟩ => ⟨S256x32x32, .f32⟩
  | .hbm, ⟨8, _⟩ => ⟨S256x32, .f32⟩
  | .hbm, ⟨9, _⟩ => ⟨S256x32, .f32⟩
  | .hbm, ⟨10, _⟩ => ⟨S256x32, .f32⟩
  | .hbm, ⟨11, _⟩ => ⟨S256x32, .f32⟩
  | .hbm, ⟨12, _⟩ => ⟨S256x32, .f32⟩
  | .hbm, ⟨13, _⟩ => ⟨S256x32, .f32⟩
  | .local _ .vmem, ⟨0, _⟩ => ⟨S8x32x250, .f32⟩
  | .local _ .vmem, ⟨1, _⟩ => ⟨S8x32x250, .f32⟩
  | .local _ .vmem, ⟨2, _⟩ => ⟨S8x32x250, .f32⟩
  | .local _ .vmem, ⟨3, _⟩ => ⟨S8x32x250, .f32⟩
  | .local _ .vmem, ⟨4, _⟩ => ⟨S8x32x250, .f32⟩
  | .local _ .vmem, ⟨5, _⟩ => ⟨S8x32x250, .f32⟩
  | .local _ .vmem, ⟨6, _⟩ => ⟨S8x32x250, .f32⟩
  | .local _ .vmem, ⟨7, _⟩ => ⟨S8x32x250, .f32⟩
  | .local _ .vmem, ⟨8, _⟩ => ⟨S8x32x32, .f32⟩
  | .local _ .vmem, ⟨9, _⟩ => ⟨S8x32x32, .f32⟩
  | .local _ .vmem, ⟨10, _⟩ => ⟨S8x32x32, .f32⟩
  | .local _ .vmem, ⟨11, _⟩ => ⟨S8x32x32, .f32⟩
  | .local _ .vmem, ⟨12, _⟩ => ⟨S8x32x32, .f32⟩
  | .local _ .vmem, ⟨13, _⟩ => ⟨S8x32x32, .f32⟩
  | .local _ .vmem, ⟨14, _⟩ => ⟨S8x32x32, .f32⟩
  | .local _ .vmem, ⟨15, _⟩ => ⟨S8x32x32, .f32⟩
  | .local _ .vmem, ⟨16, _⟩ => ⟨S8x32, .f32⟩
  | .local _ .vmem, ⟨17, _⟩ => ⟨S8x32, .f32⟩
  | .local _ .vmem, ⟨18, _⟩ => ⟨S8x32, .f32⟩
  | .local _ .vmem, ⟨19, _⟩ => ⟨S8x32, .f32⟩
  | .local _ .vmem, ⟨20, _⟩ => ⟨S8x32, .f32⟩
  | .local _ .vmem, ⟨21, _⟩ => ⟨S8x32, .f32⟩
  | .local _ .vmem, ⟨22, _⟩ => ⟨S8x32, .f32⟩
  | .local _ .vmem, ⟨23, _⟩ => ⟨S8x32, .f32⟩
  | .local _ .vmem, ⟨24, _⟩ => ⟨S8x32, .f32⟩
  | .local _ .vmem, ⟨25, _⟩ => ⟨S8x32, .f32⟩
  | .local _ .vmem, ⟨26, _⟩ => ⟨S8x32, .f32⟩
  | .local _ .vmem, ⟨27, _⟩ => ⟨S8x32, .f32⟩
  | _, _ => ⟨S256x32x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x250 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x250 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x250 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x32x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DotsRefIdeal.lean ====
abbrev S256x32x250 : Shape := ⟨3, ![256, 32, 250]⟩
abbrev S256x32x32 : Shape := ⟨3, ![256, 32, 32]⟩
abbrev S_ : Shape := ⟨0, ![]⟩
abbrev S256x32 : Shape := ⟨2, ![256, 32]⟩

abbrev nBuf : Space → Nat
  | .hbm => 26
  | .vmem => 0
  | .smem => 0
  | _ => 0

abbrev bufTy : (tb : Table) → Fin (tcTables nBuf tb) → BufTy
  | .hbm, ⟨0, _⟩ => ⟨S256x32x250, .f32⟩
  | .hbm, ⟨1, _⟩ => ⟨S256x32x250, .f32⟩
  | .hbm, ⟨2, _⟩ => ⟨S256x32x250, .f32⟩
  | .hbm, ⟨3, _⟩ => ⟨S256x32x250, .f32⟩
  | .hbm, ⟨4, _⟩ => ⟨S256x32x32, .f32⟩
  | .hbm, ⟨5, _⟩ => ⟨S256x32x32, .f32⟩
  | .hbm, ⟨6, _⟩ => ⟨S256x32x32, .f32⟩
  | .hbm, ⟨7, _⟩ => ⟨S256x32x32, .f32⟩
  | .hbm, ⟨8, _⟩ => ⟨S256x32x250, .f32⟩
  | .hbm, ⟨9, _⟩ => ⟨S_, .f32⟩
  | .hbm, ⟨10, _⟩ => ⟨S256x32, .f32⟩
  | .hbm, ⟨11, _⟩ => ⟨S256x32x250, .f32⟩
  | .hbm, ⟨12, _⟩ => ⟨S_, .f32⟩
  | .hbm, ⟨13, _⟩ => ⟨S256x32, .f32⟩
  | .hbm, ⟨14, _⟩ => ⟨S256x32x250, .f32⟩
  | .hbm, ⟨15, _⟩ => ⟨S_, .f32⟩
  | .hbm, ⟨16, _⟩ => ⟨S256x32, .f32⟩
  | .hbm, ⟨17, _⟩ => ⟨S256x32x250, .f32⟩
  | .hbm, ⟨18, _⟩ => ⟨S_, .f32⟩
  | .hbm, ⟨19, _⟩ => ⟨S256x32, .f32⟩
  | .hbm, ⟨20, _⟩ => ⟨S256x32x250, .f32⟩
  | .hbm, ⟨21, _⟩ => ⟨S_, .f32⟩
  | .hbm, ⟨22, _⟩ => ⟨S256x32, .f32⟩
  | .hbm, ⟨23, _⟩ => ⟨S256x32x250, .f32⟩
  | .hbm, ⟨24, _⟩ => ⟨S_, .f32⟩
  | .hbm, ⟨25, _⟩ => ⟨S256x32, .f32⟩
  | _, _ => ⟨S256x32x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Focus.lean ====
abbrev S256x32x32 : Shape := ⟨3, ![256, 32, 32]⟩
abbrev S256x32 : Shape := ⟨2, ![256, 32]⟩
abbrev S256 : Shape := ⟨1, ![256]⟩
abbrev S32x32x256 : Shape := ⟨3, ![32, 32, 256]⟩
abbrev S32x256 : Shape := ⟨2, ![32, 256]⟩
abbrev S1x256 : Shape := ⟨2, ![1, 256]⟩
abbrev S12x32x32x256 : Shape := ⟨4, ![12, 32, 32, 256]⟩
abbrev S32x32x128 : Shape := ⟨3, ![32, 32, 128]⟩
abbrev S32x128 : Shape := ⟨2, ![32, 128]⟩
abbrev S1x128 : Shape := ⟨2, ![1, 128]⟩
abbrev S12x32x32x128 : Shape := ⟨4, ![12, 32, 32, 128]⟩
abbrev S2x32x32x128 : Shape := ⟨4, ![2, 32, 32, 128]⟩
abbrev S1x1x128 : Shape := ⟨3, ![1, 1, 128]⟩
abbrev S32x1x128 : Shape := ⟨3, ![32, 1, 128]⟩
abbrev S1x32x128 : Shape := ⟨3, ![1, 32, 128]⟩
abbrev S1x32x32x128 : Shape := ⟨4, ![1, 32, 32, 128]⟩
abbrev S2x128 : Shape := ⟨2, ![2, 128]⟩
abbrev S2x1x1x128 : Shape := ⟨4, ![2, 1, 1, 128]⟩

abbrev nBuf : Space → Nat
  | .hbm => 25
  | .vmem => 28
  | .smem => 0
  | _ => 0

abbrev bufTy : (tb : Table) → Fin (tcTables nBuf tb) → BufTy
  | .hbm, ⟨0, _⟩ => ⟨S256x32x32, .f32⟩
  | .hbm, ⟨1, _⟩ => ⟨S256x32x32, .f32⟩
  | .hbm, ⟨2, _⟩ => ⟨S256x32x32, .f32⟩
  | .hbm, ⟨3, _⟩ => ⟨S256x32x32, .f32⟩
  | .hbm, ⟨4, _⟩ => ⟨S256x32, .f32⟩
  | .hbm, ⟨5, _⟩ => ⟨S256x32, .f32⟩
  | .hbm, ⟨6, _⟩ => ⟨S256x32, .f32⟩
  | .hbm, ⟨7, _⟩ => ⟨S256x32, .f32⟩
  | .hbm, ⟨8, _⟩ => ⟨S256x32, .f32⟩
  | .hbm, ⟨9, _⟩ => ⟨S256x32, .f32⟩
  | .hbm, ⟨10, _⟩ => ⟨S256, .i32⟩
  | .hbm, ⟨11, _⟩ => ⟨S256, .i32⟩
  | .hbm, ⟨12, _⟩ => ⟨S32x32x256, .f32⟩
  | .hbm, ⟨13, _⟩ => ⟨S32x32x256, .f32⟩
  | .hbm, ⟨14, _⟩ => ⟨S32x32x256, .f32⟩
  | .hbm, ⟨15, _⟩ => ⟨S32x32x256, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S1x256, .i32⟩
  | .hbm, ⟨23, _⟩ => ⟨S1x256, .i32⟩
  | .hbm, ⟨24, _⟩ => ⟨S12x32x32x256, .f32⟩
  | .local _ .vmem, ⟨0, _⟩ => ⟨S32x32x128, .f32⟩
  | .local _ .vmem, ⟨1, _⟩ => ⟨S32x32x128, .f32⟩
  | .local _ .vmem, ⟨2, _⟩ => ⟨S32x32x128, .f32⟩
  | .local _ .vmem, ⟨3, _⟩ => ⟨S32x32x128, .f32⟩
  | .local _ .vmem, ⟨4, _⟩ => ⟨S32x32x128, .f32⟩
  | .local _ .vmem, ⟨5, _⟩ => ⟨S32x32x128, .f32⟩
  | .local _ .vmem, ⟨6, _⟩ => ⟨S32x32x128, .f32⟩
  | .local _ .vmem, ⟨7, _⟩ => ⟨S32x32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S1x128, .i32⟩
  | .local _ .vmem, ⟨21, _⟩ => ⟨S1x128, .i32⟩
  | .local _ .vmem, ⟨22, _⟩ => ⟨S1x128, .i32⟩
  | .local _ .vmem, ⟨23, _⟩ => ⟨S1x128, .i32⟩
  | .local _ .vmem, ⟨24, _⟩ => ⟨S12x32x32x128, .f32⟩
  | .local _ .vmem, ⟨25, _⟩ => ⟨S12x32x32x128, .f32⟩
  | .local _ .vmem, ⟨26, _⟩ => ⟨S2x32x32x128, .f32⟩
  | .local _ .vmem, ⟨27, _⟩ => ⟨S2x32x32x128, .f32⟩
  | _, _ => ⟨S256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32_61 : BitVec 32 := 32#32
  let v181 : BitVec 32 := Scalar.addi c0_i32 c32_i32_61
  let c1_i32 : BitVec 32 := 1#32
  ⟨c0_i32, v181, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S12x32x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FocusRefIdeal.lean ====
abbrev S256x32x32 : Shape := ⟨3, ![256, 32, 32]⟩
abbrev S256x32 : Shape := ⟨2, ![256, 32]⟩
abbrev S256 : Shape := ⟨1, ![256]⟩
abbrev S256x32x1 : Shape := ⟨3, ![256, 32, 1]⟩
abbrev S256x1x32 : Shape := ⟨3, ![256, 1, 32]⟩
abbrev S_ : Shape := ⟨0, ![]⟩
abbrev S256x1x32x32 : Shape := ⟨4, ![256, 1, 32, 32]⟩
abbrev S256x3x32x32 : Shape := ⟨4, ![256, 3, 32, 32]⟩
abbrev S256x12x32x32 : Shape := ⟨4, ![256, 12, 32, 32]⟩
abbrev S32 : Shape := ⟨1, ![32]⟩
abbrev S1x32x1 : Shape := ⟨3, ![1, 32, 1]⟩
abbrev S256x1x1 : Shape := ⟨3, ![256, 1, 1]⟩
abbrev S1x1x32 : Shape := ⟨3, ![1, 1, 32]⟩
abbrev S512x32x32 : Shape := ⟨3, ![512, 32, 32]⟩
abbrev S512x1024 : Shape := ⟨2, ![512, 1024]⟩
abbrev S512 : Shape := ⟨1, ![512]⟩
abbrev S512x1x1 : Shape := ⟨3, ![512, 1, 1]⟩
abbrev S512x32x1 : Shape := ⟨3, ![512, 32, 1]⟩
abbrev S512x1x32 : Shape := ⟨3, ![512, 1, 32]⟩
abbrev S12x32x32x256 : Shape := ⟨4, ![12, 32, 32, 256]⟩

abbrev nBuf : Space → Nat
  | .hbm => 278
  | .vmem => 0
  | .smem => 0
  | _ => 0

abbrev hbmTy0_0 (i : Nat) : BufTy := match i % 128 with
  | 0 => ⟨S256x32x32, .f32⟩
  | 1 => ⟨S256x32x32, .f32⟩
  | 2 => ⟨S256x32x32, .f32⟩
  | 3 => ⟨S256x32x32, .f32⟩
  | 4 => ⟨S256x32, .f32⟩
  | 5 => ⟨S256x32, .f32⟩
  | 6 => ⟨S256x32, .f32⟩
  | 7 => ⟨S256x32, .f32⟩
  | 8 => ⟨S256x32, .f32⟩
  | 9 => ⟨S256x32, .f32⟩
  | 10 => ⟨S256, .i32⟩
  | 11 => ⟨S256, .i32⟩
  | 12 => ⟨S256x32x32, .f32⟩
  | 13 => ⟨S256x32, .f32⟩
  | 14 => ⟨S256x32, .f32⟩
  | 15 => ⟨S256x32, .f32⟩
  | 16 => ⟨S256x32x1, .f32⟩
  | 17 => ⟨S256x32, .f32⟩
  | 18 => ⟨S256x1x32, .f32⟩
  | 19 => ⟨S256x32x32, .f32⟩
  | 20 => ⟨S256x32x32, .f32⟩
  | 21 => ⟨S256x32x32, .f32⟩
  | 22 => ⟨S_, .f32⟩
  | 23 => ⟨S256x32x32, .f32⟩
  | 24 => ⟨S256x32x32, .f32⟩
  | 25 => ⟨S256x32x32, .f32⟩
  | 26 => ⟨S256x32x1, .f32⟩
  | 27 => ⟨S256x1x32, .f32⟩
  | 28 => ⟨S256x32x32, .f32⟩
  | 29 => ⟨S256x32x32, .f32⟩
  | 30 => ⟨S256x32x32, .f32⟩
  | 31 => ⟨S_, .f32⟩
  | 32 => ⟨S256x32x32, .f32⟩
  | 33 => ⟨S256x32x32, .f32⟩
  | 34 => ⟨S256x32x32, .f32⟩
  | 35 => ⟨S_, .f32⟩
  | 36 => ⟨S256x32x32, .f32⟩
  | 37 => ⟨S256x32x32, .f32⟩
  | 38 => ⟨S256x32x32, .f32⟩
  | 39 => ⟨S256x1x32x32, .f32⟩
  | 40 => ⟨S256x1x32x32, .f32⟩
  | 41 => ⟨S256x1x32x32, .f32⟩
  | 42 => ⟨S256x3x32x32, .f32⟩
  | 43 => ⟨S256x32, .f32⟩
  | 44 => ⟨S256x32x1, .f32⟩
  | 45 => ⟨S256x32, .f32⟩
  | 46 => ⟨S256x1x32, .f32⟩
  | 47 => ⟨S256x32x32, .f32⟩
  | 48 => ⟨S256x32x32, .f32⟩
  | 49 => ⟨S256x32x32, .f32⟩
  | 50 => ⟨S_, .f32⟩
  | 51 => ⟨S256x32x32, .f32⟩
  | 52 => ⟨S256x32x32, .f32⟩
  | 53 => ⟨S256x32x32, .f32⟩
  | 54 => ⟨S256x32x1, .f32⟩
  | 55 => ⟨S256x1x32, .f32⟩
  | 56 => ⟨S256x32x32, .f32⟩
  | 57 => ⟨S256x32x32, .f32⟩
  | 58 => ⟨S256x32x32, .f32⟩
  | 59 => ⟨S_, .f32⟩
  | 60 => ⟨S256x32x32, .f32⟩
  | 61 => ⟨S256x32x32, .f32⟩
  | 62 => ⟨S256x32x32, .f32⟩
  | 63 => ⟨S_, .f32⟩
  | 64 => ⟨S256x32x32, .f32⟩
  | 65 => ⟨S256x32x32, .f32⟩
  | 66 => ⟨S256x32x32, .f32⟩
  | 67 => ⟨S256x1x32x32, .f32⟩
  | 68 => ⟨S256x1x32x32, .f32⟩
  | 69 => ⟨S256x1x32x32, .f32⟩
  | 70 => ⟨S256x3x32x32, .f32⟩
  | 71 => ⟨S256x32, .f32⟩
  | 72 => ⟨S256x32x1, .f32⟩
  | 73 => ⟨S256x32, .f32⟩
  | 74 => ⟨S256x1x32, .f32⟩
  | 75 => ⟨S256x32x32, .f32⟩
  | 76 => ⟨S256x32x32, .f32⟩
  | 77 => ⟨S256x32x32, .f32⟩
  | 78 => ⟨S_, .f32⟩
  | 79 => ⟨S256x32x32, .f32⟩
  | 80 => ⟨S256x32x32, .f32⟩
  | 81 => ⟨S256x32x32, .f32⟩
  | 82 => ⟨S256x32x1, .f32⟩
  | 83 => ⟨S256x1x32, .f32⟩
  | 84 => ⟨S256x32x32, .f32⟩
  | 85 => ⟨S256x32x32, .f32⟩
  | 86 => ⟨S256x32x32, .f32⟩
  | 87 => ⟨S_, .f32⟩
  | 88 => ⟨S256x32x32, .f32⟩
  | 89 => ⟨S256x32x32, .f32⟩
  | 90 => ⟨S256x32x32, .f32⟩
  | 91 => ⟨S_, .f32⟩
  | 92 => ⟨S256x32x32, .f32⟩
  | 93 => ⟨S256x32x32, .f32⟩
  | 94 => ⟨S256x32x32, .f32⟩
  | 95 => ⟨S256x1x32x32, .f32⟩
  | 96 => ⟨S256x1x32x32, .f32⟩
  | 97 => ⟨S256x1x32x32, .f32⟩
  | 98 => ⟨S256x3x32x32, .f32⟩
  | 99 => ⟨S256x32x32, .f32⟩
  | 100 => ⟨S256x32x32, .f32⟩
  | 101 => ⟨S256x32x32, .f32⟩
  | 102 => ⟨S256x32, .f32⟩
  | 103 => ⟨S_, .f32⟩
  | 104 => ⟨S256x32, .f32⟩
  | 105 => ⟨S256x32, .f32⟩
  | 106 => ⟨S256x32, .f32⟩
  | 107 => ⟨S256x32, .f32⟩
  | 108 => ⟨S_, .f32⟩
  | 109 => ⟨S256x32, .f32⟩
  | 110 => ⟨S256x32, .f32⟩
  | 111 => ⟨S256x32, .f32⟩
  | 112 => ⟨S256x32, .f32⟩
  | 113 => ⟨S256x32x1, .f32⟩
  | 114 => ⟨S256x32, .f32⟩
  | 115 => ⟨S256x1x32, .f32⟩
  | 116 => ⟨S256x32x32, .f32⟩
  | 117 => ⟨S256x32x32, .f32⟩
  | 118 => ⟨S256x32x32, .f32⟩
  | 119 => ⟨S_, .f32⟩
  | 120 => ⟨S256x32x32, .f32⟩
  | 121 => ⟨S256x32x32, .f32⟩
  | 122 => ⟨S256x32x32, .f32⟩
  | 123 => ⟨S256x32x1, .f32⟩
  | 124 => ⟨S256x1x32, .f32⟩
  | 125 => ⟨S256x32x32, .f32⟩
  | 126 => ⟨S256x32x32, .f32⟩
  | 127 => ⟨S256x32x32, .f32⟩
  | _ => ⟨S256x32x32, .f32⟩

abbrev hbmTy0_1 (i : Nat) : BufTy := match i % 128 with
  | 0 => ⟨S_, .f32⟩
  | 1 => ⟨S256x32x32, .f32⟩
  | 2 => ⟨S256x32x32, .f32⟩
  | 3 => ⟨S256x32x32, .f32⟩
  | 4 => ⟨S_, .f32⟩
  | 5 => ⟨S256x32x32, .f32⟩
  | 6 => ⟨S256x32x32, .f32⟩
  | 7 => ⟨S256x32x32, .f32⟩
  | 8 => ⟨S256x1x32x32, .f32⟩
  | 9 => ⟨S256x1x32x32, .f32⟩
  | 10 => ⟨S256x1x32x32, .f32⟩
  | 11 => ⟨S256x3x32x32, .f32⟩
  | 12 => ⟨S256x12x32x32, .f32⟩
  | 13 => ⟨S32, .i32⟩
  | 14 => ⟨S1x32x1, .i32⟩
  | 15 => ⟨S256x1x1, .i32⟩
  | 16 => ⟨S256x32x1, .i32⟩
  | 17 => ⟨S256x32x1, .i32⟩
  | 18 => ⟨S256x32x1, .i1⟩
  | 19 => ⟨S32, .i32⟩
  | 20 => ⟨S1x1x32, .i32⟩
  | 21 => ⟨S256x1x1, .i32⟩
  | 22 => ⟨S256x1x32, .i32⟩
  | 23 => ⟨S256x1x32, .i32⟩
  | 24 => ⟨S256x1x32, .i1⟩
  | 25 => ⟨S256x32x32, .i1⟩
  | 26 => ⟨S256x32x32, .i1⟩
  | 27 => ⟨S256x32x32, .i1⟩
  | 28 => ⟨S256x32x32, .f32⟩
  | 29 => ⟨S256x1x32x32, .f32⟩
  | 30 => ⟨S_, .f32⟩
  | 31 => ⟨S256x1x32x32, .f32⟩
  | 32 => ⟨S256x1x32x32, .f32⟩
  | 33 => ⟨S256x12x32x32, .f32⟩
  | 34 => ⟨S256x12x32x32, .f32⟩
  | 35 => ⟨S256x1x32x32, .f32⟩
  | 36 => ⟨S256x32x32, .f32⟩
  | 37 => ⟨S256x1x32x32, .f32⟩
  | 38 => ⟨S256x32x32, .f32⟩
  | 39 => ⟨S512x32x32, .f32⟩
  | 40 => ⟨S32, .i32⟩
  | 41 => ⟨S1x32x1, .i32⟩
  | 42 => ⟨S32, .i32⟩
  | 43 => ⟨S1x1x32, .i32⟩
  | 44 => ⟨S_, .i1⟩
  | 45 => ⟨S512x32x32, .i1⟩
  | 46 => ⟨S_, .i32⟩
  | 47 => ⟨S1x32x1, .i32⟩
  | 48 => ⟨S1x1x32, .i32⟩
  | 49 => ⟨S_, .i32⟩
  | 50 => ⟨S512x32x32, .f32⟩
  | 51 => ⟨S512x32x32, .i1⟩
  | 52 => ⟨S_, .i32⟩
  | 53 => ⟨S_, .i1⟩
  | 54 => ⟨S512x1024, .f32⟩
  | 55 => ⟨S512x1024, .i32⟩
  | 56 => ⟨S_, .f32⟩
  | 57 => ⟨S_, .i32⟩
  | 58 => ⟨S512, .f32⟩
  | 59 => ⟨S512, .i32⟩
  | 60 => ⟨S_, .f32⟩
  | 61 => ⟨S512, .f32⟩
  | 62 => ⟨S_, .i32⟩
  | 63 => ⟨S_, .i32⟩
  | 64 => ⟨S512, .i32⟩
  | 65 => ⟨S512, .i32⟩
  | 66 => ⟨S512, .i32⟩
  | 67 => ⟨S_, .i32⟩
  | 68 => ⟨S512, .i32⟩
  | 69 => ⟨S512, .i1⟩
  | 70 => ⟨S512, .i32⟩
  | 71 => ⟨S512, .i32⟩
  | 72 => ⟨S_, .i32⟩
  | 73 => ⟨S512, .i32⟩
  | 74 => ⟨S512, .i1⟩
  | 75 => ⟨S512, .i1⟩
  | 76 => ⟨S_, .i32⟩
  | 77 => ⟨S512, .i32⟩
  | 78 => ⟨S512, .i32⟩
  | 79 => ⟨S512, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S512, .i32⟩
  | 87 => ⟨S512, .i32⟩
  | 88 => ⟨S_, .i32⟩
  | 89 => ⟨S512, .i32⟩
  | 90 => ⟨S512, .i1⟩
  | 91 => ⟨S_, .i32⟩
  | 92 => ⟨S512, .i32⟩
  | 93 => ⟨S512, .i1⟩
  | 94 => ⟨S_, .i32⟩
  | 95 => ⟨S_, .i1⟩
  | 96 => ⟨S512, .i1⟩
  | 97 => ⟨S512, .i1⟩
  | 98 => ⟨S512, .i1⟩
  | 99 => ⟨S512, .i32⟩
  | 100 => ⟨S512, .i32⟩
  | 101 => ⟨S512, .i32⟩
  | 102 => ⟨S_, .f32⟩
  | 103 => ⟨S512, .f32⟩
  | 104 => ⟨S512, .i1⟩
  | 105 => ⟨S512x1x1, .i1⟩
  | 106 => ⟨S512x1x1, .i32⟩
  | 107 => ⟨S512x32x1, .i32⟩
  | 108 => ⟨S512x32x1, .i32⟩
  | 109 => ⟨S512x32x1, .i1⟩
  | 110 => ⟨S512x1x1, .i32⟩
  | 111 => ⟨S512x1x32, .i32⟩
  | 112 => ⟨S512x1x32, .i32⟩
  | 113 => ⟨S512x1x32, .i1⟩
  | 114 => ⟨S512x32x32, .i1⟩
  | 115 => ⟨S512x32x32, .i1⟩
  | 116 => ⟨S512x32x32, .i1⟩
  | 117 => ⟨S512x32x32, .i1⟩
  | 118 => ⟨S512x32x32, .i1⟩
  | 119 => ⟨S512x32x32, .i1⟩
  | 120 => ⟨S512x32x32, .i1⟩
  | 121 => ⟨S512x32x32, .i1⟩
  | 122 => ⟨S512x32x32, .i1⟩
  | 123 => ⟨S512x32x32, .i1⟩
  | 124 => ⟨S512x32x32, .i1⟩
  | 125 => ⟨S_, .f32⟩
  | 126 => ⟨S_, .f32⟩
  | 127 => ⟨S512x32x32, .f32⟩
  | _ => ⟨S256x32x32, .f32⟩

abbrev hbmTy0_2 (i : Nat) : BufTy := match i % 128 with
  | 0 => ⟨S512x32x32, .f32⟩
  | 1 => ⟨S_, .i32⟩
  | 2 => ⟨S_, .i32⟩
  | 3 => ⟨S256x32x32, .i1⟩
  | 4 => ⟨S256x32x32, .i1⟩
  | 5 => ⟨S256x32x32, .i1⟩
  | 6 => ⟨S256x1x32x32, .i1⟩
  | 7 => ⟨S_, .f32⟩
  | 8 => ⟨S_, .f32⟩
  | 9 => ⟨S256x1x32x32, .f32⟩
  | 10 => ⟨S256x1x32x32, .f32⟩
  | 11 => ⟨S256x1x32x32, .f32⟩
  | 12 => ⟨S256x1x32x32, .f32⟩
  | 13 => ⟨S256x12x32x32, .f32⟩
  | 14 => ⟨S256x12x32x32, .f32⟩
  | 15 => ⟨S256x1x32x32, .f32⟩
  | 16 => ⟨S_, .f32⟩
  | 17 => ⟨S256x1x32x32, .f32⟩
  | 18 => ⟨S256x1x32x32, .f32⟩
  | 19 => ⟨S256x12x32x32, .f32⟩
  | 20 => ⟨S256x12x32x32, .f32⟩
  | 21 => ⟨S12x32x32x256, .f32⟩
  | _ => ⟨S256x32x32, .f32⟩

abbrev hbmTy (i : Nat) : BufTy := match i / 128 with
  | 0 => hbmTy0_0 i
  | 1 => hbmTy0_1 i
  | 2 => hbmTy0_2 i
  | _ => ⟨S256x32x32, .f32⟩

abbrev bufTy : (tb : Table) → Fin (tcTables nBuf tb) → BufTy
  | .hbm, ⟨i, _⟩ => hbmTy i
  | _, _ => ⟨S256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_8 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_10 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_11 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_12 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_13 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_c : Ref sig .tc := ⟨.hbm, 172, rfl⟩
abbrev main_v145 : Ref sig .tc := ⟨.hbm, 173, rfl⟩
abbrev main_c_14 : Ref sig .tc := ⟨.hbm, 174, rfl⟩
abbrev main_v146_0 : Ref sig .tc := ⟨.hbm, 175, rfl⟩
abbrev main_v146_1 : Ref sig .tc := ⟨.hbm, 176, rfl⟩
abbrev main_v146_2 : Ref sig .tc := ⟨.hbm, 177, rfl⟩
abbrev main_v146_3 : Ref sig .tc := ⟨.hbm, 178, rfl⟩
abbrev main_v146_4 : Ref sig .tc := ⟨.hbm, 179, rfl⟩
abbrev main_while0c_c_22 : Ref sig .tc := ⟨.hbm, 180, rfl⟩
abbrev main_while0c_v161 : Ref sig .tc := ⟨.hbm, 181, rfl⟩
abbrev main_while0b_v161 : Ref sig .tc := ⟨.hbm, 182, rfl⟩
abbrev main_while0b_call0_v0 : Ref sig .tc := ⟨.hbm, 183, rfl⟩
abbrev main_while0b_call0_cst : Ref sig .tc := ⟨.hbm, 184, rfl⟩
abbrev main_while0b_call0_c : Ref sig .tc := ⟨.hbm, 185, rfl⟩
abbrev main_while0b_call0_v1_0 : Ref sig .tc := ⟨.hbm, 186, rfl⟩
abbrev main_while0b_v162 : Ref sig .tc := ⟨.hbm, 187, rfl⟩
abbrev main_while0b_cst_22 : Ref sig .tc := ⟨.hbm, 188, rfl⟩
abbrev main_while0b_v163 : Ref sig .tc := ⟨.hbm, 189, rfl⟩
abbrev main_while0b_c_23 : Ref sig .tc := ⟨.hbm, 190, rfl⟩
abbrev main_while0b_call1_v0 : Ref sig .tc := ⟨.hbm, 191, rfl⟩
abbrev main_while0b_call1_v1 : Ref sig .tc := ⟨.hbm, 192, rfl⟩
abbrev main_while0b_call1_v2 : Ref sig .tc := ⟨.hbm, 193, rfl⟩
abbrev main_while0b_call1_v3 : Ref sig .tc := ⟨.hbm, 194, rfl⟩
abbrev main_while0b_call1_v4 : Ref sig .tc := ⟨.hbm, 195, rfl⟩
abbrev main_while0b_call1_v5 : Ref sig .tc := ⟨.hbm, 196, rfl⟩
abbrev main_while0b_call1_v6 : Ref sig .tc := ⟨.hbm, 197, rfl⟩
abbrev main_while0b_call1_v7 : Ref sig .tc := ⟨.hbm, 198, rfl⟩
abbrev main_while0b_call1_v8 : Ref sig .tc := ⟨.hbm, 199, rfl⟩
abbrev main_while0b_call1_c : Ref sig .tc := ⟨.hbm, 200, rfl⟩
abbrev main_while0b_call1_v9 : Ref sig .tc := ⟨.hbm, 201, rfl⟩
abbrev main_while0b_call1_v10 : Ref sig .tc := ⟨.hbm, 202, rfl⟩
abbrev main_while0b_call1_v11 : Ref sig .tc := ⟨.hbm, 203, rfl⟩
abbrev main_while0b_call1_c_0 : Ref sig .tc := ⟨.hbm, 204, rfl⟩
abbrev main_while0b_call1_v12 : Ref sig .tc := ⟨.hbm, 205, rfl⟩
abbrev main_while0b_call1_v13 : Ref sig .tc := ⟨.hbm, 206, rfl⟩
abbrev main_while0b_v164 : Ref sig .tc := ⟨.hbm, 207, rfl⟩
abbrev main_while0b_c_24 : Ref sig .tc := ⟨.hbm, 208, rfl⟩
abbrev main_while0b_call2_v0 : Ref sig .tc := ⟨.hbm, 209, rfl⟩
abbrev main_while0b_call2_c : Ref sig .tc := ⟨.hbm, 210, rfl⟩
abbrev main_while0b_call2_v1 : Ref sig .tc := ⟨.hbm, 211, rfl⟩
abbrev main_while0b_call2_c_0 : Ref sig .tc := ⟨.hbm, 212, rfl⟩
abbrev main_while0b_call2_v2 : Ref sig .tc := ⟨.hbm, 213, rfl⟩
abbrev main_while0b_call2_v3 : Ref sig .tc := ⟨.hbm, 214, rfl⟩
abbrev main_while0b_call2_v4 : Ref sig .tc := ⟨.hbm, 215, rfl⟩
abbrev main_while0b_call2_c_1 : Ref sig .tc := ⟨.hbm, 216, rfl⟩
abbrev main_while0b_call2_v5 : Ref sig .tc := ⟨.hbm, 217, rfl⟩
abbrev main_while0b_call2_v6 : Ref sig .tc := ⟨.hbm, 218, rfl⟩
abbrev main_while0b_call2_c_2 : Ref sig .tc := ⟨.hbm, 219, rfl⟩
abbrev main_while0b_call2_v7 : Ref sig .tc := ⟨.hbm, 220, rfl⟩
abbrev main_while0b_call2_v8 : Ref sig .tc := ⟨.hbm, 221, rfl⟩
abbrev main_while0b_call2_c_3 : Ref sig .tc := ⟨.hbm, 222, rfl⟩
abbrev main_while0b_call2_v9 : Ref sig .tc := ⟨.hbm, 223, rfl⟩
abbrev main_while0b_call2_v10 : Ref sig .tc := ⟨.hbm, 224, rfl⟩
abbrev main_while0b_call2_v11 : Ref sig .tc := ⟨.hbm, 225, rfl⟩
abbrev main_while0b_call2_v12 : Ref sig .tc := ⟨.hbm, 226, rfl⟩
abbrev main_while0b_call2_v13 : Ref sig .tc := ⟨.hbm, 227, rfl⟩
abbrev main_while0b_call2_v14 : Ref sig .tc := ⟨.hbm, 228, rfl⟩
abbrev main_while0b_v165 : Ref sig .tc := ⟨.hbm, 229, rfl⟩
abbrev main_while0b_cst_25 : Ref sig .tc := ⟨.hbm, 230, rfl⟩
abbrev main_while0b_v166 : Ref sig .tc := ⟨.hbm, 231, rfl⟩
abbrev main_while0b_v167 : Ref sig .tc := ⟨.hbm, 232, rfl⟩
abbrev main_while0b_v168 : Ref sig .tc := ⟨.hbm, 233, rfl⟩
abbrev main_while0b_v169 : Ref sig .tc := ⟨.hbm, 234, rfl⟩
abbrev main_while0b_v170 : Ref sig .tc := ⟨.hbm, 235, rfl⟩
abbrev main_while0b_v171 : Ref sig .tc := ⟨.hbm, 236, rfl⟩
abbrev main_while0b_v172 : Ref sig .tc := ⟨.hbm, 237, rfl⟩
abbrev main_while0b_v173 : Ref sig .tc := ⟨.hbm, 238, rfl⟩
abbrev main_while0b_v174 : Ref sig .tc := ⟨.hbm, 239, rfl⟩
abbrev main_while0b_v175 : Ref sig .tc := ⟨.hbm, 240, rfl⟩
abbrev main_while0b_v176 : Ref sig .tc := ⟨.hbm, 241, rfl⟩
abbrev main_while0b_v177 : Ref sig .tc := ⟨.hbm, 242, rfl⟩
abbrev main_while0b_v178 : Ref sig .tc := ⟨.hbm, 243, rfl⟩
abbrev main_while0b_v179 : Ref sig .tc := ⟨.hbm, 244, rfl⟩
abbrev main_while0b_v180 : Ref sig .tc := ⟨.hbm, 245, rfl⟩
abbrev main_while0b_v181 : Ref sig .tc := ⟨.hbm, 246, rfl⟩
abbrev main_while0b_v182 : Ref sig .tc := ⟨.hbm, 247, rfl⟩
abbrev main_while0b_v183 : Ref sig .tc := ⟨.hbm, 248, rfl⟩
abbrev main_while0b_v184 : Ref sig .tc := ⟨.hbm, 249, rfl⟩
abbrev main_while0b_v185 : Ref sig .tc := ⟨.hbm, 250, rfl⟩
abbrev main_while0b_v186 : Ref sig .tc := ⟨.hbm, 251, rfl⟩
abbrev main_while0b_v187 : Ref sig .tc := ⟨.hbm, 252, rfl⟩
abbrev main_while0b_cst_26 : Ref sig .tc := ⟨.hbm, 253, rfl⟩
abbrev main_while0b_call3_v0 : Ref sig .tc := ⟨.hbm, 254, rfl⟩
abbrev main_while0b_call3_v1 : Ref sig .tc := ⟨.hbm, 255, rfl⟩
abbrev main_while0b_v188 : Ref sig .tc := ⟨.hbm, 256, rfl⟩
abbrev main_while0b_c_27 : Ref sig .tc := ⟨.hbm, 257, rfl⟩
abbrev main_while0b_v189 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_cst_15 : Ref sig .tc := ⟨.hbm, 263, rfl⟩
abbrev main_cst_16 : Ref sig .tc := ⟨.hbm, 264, rfl⟩
abbrev main_call4_v0 : Ref sig .tc := ⟨.hbm, 265, rfl⟩
abbrev main_call4_v1 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_cst_17 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩

abbrev nD : Nat := 1
abbrev τ : Topo := Topo.v7x

variable {F : FTy → Type} [FloatOps F]

abbrev main_while0_count : Scf.Loop 32 := ⟨0#32, 32#32, 1#32⟩
-- ==== Proof.LstmTrip.lean ====
module

public import proofs.«01_k».proof.Proof.Gen.LstmIdeal.Loops
public import Idealize.ShloMosaic.Lib.VecWindow
public import Idealize.ShloMosaic.Lib.Pointwise

@[expose] public section

set_option maxRecDepth 16384

noncomputable section

open Idealize.ShloMosaic Idealize.ShloMosaic.TcCoe Idealize.SL.Sem

namespace Cert.LstmIdeal.Trip

open Cert.LstmIdeal Cert.LstmIdeal.Gen

variable {F : FTy → Type} [FloatOps F]

variable (𝒱 : Variants) (c : Dev nD) (bd : Option 𝒱.V) (i : grid0.Coords)
  (arg2 : Memref sig .tc .vmem S32x128x300 .f32) (harg2 : arg2.IsWhole)
  (arg3 : Memref sig .tc .vmem S300x1024 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S32x128x256 .f32) (harg6 : arg6.IsWhole)
  (arg7 : Memref sig .tc .vmem S128x256 .f32) (harg7 : arg7.IsWhole)
  (arg8 : Memref sig .tc .vmem S128x256 .f32) (harg8 : arg8.IsWhole)
  (arg9 : Memref sig .tc .vmem S32x128x1024 .f32) (harg9 : arg9.IsWhole)

/-- Time step `k`'s slab of the projected inputs. -/
def slab (xp : FVec F S32x128x1024 .f32) (k : ℕ) : FVec F S1x128x1024 .f32 :=
  fun j => xp (ix3 (⟨k % 32, Nat.mod_lt _ (by decide)⟩ : Fin 32) (j 1) (j 2))

/-- The recurrence the loop runs, from the projected inputs and the recurrent weights: the hidden state and the cell
    state after `k` time steps. -/
def st (xp : FVec F S32x128x1024 .f32) (w : FVec F S256x1024 .f32) : ℕ → FVec F S128x256 .f32 × FVec F S128x256 .f32
  | 0 => (k0_pay1, k0_pay2)
  | k + 1 => (k0_pay8 (slab xp k) (st xp w k).1 w (st xp w k).2, k0_pay7 (slab xp k) (st xp w k).1 w (st xp w k).2)

theorem trips_eq : k0_t1_loop.trips = 32 := by decide +kernel

theorem off1_eq : ∀ k : Fin k0_t1_loop.trips, k0_off1 k = ![k.val, 0, 0] := by decide +kernel

theorem off2_eq : ∀ k : Fin k0_t1_loop.trips, k0_off2 k = ![k.val, 0, 0] := by decide +kernel

/-- The load of trip `k`'s slab reads the slab. -/
theorem slab_read (X9 : BufTy.Contents (Elt F) arg9.view.ty) (k : Fin k0_t1_loop.trips) :
    arg9.view.readAt (Elt F) (Rect.unit (s := S32x128x1024) (k0_off1 k) S1x128x1024.size (k0_off1_inb k)).toLoadRect X9
      = slab (arg9.view.read (Elt F) X9) k.val := by
  have hk : k.val < 32 := lt_of_lt_of_eq k.isLt trips_eq
  funext j
  show arg9.view.read (Elt F) X9 _ = arg9.view.read (Elt F) X9 _
  refine congrArg _ (funext fun a => Fin.ext ?_)
  have h0 : (j 0).val = 0 := by have := (j 0).isLt; change _ < 1 at this; omega
  show (k0_off1 k) a + 1 * (j a).val = _
  refine Eq.trans (congrArg (· + 1 * (j a).val) (congrFun (off1_eq k) a)) ?_
  match a with
  | ⟨0, _⟩ =>
    show k.val + 1 * (j 0).val = k.val % 32
    rw [h0, Nat.mod_eq_of_lt hk]; omega
  | ⟨1, _⟩ =>
    show 0 + 1 * (j 1).val = (j 1).val
    omega
  | ⟨2, _⟩ =>
    show 0 + 1 * (j 2).val = (j 2).val
    omega

/-- One trip's stores: the new hidden state into its output row and into the hidden-state buffer, the new cell state into
    the cell-state buffer, all computed from the slab of the trip and the states the trip found. -/
theorem tripL_eq (X4 : BufTy.Contents (Elt F) arg4.view.ty) (X9 : BufTy.Contents (Elt F) arg9.view.ty) (k : Fin k0_t1_loop.trips)
    (f6 : BufTy.Contents (Elt F) arg6.view.ty) (f7 : BufTy.Contents (Elt F) arg7.view.ty) (f8 : BufTy.Contents (Elt F) arg8.view.ty) :
    tripL_k0_t1 𝒱 c bd i arg2 harg2 arg3 harg3 arg4 harg4 arg5 harg5 arg6 harg6 arg7 harg7 arg8 harg8 arg9 harg9 X4 X9 k f6 f7 f8
      = ([⟨Rect.unit (s := S32x128x256) (k0_off2 k) S1x128x256.size (k0_off2_inb k),
            k0_pay9 (slab (arg9.view.read (Elt F) X9) k.val) (arg7.view.read (Elt F) f7) (arg4.view.read (Elt F) X4) (arg8.view.read (Elt F) f8)⟩],
         [⟨Rect.unit (s := S128x256) ![0, 0] S128x256.size inb_S128x256_S128x256_0_0,
            k0_pay8 (slab (arg9.view.read (Elt F) X9) k.val) (arg7.view.read (Elt F) f7) (arg4.view.read (Elt F) X4) (arg8.view.read (Elt F) f8)⟩],
         [⟨Rect.unit (s := S128x256) ![0, 0] S128x256.size inb_S128x256_S128x256_0_0,
            k0_pay7 (slab (arg9.view.read (Elt F) X9) k.val) (arg7.view.read (Elt F) f7) (arg4.view.read (Elt F) X4) (arg8.view.read (Elt F) f8)⟩]) := by
  rw [← slab_read arg9 X9 k, ← View.readAt_full arg7.view f7 inb_S128x256_S128x256_0_0,
    ← View.readAt_full arg8.view f8 inb_S128x256_S128x256_0_0, ← View.readAt_full arg4.view X4 inb_S256x1024_S256x1024_0_0]
  unfold tripL_k0_t1 trip_k0_t1
  dsimp only

/-- What the loop stores does not depend on what the output block held before: a trip reads its output row and drops it. -/
theorem pb_indep (X4 : BufTy.Contents (Elt F) arg4.view.ty) (X9 : BufTy.Contents (Elt F) arg9.view.ty)
    (G6 G6' : BufTy.Contents (Elt F) arg6.view.ty) (G7 : BufTy.Contents (Elt F) arg7.view.ty) (G8 : BufTy.Contents (Elt F) arg8.view.ty)
    (n : ℕ) (hn : n ≤ k0_t1_loop.trips) :
    pb_k0_t1 𝒱 c bd i arg2 harg2 arg3 harg3 arg4 harg4 arg5 harg5 arg6 harg6 arg7 harg7 arg8 harg8 arg9 harg9 X4 X9 G6 G7 G8 n = pb_k0_t1 𝒱 c bd i arg2 harg2 arg3 harg3 arg4 harg4 arg5 harg5 arg6 harg6 arg7 harg7 arg8 harg8 arg9 harg9 X4 X9 G6' G7 G8 n := by
  induction n with
  | zero => rfl
  | succ n ih =>
    have e := pb_k0_t1_succ (F := F) 𝒱 c bd i arg2 harg2 arg3 harg3 arg4 harg4 arg5 harg5 arg6 harg6 arg7 harg7 arg8 harg8 arg9 harg9 X4 X9 G6 G7 G8 ⟨n, hn⟩
    have e' := pb_k0_t1_succ (F := F) 𝒱 c bd i arg2 harg2 arg3 harg3 arg4 harg4 arg5 harg5 arg6 harg6 arg7 harg7 arg8 harg8 arg9 harg9 X4 X9 G6' G7 G8 ⟨n, hn⟩
    rw [tripL_eq] at e e'
    refine Eq.trans e (Eq.trans ?_ e'.symm)
    dsimp only
    rw [ih (Nat.le_of_succ_le hn)]

/-- The row the trip stores into the output is the new hidden state. -/
theorem pay9_apply (a : FVec F S1x128x1024 .f32) (h : FVec F S128x256 .f32) (w : FVec F S256x1024 .f32) (s : FVec F S128x256 .f32)
    (z : S1x128x256.Idx) : k0_pay9 a h w s z = k0_pay8 a h w s (ix2 (z 1) (z 2)) := by
  pointwise [k0_pay9, k0_pay8]

/-- What the loop has left in the output block, the hidden state and the cell state after `n` trips: the recurrence. -/
theorem pb_read (X4 : BufTy.Contents (Elt F) arg4.view.ty) (X9 : BufTy.Contents (Elt F) arg9.view.ty)
    (G6 : BufTy.Contents (Elt F) arg6.view.ty) (G7 : BufTy.Contents (Elt F) arg7.view.ty) (G8 : BufTy.Contents (Elt F) arg8.view.ty)
    (h7 : arg7.view.read (Elt F) G7 = k0_pay1) (h8 : arg8.view.read (Elt F) G8 = k0_pay2) (n : ℕ) (hn : n ≤ k0_t1_loop.trips) :
    arg7.view.read (Elt F) (arg7.view.writes (Elt F) G7 (pb_k0_t1 𝒱 c bd i arg2 harg2 arg3 harg3 arg4 harg4 arg5 harg5 arg6 harg6 arg7 harg7 arg8 harg8 arg9 harg9 X4 X9 G6 G7 G8 n).2.1)
        = (st (arg9.view.read (Elt F) X9) (arg4.view.read (Elt F) X4) n).1
    ∧ arg8.view.read (Elt F) (arg8.view.writes (Elt F) G8 (pb_k0_t1 𝒱 c bd i arg2 harg2 arg3 harg3 arg4 harg4 arg5 harg5 arg6 harg6 arg7 harg7 arg8 harg8 arg9 harg9 X4 X9 G6 G7 G8 n).2.2)
        = (st (arg9.view.read (Elt F) X9) (arg4.view.read (Elt F) X4) n).2
    ∧ ∀ y : S32x128x256.Idx, (y 0).val < n →
        arg6.view.read (Elt F) (arg6.view.writes (Elt F) G6 (pb_k0_t1 𝒱 c bd i arg2 harg2 arg3 harg3 arg4 harg4 arg5 harg5 arg6 harg6 arg7 harg7 arg8 harg8 arg9 harg9 X4 X9 G6 G7 G8 n).1) y
          = (st (arg9.view.read (Elt F) X9) (arg4.view.read (Elt F) X4) ((y 0).val + 1)).1 (ix2 (y 1) (y 2)) := by
  induction n with
  | zero => exact ⟨h7, h8, fun y h => absurd h (Nat.not_lt_zero _)⟩
  | succ n ih =>
    obtain ⟨i7, i8, i6⟩ := ih (Nat.le_of_succ_le hn)
    have e := pb_k0_t1_succ (F := F) 𝒱 c bd i arg2 harg2 arg3 harg3 arg4 harg4 arg5 harg5 arg6 harg6 arg7 harg7 arg8 harg8 arg9 harg9 X4 X9 G6 G7 G8 ⟨n, hn⟩
    rw [tripL_eq] at e
    rw [show pb_k0_t1 𝒱 c bd i arg2 harg2 arg3 harg3 arg4 harg4 arg5 harg5 arg6 harg6 arg7 harg7 arg8 harg8 arg9 harg9 X4 X9 G6 G7 G8 (n + 1) = _ from e]
    clear e
    generalize pb_k0_t1 𝒱 c bd i arg2 harg2 arg3 harg3 arg4 harg4 arg5 harg5 arg6 harg6 arg7 harg7 arg8 harg8 arg9 harg9 X4 X9 G6 G7 G8 n = L at i7 i8 i6 ⊢
    dsimp only [List.cons_append, List.nil_append]
    rw [View.read_writes_full, View.read_writes_full, i7, i8]
    refine ⟨rfl, rfl, fun y hy => ?_⟩
    rw [View.read_writes_cons_unit _ _ _ _ _ _ (off2_eq ⟨n, hn⟩)]
    by_cases hy' : (y 0).val = n
    · rw [dif_pos (by
        intro a
        fin_cases a
        · show n ≤ (y 0).val ∧ (y 0).val < n + 1
          omega
        · have := (y 1).isLt
          exact ⟨Nat.zero_le _, by show (y 1).val < 0 + 128; change _ < 128 at this; omega⟩
        · have := (y 2).isLt
          exact ⟨Nat.zero_le _, by show (y 2).val < 0 + 256; change _ < 256 at this; omega⟩)]
      rw [pay9_apply, show (y 0).val + 1 = n + 1 from congrArg (· + 1) hy']
      refine congrArg _ (funext fun a => Fin.ext ?_)
      match a with
      | ⟨0, _⟩ => exact Nat.sub_zero _
      | ⟨1, _⟩ => exact Nat.sub_zero _
    · rw [dif_neg (fun h => hy' (by have := h 0; change n ≤ (y 0).val ∧ (y 0).val < n + 1 at this; omega))]
      exact i6 y (by omega)

end Cert.LstmIdeal.Trip
-- ==== Proof.LstmRun.lean ====
module

public import proofs.«01_k».proof.Proof.LstmTrip
public import proofs.«01_k».proof.Proof.Gen.LstmIdeal.Frame.Runs

@[expose] public section

-- membership in a rectangle of production extents (`View.cover_of_tiled`): the elaborator's structural look
-- recurses once per coordinate of the long axes
set_option maxRecDepth 16384

noncomputable section

namespace Cert.LstmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S32x128x300 .f32) (harg2 : arg2.IsWhole) (arg3 : Memref sig .tc .vmem S300x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S32x128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S32x128x1024 .f32) (harg9 : arg9.IsWhole)
    (x0 : Vec F S32x128x300 .f32) (x1 : Vec F S300x1024 .f32) (x2 : Vec F S256x1024 .f32) (x3 : Vec F S1x1024 .f32) :
    { L4 : List (View.Piece (Elt F) S32x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9) K } := by
  refine ⟨?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    rw [Cert.LstmIdeal.Trip.pb_indep Variants.none c none i arg2 harg2 arg3 harg3 arg4 harg4 arg5 harg5 arg6 harg6 arg7 harg7 arg8 harg8 arg9 harg9 _ _ f4 arg6.view.junk _ _ _ le_rfl]
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.LstmIdeal.Gen

end
-- ==== Proof.LstmFrame.lean ====
module

public import proofs.«01_k».proof.Proof.LstmRun
public import Idealize.ShloMosaic.Lib.Claim

@[expose] public section

-- membership in a rectangle of production extents (`View.cover_of_tiled`): the elaborator's structural look
-- recurses once per coordinate of the long axes
set_option maxRecDepth 16384

noncomputable section

namespace Cert.LstmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (32 stores of `S1x128x256`, checked by the kernel's evaluation: Lib/Ring.lean `Piece.tiledL`, linear in the pieces, through a loop's `@[irreducible]` trip theorem too), so they cover it. -/
theorem cover0_A_4 (c : Dev nD) (i : grid0.Coords) (arg2 : Memref sig .tc .vmem S32x128x300 .f32) (harg2 : arg2.IsWhole) (arg3 : Memref sig .tc .vmem S300x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S32x128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S32x128x1024 .f32) (harg9 : arg9.IsWhole)
    (x0 : Vec F S32x128x300 .f32) (x1 : Vec F S300x1024 .f32) (x2 : Vec F S256x1024 .f32) (x3 : Vec F S1x1024 .f32) (y : S32x128x256.Idx) :
    ∃ pc ∈ (kernelRun0_A c i arg2 harg2 arg3 harg3 arg4 harg4 arg5 harg5 arg6 harg6 arg7 harg7 arg8 harg8 arg9 harg9 x0 x1 x2 x3).1, y ∈ pc.1.set :=
  View.cover_of_tiledL (kernelRun0_A c i arg2 harg2 arg3 harg3 arg4 harg4 arg5 harg5 arg6 harg6 arg7 harg7 arg8 harg8 arg9 harg9 x0 x1 x2 x3).1 S1x128x256.size (by sl_kernel_rfl) y

/-- What the run leaves in output 4's staging buffer: its pieces read back over junk. -/
def out0_A_4 (c : Dev nD) (i : grid0.Coords) (arg2 : Memref sig .tc .vmem S32x128x300 .f32) (harg2 : arg2.IsWhole) (arg3 : Memref sig .tc .vmem S300x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S32x128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S32x128x1024 .f32) (harg9 : arg9.IsWhole)
    (x0 : Vec F S32x128x300 .f32) (x1 : Vec F S300x1024 .f32) (x2 : Vec F S256x1024 .f32) (x3 : Vec F S1x1024 .f32) : Vec F S32x128x256 .f32 :=
  VO0_4.read (Elt F) (VO0_4.writes (Elt F) VO0_4.junk (kernelRun0_A c i arg2 harg2 arg3 harg3 arg4 harg4 arg5 harg5 arg6 harg6 arg7 harg7 arg8 harg8 arg9 harg9 x0 x1 x2 x3).1)

/-! ## What the outputs hold after each point -/

/-- What the outputs' staging buffers hold after the body at point `t`: the run's contents at
    the point's memrefs and input blocks. -/
def outsAt0 (c : Dev nD) (t : Fin cfg0.N) : Vec F S32x128x256 .f32 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨⟨HS0, HS1, HS2⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program runs to its end, leaves its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.LstmIdeal.Gen

end
-- ==== Proof.LstmBlocks.lean ====
module

public import proofs.«01_k».proof.Proof.LstmFrame
public import Idealize.ShloMosaic.Lib.Pipeline.Value

@[expose] public section

noncomputable section

namespace Cert.LstmIdeal.Value

open Cert.LstmIdeal Cert.LstmIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`), read through the window's block. -/
theorem flushed4 (c : Dev nD) (t : Fin cfg0.N) :
    (dats m 0 c).flushed 4 t = (cfg0.win 4).cut (grid0.coords t) (outsAt0 m c t) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t)) := by
  simp only [flushed4, outsAt0]

/-- The index map sends distinct grid points to distinct block indices (decided over the 8 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S32x1024x256.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v56) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v56) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post4 m r h c,
      kept_main_arg0 m r h c,
      kept_main_arg1 m r h c,
      kept_main_arg2 m r h c,
      kept_main_arg3 m r h c,
      kept_main_arg4 m r h c,
      kept_main_arg5 m r h c⟩)
    (run_main m ρ)

end Cert.LstmIdeal.Value

end
-- ==== Proof.LstmOut.lean ====
module

public import proofs.«01_k».proof.Proof.LstmBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Tactic
open Idealize.ShloMosaic.Pipeline (Dat)

namespace Cert.LstmIdeal.Out

open Cert.LstmIdeal Cert.LstmIdeal.Gen Cert.LstmIdeal.Trip

/-- What one grid point leaves in its output block: row `k` of the block is the hidden state after `k + 1` steps of the
    recurrence, run from the block's projected inputs. -/
theorem out_eq (c : Dev nD) (i : grid0.Coords)
  (arg2 : Memref sig .tc .vmem S32x128x300 .f32) (harg2 : arg2.IsWhole)
  (arg3 : Memref sig .tc .vmem S300x1024 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S32x128x256 .f32) (harg6 : arg6.IsWhole)
  (arg7 : Memref sig .tc .vmem S128x256 .f32) (harg7 : arg7.IsWhole)
  (arg8 : Memref sig .tc .vmem S128x256 .f32) (harg8 : arg8.IsWhole)
  (arg9 : Memref sig .tc .vmem S32x128x1024 .f32) (harg9 : arg9.IsWhole)
  (x0 : Vec Ideal S32x128x300 .f32) (x1 : Vec Ideal S300x1024 .f32) (x2 : Vec Ideal S256x1024 .f32) (x3 : Vec Ideal S1x1024 .f32)
  (y : S32x128x256.Idx) :
    out0_A_4 (F := Ideal) c i arg2 harg2 arg3 harg3 arg4 harg4 arg5 harg5 arg6 harg6 arg7 harg7 arg8 harg8 arg9 harg9 x0 x1 x2 x3 y
      = (st (F := Ideal) (k0_pay3 x0 x1 x3) x2 ((y 0).val + 1)).1 (ix2 (y 1) (y 2)) := by
  unfold out0_A_4
  rw [View.read_writes_of_cover VO0_4 _ arg6.view arg6.view.junk _ (cover0_A_4 c i arg2 harg2 arg3 harg3 arg4 harg4 arg5 harg5 arg6 harg6 arg7 harg7 arg8 harg8 arg9 harg9 x0 x1 x2 x3)]
  unfold kernelRun0_A
  dsimp only
  sl_unfold_words
  have e9 : arg9.view.read (Elt Ideal) (arg9.view.writes (Elt Ideal) arg9.view.junk
      [⟨Rect.unit (s := S32x128x1024) ![0, 0, 0] S32x128x1024.size inb_S32x128x1024_S32x128x1024_0_0_0,
        k0_pay3 (F := Ideal)
          (arg2.view.readAt (Elt Ideal) (Rect.unit (s := S32x128x300) ![0, 0, 0] S32x128x300.size inb_S32x128x300_S32x128x300_0_0_0).toLoadRect (harg2.unread x0))
          (arg3.view.readAt (Elt Ideal) (Rect.unit (s := S300x1024) ![0, 0] S300x1024.size inb_S300x1024_S300x1024_0_0).toLoadRect (harg3.unread x1))
          (arg5.view.readAt (Elt Ideal) (Rect.unit (s := S1x1024) ![0, 0] S1x1024.size inb_S1x1024_S1x1024_0_0).toLoadRect (harg5.unread x3))⟩])
      = k0_pay3 (F := Ideal) x0 x1 x3 := by
    rw [View.read_writes_full, View.readAt_full, View.readAt_full, View.readAt_full, harg2.read_unread, harg3.read_unread, harg5.read_unread]
  have h7 : arg7.view.read (Elt Ideal) (arg7.view.writes (Elt Ideal) arg7.view.junk
      [⟨Rect.unit (s := S128x256) ![0, 0] S128x256.size inb_S128x256_S128x256_0_0, k0_pay1 (F := Ideal)⟩]) = k0_pay1 (F := Ideal) := by
    rw [View.read_writes_full]
  have h8 : arg8.view.read (Elt Ideal) (arg8.view.writes (Elt Ideal) arg8.view.junk
      [⟨Rect.unit (s := S128x256) ![0, 0] S128x256.size inb_S128x256_S128x256_0_0, k0_pay2 (F := Ideal)⟩]) = k0_pay2 (F := Ideal) := by
    rw [View.read_writes_full]
  refine Eq.trans ((pb_read (F := Ideal) Variants.none c none i arg2 harg2 arg3 harg3 arg4 harg4 arg5 harg5 arg6 harg6 arg7 harg7 arg8 harg8 arg9 harg9
    (harg4.unread x2) _ arg6.view.junk _ _ h7 h8 k0_t1_loop.trips le_rfl).2.2 y
    (by have := (y 0).isLt; rw [trips_eq]; exact this)) ?_
  rw [e9, harg4.read_unread]

end Cert.LstmIdeal.Out
-- ==== Proof.LstmFinal.lean ====
module

public import proofs.«01_k».proof.Proof.LstmOut

@[expose] public section

set_option maxRecDepth 16384

noncomputable section

open Idealize.ShloMosaic Idealize.ShloMosaic.TcCoe Idealize.SL.Sem Idealize.ShloMosaic.Tactic
open Idealize.ShloMosaic.Pipeline (Dat)

namespace Cert.LstmIdeal.Out

open Cert.LstmIdeal Cert.LstmIdeal.Gen Cert.LstmIdeal.Trip

variable (m : (ℓ : Loc nD τ sig) → Buf (Elt Ideal) ℓ)

/-- Batch tile `q` (128 sequences) of the input array. -/
def tile (X : FVec Ideal S32x1024x300 .f32) (q : ℕ) : FVec Ideal S32x128x300 .f32 :=
  fun j => X (ix3 (j 0) (⟨(128 * q + (j 1).val) % 1024, Nat.mod_lt _ (by decide)⟩ : Fin 1024) (j 2))

/-- All the hidden states, as the kernel computes them from its four prepared operands: tile by tile, the recurrence. -/
def HS (X : FVec Ideal S32x1024x300 .f32) (Wi : FVec Ideal S300x1024 .f32) (Wh : FVec Ideal S256x1024 .f32) (b : FVec Ideal S1x1024 .f32) :
    FVec Ideal S32x1024x256 .f32 :=
  fun y => (st (F := Ideal) (k0_pay3 (tile X ((y 1).val / 128)) Wi b) Wh ((y 0).val + 1)).1
    (ix2 (⟨(y 1).val % 128, Nat.mod_lt _ (by decide)⟩ : Fin 128) (y 2))

/-- Which block of its array each window takes at a grid point. -/
theorem idx : ∀ t : Fin cfg0.N, win0_0.index t = ![0, t.val, 0] ∧ win0_1.index t = ![0, 0] ∧ win0_2.index t = ![0, 0]
    ∧ win0_3.index t = ![0, 0] ∧ win0_4.index t = ![0, t.val, 0] ∧ t.val < 8 :=
  (by decide +kernel : ∀ t : Fin grid0.N, _)

theorem blk0 (c : Dev nD) (t : Fin cfg0.N) : iblk m c 0 t = tile (V m c main_v4) t.val := by
  blk_ext! [iblk, tile, idx t]

theorem blk1 (c : Dev nD) (t : Fin cfg0.N) : iblk m c 1 t = V m c main_v47 := by
  funext y
  show V m c main_v47 (((cfg0.win 1).blk t).view.emb y) = V m c main_v47 y
  generalize V m c main_v47 = X
  blk_ext [idx t]

theorem blk2 (c : Dev nD) (t : Fin cfg0.N) : iblk m c 2 t = V m c main_v52 := by
  funext y
  show V m c main_v52 (((cfg0.win 2).blk t).view.emb y) = V m c main_v52 y
  generalize V m c main_v52 = X
  blk_ext [idx t]

theorem blk3 (c : Dev nD) (t : Fin cfg0.N) : iblk m c 3 t = V m c main_v55 := by
  blk_ext! [iblk, idx t]

/-- The result array after the run. -/
theorem final (c : Dev nD) : (dats m 0 c).arrAt 4 cfg0.N = HS (V m c main_v4) (V m c main_v47) (V m c main_v52) (V m c main_v55) := by
  refine (dats m 0 c).arrAt_eq_of_covers 4 _ (by decide +kernel) fun t _ y => ?_
  blk_simp
  rw [after0_4]
  unfold outsAt0
  rw [out_eq, blk0, blk1, blk2, blk3]
  unfold HS
  have e := idx t
  have h0 : ((((cfg0.win 4).blk t).view.emb y) 0).val = (y 0).val := by blk_simp [idx t]
  have h1 : ((((cfg0.win 4).blk t).view.emb y) 1).val = t.val * 128 + (y 1).val := by blk_simp [idx t]
  have h2 : ((((cfg0.win 4).blk t).view.emb y) 2).val = (y 2).val := by blk_simp [idx t]
  clear e
  generalize ((cfg0.win 4).blk t).view.emb y = i at h0 h1 h2 ⊢
  have hy : (y 1).val < 128 := (y 1).isLt
  have d1 : (i 1).val / 128 = t.val := by omega
  have m1 : (i 1).val % 128 = (y 1).val := by omega
  rw [d1, h0]
  refine congrArg _ (funext fun a => Fin.ext ?_)
  match a with
  | ⟨0, _⟩ => exact m1.symm
  | ⟨1, _⟩ => exact h2.symm

end Cert.LstmIdeal.Out
-- ==== Proof.BlockStore.lean ====
module

public import Idealize.ShloMosaic.Lib.Routing.OpsPair
public import Idealize.ShloMosaic.Lib.Routing.OpsSet
public import Idealize.ShloMosaic.Lib.Pointwise

@[expose] public section

noncomputable section

open Idealize.ShloMosaic Idealize.ShloMosaic.Routing

namespace Cert.BlockStore

/-- Storing one whole block into an array at a fixed corner (`x.at[a : a + n, …].set(v)`): inside the block the array holds
    the block's entry, outside what it held. `hw` says that an update's coordinates are its place in the block, `hs` that
    every update starts at the corner `o`. -/
theorem block_set {α : Type} {n : ℕ} {zs zu : Fin n → ℕ} {si : Shape} {w : ℕ} (d : ScatterDims ⟨n, zs⟩ si ⟨n, zu⟩)
    (x : (⟨n, zs⟩ : Shape).Idx → α) (idx : IVec si w) (u : (⟨n, zu⟩ : Shape).Idx → α) (o : Fin n → ℕ)
    (hw : ∀ (k : (⟨n, zu⟩ : Shape).Idx) (a : Fin n), d.window k a = (k a).val)
    (hs : ∀ (k : (⟨n, zu⟩ : Shape).Idx) (a : Fin n), d.start k idx a = ((o a : ℕ) : ℤ)) (i : (⟨n, zs⟩ : Shape).Idx) :
    Host.scatter d (fun _ b => b) x idx u i
      = if h : ∀ a : Fin n, o a ≤ (i a).val ∧ (i a).val < o a + zu a then u (fun a => ⟨(i a).val - o a, by have := h a; show _ < zu a; omega⟩) else x i := by
  have hl : ∀ k : (⟨n, zu⟩ : Shape).Idx, d.resultIdx? k idx = some i ↔ ∀ a : Fin n, o a + (k a).val = (i a).val := fun k => by
    rw [resultIdx?_eq_some]
    refine forall_congr' fun a => ?_
    rw [hs, hw]
    omega
  by_cases h : ∀ a : Fin n, o a ≤ (i a).val ∧ (i a).val < o a + zu a
  · rw [dif_pos h]
    refine scatter_set_hit d x idx u i _ (fun k hk => congrArg u (funext fun a => Fin.ext ?_))
      (fun a => ⟨(i a).val - o a, by have := h a; show _ < zu a; omega⟩) ((hl _).2 fun a => ?_)
    · have := (hl k).1 hk a
      show (k a).val = (i a).val - o a
      omega
    · have := h a
      show o a + ((i a).val - o a) = _
      omega
  · rw [dif_neg h]
    refine scatter_set_miss d x idx u i fun k hk => h fun a => ?_
    have := (hl k).1 hk a
    have hb : (k a).val < zu a := (k a).isLt
    omega

/-- `block_set` for a matrix, the corner and the coordinates one by one. -/
theorem block_set2 {α : Type} {a b p q : ℕ} {si : Shape} {w : ℕ} (o₀ o₁ : ℕ) (d : ScatterDims ⟨2, ![a, b]⟩ si ⟨2, ![p, q]⟩)
    (x : (⟨2, ![a, b]⟩ : Shape).Idx → α) (idx : IVec si w) (u : (⟨2, ![p, q]⟩ : Shape).Idx → α) (i : Fin a) (j : Fin b)
    (hw : ∀ (k : (⟨2, ![p, q]⟩ : Shape).Idx) (e : Fin 2), d.window k e = (k e).val)
    (h0 : ∀ k : (⟨2, ![p, q]⟩ : Shape).Idx, d.start k idx (0 : Fin 2) = (o₀ : ℤ))
    (h1 : ∀ k : (⟨2, ![p, q]⟩ : Shape).Idx, d.start k idx (1 : Fin 2) = (o₁ : ℤ)) :
    Host.scatter d (fun _ b => b) x idx u (ix2 i j)
      = if h : (o₀ ≤ i.val ∧ i.val < o₀ + p) ∧ (o₁ ≤ j.val ∧ j.val < o₁ + q) then u (ix2 ⟨i.val - o₀, by omega⟩ ⟨j.val - o₁, by omega⟩)
        else x (ix2 i j) := by
  rw [block_set d x idx u ![o₀, o₁] hw (fun k e => match e with | ⟨0, _⟩ => h0 k | ⟨1, _⟩ => h1 k)]
  by_cases h : (o₀ ≤ i.val ∧ i.val < o₀ + p) ∧ (o₁ ≤ j.val ∧ j.val < o₁ + q)
  · rw [dif_pos h, dif_pos (fun e => match e with | ⟨0, _⟩ => h.1 | ⟨1, _⟩ => h.2)]
    exact congrArg u (funext fun e => match e with | ⟨0, _⟩ => rfl | ⟨1, _⟩ => rfl)
  · rw [dif_neg h, dif_neg (fun g => h ⟨g (0 : Fin 2), g (1 : Fin 2)⟩)]

end Cert.BlockStore
-- ==== Proof.LstmSpec.lean ====
module

public import Idealize.ShloMosaic.Lib.Pointwise

@[expose] public section

noncomputable section

open Idealize.ShloMosaic

/-! The recurrence both programs compute, one batch row at a time: four rows of gates of width 250, the cell and the hidden
row. -/

namespace Cert.LstmSpec

/-- The 1024 rows fed to the recurrence at step `t`: the 256 first and the 256 second sentences, then both once more read
backwards. -/
def feed (s₁ s₂ : FVec Ideal ⟨3, ![256, 300, 32]⟩ .f32) (r : Fin 1024) (t : Fin 32) (d : Fin 300) : EReal :=
  if h : r.val < 256 then s₁ (ix3 ⟨r.val, h⟩ d t)
  else if h : r.val - 256 < 256 then s₂ (ix3 ⟨r.val - 256, h⟩ d t)
  else if h : r.val - 256 - 256 < 256 then s₁ (ix3 ⟨r.val - 256 - 256, h⟩ d ⟨31 - t.val, by omega⟩)
  else s₂ (ix3 ⟨r.val - 256 - 256 - 256, by omega⟩ d ⟨31 - t.val, by omega⟩)

section

variable (W : FVec Ideal ⟨2, ![1000, 300]⟩ .f32) (U : FVec Ideal ⟨2, ![1000, 250]⟩ .f32) (b₁ b₂ : FVec Ideal ⟨1, ![1000]⟩ .f32)

/-- Entry `j` of gate `q` (input, forget, cell, output for `q = 0, 1, 2, 3`): the input row and the hidden row against row
`250 q + j` of the weights, plus the two biases. -/
def gate (x : Fin 300 → EReal) (h : Fin 250 → EReal) (q : ℕ) (hq : q < 4) (j : Fin 250) : EReal :=
  ((∑ d : Fin 300, x d * W (ix2 ⟨250 * q + j.val, by omega⟩ d)) + ∑ l : Fin 250, h l * U (ix2 ⟨250 * q + j.val, by omega⟩ l))
    + (b₁ (ix1 ⟨250 * q + j.val, by omega⟩) + b₂ (ix1 ⟨250 * q + j.val, by omega⟩))

/-- The next cell row. -/
def cell (x : Fin 300 → EReal) (h c : Fin 250 → EReal) (j : Fin 250) : EReal :=
  Ideal.logistic (gate W U b₁ b₂ x h 1 (by omega) j) * c j
    + Ideal.logistic (gate W U b₁ b₂ x h 0 (by omega) j) * Ideal.tanh (gate W U b₁ b₂ x h 2 (by omega) j)

/-- The next hidden row. -/
def hidden (x : Fin 300 → EReal) (h c : Fin 250 → EReal) (j : Fin 250) : EReal :=
  Ideal.logistic (gate W U b₁ b₂ x h 3 (by omega) j) * Ideal.tanh (cell W U b₁ b₂ x h c j)

/-- The hidden row and the cell row after `n` steps, from zero rows. -/
def rows (x : Fin 32 → Fin 300 → EReal) : ℕ → (Fin 250 → EReal) × (Fin 250 → EReal)
  | 0 => (fun _ => 0, fun _ => 0)
  | n + 1 => (hidden W U b₁ b₂ (x ⟨n % 32, by omega⟩) (rows x n).1 (rows x n).2, cell W U b₁ b₂ (x ⟨n % 32, by omega⟩) (rows x n).1 (rows x n).2)

end

/-- Entry `p` of the sum of the two biases. -/
def bias (b₁ b₂ : FVec Ideal ⟨1, ![1000]⟩ .f32) (p : Fin 1000) : EReal := b₁ (ix1 p) + b₂ (ix1 p)

/-- A sum of 256 terms whose last six vanish is the sum of the first 250. -/
theorem sum_first (f : Fin 256 → EReal) (hf : ∀ x : Fin 256, 250 ≤ x.val → f x = 0) :
    ∑ x, f x = ∑ l : Fin 250, f ⟨l.val, by omega⟩ := by
  rw [show (∑ x, f x) = ∑ x : Fin (250 + 6), f x from rfl, Fin.sum_univ_add]
  rw [Finset.sum_eq_zero (s := (Finset.univ : Finset (Fin 6))) (fun i _ => hf _ (by show 250 ≤ 250 + i.val; omega)), add_zero]
  rfl

/-- The whole result: the hidden rows of all steps, six zero lanes on the right. -/
def all (s₁ s₂ : FVec Ideal ⟨3, ![256, 300, 32]⟩ .f32) (W : FVec Ideal ⟨2, ![1000, 300]⟩ .f32) (U : FVec Ideal ⟨2, ![1000, 250]⟩ .f32)
    (b₁ b₂ : FVec Ideal ⟨1, ![1000]⟩ .f32) : FVec Ideal ⟨3, ![32, 1024, 256]⟩ .f32 :=
  fun y => if h : (y 2).val < 250 then (rows W U b₁ b₂ (feed s₁ s₂ (y 1)) ((y 0).val + 1)).1 ⟨(y 2).val, h⟩ else 0

end Cert.LstmSpec
-- ==== Proof.LstmHost.lean ====
module

public import proofs.«01_k».proof.Proof.LstmFinal
public import proofs.«01_k».proof.Proof.BlockStore
public import proofs.«01_k».proof.Proof.LstmSpec

@[expose] public section

set_option maxRecDepth 16384

noncomputable section

open Idealize.ShloMosaic Idealize.ShloMosaic.TcCoe Idealize.SL.Sem Idealize.ShloMosaic.Tactic

namespace Cert.LstmIdeal.Host

open Cert.LstmIdeal Cert.LstmIdeal.Gen Cert.LstmIdeal.Trip

variable (m : (ℓ : Loc nD τ sig) → Buf (Elt Ideal) ℓ)

/-- The operations after the fifth leave the assembled input alone. -/
theorem V_main_v4 (c : Dev nD) : V m c main_v4 = StableHlo.after (hostOps0.take 5) (fun b => m (c, b)) (Proc.devRef .tc main_v4) := by
  show StableHlo.after hostOps0 (fun b => m (c, b)) (Proc.devRef .tc main_v4) = _
  have h : ∀ σ : Valuation τ sig (Elt Ideal), StableHlo.after hostOps0 σ = StableHlo.after (hostOps0.drop 5) (StableHlo.after (hostOps0.take 5) σ) := fun σ => rfl
  rw [h]
  refine StableHlo.after_of_forall_not_mem (b := Proc.devRef .tc main_v4) _ _ (List.forall_iff_forall_mem.mp (by
    simp only [hostOps0, List.drop, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Reversing the steps, read at an entry. -/
theorem reverse_steps (v : FVec Ideal S32x256x300 .f32) : (Host.reverse [0] v : FVec Ideal S32x256x300 .f32) = fun i => v (ix3 ⟨31 - (i 0).val, by omega⟩ (i 1) (i 2)) := by
  funext i
  refine congrArg v (funext fun a => ?_)
  match a with
  | ⟨0, _⟩ =>
    refine Fin.ext ?_
    have : (i 0).val < 32 := (i 0).isLt
    show 32 - ((i 0).val + 1) = 31 - (i 0).val
    omega
  | ⟨1, _⟩ => rfl
  | ⟨2, _⟩ => rfl

/-- The fifth operation lays its four operands one after another. -/
theorem four (W : Valuation τ sig (Elt Ideal)) (c : Dev nD) (hW : W = StableHlo.after (hostOps0.take 4) (fun b => m (c, b))) :
    StableHlo.after (hostOps0.take 5) (fun b => m (c, b)) (Proc.devRef .tc main_v4)
      = (concatenate S32x1024x300 1 [⟨S32x256x300, (W (Proc.devRef .tc main_v0) : FVec Ideal S32x256x300 .f32)⟩, ⟨S32x256x300, (W (Proc.devRef .tc main_v1) : FVec Ideal S32x256x300 .f32)⟩, ⟨S32x256x300, (W (Proc.devRef .tc main_v2) : FVec Ideal S32x256x300 .f32)⟩, ⟨S32x256x300, (W (Proc.devRef .tc main_v3) : FVec Ideal S32x256x300 .f32)⟩] concatenates_S32x256x300_S32x256x300_S32x256x300_S32x256x300_S32x1024x300_d1 : FVec Ideal S32x1024x300 .f32) := by
  subst hW
  simp only [hostOps0, List.take, StableHlo.after_cons, StableHlo.after_nil]
  rw [StableHlo.nary_result]
  rfl

/-- The input the recurrence is fed, read at an entry. -/
theorem V_feed (c : Dev nD) (k : Fin 32) (r : Fin 1024) (j : Fin 300) :
    (V m c main_v4 : FVec Ideal S32x1024x300 .f32) (ix3 k r j)
      = Cert.LstmSpec.feed (m (c, Proc.devRef .tc main_arg0)) (m (c, Proc.devRef .tc main_arg1)) r k j := by
  rw [V_main_v4]
  obtain ⟨W, hW⟩ : ∃ W, W = StableHlo.after (hostOps0.take 4) (fun b => m (c, b)) := ⟨_, rfl⟩
  have e0 : W (Proc.devRef .tc main_v0) = (transpose S32x256x300 [2, 0, 1] (m (c, Proc.devRef .tc main_arg0)) transposes_S256x300x32_S32x256x300_2_0_1 : FVec Ideal S32x256x300 .f32) := by
    rw [hW]; simp only [hostOps0, List.take]; after_results
  have e1 : W (Proc.devRef .tc main_v1) = (transpose S32x256x300 [2, 0, 1] (m (c, Proc.devRef .tc main_arg1)) transposes_S256x300x32_S32x256x300_2_0_1 : FVec Ideal S32x256x300 .f32) := by
    rw [hW]; simp only [hostOps0, List.take]; after_results
  have e2 : W (Proc.devRef .tc main_v2) = (Host.reverse [0] (transpose S32x256x300 [2, 0, 1] (m (c, Proc.devRef .tc main_arg0)) transposes_S256x300x32_S32x256x300_2_0_1) : FVec Ideal S32x256x300 .f32) := by
    rw [hW]; simp only [hostOps0, List.take]; after_results
  have e3 : W (Proc.devRef .tc main_v3) = (Host.reverse [0] (transpose S32x256x300 [2, 0, 1] (m (c, Proc.devRef .tc main_arg1)) transposes_S256x300x32_S32x256x300_2_0_1) : FVec Ideal S32x256x300 .f32) := by
    rw [hW]; simp only [hostOps0, List.take]; after_results
  rw [four m W c hW, e0, e1, e2, e3, reverse_steps, reverse_steps]
  unfold Cert.LstmSpec.feed
  pointwise

/-- The bias row: the sum of the two biases, each gate's 250 entries at the head of its 256 lanes, zero elsewhere. -/
theorem V_bias (c : Dev nD) (q : ℕ) (hq : q < 4) (j : Fin 256) : (V m c main_v55 : FVec Ideal S1x1024 .f32) (ix2 0 ⟨256 * q + j.val, by omega⟩)
    = if h : j.val < 250 then Cert.LstmSpec.bias (m (c, Proc.devRef .tc main_arg4)) (m (c, Proc.devRef .tc main_arg5)) ⟨250 * q + j.val, by omega⟩ else (0 : EReal) := by
  entry_read
  rw [Cert.BlockStore.block_set2 0 768 _ _ _ _ _ _ (fun k a => match a with | ⟨0, _⟩ => rfl | ⟨1, _⟩ => rfl) (fun _ => rfl) (fun _ => rfl)]
  rw [Cert.BlockStore.block_set2 0 512 _ _ _ _ _ _ (fun k a => match a with | ⟨0, _⟩ => rfl | ⟨1, _⟩ => rfl) (fun _ => rfl) (fun _ => rfl)]
  rw [Cert.BlockStore.block_set2 0 256 _ _ _ _ _ _ (fun k a => match a with | ⟨0, _⟩ => rfl | ⟨1, _⟩ => rfl) (fun _ => rfl) (fun _ => rfl)]
  rw [Cert.BlockStore.block_set2 0 0 _ _ _ _ _ _ (fun k a => match a with | ⟨0, _⟩ => rfl | ⟨1, _⟩ => rfl) (fun _ => rfl) (fun _ => rfl)]
  pointwise
  rcases (by omega : q = 0 ∨ q = 1 ∨ q = 2 ∨ q = 3) with rfl | rfl | rfl | rfl <;> split_ifs <;>
    first | rfl | omega | (simp only [Nat.reduceMul, Nat.reduceAdd, Nat.reduceSub, Nat.zero_add, Nat.add_sub_cancel_left, Nat.add_zero, Nat.mul_zero, Cert.LstmSpec.bias])

/-- The input weights, transposed: each gate's 250 columns at the head of its 256 lanes, zero elsewhere. -/
theorem V_wih (c : Dev nD) (q : ℕ) (hq : q < 4) (d : Fin 300) (j : Fin 256) : (V m c main_v47 : FVec Ideal S300x1024 .f32) (ix2 d ⟨256 * q + j.val, by omega⟩)
    = if h : j.val < 250 then (m (c, Proc.devRef .tc main_arg2) : FVec Ideal S1000x300 .f32) (ix2 ⟨250 * q + j.val, by omega⟩ d) else (0 : EReal) := by
  entry_read
  rw [Cert.BlockStore.block_set2 0 768 _ _ _ _ _ _ (fun k a => match a with | ⟨0, _⟩ => rfl | ⟨1, _⟩ => rfl) (fun _ => rfl) (fun _ => rfl)]
  rw [Cert.BlockStore.block_set2 0 512 _ _ _ _ _ _ (fun k a => match a with | ⟨0, _⟩ => rfl | ⟨1, _⟩ => rfl) (fun _ => rfl) (fun _ => rfl)]
  rw [Cert.BlockStore.block_set2 0 256 _ _ _ _ _ _ (fun k a => match a with | ⟨0, _⟩ => rfl | ⟨1, _⟩ => rfl) (fun _ => rfl) (fun _ => rfl)]
  rw [Cert.BlockStore.block_set2 0 0 _ _ _ _ _ _ (fun k a => match a with | ⟨0, _⟩ => rfl | ⟨1, _⟩ => rfl) (fun _ => rfl) (fun _ => rfl)]
  pointwise
  rcases (by omega : q = 0 ∨ q = 1 ∨ q = 2 ∨ q = 3) with rfl | rfl | rfl | rfl <;> split_ifs <;>
    first | rfl | omega | (simp only [Nat.reduceMul, Nat.reduceAdd, Nat.reduceSub, Nat.zero_add, Nat.add_sub_cancel_left, Nat.add_zero, Nat.mul_zero, Cert.LstmSpec.bias])

set_option maxHeartbeats 1600000 in
/-- The hidden weights, transposed and likewise padded. -/
theorem V_whh (c : Dev nD) (q : ℕ) (hq : q < 4) (l j : Fin 256) : (V m c main_v52 : FVec Ideal S256x1024 .f32) (ix2 l ⟨256 * q + j.val, by omega⟩)
    = if h : l.val < 250 ∧ j.val < 250 then (m (c, Proc.devRef .tc main_arg3) : FVec Ideal S1000x250 .f32) (ix2 ⟨250 * q + j.val, by omega⟩ ⟨l.val, h.1⟩) else (0 : EReal) := by
  entry_read
  rw [Cert.BlockStore.block_set2 0 768 _ _ _ _ _ _ (fun k a => match a with | ⟨0, _⟩ => rfl | ⟨1, _⟩ => rfl) (fun _ => rfl) (fun _ => rfl)]
  rw [Cert.BlockStore.block_set2 0 512 _ _ _ _ _ _ (fun k a => match a with | ⟨0, _⟩ => rfl | ⟨1, _⟩ => rfl) (fun _ => rfl) (fun _ => rfl)]
  rw [Cert.BlockStore.block_set2 0 256 _ _ _ _ _ _ (fun k a => match a with | ⟨0, _⟩ => rfl | ⟨1, _⟩ => rfl) (fun _ => rfl) (fun _ => rfl)]
  rw [Cert.BlockStore.block_set2 0 0 _ _ _ _ _ _ (fun k a => match a with | ⟨0, _⟩ => rfl | ⟨1, _⟩ => rfl) (fun _ => rfl) (fun _ => rfl)]
  pointwise
  rcases (by omega : q = 0 ∨ q = 1 ∨ q = 2 ∨ q = 3) with rfl | rfl | rfl | rfl <;> split_ifs <;>
    first | rfl | omega | (simp only [Nat.reduceMul, Nat.reduceAdd, Nat.reduceSub, Nat.zero_add, Nat.add_sub_cancel_left, Nat.add_zero, Nat.mul_zero, Cert.LstmSpec.bias])

end Cert.LstmIdeal.Host
-- ==== Proof.LstmRows.lean ====
module

public import proofs.«01_k».proof.Proof.LstmHost

@[expose] public section

set_option maxRecDepth 16384

noncomputable section

open Idealize.ShloMosaic Idealize.ShloMosaic.TcCoe Idealize.SL.Sem Idealize.ShloMosaic.Tactic

namespace Cert.LstmIdeal.Rows

open Cert.LstmIdeal Cert.LstmIdeal.Gen Cert.LstmIdeal.Trip Cert.LstmIdeal.Out Cert.LstmSpec

/-- Gate `q` before its activation, as the kernel forms it: the precomputed input part plus the hidden rows against the
padded hidden weights. -/
def pre (v : FVec Ideal S1x128x1024 .f32) (h : FVec Ideal S128x256 .f32) (w : FVec Ideal S256x1024 .f32) (r : Fin 128) (q : ℕ) (hq : q < 4) (j : Fin 256) : EReal :=
  v (ix3 0 r ⟨256 * q + j.val, by omega⟩) + ∑ x : Fin 256, h (ix2 r x) * w (ix2 x ⟨256 * q + j.val, by omega⟩)

/-- The kernel's next cell, at an entry. -/
theorem cell_apply (v : FVec Ideal S1x128x1024 .f32) (h : FVec Ideal S128x256 .f32) (w : FVec Ideal S256x1024 .f32) (c : FVec Ideal S128x256 .f32) (r : Fin 128) (j : Fin 256) :
    k0_pay7 (F := Ideal) v h w c (ix2 r j)
      = (Ideal.logistic (pre v h w r 1 (by omega) j) * c (ix2 r j) + Ideal.logistic (pre v h w r 0 (by omega) j) * Ideal.tanh (pre v h w r 2 (by omega) j) : EReal) := by
  unfold pre
  pointwise [k0_pay7, k0_pay6, k0_pay5, k0_pay4]

/-- The kernel's next hidden row, at an entry. -/
theorem hidden_apply (v : FVec Ideal S1x128x1024 .f32) (h : FVec Ideal S128x256 .f32) (w : FVec Ideal S256x1024 .f32) (c : FVec Ideal S128x256 .f32) (r : Fin 128) (j : Fin 256) :
    k0_pay8 (F := Ideal) v h w c (ix2 r j)
      = (Ideal.logistic (pre v h w r 3 (by omega) j) * Ideal.tanh (k0_pay7 (F := Ideal) v h w c (ix2 r j)) : EReal) := by
  unfold pre
  pointwise [k0_pay8, k0_pay7, k0_pay6, k0_pay5, k0_pay4]

/-- The input part of all gates, at an entry: the input row against the padded input weights, plus the bias. -/
theorem input_apply (x : FVec Ideal S32x128x300 .f32) (w : FVec Ideal S300x1024 .f32) (b : FVec Ideal S1x1024 .f32) (k : Fin 32) (r : Fin 128) (j : Fin 1024) :
    k0_pay3 (F := Ideal) x w b (ix3 k r j) = ((∑ d : Fin 300, x (ix3 k r d) * w (ix2 d j)) + b (ix2 0 j) : EReal) := by
  pointwise [k0_pay3]

variable {s₁ s₂ : FVec Ideal S256x300x32 .f32} {W : FVec Ideal S1000x300 .f32} {U : FVec Ideal S1000x250 .f32} {b₁ b₂ : FVec Ideal S1000 .f32}
  {X : FVec Ideal S32x1024x300 .f32} {Wi : FVec Ideal S300x1024 .f32} {Wh : FVec Ideal S256x1024 .f32} {b : FVec Ideal S1x1024 .f32}

/-- The kernel's gate is the recurrence's gate on the 250 lanes that carry data, and zero on the six others. -/
theorem pre_gate
    (hX : ∀ k r j, X (ix3 k r j) = feed s₁ s₂ r k j)
    (hWi : ∀ (q : ℕ) (hq : q < 4) (d : Fin 300) (j : Fin 256), Wi (ix2 d ⟨256 * q + j.val, by omega⟩) = if h : j.val < 250 then W (ix2 ⟨250 * q + j.val, by omega⟩ d) else (0 : EReal))
    (hWh : ∀ (q : ℕ) (hq : q < 4) (l j : Fin 256), Wh (ix2 l ⟨256 * q + j.val, by omega⟩) = if h : l.val < 250 ∧ j.val < 250 then U (ix2 ⟨250 * q + j.val, by omega⟩ ⟨l.val, h.1⟩) else (0 : EReal))
    (hb : ∀ (q : ℕ) (hq : q < 4) (j : Fin 256), b (ix2 0 ⟨256 * q + j.val, by omega⟩) = if h : j.val < 250 then bias b₁ b₂ ⟨250 * q + j.val, by omega⟩ else (0 : EReal))
    (g : FVec Ideal S128x256 .f32) (a : Fin 250 → EReal) (t : ℕ) (ht : t < 8) (r : Fin 128)
    (hg : ∀ x : Fin 256, g (ix2 r x) = if h : x.val < 250 then a ⟨x.val, h⟩ else (0 : EReal)) (n : ℕ) (q : ℕ) (hq : q < 4) (j : Fin 256) :
    pre (slab (k0_pay3 (F := Ideal) (tile X t) Wi b) n) g Wh r q hq j
      = if h : j.val < 250 then gate W U b₁ b₂ (feed s₁ s₂ ⟨128 * t + r.val, by omega⟩ ⟨n % 32, by omega⟩) a q hq ⟨j.val, h⟩ else 0 := by
  have e1 : slab (k0_pay3 (F := Ideal) (tile X t) Wi b) n (ix3 0 r ⟨256 * q + j.val, by omega⟩)
      = ((∑ d : Fin 300, feed s₁ s₂ ⟨128 * t + r.val, by omega⟩ ⟨n % 32, by omega⟩ d * Wi (ix2 d ⟨256 * q + j.val, by omega⟩)) + b (ix2 0 ⟨256 * q + j.val, by omega⟩) : EReal) := by
    show k0_pay3 (F := Ideal) (tile X t) Wi b (ix3 ⟨n % 32, _⟩ r ⟨256 * q + j.val, _⟩) = _
    refine (input_apply _ _ _ _ _ _).trans ?_
    refine congrArg₂ (· + ·) (Finset.sum_congr rfl fun d _ => congrArg (· * _) ?_) rfl
    rw [← hX]
    show X (ix3 _ ⟨(128 * t + r.val) % 1024, _⟩ d) = _
    exact congrArg X (congrArg (fun e => ix3 _ e d) (Fin.ext (Nat.mod_eq_of_lt (by omega))))
  rw [pre, e1, hb q hq j]
  rw [sum_first _ (fun x hx => by rw [hg, dif_neg (by omega)]; exact zero_mul _)]
  by_cases hj : j.val < 250
  · rw [dif_pos hj, dif_pos hj, gate]
    have e2 : (∑ d : Fin 300, (feed s₁ s₂ ⟨128 * t + r.val, by omega⟩ ⟨n % 32, by omega⟩ d * Wi (ix2 d ⟨256 * q + j.val, by omega⟩) : EReal))
        = ∑ d : Fin 300, feed s₁ s₂ ⟨128 * t + r.val, by omega⟩ ⟨n % 32, by omega⟩ d * W (ix2 ⟨250 * q + j.val, by omega⟩ d) :=
      Finset.sum_congr rfl fun d _ => by rw [hWi q hq, dif_pos hj]
    have e3 : (∑ l : Fin 250, (g (ix2 r ⟨l.val, by omega⟩) * Wh (ix2 ⟨l.val, by omega⟩ ⟨256 * q + j.val, by omega⟩) : EReal))
        = ∑ l : Fin 250, a l * U (ix2 ⟨250 * q + j.val, by omega⟩ l) :=
      Finset.sum_congr rfl fun l _ => by rw [hg, dif_pos l.isLt, hWh q hq, dif_pos ⟨l.isLt, hj⟩]
    rw [e2, e3]
    exact add_right_comm _ _ _
  · rw [dif_neg hj, dif_neg hj, add_zero]
    rw [Finset.sum_eq_zero fun d _ => by rw [hWi q hq, dif_neg hj]; exact mul_zero _]
    rw [Finset.sum_eq_zero fun l _ => by rw [hWh q hq, dif_neg (fun h => hj h.2)]; exact mul_zero _]
    exact add_zero _

/-- After `n` steps the kernel's hidden and cell rows are the recurrence's, the six lanes on the right zero. -/
theorem st_rows
    (hX : ∀ k r j, X (ix3 k r j) = feed s₁ s₂ r k j)
    (hWi : ∀ (q : ℕ) (hq : q < 4) (d : Fin 300) (j : Fin 256), Wi (ix2 d ⟨256 * q + j.val, by omega⟩) = if h : j.val < 250 then W (ix2 ⟨250 * q + j.val, by omega⟩ d) else (0 : EReal))
    (hWh : ∀ (q : ℕ) (hq : q < 4) (l j : Fin 256), Wh (ix2 l ⟨256 * q + j.val, by omega⟩) = if h : l.val < 250 ∧ j.val < 250 then U (ix2 ⟨250 * q + j.val, by omega⟩ ⟨l.val, h.1⟩) else (0 : EReal))
    (hb : ∀ (q : ℕ) (hq : q < 4) (j : Fin 256), b (ix2 0 ⟨256 * q + j.val, by omega⟩) = if h : j.val < 250 then bias b₁ b₂ ⟨250 * q + j.val, by omega⟩ else (0 : EReal))
    (t : ℕ) (ht : t < 8) (r : Fin 128) (n : ℕ) :
    (∀ j : Fin 256, (st (k0_pay3 (F := Ideal) (tile X t) Wi b) Wh n).1 (ix2 r j)
        = if h : j.val < 250 then (rows W U b₁ b₂ (feed s₁ s₂ ⟨128 * t + r.val, by omega⟩) n).1 ⟨j.val, h⟩ else (0 : EReal))
      ∧ ∀ j : Fin 256, (st (k0_pay3 (F := Ideal) (tile X t) Wi b) Wh n).2 (ix2 r j)
        = if h : j.val < 250 then (rows W U b₁ b₂ (feed s₁ s₂ ⟨128 * t + r.val, by omega⟩) n).2 ⟨j.val, h⟩ else (0 : EReal) := by
  have z0 : ∀ x : EReal, Ideal.logistic x * 0 = 0 := fun x => mul_zero _
  have zt : Ideal.tanh 0 = (0 : EReal) := by
    show ((Real.tanh 0 : ℝ) : EReal) = 0
    rw [Real.tanh_zero]
    rfl
  induction n with
  | zero =>
    constructor <;> intro j
    · show k0_pay1 (F := Ideal) (ix2 r j) = _
      rw [show (rows W U b₁ b₂ (feed s₁ s₂ ⟨128 * t + r.val, by omega⟩) 0).1 = fun _ => 0 from rfl]
      pointwise [k0_pay1]
      split_ifs <;> rfl
    · show k0_pay2 (F := Ideal) (ix2 r j) = _
      rw [show (rows W U b₁ b₂ (feed s₁ s₂ ⟨128 * t + r.val, by omega⟩) 0).2 = fun _ => 0 from rfl]
      pointwise [k0_pay2]
      split_ifs <;> rfl
  | succ n ih =>
    have hc : ∀ j : Fin 256, k0_pay7 (F := Ideal) (slab (k0_pay3 (F := Ideal) (tile X t) Wi b) n) (st (k0_pay3 (F := Ideal) (tile X t) Wi b) Wh n).1 Wh (st (k0_pay3 (F := Ideal) (tile X t) Wi b) Wh n).2 (ix2 r j)
        = if h : j.val < 250 then (rows W U b₁ b₂ (feed s₁ s₂ ⟨128 * t + r.val, by omega⟩) (n + 1)).2 ⟨j.val, h⟩ else (0 : EReal) := fun j => by
      rw [cell_apply, pre_gate hX hWi hWh hb _ (rows W U b₁ b₂ (feed s₁ s₂ ⟨128 * t + r.val, by omega⟩) n).1 t ht r ih.1, pre_gate hX hWi hWh hb _ (rows W U b₁ b₂ (feed s₁ s₂ ⟨128 * t + r.val, by omega⟩) n).1 t ht r ih.1, pre_gate hX hWi hWh hb _ (rows W U b₁ b₂ (feed s₁ s₂ ⟨128 * t + r.val, by omega⟩) n).1 t ht r ih.1, ih.2]
      by_cases hj : j.val < 250
      · simp only [dif_pos hj]; rfl
      · simp only [dif_neg hj, zt, z0, add_zero]
    refine ⟨fun j => ?_, hc⟩
    show k0_pay8 (F := Ideal) (slab (k0_pay3 (F := Ideal) (tile X t) Wi b) n) (st (k0_pay3 (F := Ideal) (tile X t) Wi b) Wh n).1 Wh (st (k0_pay3 (F := Ideal) (tile X t) Wi b) Wh n).2 (ix2 r j) = _
    rw [hidden_apply, hc, pre_gate hX hWi hWh hb _ (rows W U b₁ b₂ (feed s₁ s₂ ⟨128 * t + r.val, by omega⟩) n).1 t ht r ih.1]
    by_cases hj : j.val < 250
    · simp only [dif_pos hj]; rfl
    · simp only [dif_neg hj, zt, z0]

variable (m : (ℓ : Loc nD τ sig) → Buf (Elt Ideal) ℓ)

/-- The kernel's output array is the recurrence's, padded. -/
theorem kernel_all (c : Dev nD) :
    HS (V m c main_v4) (V m c main_v47) (V m c main_v52) (V m c main_v55)
      = all (m (c, Proc.devRef .tc main_arg0)) (m (c, Proc.devRef .tc main_arg1)) (m (c, Proc.devRef .tc main_arg2)) (m (c, Proc.devRef .tc main_arg3))
          (m (c, Proc.devRef .tc main_arg4)) (m (c, Proc.devRef .tc main_arg5)) := by
  funext y
  have hy : (y 1).val < 1024 := (y 1).isLt
  refine ((st_rows (fun k r j => Host.V_feed m c k r j) (fun q hq d j => Host.V_wih m c q hq d j) (fun q hq l j => Host.V_whh m c q hq l j)
    (fun q hq j => Host.V_bias m c q hq j) ((y 1).val / 128) (by omega) ⟨(y 1).val % 128, by omega⟩ ((y 0).val + 1)).1 (y 2)).trans ?_
  unfold all
  have e : (⟨128 * ((y 1).val / 128) + (y 1).val % 128, by omega⟩ : Fin 1024) = y 1 := Fin.ext (Nat.div_add_mod _ _)
  simp only [e]

end Cert.LstmIdeal.Rows
-- ==== Proof.LstmRef.lean ====
module

public import proofs.«01_k».proof.Proof.Gen.LstmRefIdeal.Run
public import proofs.«01_k».proof.Proof.LstmSpec
public import Idealize.ShloMosaic.Lib.DynamicIndex

@[expose] public section

set_option maxRecDepth 16384

noncomputable section

open Idealize.ShloMosaic Idealize.ShloMosaic.TcCoe Idealize.SL.Sem Idealize.ShloMosaic.Tactic

open Idealize.ShloMosaic.StableHlo

namespace Cert.LstmRefIdeal.Rows

open Cert.LstmRefIdeal Cert.LstmRefIdeal.Gen Cert.LstmRefIdeal.Value Cert.LstmSpec

variable (m : (ℓ : Loc nD τ sig) → Buf (Elt Ideal) ℓ)

/-- The logistic function as the reference writes it. -/
theorem logistic_eq (x : EReal) : Ideal.div 1 (1 + Ideal.exp (-x)) = Ideal.logistic x := rfl

/-- A counter below 32 read as an integer. -/
theorem counter (V0 : Valuation τ sig (Elt Ideal)) (k : ℕ) (hk : k < 32) (h4 : V0 (Proc.devRef .tc main_v9_4) = fun _ => BitVec.ofNat 32 k) (a : Fin 3) :
    (((![V0 (Proc.devRef .tc main_v9_4), constantI S_ 32 0#32, constantI S_ 32 0#32] : Fin 3 → (⟨S_, .i32⟩ : BufTy).Contents (Elt Ideal))) a (Shape.Idx.first h_S_)).toInt = ((![k, 0, 0] a : ℕ) : ℤ) := by
  match a with
  | ⟨0, _⟩ =>
    show BitVec.toInt ((V0 (Proc.devRef .tc main_v9_4)) (Shape.Idx.first h_S_)) = (k : ℤ)
    rw [h4]
    show BitVec.toInt (BitVec.ofNat 32 k) = (k : ℤ)
    interval_cases k <;> rfl
  | ⟨1, _⟩ => rfl
  | ⟨2, _⟩ => rfl

/-- The step's gates, at an entry. -/
theorem gate_apply (V0 : Valuation τ sig (Elt Ideal)) (k : ℕ) (hk : k < 32) (h4 : V0 (Proc.devRef .tc main_v9_4) = fun _ => BitVec.ofNat 32 k)
    (x : FVec Ideal S32x1024x300 .f32) (hx : V0 (Proc.devRef .tc main_v9_0) = x) (W : FVec Ideal S1000x300 .f32) (hW : V0 (Proc.devRef .tc main_v9_1) = W)
    (U : FVec Ideal S1000x250 .f32) (hU : V0 (Proc.devRef .tc main_v9_2) = U) (b : FVec Ideal S1000 .f32) (hb : V0 (Proc.devRef .tc main_v9_3) = b)
    (h : FVec Ideal S1024x250 .f32) (hh : V0 (Proc.devRef .tc main_v9_5) = h) (r : Fin 1024) (p : Fin 1000) :
    (res_main_while0b_v21 (F := Ideal) V0 : FVec Ideal S1024x1000 .f32) (ix2 r p)
      = ((∑ d : Fin 300, x (ix3 ⟨k, hk⟩ r d) * W (ix2 p d)) + (∑ l : Fin 250, h (ix2 r l) * U (ix2 p l)) + b (ix1 p) : EReal) := by
  unfold res_main_while0b_v21
  have hc := counter V0 k hk h4
  have c0 := Host.clampedStart_of_le (s := S32x1024x300) (t := S1x1024x300) rfl (fun a : Fin 3 => (((![V0 (Proc.devRef .tc main_v9_4), constantI S_ 32 0#32, constantI S_ 32 0#32] : Fin 3 → (⟨S_, .i32⟩ : BufTy).Contents (Elt Ideal))) a (Shape.Idx.first h_S_)).toInt) (0 : Fin 3) k (hc 0) hk
  have c1 := Host.clampedStart_of_le (s := S32x1024x300) (t := S1x1024x300) rfl (fun a : Fin 3 => (((![V0 (Proc.devRef .tc main_v9_4), constantI S_ 32 0#32, constantI S_ 32 0#32] : Fin 3 → (⟨S_, .i32⟩ : BufTy).Contents (Elt Ideal))) a (Shape.Idx.first h_S_)).toInt) (1 : Fin 3) 0 (hc 1) (le_refl _)
  have c2 := Host.clampedStart_of_le (s := S32x1024x300) (t := S1x1024x300) rfl (fun a : Fin 3 => (((![V0 (Proc.devRef .tc main_v9_4), constantI S_ 32 0#32, constantI S_ 32 0#32] : Fin 3 → (⟨S_, .i32⟩ : BufTy).Contents (Elt Ideal))) a (Shape.Idx.first h_S_)).toInt) (2 : Fin 3) 0 (hc 2) (le_refl _)
  rw [hx, hW, hU, hb, hh]
  pointwise
  refine congrArg₂ (· + ·) (congrArg₂ (· + ·) (Finset.sum_congr rfl fun d _ => congrArg (· * _) (congrArg x (funext fun a => ?_))) rfl) rfl
  match a with
  | ⟨0, _⟩ => exact Fin.ext c0
  | ⟨1, _⟩ => exact Fin.ext ((congrArg (· + r.val) c1).trans (Nat.zero_add _))
  | ⟨2, _⟩ => exact Fin.ext ((congrArg (· + d.val) c2).trans (Nat.zero_add _))

/-- The step's cell, at an entry. -/
theorem cell_apply (V0 : Valuation τ sig (Elt Ideal)) (X : FVec Ideal S1024x1000 .f32) (hX : res_main_while0b_v21 (F := Ideal) V0 = X) (r : Fin 1024) (j : Fin 250) :
   (res_main_while0b_v41 (F := Ideal) V0 : FVec Ideal S1024x250 .f32) (ix2 r j)
     = (Ideal.logistic (X (ix2 r ⟨250 + j.val, by omega⟩)) * (V0 (Proc.devRef .tc main_v9_6) : FVec Ideal S1024x250 .f32) (ix2 r j)
        + Ideal.logistic (X (ix2 r ⟨j.val, by omega⟩)) * Ideal.tanh (X (ix2 r ⟨500 + j.val, by omega⟩)) : EReal) := by
  unfold res_main_while0b_v41
  rw [hX]
  pointwise
  simp only [logistic_eq]

/-- The step's hidden rows, at an entry. -/
theorem hidden_apply (V0 : Valuation τ sig (Elt Ideal)) (X : FVec Ideal S1024x1000 .f32) (hX : res_main_while0b_v21 (F := Ideal) V0 = X)
    (Y : FVec Ideal S1024x250 .f32) (hY : res_main_while0b_v41 (F := Ideal) V0 = Y) (r : Fin 1024) (j : Fin 250) :
   (res_main_while0b_v49 (F := Ideal) V0 : FVec Ideal S1024x250 .f32) (ix2 r j)
     = (Ideal.logistic (X (ix2 r ⟨750 + j.val, by omega⟩)) * Ideal.tanh (Y (ix2 r j)) : EReal) := by
  unfold res_main_while0b_v49
  rw [hX, hY]
  pointwise
  simp only [logistic_eq]

/-- One row block put at row block `k`, read at an entry. -/
theorem put (x : FVec Ideal S32x1024x250 .f32) (u : FVec Ideal S1x1024x250 .f32) (sv : Fin 3 → ℤ) (k : ℕ) (hk : k < 32)
    (hs : ∀ a, sv a = ((![k, 0, 0] a : ℕ) : ℤ)) (t : Fin 32) (r : Fin 1024) (j : Fin 250) :
    Host.dynamicUpdateSlice x u sv updateFits_S32x1024x250_S1x1024x250 (ix3 t r j) = if t.val = k then u (ix3 0 r j) else x (ix3 t r j) := by
  have c0 : Host.clampedStart S32x1024x250 S1x1024x250 rfl sv (0 : Fin 3) = k := Host.clampedStart_of_le _ _ _ _ (hs 0) hk
  have c1 : Host.clampedStart S32x1024x250 S1x1024x250 rfl sv (1 : Fin 3) = 0 := Host.clampedStart_of_le _ _ _ _ (hs 1) (le_refl _)
  have c2 : Host.clampedStart S32x1024x250 S1x1024x250 rfl sv (2 : Fin 3) = 0 := Host.clampedStart_of_le _ _ _ _ (hs 2) (le_refl _)
  rw [Host.dynamicUpdateSlice_apply]
  by_cases ht : t.val = k
  · rw [if_pos ht, dif_pos (fun a => by
      match a with
      | ⟨0, _⟩ => exact ⟨le_of_eq (c0.trans ht.symm), by show t.val < Host.clampedStart S32x1024x250 S1x1024x250 rfl sv (0 : Fin 3) + 1; rw [c0]; omega⟩
      | ⟨1, _⟩ => exact ⟨le_of_eq_of_le c1 (Nat.zero_le _), by show r.val < Host.clampedStart S32x1024x250 S1x1024x250 rfl sv (1 : Fin 3) + 1024; rw [c1]; omega⟩
      | ⟨2, _⟩ => exact ⟨le_of_eq_of_le c2 (Nat.zero_le _), by show j.val < Host.clampedStart S32x1024x250 S1x1024x250 rfl sv (2 : Fin 3) + 250; rw [c2]; omega⟩)]
    refine congrArg u (funext fun a => ?_)
    match a with
    | ⟨0, _⟩ => exact Fin.ext (by show t.val - Host.clampedStart S32x1024x250 S1x1024x250 rfl sv (0 : Fin 3) = 0; rw [c0]; omega)
    | ⟨1, _⟩ => exact Fin.ext (by show r.val - Host.clampedStart S32x1024x250 S1x1024x250 rfl sv (1 : Fin 3) = r.val; rw [c1]; rfl)
    | ⟨2, _⟩ => exact Fin.ext (by show j.val - Host.clampedStart S32x1024x250 S1x1024x250 rfl sv (2 : Fin 3) = j.val; rw [c2]; rfl)
  · rw [if_neg ht, dif_neg]
    intro g
    have g0 := g (0 : Fin 3)
    rw [c0] at g0
    have : k ≤ t.val ∧ t.val < k + 1 := g0
    omega

/-- The step stores the new hidden rows as row block `k` of the result. -/
theorem store_apply (V0 : Valuation τ sig (Elt Ideal)) (k : ℕ) (hk : k < 32) (h4 : V0 (Proc.devRef .tc main_v9_4) = fun _ => BitVec.ofNat 32 k)
    (Y : FVec Ideal S1024x250 .f32) (hY : res_main_while0b_v49 (F := Ideal) V0 = Y) (t : Fin 32) (r : Fin 1024) (j : Fin 250) :
   (step_main_v9_7 (F := Ideal) V0 : FVec Ideal S32x1024x250 .f32) (ix3 t r j)
     = if t.val = k then Y (ix2 r j) else (V0 (Proc.devRef .tc main_v9_7) : FVec Ideal S32x1024x250 .f32) (ix3 t r j) := by
  unfold step_main_v9_7
  rw [hY, id_eq]
  refine (put _ _ _ k hk (counter V0 k hk h4) t r j).trans ?_
  pointwise

/-- Reversing the steps, read at an entry. -/
theorem reverse_steps (v : FVec Ideal S256x32x300 .f32) : (Host.reverse [1] v : FVec Ideal S256x32x300 .f32) = fun i => v (ix3 (i 0) ⟨31 - (i 1).val, by omega⟩ (i 2)) := by
  funext i
  refine congrArg v (funext fun a => ?_)
  match a with
  | ⟨0, _⟩ => rfl
  | ⟨1, _⟩ =>
    refine Fin.ext ?_
    have : (i 1).val < 32 := (i 1).isLt
    show 32 - ((i 1).val + 1) = 31 - (i 1).val
    omega
  | ⟨2, _⟩ => rfl

/-- The input the loop is entered with. -/
theorem entry_feed (c : Dev nD) (t : Fin 32) (r : Fin 1024) (d : Fin 300) :
   (entryContents preI m c (Proc.devRef .tc main_v9_0) : FVec Ideal S32x1024x300 .f32) (ix3 t r d)
     = feed (m ((c.tc : Thread nD τ).loc main_arg0)) (m ((c.tc : Thread nD τ).loc main_arg1)) r t d := by
  simp only [entryContents, afterL_cons, afterL_nil]
  after_reads_simp
  have e1 : upto hostOps0 (launchContents m c) 5 (Proc.devRef .tc main_v1) = (transpose S256x32x300 [0, 2, 1] (m ((c.tc : Thread nD τ).loc main_arg0)) transposes_S256x300x32_S256x32x300_0_2_1 : FVec Ideal S256x32x300 .f32) := by
    after_reads_simp
  have e2 : upto hostOps0 (launchContents m c) 5 (Proc.devRef .tc main_v2) = (transpose S256x32x300 [0, 2, 1] (m ((c.tc : Thread nD τ).loc main_arg1)) transposes_S256x300x32_S256x32x300_0_2_1 : FVec Ideal S256x32x300 .f32) := by
    after_reads_simp
  have e3 : upto hostOps0 (launchContents m c) 5 (Proc.devRef .tc main_v3) = (Host.reverse [1] (transpose S256x32x300 [0, 2, 1] (m ((c.tc : Thread nD τ).loc main_arg0)) transposes_S256x300x32_S256x32x300_0_2_1) : FVec Ideal S256x32x300 .f32) := by
    after_reads_simp
  have e4 : upto hostOps0 (launchContents m c) 5 (Proc.devRef .tc main_v4) = (Host.reverse [1] (transpose S256x32x300 [0, 2, 1] (m ((c.tc : Thread nD τ).loc main_arg1)) transposes_S256x300x32_S256x32x300_0_2_1) : FVec Ideal S256x32x300 .f32) := by
    after_reads_simp
  rw [id_eq]
  show transpose S32x1024x300 [1, 0, 2] (concatenate S1024x32x300 0 [⟨S256x32x300, (upto hostOps0 (launchContents m c) 5 (Proc.devRef .tc main_v1) : FVec Ideal S256x32x300 .f32)⟩, ⟨S256x32x300, (upto hostOps0 (launchContents m c) 5 (Proc.devRef .tc main_v2) : FVec Ideal S256x32x300 .f32)⟩, ⟨S256x32x300, (upto hostOps0 (launchContents m c) 5 (Proc.devRef .tc main_v3) : FVec Ideal S256x32x300 .f32)⟩, ⟨S256x32x300, (upto hostOps0 (launchContents m c) 5 (Proc.devRef .tc main_v4) : FVec Ideal S256x32x300 .f32)⟩] concatenates_S256x32x300_S256x32x300_S256x32x300_S256x32x300_S1024x32x300_d0)
    transposes_S1024x32x300_S32x1024x300_1_0_2 (ix3 t r d) = _
  rw [e1, e2, e3, e4, reverse_steps, reverse_steps]
  unfold feed
  pointwise

/-- The bias the loop is entered with. -/
theorem entry_bias (c : Dev nD) (p : Fin 1000) :
   (entryContents preI m c (Proc.devRef .tc main_v9_3) : FVec Ideal S1000 .f32) (ix1 p)
     = bias (m ((c.tc : Thread nD τ).loc main_arg4)) (m ((c.tc : Thread nD τ).loc main_arg5)) p := by
  simp only [entryContents, afterL_cons, afterL_nil]
  after_reads_simp
  rfl

/-- The input weights the loop is entered with. -/
theorem entry_wih (c : Dev nD) : entryContents preI m c (Proc.devRef .tc main_v9_1) = m ((c.tc : Thread nD τ).loc main_arg2) := by
  simp only [entryContents, afterL_cons, afterL_nil]
  after_reads_simp
  rfl

/-- The hidden weights the loop is entered with. -/
theorem entry_whh (c : Dev nD) : entryContents preI m c (Proc.devRef .tc main_v9_2) = m ((c.tc : Thread nD τ).loc main_arg3) := by
  simp only [entryContents, afterL_cons, afterL_nil]
  after_reads_simp
  rfl

/-- The loop is entered with zero hidden rows. -/
theorem entry_hidden (c : Dev nD) (r : Fin 1024) (j : Fin 250) : (entryContents preI m c (Proc.devRef .tc main_v9_5) : FVec Ideal S1024x250 .f32) (ix2 r j) = (0 : EReal) := by
  simp only [entryContents, afterL_cons, afterL_nil]
  after_reads_simp
  rw [id_eq]
  pointwise

/-- The loop is entered with zero cell rows. -/
theorem entry_cell (c : Dev nD) (r : Fin 1024) (j : Fin 250) : (entryContents preI m c (Proc.devRef .tc main_v9_6) : FVec Ideal S1024x250 .f32) (ix2 r j) = (0 : EReal) := by
  simp only [entryContents, afterL_cons, afterL_nil]
  after_reads_simp
  rw [id_eq]
  pointwise

/-- The loop is entered with a zero result. -/
theorem entry_result (c : Dev nD) (t : Fin 32) (r : Fin 1024) (j : Fin 250) : (entryContents preI m c (Proc.devRef .tc main_v9_7) : FVec Ideal S32x1024x250 .f32) (ix3 t r j) = (0 : EReal) := by
  simp only [entryContents, afterL_cons, afterL_nil]
  after_reads_simp
  rw [id_eq]
  pointwise

/-- The carried buffers after `k` trips. -/
abbrev C (c : Dev nD) (k : ℕ) : Valuation τ sig (Elt Ideal) := STEP^[k] (entryContents preI m c)

/-- One more trip is one more step. -/
theorem C_succ (c : Dev nD) (k : ℕ) : C m c (k + 1) = STEP (C m c k) := Function.iterate_succ_apply' ..

/-- No trip changes the input. -/
theorem C_x (c : Dev nD) (k : ℕ) : C m c k (Proc.devRef .tc main_v9_0) = entryContents preI m c (Proc.devRef .tc main_v9_0) := by
  induction k with
  | zero => rfl
  | succ k ih => rw [C_succ, STEP_main_v9_0, ih]

/-- No trip changes the input weights. -/
theorem C_wih (c : Dev nD) (k : ℕ) : C m c k (Proc.devRef .tc main_v9_1) = entryContents preI m c (Proc.devRef .tc main_v9_1) := by
  induction k with
  | zero => rfl
  | succ k ih => rw [C_succ, STEP_main_v9_1, ih]

/-- No trip changes the hidden weights. -/
theorem C_whh (c : Dev nD) (k : ℕ) : C m c k (Proc.devRef .tc main_v9_2) = entryContents preI m c (Proc.devRef .tc main_v9_2) := by
  induction k with
  | zero => rfl
  | succ k ih => rw [C_succ, STEP_main_v9_2, ih]

/-- No trip changes the bias. -/
theorem C_bias (c : Dev nD) (k : ℕ) : C m c k (Proc.devRef .tc main_v9_3) = entryContents preI m c (Proc.devRef .tc main_v9_3) := by
  induction k with
  | zero => rfl
  | succ k ih => rw [C_succ, STEP_main_v9_3, ih]

/-- The counter counts the trips. -/
theorem C_counter (c : Dev nD) (k : ℕ) : C m c k (Proc.devRef .tc main_v9_4) = fun _ => BitVec.ofNat 32 k := by
  induction k with
  | zero => exact ctr_entry m c
  | succ k ih =>
    rw [C_succ, STEP_main_v9_4]
    unfold step_main_v9_4
    rw [ih, id_eq]
    funext i
    show BitVec.ofNat 32 k + 1#32 = BitVec.ofNat 32 (k + 1)
    rw [BitVec.ofNat_add]

/-- The recurrence over the reference's arguments. -/
abbrev R (c : Dev nD) (r : Fin 1024) (k : ℕ) : (Fin 250 → EReal) × (Fin 250 → EReal) :=
  rows (m ((c.tc : Thread nD τ).loc main_arg2)) (m ((c.tc : Thread nD τ).loc main_arg3)) (m ((c.tc : Thread nD τ).loc main_arg4)) (m ((c.tc : Thread nD τ).loc main_arg5))
    (feed (m ((c.tc : Thread nD τ).loc main_arg0)) (m ((c.tc : Thread nD τ).loc main_arg1)) r) k

/-- After `k` trips the carried hidden rows, cell rows and result are the recurrence's. -/
theorem C_rows (c : Dev nD) (k : ℕ) (hk : k ≤ 32) :
    (∀ r j, (C m c k (Proc.devRef .tc main_v9_5) : FVec Ideal S1024x250 .f32) (ix2 r j) = (R m c r k).1 j)
      ∧ (∀ r j, (C m c k (Proc.devRef .tc main_v9_6) : FVec Ideal S1024x250 .f32) (ix2 r j) = (R m c r k).2 j)
      ∧ ∀ (t : Fin 32) r j, t.val < k → (C m c k (Proc.devRef .tc main_v9_7) : FVec Ideal S32x1024x250 .f32) (ix3 t r j) = (R m c r (t.val + 1)).1 j := by
  induction k with
  | zero => exact ⟨fun r j => entry_hidden m c r j, fun r j => entry_cell m c r j, fun t r j h => absurd h (Nat.not_lt_zero _)⟩
  | succ k ih =>
    obtain ⟨ih1, ih2, ih3⟩ := ih (by omega)
    have hk' : k < 32 := by omega
    obtain ⟨X, hX⟩ : ∃ X : FVec Ideal S1024x1000 .f32, res_main_while0b_v21 (F := Ideal) (C m c k) = X := ⟨_, rfl⟩
    obtain ⟨Y, hY⟩ : ∃ Y : FVec Ideal S1024x250 .f32, res_main_while0b_v41 (F := Ideal) (C m c k) = Y := ⟨_, rfl⟩
    obtain ⟨Z, hZ⟩ : ∃ Z : FVec Ideal S1024x250 .f32, res_main_while0b_v49 (F := Ideal) (C m c k) = Z := ⟨_, rfl⟩
    have gX : ∀ (r : Fin 1024) (q : ℕ) (hq : q < 4) (j : Fin 250), X (ix2 r ⟨250 * q + j.val, by omega⟩)
        = gate (m ((c.tc : Thread nD τ).loc main_arg2)) (m ((c.tc : Thread nD τ).loc main_arg3)) (m ((c.tc : Thread nD τ).loc main_arg4)) (m ((c.tc : Thread nD τ).loc main_arg5))
            (feed (m ((c.tc : Thread nD τ).loc main_arg0)) (m ((c.tc : Thread nD τ).loc main_arg1)) r ⟨k % 32, by omega⟩) (R m c r k).1 q hq j := by
      intro r q hq j
      rw [← hX, gate_apply (C m c k) k hk' (C_counter m c k) _ (C_x m c k) _ ((C_wih m c k).trans (entry_wih m c)) _ ((C_whh m c k).trans (entry_whh m c)) _ (C_bias m c k) _ rfl]
      unfold gate
      have e : (⟨k % 32, by omega⟩ : Fin 32) = ⟨k, hk'⟩ := Fin.ext (Nat.mod_eq_of_lt hk')
      rw [entry_bias]
      refine congrArg₂ (· + ·) (congrArg₂ (· + ·) (Finset.sum_congr rfl fun d _ => ?_) (Finset.sum_congr rfl fun l _ => ?_)) rfl
      · rw [entry_feed, e]
      · rw [ih1]
    have gY : ∀ r j, Y (ix2 r j) = (R m c r (k + 1)).2 j := fun r j => by
      rw [← hY, cell_apply _ X hX, ih2]
      have h0 := gX r 0 (by omega) j
      have h1 := gX r 1 (by omega) j
      have h2 := gX r 2 (by omega) j
      simp only [Nat.reduceMul, Nat.zero_add] at h0 h1 h2
      rw [h0, h1, h2]
      rfl
    have gZ : ∀ r j, Z (ix2 r j) = (R m c r (k + 1)).1 j := fun r j => by
      rw [← hZ, hidden_apply _ X hX Y hY, gY]
      have h3 := gX r 3 (by omega) j
      simp only [Nat.reduceMul] at h3
      rw [h3]
      rfl
    rw [C_succ]
    refine ⟨fun r j => ?_, fun r j => ?_, fun t r j ht => ?_⟩
    · rw [STEP_main_v9_5]
      unfold step_main_v9_5
      rw [hZ]
      exact gZ r j
    · rw [STEP_main_v9_6]
      unfold step_main_v9_6
      rw [hY]
      exact gY r j
    · rw [STEP_main_v9_7, store_apply _ k hk' (C_counter m c k) Z hZ]
      by_cases h : t.val = k
      · rw [if_pos h, gZ, h]
      · rw [if_neg h]
        exact ih3 t r j (by omega)

/-- The reference's result is the recurrence's, padded. -/
theorem reference_all (c : Dev nD) :
    out_main_v12 (STEP^[32] (entryContents preI m c))
      = all (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  have h : ∀ (t : Fin 32) (r : Fin 1024) (j : Fin 250), (STEP^[32] (entryContents preI m c) (Proc.devRef .tc main_v9_7) : FVec Ideal S32x1024x250 .f32) (ix3 t r j) = (R m c r (t.val + 1)).1 j :=
    fun t r j => (C_rows m c 32 (le_refl _)).2.2 t r j t.isLt
  unfold out_main_v12 all
  generalize STEP^[32] (entryContents preI m c) (Proc.devRef .tc main_v9_7) = X at h ⊢
  have h0 : (FloatOps.sitofp (F := Ideal) FTy.f32 0#32) = (0 : EReal) := by
    show (((0#32 : BitVec 32).toInt : ℝ) : EReal) = 0
    simp
  funext y
  idx_vars y
  pointwise
  rw [h0]
  by_cases hy : y2.val < 250
  · rw [dif_pos hy, dif_pos hy]
    exact h _ _ _
  · rw [dif_neg hy, dif_neg hy]

end Cert.LstmRefIdeal.Rows
-- ==== Proof.ConvSpec.lean ====
module

public import Idealize.ShloMosaic.Lib.Pointwise
public import Idealize.ShloMosaic.Lib.KernelVsHost

@[expose] public section

noncomputable section

open Idealize.ShloMosaic

namespace Cert.ConvSpec

/-- A channel's image read at a position of its zero-padded copy: one row and one column of zeros on every side. -/
def tap {C n : ℕ} (x : Fin C → Fin n → Fin n → EReal) (c : Fin C) (y z : ℕ) : EReal :=
  if h : (1 ≤ y ∧ y < 1 + n) ∧ (1 ≤ z ∧ z < 1 + n) then x c ⟨y - 1, by omega⟩ ⟨z - 1, by omega⟩ else 0

/-- The 3x3 convolution of the padded image: nine taps, each summed over the input channels. -/
def conv {C O n : ℕ} (w : Fin O → Fin C → Fin 9 → EReal) (x : Fin C → Fin n → Fin n → EReal) (o : Fin O) (y z : ℕ) : EReal :=
  ∑ t : Fin 9, ∑ c : Fin C, w o c t * tap x c (y + t.val / 3) (z + t.val % 3)

/-- The largest entry of a 2x2 window. -/
def pool2 {n : ℕ} (a : Fin (2 * n) → Fin (2 * n) → EReal) (y z : Fin n) : EReal :=
  max (max (a ⟨2 * y.val, by omega⟩ ⟨2 * z.val, by omega⟩) (a ⟨2 * y.val, by omega⟩ ⟨2 * z.val + 1, by omega⟩))
    (max (a ⟨2 * y.val + 1, by omega⟩ ⟨2 * z.val, by omega⟩) (a ⟨2 * y.val + 1, by omega⟩ ⟨2 * z.val + 1, by omega⟩))

/-- One layer: convolution, bias, cut at zero, 2x2 maximum. -/
def layer {C O n : ℕ} (w : Fin O → Fin C → Fin 9 → EReal) (b : Fin O → EReal) (x : Fin C → Fin (2 * n) → Fin (2 * n) → EReal)
    (o : Fin O) (y z : Fin n) : EReal :=
  pool2 (fun p q => max (conv w x o p.val q.val + b o) 0) y z

/-- A weight array `[O, C, 3, 3]` with its two window coordinates as one tap number. -/
def taps {O C : ℕ} (w : (⟨4, ![O, C, 3, 3]⟩ : Shape).Idx → EReal) (o : Fin O) (c : Fin C) (t : Fin 9) : EReal :=
  w (ix4 o c ⟨t.val / 3, by omega⟩ ⟨t.val % 3, by omega⟩)

/-- A dense layer at one output: the row's dot product and the bias. -/
def dense {C O : ℕ} (w : (⟨2, ![O, C]⟩ : Shape).Idx → EReal) (b : (⟨1, ![O]⟩ : Shape).Idx → EReal) (x : Fin C → EReal) (o : Fin O) : EReal :=
  (∑ k : Fin C, x k * w (ix2 o k)) + b (ix1 o)

/-- The arguments: the focus maps, five layers' weights and biases, the two dense layers' weights and biases. -/
structure Args where
  focus : (⟨4, ![12, 32, 32, 256]⟩ : Shape).Idx → EReal
  w1 : (⟨4, ![128, 12, 3, 3]⟩ : Shape).Idx → EReal
  b1 : (⟨1, ![128]⟩ : Shape).Idx → EReal
  w2 : (⟨4, ![164, 128, 3, 3]⟩ : Shape).Idx → EReal
  b2 : (⟨1, ![164]⟩ : Shape).Idx → EReal
  w3 : (⟨4, ![192, 164, 3, 3]⟩ : Shape).Idx → EReal
  b3 : (⟨1, ![192]⟩ : Shape).Idx → EReal
  w4 : (⟨4, ![192, 192, 3, 3]⟩ : Shape).Idx → EReal
  b4 : (⟨1, ![192]⟩ : Shape).Idx → EReal
  w5 : (⟨4, ![128, 192, 3, 3]⟩ : Shape).Idx → EReal
  b5 : (⟨1, ![128]⟩ : Shape).Idx → EReal
  dw : (⟨2, ![128, 128]⟩ : Shape).Idx → EReal
  db : (⟨1, ![128]⟩ : Shape).Idx → EReal
  ow : (⟨2, ![5, 128]⟩ : Shape).Idx → EReal
  ob : (⟨1, ![5]⟩ : Shape).Idx → EReal

variable (P : Args) (b : Fin 256)

/-- A sequence's focus map, channel first. -/
def feat0 (c : Fin 12) (y z : Fin (2 * 16)) : EReal := P.focus (ix4 c y z b)
/-- The first layer. -/
def feat1 : Fin 128 → Fin (2 * 8) → Fin (2 * 8) → EReal := layer (taps P.w1) (fun o => P.b1 (ix1 o)) (n := 16) (feat0 P b)
/-- The second layer. -/
def feat2 : Fin 164 → Fin (2 * 4) → Fin (2 * 4) → EReal := layer (taps P.w2) (fun o => P.b2 (ix1 o)) (n := 8) (feat1 P b)
/-- The third layer. -/
def feat3 : Fin 192 → Fin (2 * 2) → Fin (2 * 2) → EReal := layer (taps P.w3) (fun o => P.b3 (ix1 o)) (n := 4) (feat2 P b)
/-- The fourth layer. -/
def feat4 : Fin 192 → Fin (2 * 1) → Fin (2 * 1) → EReal := layer (taps P.w4) (fun o => P.b4 (ix1 o)) (n := 2) (feat3 P b)
/-- The fifth layer. -/
def feat5 : Fin 128 → Fin 1 → Fin 1 → EReal := layer (taps P.w5) (fun o => P.b5 (ix1 o)) (n := 1) (feat4 P b)
/-- The hidden dense layer. -/
def hid (o : Fin 128) : EReal := max (dense P.dw P.db (fun k => feat5 P b k 0 0) o) 0
/-- The five labels' logits. -/
def logit (o : Fin 5) : EReal := dense P.ow P.ob (hid P b) o
/-- The largest logit. -/
def top : EReal := Finset.univ.fold max ⊥ (logit P b)
/-- A label's log-probability. -/
def logProb (o : Fin 5) : EReal := logit P b o - (Ideal.log (∑ k : Fin 5, Ideal.exp (logit P b k - top P b)) + top P b)

/-- The word that stands for minus infinity. -/
theorem bot_word : Ideal.ofBits .f32 4286578688#32 = ⊥ := by
  simp [Ideal.ofBits, Ideal.ieee]

/-- The number zero, from the integer zero. -/
theorem zero_word : FloatOps.sitofp (F := Ideal) .f32 0#32 = (0 : EReal) := sitofp_zero

/-- A sum of nine terms, one after another from zero. -/
theorem sum9 (f : Fin 9 → EReal) : ∑ t : Fin 9, f t = 0 + f 0 + f 1 + f 2 + f 3 + f 4 + f 5 + f 6 + f 7 + f 8 := by
  simp only [Fin.sum_univ_succ, Fin.sum_univ_zero]
  simp only [zero_add, add_zero, add_assoc]
  rfl

/-- Two double sums with equal terms. -/
theorem sums_congr {C : ℕ} {f g : Fin 9 → Fin C → EReal} (h : ∀ t c, f t c = g t c) : ∑ t : Fin 9, ∑ c : Fin C, f t c = ∑ t : Fin 9, ∑ c : Fin C, g t c :=
  Finset.sum_congr rfl fun t _ => Finset.sum_congr rfl fun c _ => h t c

/-- The fold of the maximum over two positions. -/
theorem fold2 (f : Fin 2 → EReal) : Finset.univ.fold max ⊥ f = max (f 0) (f 1) := by
  rw [show (Finset.univ : Finset (Fin 2)) = {0, 1} from rfl, Finset.fold_insert (by decide), Finset.fold_singleton]
  simp

/-- The fold of the maximum over a 2x2 window. -/
theorem fold22 (f : Fin 2 × Fin 2 → EReal) : Finset.univ.fold max ⊥ f = max (max (f (0, 0)) (f (0, 1))) (max (f (1, 0)) (f (1, 1))) := by
  rw [show (Finset.univ : Finset (Fin 2 × Fin 2)) = {(0, 0), (0, 1), (1, 0), (1, 1)} from rfl, Finset.fold_insert (by decide), Finset.fold_insert (by decide), Finset.fold_insert (by decide), Finset.fold_singleton]
  simp [max_assoc]

/-- A sum over stored channels of which all but the first `C` have weight zero. -/
theorem sum_pad {C S : ℕ} (hC : C ≤ S) (f w : Fin S → EReal) (F W : Fin C → EReal) (hf : ∀ c : Fin C, f ⟨c.val, by omega⟩ = F c)
    (hw : ∀ c : Fin S, w c = if h : c.val < C then W ⟨c.val, h⟩ else 0) : ∑ c : Fin S, f c * w c = ∑ c : Fin C, W c * F c := by
  rw [Fin.sum_univ_two_halves C (S - C) (by omega)]
  have e : ∑ k : Fin (S - C), f ⟨C + k.val, by omega⟩ * w ⟨C + k.val, by omega⟩ = 0 :=
    Finset.sum_eq_zero fun k _ => by
      rw [hw, dif_neg (by dsimp only; omega), mul_zero]
  rw [e, add_zero]
  refine Finset.sum_congr rfl fun c _ => ?_
  rw [hw, dif_pos c.isLt, hf, mul_comm]

/-- The largest of many entries of which all but the first `C` are minus infinity. -/
theorem fold_pad {C S : ℕ} (hC : C ≤ S) (f : Fin S → EReal) (F : Fin C → EReal) (hf : ∀ c : Fin S, f c = if h : c.val < C then F ⟨c.val, h⟩ else ⊥) :
    Finset.univ.fold max ⊥ f = Finset.univ.fold max ⊥ F := by
  show Finset.univ.sup f = Finset.univ.sup F
  refine le_antisymm (Finset.sup_le fun c _ => ?_) (Finset.sup_le fun c _ => ?_)
  · rw [hf]
    split_ifs with h
    · exact Finset.le_sup (f := F) (Finset.mem_univ _)
    · exact bot_le
  · have e : f ⟨c.val, by omega⟩ = F c := by rw [hf, dif_pos c.isLt]
    rw [← e]
    exact Finset.le_sup (f := f) (Finset.mem_univ _)

/-- A sum of exponentials of which all but the first `C` are of minus infinity. -/
theorem exp_pad {C S : ℕ} (hC : C ≤ S) (m : EReal) (f : Fin S → EReal) (F : Fin C → EReal) (hf : ∀ c : Fin S, f c = if h : c.val < C then F ⟨c.val, h⟩ else ⊥) :
    ∑ c : Fin S, Ideal.exp (f c - m) = ∑ c : Fin C, Ideal.exp (F c - m) := by
  rw [Fin.sum_univ_two_halves C (S - C) (by omega)]
  have e : ∑ k : Fin (S - C), Ideal.exp (f ⟨C + k.val, by omega⟩ - m) = 0 :=
    Finset.sum_eq_zero fun k _ => by
      rw [hf, dif_neg (by dsimp only; omega), EReal.bot_sub]
      rfl
  rw [e, add_zero]
  refine Finset.sum_congr rfl fun c _ => ?_
  rw [hf, dif_pos c.isLt]

section Reduce
variable {a b c d e f : ℕ}

/-- The entries of an array of rank 6 that fall together when its fourth and sixth axes are reduced. -/
theorem fiber35 (h : (⟨6, ![a, b, c, d, e, f]⟩ : Shape).ReducesTo [3, 5] (⟨4, ![a, b, c, e]⟩ : Shape)) (j0 : Fin a) (j1 : Fin b) (j2 : Fin c) (j4 : Fin e)
    (i : (⟨6, ![a, b, c, d, e, f]⟩ : Shape).Idx) :
    h.drop i = ix4 j0 j1 j2 j4 ↔ ∃ k : Fin d × Fin f, ix6 j0 j1 j2 k.1 j4 k.2 = i := by
  constructor
  · intro g
    refine ⟨(i 3, i 5), ?_⟩
    funext p; apply Fin.ext
    match p with
    | ⟨0, _⟩ => exact (congrArg Fin.val (congrFun g 0)).symm
    | ⟨1, _⟩ => exact (congrArg Fin.val (congrFun g 1)).symm
    | ⟨2, _⟩ => exact (congrArg Fin.val (congrFun g 2)).symm
    | ⟨3, _⟩ => rfl
    | ⟨4, _⟩ => exact (congrArg Fin.val (congrFun g 3)).symm
    | ⟨5, _⟩ => rfl
  · rintro ⟨k, rfl⟩
    funext p; apply Fin.ext
    match p with
    | ⟨0, _⟩ => rfl
    | ⟨1, _⟩ => rfl
    | ⟨2, _⟩ => rfl
    | ⟨3, _⟩ => rfl

/-- The entries of an array of rank 6 that fall together when its fourth axis is reduced. -/
theorem fiber3 (h : (⟨6, ![a, b, c, d, e, f]⟩ : Shape).Reduces [3] (⟨5, ![a, b, c, e, f]⟩ : Shape)) (j0 : Fin a) (j1 : Fin b) (j2 : Fin c) (j4 : Fin e) (j5 : Fin f)
    (i : (⟨6, ![a, b, c, d, e, f]⟩ : Shape).Idx) :
    h.drop i = ix5 j0 j1 j2 j4 j5 ↔ ∃ k : Fin d, ix6 j0 j1 j2 k j4 j5 = i := by
  constructor
  · intro g
    refine ⟨i 3, ?_⟩
    funext p; apply Fin.ext
    match p with
    | ⟨0, _⟩ => exact (congrArg Fin.val (congrFun g 0)).symm
    | ⟨1, _⟩ => exact (congrArg Fin.val (congrFun g 1)).symm
    | ⟨2, _⟩ => exact (congrArg Fin.val (congrFun g 2)).symm
    | ⟨3, _⟩ => rfl
    | ⟨4, _⟩ => exact (congrArg Fin.val (congrFun g 3)).symm
    | ⟨5, _⟩ => exact (congrArg Fin.val (congrFun g 4)).symm
  · rintro ⟨k, rfl⟩
    funext p; apply Fin.ext
    match p with
    | ⟨0, _⟩ => rfl
    | ⟨1, _⟩ => rfl
    | ⟨2, _⟩ => rfl
    | ⟨3, _⟩ => rfl
    | ⟨4, _⟩ => rfl

/-- The maximum over the fourth and sixth axes, both of two positions. -/
theorem fold35 (h : (⟨6, ![a, b, c, 2, e, 2]⟩ : Shape).ReducesTo [3, 5] (⟨4, ![a, b, c, e]⟩ : Shape)) (j0 : Fin a) (j1 : Fin b) (j2 : Fin c) (j4 : Fin e)
    (v : (⟨6, ![a, b, c, 2, e, 2]⟩ : Shape).Idx → EReal) :
    (Finset.univ.filter (fun i => h.drop i = ix4 j0 j1 j2 j4)).fold max ⊥ v
      = max (max (v (ix6 j0 j1 j2 0 j4 0)) (v (ix6 j0 j1 j2 0 j4 1))) (max (v (ix6 j0 j1 j2 1 j4 0)) (v (ix6 j0 j1 j2 1 j4 1))) :=
  (Finset.fold_filter_eq_fold_of_fiber max _ (fun k : Fin 2 × Fin 2 => ix6 j0 j1 j2 k.1 j4 k.2)
    (fun _ _ g => Prod.ext (congrFun g 3) (congrFun g 5)) (fiber35 h j0 j1 j2 j4) ⊥ v).trans (fold22 _)

/-- The maximum over the fourth axis, of two positions. -/
theorem fold3 (h : (⟨6, ![a, b, c, 2, e, f]⟩ : Shape).Reduces [3] (⟨5, ![a, b, c, e, f]⟩ : Shape)) (j0 : Fin a) (j1 : Fin b) (j2 : Fin c) (j4 : Fin e) (j5 : Fin f)
    (v : (⟨6, ![a, b, c, 2, e, f]⟩ : Shape).Idx → EReal) :
    (Finset.univ.filter (fun i => h.drop i = ix5 j0 j1 j2 j4 j5)).fold max ⊥ v = max (v (ix6 j0 j1 j2 0 j4 j5)) (v (ix6 j0 j1 j2 1 j4 j5)) :=
  (Finset.fold_filter_eq_fold_of_fiber max _ (fun k : Fin 2 => ix6 j0 j1 j2 k j4 j5)
    (fun _ _ g => congrFun g 3) (fiber3 h j0 j1 j2 j4 j5) ⊥ v).trans (fold2 _)

end Reduce

end Cert.ConvSpec
-- ==== Proof.ConvRefLayers.lean ====
module

public import proofs.«01_k».proof.Proof.ConvSpec
public import proofs.«01_k».proof.Proof.Gen.ConvRefIdeal.Run

@[expose] public section

set_option maxRecDepth 16384

noncomputable section

open Idealize.ShloMosaic Idealize.ShloMosaic.TcCoe Idealize.SL.Sem Idealize.ShloMosaic.Tactic Cert.ConvSpec

namespace Cert.ConvRefIdeal.Layers

open Cert.ConvRefIdeal Cert.ConvRefIdeal.Value

variable (V0 : Valuation τ sig (Elt Ideal))

/-- The arguments, as the specification names them. -/
def args : Args where
  focus := V0 (Proc.devRef .tc main_arg0)
  w1 := V0 (Proc.devRef .tc main_arg1)
  b1 := V0 (Proc.devRef .tc main_arg2)
  w2 := V0 (Proc.devRef .tc main_arg3)
  b2 := V0 (Proc.devRef .tc main_arg4)
  w3 := V0 (Proc.devRef .tc main_arg5)
  b3 := V0 (Proc.devRef .tc main_arg6)
  w4 := V0 (Proc.devRef .tc main_arg7)
  b4 := V0 (Proc.devRef .tc main_arg8)
  w5 := V0 (Proc.devRef .tc main_arg9)
  b5 := V0 (Proc.devRef .tc main_arg10)
  dw := V0 (Proc.devRef .tc main_arg11)
  db := V0 (Proc.devRef .tc main_arg12)
  ow := V0 (Proc.devRef .tc main_arg13)
  ob := V0 (Proc.devRef .tc main_arg14)

/-- The padded focus maps. -/
theorem act0 (b : Fin 256) (o : Fin 12) (y z : Fin 34) : (res_main_v1 V0 : FVec Ideal S256x12x34x34 .f32) (ix4 b o y z) = tap (feat0 (args V0) b) o y.val z.val := by
  obtain ⟨X, hX⟩ : ∃ X : FVec Ideal S12x32x32x256 .f32, V0 (Proc.devRef .tc main_arg0) = X := ⟨_, rfl⟩
  unfold res_main_v1 tap feat0
  rw [show (args V0).focus = X from hX, hX]
  pointwise
  split_ifs <;> first | omega | rfl | exact zero_word

/-- Layer 1's nine taps, of any padded input. -/
theorem nine1 (X : FVec Ideal S256x12x34x34 .f32) (W : FVec Ideal S128x12x3x3 .f32) (hX : res_main_v1 V0 = X) (hW : V0 (Proc.devRef .tc main_arg1) = W)
    (b : Fin 256) (o : Fin 128) (y z : Fin 32) : (res_main_v56 V0 : FVec Ideal S256x128x32x32 .f32) (ix4 b o y z) = (∑ t : Fin 9, ∑ c : Fin 12, (taps W o c t * X (ix4 b c ⟨y.val + t.val / 3, by omega⟩ ⟨z.val + t.val % 3, by omega⟩) : EReal) : EReal) := by
  unfold res_main_v56
  rw [hX, hW, sum9]
  pointwise
  simp only [Nat.add_comm _ y.val, Nat.add_comm _ z.val]
  rfl

/-- Layer 1's nine taps are the convolution. -/
theorem sum1 (b : Fin 256) (o : Fin 128) (y z : Fin 32) : (res_main_v56 V0 : FVec Ideal S256x128x32x32 .f32) (ix4 b o y z) = ConvSpec.conv (taps (args V0).w1) (feat0 (args V0) b) o y.val z.val := by
  refine (nine1 V0 _ _ rfl rfl b o y z).trans (sums_congr fun t c => ?_)
  exact congrArg (fun v : EReal => taps (args V0).w1 o c t * v) (act0 V0 b c _ _)

/-- Layer 1's bias, cut, maximum and padding, of any convolution. -/
theorem cut1 (S : FVec Ideal S256x128x32x32 .f32) (B : FVec Ideal S128 .f32) (hS : res_main_v56 V0 = S) (hB : V0 (Proc.devRef .tc main_arg2) = B)
    (b : Fin 256) (o : Fin 128) (y z : Fin 18) : (res_main_v64 V0 : FVec Ideal S256x128x18x18 .f32) (ix4 b o y z) =
      tap (n := 16) (fun (o : Fin 128) => pool2 (n := 16) (fun p q => max (S (ix4 b o p q) + B (ix1 o)) 0)) o y.val z.val := by
  unfold res_main_v64
  rw [hS, hB]
  unfold tap pool2
  pointwise
  simp only [bot_word, zero_word]
  split_ifs <;> first
    | omega
    | rfl
    | (refine (fold35 _ _ _ _ _ _).trans ?_
       simp only [Nat.mul_comm _ 2]
       rfl)

/-- Layer 1's output, padded. -/
theorem act1 (b : Fin 256) (o : Fin 128) (y z : Fin 18) : (res_main_v64 V0 : FVec Ideal S256x128x18x18 .f32) (ix4 b o y z) = tap (feat1 (args V0) b) o y.val z.val := by
  rw [cut1 V0 _ _ rfl rfl]
  unfold tap feat1 layer
  refine dite_congr rfl (fun h => ?_) (fun _ => rfl)
  refine congrArg (fun f : Fin (2 * 16) → Fin (2 * 16) → EReal => pool2 f _ _) (funext fun p => funext fun q => ?_)
  rw [sum1]
  rfl

/-- Layer 2's nine taps, of any padded input. -/
theorem nine2 (X : FVec Ideal S256x128x18x18 .f32) (W : FVec Ideal S164x128x3x3 .f32) (hX : res_main_v64 V0 = X) (hW : V0 (Proc.devRef .tc main_arg3) = W)
    (b : Fin 256) (o : Fin 164) (y z : Fin 16) : (res_main_v119 V0 : FVec Ideal S256x164x16x16 .f32) (ix4 b o y z) = (∑ t : Fin 9, ∑ c : Fin 128, (taps W o c t * X (ix4 b c ⟨y.val + t.val / 3, by omega⟩ ⟨z.val + t.val % 3, by omega⟩) : EReal) : EReal) := by
  unfold res_main_v119
  rw [hX, hW, sum9]
  pointwise
  simp only [Nat.add_comm _ y.val, Nat.add_comm _ z.val]
  rfl

/-- Layer 2's nine taps are the convolution. -/
theorem sum2 (b : Fin 256) (o : Fin 164) (y z : Fin 16) : (res_main_v119 V0 : FVec Ideal S256x164x16x16 .f32) (ix4 b o y z) = ConvSpec.conv (taps (args V0).w2) (feat1 (args V0) b) o y.val z.val := by
  refine (nine2 V0 _ _ rfl rfl b o y z).trans (sums_congr fun t c => ?_)
  exact congrArg (fun v : EReal => taps (args V0).w2 o c t * v) (act1 V0 b c _ _)

/-- Layer 2's bias, cut, maximum and padding, of any convolution. -/
theorem cut2 (S : FVec Ideal S256x164x16x16 .f32) (B : FVec Ideal S164 .f32) (hS : res_main_v119 V0 = S) (hB : V0 (Proc.devRef .tc main_arg4) = B)
    (b : Fin 256) (o : Fin 164) (y z : Fin 10) : (res_main_v127 V0 : FVec Ideal S256x164x10x10 .f32) (ix4 b o y z) =
      tap (n := 8) (fun (o : Fin 164) => pool2 (n := 8) (fun p q => max (S (ix4 b o p q) + B (ix1 o)) 0)) o y.val z.val := by
  unfold res_main_v127
  rw [hS, hB]
  unfold tap pool2
  pointwise
  simp only [bot_word, zero_word]
  split_ifs <;> first
    | omega
    | rfl
    | (refine (fold35 _ _ _ _ _ _).trans ?_
       simp only [Nat.mul_comm _ 2]
       rfl)

/-- Layer 2's output, padded. -/
theorem act2 (b : Fin 256) (o : Fin 164) (y z : Fin 10) : (res_main_v127 V0 : FVec Ideal S256x164x10x10 .f32) (ix4 b o y z) = tap (feat2 (args V0) b) o y.val z.val := by
  rw [cut2 V0 _ _ rfl rfl]
  unfold tap feat2 layer
  refine dite_congr rfl (fun h => ?_) (fun _ => rfl)
  refine congrArg (fun f : Fin (2 * 8) → Fin (2 * 8) → EReal => pool2 f _ _) (funext fun p => funext fun q => ?_)
  rw [sum2]
  rfl

/-- Layer 3's nine taps, of any padded input. -/
theorem nine3 (X : FVec Ideal S256x164x10x10 .f32) (W : FVec Ideal S192x164x3x3 .f32) (hX : res_main_v127 V0 = X) (hW : V0 (Proc.devRef .tc main_arg5) = W)
    (b : Fin 256) (o : Fin 192) (y z : Fin 8) : (res_main_v182 V0 : FVec Ideal S256x192x8x8 .f32) (ix4 b o y z) = (∑ t : Fin 9, ∑ c : Fin 164, (taps W o c t * X (ix4 b c ⟨y.val + t.val / 3, by omega⟩ ⟨z.val + t.val % 3, by omega⟩) : EReal) : EReal) := by
  unfold res_main_v182
  rw [hX, hW, sum9]
  pointwise
  simp only [Nat.add_comm _ y.val, Nat.add_comm _ z.val]
  rfl

/-- Layer 3's nine taps are the convolution. -/
theorem sum3 (b : Fin 256) (o : Fin 192) (y z : Fin 8) : (res_main_v182 V0 : FVec Ideal S256x192x8x8 .f32) (ix4 b o y z) = ConvSpec.conv (taps (args V0).w3) (feat2 (args V0) b) o y.val z.val := by
  refine (nine3 V0 _ _ rfl rfl b o y z).trans (sums_congr fun t c => ?_)
  exact congrArg (fun v : EReal => taps (args V0).w3 o c t * v) (act2 V0 b c _ _)

/-- Layer 3's bias, cut, maximum and padding, of any convolution. -/
theorem cut3 (S : FVec Ideal S256x192x8x8 .f32) (B : FVec Ideal S192 .f32) (hS : res_main_v182 V0 = S) (hB : V0 (Proc.devRef .tc main_arg6) = B)
    (b : Fin 256) (o : Fin 192) (y z : Fin 6) : (res_main_v190 V0 : FVec Ideal S256x192x6x6 .f32) (ix4 b o y z) =
      tap (n := 4) (fun (o : Fin 192) => pool2 (n := 4) (fun p q => max (S (ix4 b o p q) + B (ix1 o)) 0)) o y.val z.val := by
  unfold res_main_v190
  rw [hS, hB]
  unfold tap pool2
  pointwise
  simp only [bot_word, zero_word]
  split_ifs <;> first
    | omega
    | rfl
    | (refine (fold35 _ _ _ _ _ _).trans ?_
       simp only [Nat.mul_comm _ 2]
       rfl)

/-- Layer 3's output, padded. -/
theorem act3 (b : Fin 256) (o : Fin 192) (y z : Fin 6) : (res_main_v190 V0 : FVec Ideal S256x192x6x6 .f32) (ix4 b o y z) = tap (feat3 (args V0) b) o y.val z.val := by
  rw [cut3 V0 _ _ rfl rfl]
  unfold tap feat3 layer
  refine dite_congr rfl (fun h => ?_) (fun _ => rfl)
  refine congrArg (fun f : Fin (2 * 4) → Fin (2 * 4) → EReal => pool2 f _ _) (funext fun p => funext fun q => ?_)
  rw [sum3]
  rfl

/-- Layer 4's nine taps, of any padded input. -/
theorem nine4 (X : FVec Ideal S256x192x6x6 .f32) (W : FVec Ideal S192x192x3x3 .f32) (hX : res_main_v190 V0 = X) (hW : V0 (Proc.devRef .tc main_arg7) = W)
    (b : Fin 256) (o : Fin 192) (y z : Fin 4) : (res_main_v245 V0 : FVec Ideal S256x192x4x4 .f32) (ix4 b o y z) = (∑ t : Fin 9, ∑ c : Fin 192, (taps W o c t * X (ix4 b c ⟨y.val + t.val / 3, by omega⟩ ⟨z.val + t.val % 3, by omega⟩) : EReal) : EReal) := by
  unfold res_main_v245
  rw [hX, hW, sum9]
  pointwise
  simp only [Nat.add_comm _ y.val, Nat.add_comm _ z.val]
  rfl

/-- Layer 4's nine taps are the convolution. -/
theorem sum4 (b : Fin 256) (o : Fin 192) (y z : Fin 4) : (res_main_v245 V0 : FVec Ideal S256x192x4x4 .f32) (ix4 b o y z) = ConvSpec.conv (taps (args V0).w4) (feat3 (args V0) b) o y.val z.val := by
  refine (nine4 V0 _ _ rfl rfl b o y z).trans (sums_congr fun t c => ?_)
  exact congrArg (fun v : EReal => taps (args V0).w4 o c t * v) (act3 V0 b c _ _)

/-- Layer 4's bias, cut, maximum and padding, of any convolution. -/
theorem cut4 (S : FVec Ideal S256x192x4x4 .f32) (B : FVec Ideal S192 .f32) (hS : res_main_v245 V0 = S) (hB : V0 (Proc.devRef .tc main_arg8) = B)
    (b : Fin 256) (o : Fin 192) (y z : Fin 4) : (res_main_v253 V0 : FVec Ideal S256x192x4x4 .f32) (ix4 b o y z) =
      tap (n := 2) (fun (o : Fin 192) => pool2 (n := 2) (fun p q => max (S (ix4 b o p q) + B (ix1 o)) 0)) o y.val z.val := by
  unfold res_main_v253
  rw [hS, hB]
  unfold tap pool2
  pointwise
  simp only [bot_word, zero_word]
  split_ifs <;> first
    | omega
    | rfl
    | (refine (fold35 _ _ _ _ _ _).trans ?_
       simp only [Nat.mul_comm _ 2]
       rfl)

/-- Layer 4's output, padded. -/
theorem act4 (b : Fin 256) (o : Fin 192) (y z : Fin 4) : (res_main_v253 V0 : FVec Ideal S256x192x4x4 .f32) (ix4 b o y z) = tap (feat4 (args V0) b) o y.val z.val := by
  rw [cut4 V0 _ _ rfl rfl]
  unfold tap feat4 layer
  refine dite_congr rfl (fun h => ?_) (fun _ => rfl)
  refine congrArg (fun f : Fin (2 * 2) → Fin (2 * 2) → EReal => pool2 f _ _) (funext fun p => funext fun q => ?_)
  rw [sum4]
  rfl

/-- Layer 5's nine taps, of any padded input. -/
theorem nine5 (X : FVec Ideal S256x192x4x4 .f32) (W : FVec Ideal S128x192x3x3 .f32) (hX : res_main_v253 V0 = X) (hW : V0 (Proc.devRef .tc main_arg9) = W)
    (b : Fin 256) (o : Fin 128) (y z : Fin 2) : (res_main_v308 V0 : FVec Ideal S256x128x2x2 .f32) (ix4 b o y z) = (∑ t : Fin 9, ∑ c : Fin 192, (taps W o c t * X (ix4 b c ⟨y.val + t.val / 3, by omega⟩ ⟨z.val + t.val % 3, by omega⟩) : EReal) : EReal) := by
  unfold res_main_v308
  rw [hX, hW, sum9]
  pointwise
  simp only [Nat.add_comm _ y.val, Nat.add_comm _ z.val]
  rfl

/-- Layer 5's nine taps are the convolution. -/
theorem sum5 (b : Fin 256) (o : Fin 128) (y z : Fin 2) : (res_main_v308 V0 : FVec Ideal S256x128x2x2 .f32) (ix4 b o y z) = ConvSpec.conv (taps (args V0).w5) (feat4 (args V0) b) o y.val z.val := by
  refine (nine5 V0 _ _ rfl rfl b o y z).trans (sums_congr fun t c => ?_)
  exact congrArg (fun v : EReal => taps (args V0).w5 o c t * v) (act4 V0 b c _ _)

/-- The logits, of any last convolution. -/
theorem tail (S : FVec Ideal S256x128x2x2 .f32) (B DB : FVec Ideal S128 .f32) (DW : FVec Ideal S128x128 .f32) (OW : FVec Ideal S5x128 .f32) (OB : FVec Ideal S5 .f32) (hS : res_main_v308 V0 = S) (hB : V0 (Proc.devRef .tc main_arg10) = B)
    (hDW : V0 (Proc.devRef .tc main_arg11) = DW) (hDB : V0 (Proc.devRef .tc main_arg12) = DB) (hOW : V0 (Proc.devRef .tc main_arg13) = OW) (hOB : V0 (Proc.devRef .tc main_arg14) = OB)
    (b : Fin 256) (o : Fin 5) : (res_main_v328 V0 : FVec Ideal S256x5 .f32) (ix2 b o) =
      dense OW OB (fun k => max (dense DW DB (fun k => pool2 (n := 1) (fun p q => max (S (ix4 b k p q) + B (ix1 k)) 0) 0 0) k) 0) o := by
  unfold res_main_v328
  rw [hS, hB, hDW, hDB, hOW, hOB]
  unfold dense pool2
  pointwise
  simp only [fold35, bot_word, zero_word]
  rfl

/-- The logits are the specification's. -/
theorem logits (b : Fin 256) (o : Fin 5) : (res_main_v328 V0 : FVec Ideal S256x5 .f32) (ix2 b o) = logit (args V0) b o := by
  rw [tail V0 _ _ _ _ _ _ rfl rfl rfl rfl rfl rfl]
  unfold logit hid feat5 layer
  refine congrArg (fun f : Fin 128 → EReal => dense (args V0).ow (args V0).ob f o) (funext fun k => ?_)
  refine congrArg (fun f : Fin 128 → EReal => max (dense (args V0).dw (args V0).db f k) 0) (funext fun k => ?_)
  refine congrArg (fun f : Fin (2 * 1) → Fin (2 * 1) → EReal => pool2 f 0 0) (funext fun p => funext fun q => ?_)
  rw [sum5]
  rfl

/-- The result, of any logits. -/
theorem soft (S : FVec Ideal S256x5 .f32) (hS : res_main_v328 V0 = S)
    (b : Fin 256) (o : Fin 5) : (val7 V0 (Proc.devRef .tc main_v339) : FVec Ideal S256x5 .f32) (ix2 b o)
      = (S (ix2 b o) - (Ideal.log (∑ k : Fin 5, Ideal.exp (S (ix2 b k) - Finset.univ.fold max ⊥ (fun k : Fin 5 => S (ix2 b k)))) + Finset.univ.fold max ⊥ (fun k : Fin 5 => S (ix2 b k))) : EReal) := by
  rw [val7_main_v339]
  unfold res_main_v330
  rw [hS]
  pointwise
  simp only [bot_word]
  refine congrArg (fun v : EReal => (S (ix2 b o) - (Ideal.log (∑ k : Fin 5, Ideal.exp (S (ix2 b k) - v)) + v) : EReal)) ?_
  exact Shape.ReducesTo.fold_fiber_r2_a1 Gen.reducesTo_S256x5_S256_d1 (ix1 b) max ⊥ S

/-- The reference's result is the specification's, whatever the arguments. -/
theorem result (b : Fin 256) (o : Fin 5) : (val7 V0 (Proc.devRef .tc main_v339) : FVec Ideal S256x5 .f32) (ix2 b o) = logProb (args V0) b o := by
  rw [soft V0 _ rfl]
  simp only [logits]
  rfl

end Cert.ConvRefIdeal.Layers
-- ==== Proof.ConvRefFinal.lean ====
module

public import proofs.«01_k».proof.Proof.ConvRefLayers

@[expose] public section

set_option maxRecDepth 16384

noncomputable section

open Idealize.ShloMosaic Idealize.ShloMosaic.TcCoe Idealize.SL.Sem Idealize.ShloMosaic.Tactic Cert.ConvSpec

namespace Cert.ConvRefIdeal.Out

open Cert.ConvRefIdeal Cert.ConvRefIdeal.Value Cert.ConvRefIdeal.Layers

/-- All the log-probabilities. -/
def LP (P : Args) : FVec Ideal S256x5 .f32 := fun y => logProb P (y 0) (y 1)

/-- The reference's result, whole. -/
theorem whole (V0 : Valuation τ sig (Elt Ideal)) : (val7 V0 (Proc.devRef .tc main_v339) : FVec Ideal S256x5 .f32) = LP (args V0) := by
  have e := Layers.result V0
  generalize (val7 V0 (Proc.devRef .tc main_v339) : FVec Ideal S256x5 .f32) = A at e ⊢
  funext y
  refine Eq.trans ?_ (e (y 0) (y 1))
  idx_vars y

/-- The reference ends with the specification's log-probabilities, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v339) = LP (args (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans ((val7_main_v339 (StableHlo.launchContents m c)).symm.trans (whole (StableHlo.launchContents m c))), (h c).2⟩) (Value.run m ρ)

end Cert.ConvRefIdeal.Out
-- ==== Proof.DotsSpec.lean ====
module

public import Idealize.ShloMosaic.Lib.Pointwise
public import Idealize.ShloMosaic.Lib.KernelVsHost

@[expose] public section

noncomputable section

open Idealize.ShloMosaic

namespace Cert.DotsSpec

/-- The inner products of every hidden state of one sequence with every one of the other, pair by pair. -/
def dots (A C : FVec Ideal ⟨3, ![256, 32, 250]⟩ .f32) : FVec Ideal ⟨3, ![256, 32, 32]⟩ .f32 :=
  fun y => (∑ k : Fin 250, A (ix3 (y 0) (y 1) k) * C (ix3 (y 0) (y 2) k) : EReal)

/-- The inner products of the hidden states of two sequences at one position. -/
def rows (A C : FVec Ideal ⟨3, ![256, 32, 250]⟩ .f32) : FVec Ideal ⟨2, ![256, 32]⟩ .f32 :=
  fun y => (∑ k : Fin 250, A (ix3 (y 0) (y 1) k) * C (ix3 (y 0) (y 1) k) : EReal)

end Cert.DotsSpec
-- ==== Proof.DotsRef.lean ====
module

public import proofs.«01_k».proof.Proof.DotsSpec
public import proofs.«01_k».proof.Proof.Gen.DotsRefIdeal.Run
public import Idealize.ShloMosaic.Lib.Pointwise

@[expose] public section

set_option maxRecDepth 16384

noncomputable section

open Idealize.ShloMosaic Idealize.ShloMosaic.TcCoe Idealize.SL.Sem Idealize.ShloMosaic.Tactic Cert.DotsSpec

namespace Cert.DotsRefIdeal.Out

open Cert.DotsRefIdeal Cert.DotsRefIdeal.Gen

/-- The reference's batched product. -/
theorem dots_eq (A C : FVec Ideal S256x32x250 .f32) :
    (Host.dotGeneral dot_S256x32x250_S256x32x250_S256x32x32_2_2_1_1_0_0 none A C : FVec Ideal S256x32x32 .f32) = dots A C := by
  funext y
  idx_vars y
  unfold dots
  pointwise

/-- The reference's sum of products along the hidden units. -/
theorem rows_eq (A C : FVec Ideal S256x32x250 .f32) :
    (Host.reduceAdd (mulf A C) (constant S_ .f32 0x00000000#32) reducesTo_S256x32x250_S256x32_d2 h_S_ : FVec Ideal S256x32 .f32) = rows A C := by
  funext y
  idx_vars y
  unfold rows
  pointwise

/-- The reference ends with the ten arrays of inner products, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = dots (m ((c.tc : Thread nD τ).loc main_arg0)) (m ((c.tc : Thread nD τ).loc main_arg2))
      ∧ r.2.mem ((c.tc : Thread nD τ).loc main_v1) = dots (m ((c.tc : Thread nD τ).loc main_arg0)) (m ((c.tc : Thread nD τ).loc main_arg3))
      ∧ r.2.mem ((c.tc : Thread nD τ).loc main_v2) = dots (m ((c.tc : Thread nD τ).loc main_arg1)) (m ((c.tc : Thread nD τ).loc main_arg2))
      ∧ r.2.mem ((c.tc : Thread nD τ).loc main_v3) = dots (m ((c.tc : Thread nD τ).loc main_arg1)) (m ((c.tc : Thread nD τ).loc main_arg3))
      ∧ r.2.mem ((c.tc : Thread nD τ).loc main_v5) = rows (m ((c.tc : Thread nD τ).loc main_arg0)) (m ((c.tc : Thread nD τ).loc main_arg0))
      ∧ r.2.mem ((c.tc : Thread nD τ).loc main_v7) = rows (m ((c.tc : Thread nD τ).loc main_arg1)) (m ((c.tc : Thread nD τ).loc main_arg1))
      ∧ r.2.mem ((c.tc : Thread nD τ).loc main_v9) = rows (m ((c.tc : Thread nD τ).loc main_arg2)) (m ((c.tc : Thread nD τ).loc main_arg2))
      ∧ r.2.mem ((c.tc : Thread nD τ).loc main_v11) = rows (m ((c.tc : Thread nD τ).loc main_arg3)) (m ((c.tc : Thread nD τ).loc main_arg3))
      ∧ r.2.mem ((c.tc : Thread nD τ).loc main_v13) = rows (m ((c.tc : Thread nD τ).loc main_arg0)) (m ((c.tc : Thread nD τ).loc main_arg1))
      ∧ r.2.mem ((c.tc : Thread nD τ).loc main_v15) = rows (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4, h5, h6, h7, h8, h9, hk⟩ := h c
    exact ⟨h0.trans (dots_eq _ _), h1.trans (dots_eq _ _), h2.trans (dots_eq _ _), h3.trans (dots_eq _ _), h4.trans (rows_eq _ _), h5.trans (rows_eq _ _), h6.trans (rows_eq _ _), h7.trans (rows_eq _ _), h8.trans (rows_eq _ _), h9.trans (rows_eq _ _), hk⟩) (Value.run m ρ)

end Cert.DotsRefIdeal.Out
-- ==== Proof.DotsBlocks.lean ====
module

public import proofs.«01_k».proof.Proof.DotsSpec
public import proofs.«01_k».proof.Proof.Gen.DotsIdeal.Value
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem Idealize.ShloMosaic.Tactic Cert.DotsSpec
open Idealize.ShloMosaic.Pipeline (Dat)

namespace Cert.DotsIdeal.Out

open Cert.DotsIdeal Cert.DotsIdeal.Gen

/-- Two blocks of hidden states, one under the other, as rows of one matrix. -/
def stack (A C : FVec Ideal S8x32x250 .f32) : FVec Ideal S512x250 .f32 :=
  shapeCast S512x250 (concatenate S16x32x250 0 [⟨S8x32x250, A⟩, ⟨S8x32x250, C⟩] concatenates_S8x32x250_S8x32x250_S16x32x250_d0) shapeCasts_S16x32x250_S512x250

/-- The matrix's upper half is the first block. -/
theorem stack_lo (A C : FVec Ideal S8x32x250 .f32) (g : Fin 8) (i : Fin 32) (k : Fin 250) (h : g.val * 32 + i.val < 512) :
    stack A C (ix2 ⟨g.val * 32 + i.val, h⟩ k) = A (ix3 g i k) := by
  unfold stack
  pointwise
  rw [dif_pos (by omega)]
  exact congrArg A (congrArg (fun b : Fin 8 => ix3 b i k) (Fin.ext (by show (g.val * 32 + i.val) / 32 = g.val; omega)))

/-- The matrix's lower half is the second block. -/
theorem stack_hi (A C : FVec Ideal S8x32x250 .f32) (g : Fin 8) (i : Fin 32) (k : Fin 250) (h : g.val * 32 + i.val + 256 < 512) :
    stack A C (ix2 ⟨g.val * 32 + i.val + 256, h⟩ k) = C (ix3 g i k) := by
  unfold stack
  pointwise
  rw [dif_neg (by omega)]
  exact congrArg C (congrArg (fun b : Fin 8 => ix3 b i k) (Fin.ext (by show (g.val * 32 + i.val + 256) / 32 - 8 = g.val; omega)))

/-- The block's one product at an entry. -/
theorem prod_at (P0 P1 P2 P3 : FVec Ideal S8x32x250 .f32) (i j : Fin 512) :
    (k0_pay4 (F := Ideal) P0 P1 P2 P3 (ix2 i j) : EReal) = (∑ k : Fin 250, stack P0 P1 (ix2 i k) * stack P2 P3 (ix2 j k) : EReal) := by
  show (matmul dot_S512x250_S512x250_S512x512_1_1_0_0_n_n none (stack P0 P1) (stack P2 P3) (constant (F := Ideal) S512x512 .f32 0x00000000#32) : FVec Ideal S512x512 .f32) (ix2 i j) = _
  pointwise

/-- The inner products of two blocks, pair by pair. -/
def dotsBlk (A C : FVec Ideal S8x32x250 .f32) : FVec Ideal S8x32x32 .f32 :=
  fun y => (∑ k : Fin 250, A (ix3 (y 0) (y 1) k) * C (ix3 (y 0) (y 2) k) : EReal)

/-- The inner products of two blocks at one position. -/
def rowsBlk (A C : FVec Ideal S8x32x250 .f32) : FVec Ideal S8x32 .f32 :=
  fun y => (∑ k : Fin 250, A (ix3 (y 0) (y 1) k) * C (ix3 (y 0) (y 1) k) : EReal)

/-- The sums of products along the hidden units. -/
theorem sum_eq (A C : FVec Ideal S8x32x250 .f32) : k0_pay2 (F := Ideal) A C = rowsBlk A C := by
  funext y
  idx_vars y
  unfold k0_pay2 rowsBlk
  pointwise

/-- One quarter of the product, the blocks of one sequence on its diagonal. -/
theorem blk_lo_lo (x0 x1 x2 x3 : FVec Ideal S8x32x250 .f32) (y : S8x32x32.Idx) : Value.E4 (F := Ideal) x0 x1 x2 x3 y = dotsBlk x0 x2 y := by
  idx_vars y
  refine (prod_at x0 x1 x2 x3 _ _).trans (Finset.sum_congr rfl fun k _ => ?_)
  exact congrArg₂ (fun u v : EReal => u * v) (stack_lo x0 x1 _ _ k _) (stack_lo x2 x3 _ _ k _)

/-- One quarter of the product, the blocks of one sequence on its diagonal. -/
theorem blk_lo_hi (x0 x1 x2 x3 : FVec Ideal S8x32x250 .f32) (y : S8x32x32.Idx) : Value.E5 (F := Ideal) x0 x1 x2 x3 y = dotsBlk x0 x3 y := by
  idx_vars y
  refine (prod_at x0 x1 x2 x3 _ _).trans (Finset.sum_congr rfl fun k _ => ?_)
  exact congrArg₂ (fun u v : EReal => u * v) (stack_lo x0 x1 _ _ k _) (stack_hi x2 x3 _ _ k _)

/-- One quarter of the product, the blocks of one sequence on its diagonal. -/
theorem blk_hi_lo (x0 x1 x2 x3 : FVec Ideal S8x32x250 .f32) (y : S8x32x32.Idx) : Value.E6 (F := Ideal) x0 x1 x2 x3 y = dotsBlk x1 x2 y := by
  idx_vars y
  refine (prod_at x0 x1 x2 x3 _ _).trans (Finset.sum_congr rfl fun k _ => ?_)
  exact congrArg₂ (fun u v : EReal => u * v) (stack_hi x0 x1 _ _ k _) (stack_lo x2 x3 _ _ k _)

/-- One quarter of the product, the blocks of one sequence on its diagonal. -/
theorem blk_hi_hi (x0 x1 x2 x3 : FVec Ideal S8x32x250 .f32) (y : S8x32x32.Idx) : Value.E7 (F := Ideal) x0 x1 x2 x3 y = dotsBlk x1 x3 y := by
  idx_vars y
  refine (prod_at x0 x1 x2 x3 _ _).trans (Finset.sum_congr rfl fun k _ => ?_)
  exact congrArg₂ (fun u v : EReal => u * v) (stack_hi x0 x1 _ _ k _) (stack_hi x2 x3 _ _ k _)

/-- What one grid point leaves in output window 4's block. -/
theorem out4_eq (x0 x1 x2 x3 : FVec Ideal S8x32x250 .f32) : out0_4 (F := Ideal) x0 x1 x2 x3 = dotsBlk x0 x2 := by
  funext y
  refine Eq.trans (by unfold out0_4 k0_pay42; exact Value.canon4_eq _ _ _ _ y) ((blk_lo_lo _ _ _ _ y).trans ?_)
  simp (disch := decide) only [View.ld_unit_lit']

/-- What one grid point leaves in output window 5's block. -/
theorem out5_eq (x0 x1 x2 x3 : FVec Ideal S8x32x250 .f32) : out0_5 (F := Ideal) x0 x1 x2 x3 = dotsBlk x0 x3 := by
  funext y
  refine Eq.trans (by unfold out0_5 k0_pay42; exact Value.canon5_eq _ _ _ _ y) ((blk_lo_hi _ _ _ _ y).trans ?_)
  simp (disch := decide) only [View.ld_unit_lit']

/-- What one grid point leaves in output window 6's block. -/
theorem out6_eq (x0 x1 x2 x3 : FVec Ideal S8x32x250 .f32) : out0_6 (F := Ideal) x0 x1 x2 x3 = dotsBlk x1 x2 := by
  funext y
  refine Eq.trans (by unfold out0_6 k0_pay42; exact Value.canon6_eq _ _ _ _ y) ((blk_hi_lo _ _ _ _ y).trans ?_)
  simp (disch := decide) only [View.ld_unit_lit']

/-- What one grid point leaves in output window 7's block. -/
theorem out7_eq (x0 x1 x2 x3 : FVec Ideal S8x32x250 .f32) : out0_7 (F := Ideal) x0 x1 x2 x3 = dotsBlk x1 x3 := by
  funext y
  refine Eq.trans (by unfold out0_7 k0_pay42; exact Value.canon7_eq _ _ _ _ y) ((blk_hi_hi _ _ _ _ y).trans ?_)
  simp (disch := decide) only [View.ld_unit_lit']

/-- What one grid point leaves in output window 8's block. -/
theorem out8_eq (x0 x1 x2 x3 : FVec Ideal S8x32x250 .f32) : out0_8 (F := Ideal) x0 x1 x2 x3 = rowsBlk x0 x0 := by
  unfold out0_8
  rw [View.canon_unit_zero (S := S8x32) (View.eq_zero_of_forall (by decide))]
  simp (disch := decide) only [View.ld_unit_lit']
  exact sum_eq x0 x0

/-- What one grid point leaves in output window 9's block. -/
theorem out9_eq (x0 x1 x2 x3 : FVec Ideal S8x32x250 .f32) : out0_9 (F := Ideal) x0 x1 x2 x3 = rowsBlk x1 x1 := by
  unfold out0_9
  rw [View.canon_unit_zero (S := S8x32) (View.eq_zero_of_forall (by decide))]
  simp (disch := decide) only [View.ld_unit_lit']
  exact sum_eq x1 x1

/-- What one grid point leaves in output window 10's block. -/
theorem out10_eq (x0 x1 x2 x3 : FVec Ideal S8x32x250 .f32) : out0_10 (F := Ideal) x0 x1 x2 x3 = rowsBlk x2 x2 := by
  unfold out0_10
  rw [View.canon_unit_zero (S := S8x32) (View.eq_zero_of_forall (by decide))]
  simp (disch := decide) only [View.ld_unit_lit']
  exact sum_eq x2 x2

/-- What one grid point leaves in output window 11's block. -/
theorem out11_eq (x0 x1 x2 x3 : FVec Ideal S8x32x250 .f32) : out0_11 (F := Ideal) x0 x1 x2 x3 = rowsBlk x3 x3 := by
  unfold out0_11
  rw [View.canon_unit_zero (S := S8x32) (View.eq_zero_of_forall (by decide))]
  simp (disch := decide) only [View.ld_unit_lit']
  exact sum_eq x3 x3

/-- What one grid point leaves in output window 12's block. -/
theorem out12_eq (x0 x1 x2 x3 : FVec Ideal S8x32x250 .f32) : out0_12 (F := Ideal) x0 x1 x2 x3 = rowsBlk x0 x1 := by
  unfold out0_12
  rw [View.canon_unit_zero (S := S8x32) (View.eq_zero_of_forall (by decide))]
  simp (disch := decide) only [View.ld_unit_lit']
  exact sum_eq x0 x1

/-- What one grid point leaves in output window 13's block. -/
theorem out13_eq (x0 x1 x2 x3 : FVec Ideal S8x32x250 .f32) : out0_13 (F := Ideal) x0 x1 x2 x3 = rowsBlk x2 x3 := by
  unfold out0_13
  rw [View.canon_unit_zero (S := S8x32) (View.eq_zero_of_forall (by decide))]
  simp (disch := decide) only [View.ld_unit_lit']
  exact sum_eq x2 x3

variable (m : (ℓ : Loc nD τ sig) → Buf (Elt Ideal) ℓ) (ρ : Dev nD → PrngReg)

/-- Eight sequences of an array of hidden states. -/
def tile (X : FVec Ideal S256x32x250 .f32) (q : ℕ) : FVec Ideal S8x32x250 .f32 :=
  fun j => X (ix3 (⟨(8 * q + (j 0).val) % 256, Nat.mod_lt _ (by decide)⟩ : Fin 256) (j 1) (j 2))

/-- An entry of eight sequences, in the whole array. -/
theorem tile_at (X : FVec Ideal S256x32x250 .f32) (q : ℕ) (g : Fin 8) (b : Fin 256) (a a' : Fin 32) (k : Fin 250) (h0 : b.val = q * 8 + g.val) (h1 : a'.val = a.val) :
    tile X q (ix3 g a k) = X (ix3 b a' k) := by
  obtain rfl : a' = a := Fin.ext h1
  exact congrArg X (congrArg (fun b : Fin 256 => ix3 b a' k) (Fin.ext (by show (8 * q + g.val) % 256 = b.val; omega)))

/-- Inner products, pair by pair, eight sequences at a time. -/
theorem dots_cut (X Y : FVec Ideal S256x32x250 .f32) (i : S256x32x32.Idx) (y : S8x32x32.Idx) (q : ℕ)
    (h0 : (i 0).val = q * 8 + (y 0).val) (h1 : (i 1).val = (y 1).val) (h2 : (i 2).val = (y 2).val) : dotsBlk (tile X q) (tile Y q) y = dots X Y i :=
  Finset.sum_congr rfl fun k _ => congrArg₂ (fun u v : EReal => u * v) (tile_at X q (y 0) (i 0) (y 1) (i 1) k h0 h1) (tile_at Y q (y 0) (i 0) (y 2) (i 2) k h0 h2)

/-- Inner products at one position, eight sequences at a time. -/
theorem rows_cut (X Y : FVec Ideal S256x32x250 .f32) (i : S256x32.Idx) (y : S8x32.Idx) (q : ℕ)
    (h0 : (i 0).val = q * 8 + (y 0).val) (h1 : (i 1).val = (y 1).val) : rowsBlk (tile X q) (tile Y q) y = rows X Y i :=
  Finset.sum_congr rfl fun k _ => congrArg₂ (fun u v : EReal => u * v) (tile_at X q (y 0) (i 0) (y 1) (i 1) k h0 h1) (tile_at Y q (y 0) (i 0) (y 1) (i 1) k h0 h1)

/-- Which block of its array each window takes at a grid point. -/
theorem idx : ∀ t : Fin cfg0.N, win0_0.index t = ![t.val, 0, 0] ∧ win0_1.index t = ![t.val, 0, 0] ∧ win0_2.index t = ![t.val, 0, 0] ∧ win0_3.index t = ![t.val, 0, 0] ∧ t.val < 32 :=
  (by decide +kernel : ∀ t : Fin grid0.N, _)

/-- The block that window 4 takes at a grid point. -/
theorem idx4 : ∀ t : Fin cfg0.N, win0_4.index t = ![t.val, 0, 0] :=
  (by decide +kernel : ∀ t : Fin grid0.N, _)

/-- The block that window 5 takes at a grid point. -/
theorem idx5 : ∀ t : Fin cfg0.N, win0_5.index t = ![t.val, 0, 0] :=
  (by decide +kernel : ∀ t : Fin grid0.N, _)

/-- The block that window 6 takes at a grid point. -/
theorem idx6 : ∀ t : Fin cfg0.N, win0_6.index t = ![t.val, 0, 0] :=
  (by decide +kernel : ∀ t : Fin grid0.N, _)

/-- The block that window 7 takes at a grid point. -/
theorem idx7 : ∀ t : Fin cfg0.N, win0_7.index t = ![t.val, 0, 0] :=
  (by decide +kernel : ∀ t : Fin grid0.N, _)

/-- The block that window 8 takes at a grid point. -/
theorem idx8 : ∀ t : Fin cfg0.N, win0_8.index t = ![t.val, 0] :=
  (by decide +kernel : ∀ t : Fin grid0.N, _)

/-- The block that window 9 takes at a grid point. -/
theorem idx9 : ∀ t : Fin cfg0.N, win0_9.index t = ![t.val, 0] :=
  (by decide +kernel : ∀ t : Fin grid0.N, _)

/-- The block that window 10 takes at a grid point. -/
theorem idx10 : ∀ t : Fin cfg0.N, win0_10.index t = ![t.val, 0] :=
  (by decide +kernel : ∀ t : Fin grid0.N, _)

/-- The block that window 11 takes at a grid point. -/
theorem idx11 : ∀ t : Fin cfg0.N, win0_11.index t = ![t.val, 0] :=
  (by decide +kernel : ∀ t : Fin grid0.N, _)

/-- The block that window 12 takes at a grid point. -/
theorem idx12 : ∀ t : Fin cfg0.N, win0_12.index t = ![t.val, 0] :=
  (by decide +kernel : ∀ t : Fin grid0.N, _)

/-- The block that window 13 takes at a grid point. -/
theorem idx13 : ∀ t : Fin cfg0.N, win0_13.index t = ![t.val, 0] :=
  (by decide +kernel : ∀ t : Fin grid0.N, _)

/-- The block that input window 0 reads at a grid point. -/
theorem blk0 (c : Dev nD) (t : Fin cfg0.N) : iblk m c 0 t = tile (m ((c : Thread nD τ).loc main_arg0)) t.val := by
  funext y
  show m ((c : Thread nD τ).loc main_arg0) (((cfg0.win 0).blk t).view.emb y) = _
  generalize m ((c : Thread nD τ).loc main_arg0) = X
  have e := idx t
  blk_ext [tile, idx t]

/-- The block that input window 1 reads at a grid point. -/
theorem blk1 (c : Dev nD) (t : Fin cfg0.N) : iblk m c 1 t = tile (m ((c : Thread nD τ).loc main_arg1)) t.val := by
  funext y
  show m ((c : Thread nD τ).loc main_arg1) (((cfg0.win 1).blk t).view.emb y) = _
  generalize m ((c : Thread nD τ).loc main_arg1) = X
  have e := idx t
  blk_ext [tile, idx t]

/-- The block that input window 2 reads at a grid point. -/
theorem blk2 (c : Dev nD) (t : Fin cfg0.N) : iblk m c 2 t = tile (m ((c : Thread nD τ).loc main_arg2)) t.val := by
  funext y
  show m ((c : Thread nD τ).loc main_arg2) (((cfg0.win 2).blk t).view.emb y) = _
  generalize m ((c : Thread nD τ).loc main_arg2) = X
  have e := idx t
  blk_ext [tile, idx t]

/-- The block that input window 3 reads at a grid point. -/
theorem blk3 (c : Dev nD) (t : Fin cfg0.N) : iblk m c 3 t = tile (m ((c : Thread nD τ).loc main_arg3)) t.val := by
  funext y
  show m ((c : Thread nD τ).loc main_arg3) (((cfg0.win 3).blk t).view.emb y) = _
  generalize m ((c : Thread nD τ).loc main_arg3) = X
  have e := idx t
  blk_ext [tile, idx t]

/-- Output window 4's array after the run. -/
theorem final4 (c : Dev nD) : (dats m 0 c).arrAt 4 cfg0.N = dots (m ((c : Thread nD τ).loc main_arg0)) (m ((c : Thread nD τ).loc main_arg2)) := by
  refine (dats m 0 c).arrAt_eq_of_covers 4 _ (by decide +kernel) fun t _ y => ?_
  blk_simp
  rw [after0_4, out4_eq, blk0, blk2]
  exact dots_cut _ _ _ y t.val (by blk_simp [idx4 t]) (by blk_simp [idx4 t]) (by blk_simp [idx4 t])

/-- Output window 5's array after the run. -/
theorem final5 (c : Dev nD) : (dats m 0 c).arrAt 5 cfg0.N = dots (m ((c : Thread nD τ).loc main_arg0)) (m ((c : Thread nD τ).loc main_arg3)) := by
  refine (dats m 0 c).arrAt_eq_of_covers 5 _ (by decide +kernel) fun t _ y => ?_
  blk_simp
  rw [after0_5, out5_eq, blk0, blk3]
  exact dots_cut _ _ _ y t.val (by blk_simp [idx5 t]) (by blk_simp [idx5 t]) (by blk_simp [idx5 t])

/-- Output window 6's array after the run. -/
theorem final6 (c : Dev nD) : (dats m 0 c).arrAt 6 cfg0.N = dots (m ((c : Thread nD τ).loc main_arg1)) (m ((c : Thread nD τ).loc main_arg2)) := by
  refine (dats m 0 c).arrAt_eq_of_covers 6 _ (by decide +kernel) fun t _ y => ?_
  blk_simp
  rw [after0_6, out6_eq, blk1, blk2]
  exact dots_cut _ _ _ y t.val (by blk_simp [idx6 t]) (by blk_simp [idx6 t]) (by blk_simp [idx6 t])

/-- Output window 7's array after the run. -/
theorem final7 (c : Dev nD) : (dats m 0 c).arrAt 7 cfg0.N = dots (m ((c : Thread nD τ).loc main_arg1)) (m ((c : Thread nD τ).loc main_arg3)) := by
  refine (dats m 0 c).arrAt_eq_of_covers 7 _ (by decide +kernel) fun t _ y => ?_
  blk_simp
  rw [after0_7, out7_eq, blk1, blk3]
  exact dots_cut _ _ _ y t.val (by blk_simp [idx7 t]) (by blk_simp [idx7 t]) (by blk_simp [idx7 t])

/-- Output window 8's array after the run. -/
theorem final8 (c : Dev nD) : (dats m 0 c).arrAt 8 cfg0.N = rows (m ((c : Thread nD τ).loc main_arg0)) (m ((c : Thread nD τ).loc main_arg0)) := by
  refine (dats m 0 c).arrAt_eq_of_covers 8 _ (by decide +kernel) fun t _ y => ?_
  blk_simp
  rw [after0_8, out8_eq, blk0]
  exact rows_cut _ _ _ y t.val (by blk_simp [idx8 t]) (by blk_simp [idx8 t])

/-- Output window 9's array after the run. -/
theorem final9 (c : Dev nD) : (dats m 0 c).arrAt 9 cfg0.N = rows (m ((c : Thread nD τ).loc main_arg1)) (m ((c : Thread nD τ).loc main_arg1)) := by
  refine (dats m 0 c).arrAt_eq_of_covers 9 _ (by decide +kernel) fun t _ y => ?_
  blk_simp
  rw [after0_9, out9_eq, blk1]
  exact rows_cut _ _ _ y t.val (by blk_simp [idx9 t]) (by blk_simp [idx9 t])

/-- Output window 10's array after the run. -/
theorem final10 (c : Dev nD) : (dats m 0 c).arrAt 10 cfg0.N = rows (m ((c : Thread nD τ).loc main_arg2)) (m ((c : Thread nD τ).loc main_arg2)) := by
  refine (dats m 0 c).arrAt_eq_of_covers 10 _ (by decide +kernel) fun t _ y => ?_
  blk_simp
  rw [after0_10, out10_eq, blk2]
  exact rows_cut _ _ _ y t.val (by blk_simp [idx10 t]) (by blk_simp [idx10 t])

/-- Output window 11's array after the run. -/
theorem final11 (c : Dev nD) : (dats m 0 c).arrAt 11 cfg0.N = rows (m ((c : Thread nD τ).loc main_arg3)) (m ((c : Thread nD τ).loc main_arg3)) := by
  refine (dats m 0 c).arrAt_eq_of_covers 11 _ (by decide +kernel) fun t _ y => ?_
  blk_simp
  rw [after0_11, out11_eq, blk3]
  exact rows_cut _ _ _ y t.val (by blk_simp [idx11 t]) (by blk_simp [idx11 t])

/-- Output window 12's array after the run. -/
theorem final12 (c : Dev nD) : (dats m 0 c).arrAt 12 cfg0.N = rows (m ((c : Thread nD τ).loc main_arg0)) (m ((c : Thread nD τ).loc main_arg1)) := by
  refine (dats m 0 c).arrAt_eq_of_covers 12 _ (by decide +kernel) fun t _ y => ?_
  blk_simp
  rw [after0_12, out12_eq, blk0, blk1]
  exact rows_cut _ _ _ y t.val (by blk_simp [idx12 t]) (by blk_simp [idx12 t])

/-- Output window 13's array after the run. -/
theorem final13 (c : Dev nD) : (dats m 0 c).arrAt 13 cfg0.N = rows (m ((c : Thread nD τ).loc main_arg2)) (m ((c : Thread nD τ).loc main_arg3)) := by
  refine (dats m 0 c).arrAt_eq_of_covers 13 _ (by decide +kernel) fun t _ y => ?_
  blk_simp
  rw [after0_13, out13_eq, blk2, blk3]
  exact rows_cut _ _ _ y t.val (by blk_simp [idx13 t]) (by blk_simp [idx13 t])

/-- The kernel ends with the ten arrays of inner products, its arguments unchanged. -/
theorem run : θ_run defs (onTc (τ := τ) (main (F := Ideal))) ⟨m, fun _ => 0, ρ⟩ fun r => ∀ c : Dev nD,
      r.2.mem ((c : Thread nD τ).loc main_v0_0) = dots (m ((c : Thread nD τ).loc main_arg0)) (m ((c : Thread nD τ).loc main_arg2))
      ∧ r.2.mem ((c : Thread nD τ).loc main_v0_1) = dots (m ((c : Thread nD τ).loc main_arg0)) (m ((c : Thread nD τ).loc main_arg3))
      ∧ r.2.mem ((c : Thread nD τ).loc main_v0_2) = dots (m ((c : Thread nD τ).loc main_arg1)) (m ((c : Thread nD τ).loc main_arg2))
      ∧ r.2.mem ((c : Thread nD τ).loc main_v0_3) = dots (m ((c : Thread nD τ).loc main_arg1)) (m ((c : Thread nD τ).loc main_arg3))
      ∧ r.2.mem ((c : Thread nD τ).loc main_v0_4) = rows (m ((c : Thread nD τ).loc main_arg0)) (m ((c : Thread nD τ).loc main_arg0))
      ∧ r.2.mem ((c : Thread nD τ).loc main_v0_5) = rows (m ((c : Thread nD τ).loc main_arg1)) (m ((c : Thread nD τ).loc main_arg1))
      ∧ r.2.mem ((c : Thread nD τ).loc main_v0_6) = rows (m ((c : Thread nD τ).loc main_arg2)) (m ((c : Thread nD τ).loc main_arg2))
      ∧ r.2.mem ((c : Thread nD τ).loc main_v0_7) = rows (m ((c : Thread nD τ).loc main_arg3)) (m ((c : Thread nD τ).loc main_arg3))
      ∧ r.2.mem ((c : Thread nD τ).loc main_v0_8) = rows (m ((c : Thread nD τ).loc main_arg0)) (m ((c : Thread nD τ).loc main_arg1))
      ∧ r.2.mem ((c : Thread nD τ).loc main_v0_9) = rows (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, h8, h9, h10, h11, h12, h13, hk⟩ := h c
    exact ⟨h4.trans (final4 m c), h5.trans (final5 m c), h6.trans (final6 m c), h7.trans (final7 m c), h8.trans (final8 m c), h9.trans (final9 m c), h10.trans (final10 m c), h11.trans (final11 m c), h12.trans (final12 m c), h13.trans (final13 m c), hk⟩) (Value.run_blocks m ρ)

end Cert.DotsIdeal.Out
-- ==== Proof.ConvLayers.lean ====
module

public import proofs.«01_k».proof.Proof.ConvSpec
public import proofs.«01_k».proof.Proof.Gen.ConvIdeal.Skeleton

@[expose] public section

set_option maxRecDepth 16384

noncomputable section

open Idealize.ShloMosaic Idealize.ShloMosaic.TcCoe Idealize.SL.Sem Idealize.ShloMosaic.Tactic Cert.ConvSpec

namespace Cert.ConvIdeal.Layers

open Cert.ConvIdeal Cert.ConvIdeal.Gen

/-- Layer 1's product: every position's nine taps, already laid out, times the weights. -/
def prod1 (x : FVec Ideal S32x32x16x108 .f32) (w : FVec Ideal S108x128 .f32) : FVec Ideal S32x32x16x128 .f32 :=
  shapeCast S32x32x16x128 (matmul dot_S16384x108_S108x128_S16384x128_1_0_0_1_n_n none
    (shapeCast S16384x108 (shapeCast S32x32x16x108 x shapeCasts_S32x32x16x108_S32x32x16x108) shapeCasts_S32x32x16x108_S16384x108)
    (shapeCast S108x128 w shapeCasts_S108x128_S108x128) (constant (F := Ideal) S16384x128 .f32 0x00000000#32)) shapeCasts_S16384x128_S32x32x16x128

theorem prod1_at (x : FVec Ideal S32x32x16x108 .f32) (w : FVec Ideal S108x128 .f32) (y z : Fin 32) (g : Fin 16) (o : Fin 128) :
    prod1 x w (ix4 y z g o) = (∑ k : Fin 108, x (ix4 y z g k) * w (ix2 k o) : EReal) := by
  unfold prod1
  pointwise

/-- Layer 1's bias, cut at zero and 2x2 maximum. -/
def mx1 (s : FVec Ideal S32x32x16x128 .f32) (b : FVec Ideal S1x128 .f32) : FVec Ideal S16x16x16x128 .f32 :=
  multiReduction .maximumf [1] S16x16x16x128 (multiReduction .maximumf [3] S16x2x16x16x128
    (shapeCast S16x2x16x2x16x128 (maximumf (addf s (broadcastTo S32x32x16x128 (shapeCast S1x1x1x128 (shapeCast S1x128 b shapeCasts_S1x128_S1x128) shapeCasts_S1x128_S1x1x1x128) broadcasts_S1x1x1x128_S32x32x16x128))
      (broadcast S32x32x16x128 (Scalar.ofBits .f32 0x00000000#32))) shapeCasts_S32x32x16x128_S16x2x16x2x16x128)
    0xFF800000#32 reduces_S16x2x16x2x16x128_S16x2x16x16x128 (.inl rfl) rfl) 0xFF800000#32 reduces_S16x2x16x16x128_S16x16x16x128 (.inl rfl) rfl

/-- Layer 1's maximum at an entry. -/
theorem mx1_at (s : FVec Ideal S32x32x16x128 .f32) (b : FVec Ideal S1x128 .f32) (y z : Fin 16) (g : Fin 16) (o : Fin 128) :
    mx1 s b (ix4 y z g o) = pool2 (n := 16) (fun p q => max (s (ix4 p q g o) + b (ix2 0 o)) 0) y z := by
  unfold mx1 pool2
  pointwise
  simp only [bot_word]
  refine (fold2 _).trans ?_
  refine congrArg₂ (max : EReal → EReal → EReal) ?_ ?_
  · refine (fold3 reduces_S16x2x16x2x16x128_S16x2x16x16x128 y 0 z g o _).trans ?_
    simp only [Nat.mul_comm _ 2]
    rfl
  · refine (fold3 reduces_S16x2x16x2x16x128_S16x2x16x16x128 y 1 z g o _).trans ?_
    simp only [Nat.mul_comm _ 2]
    rfl

/-- Layer 1's activations with the border of zeros for the next layer. -/
def act1 (s : FVec Ideal S32x32x16x128 .f32) (b : FVec Ideal S1x128 .f32) : FVec Ideal S18x18x16x128 .f32 :=
  concatenate S18x18x16x128 1 [⟨S18x1x16x128, broadcast S18x1x16x128 (Scalar.ofBits .f32 0x00000000#32)⟩, ⟨S18x16x16x128,
    concatenate S18x16x16x128 0 [⟨S1x16x16x128, broadcast S1x16x16x128 (Scalar.ofBits .f32 0x00000000#32)⟩, ⟨S16x16x16x128, mx1 s b⟩, ⟨S1x16x16x128, broadcast S1x16x16x128 (Scalar.ofBits .f32 0x00000000#32)⟩]
      concatenates_S1x16x16x128_S16x16x16x128_S1x16x16x128_S18x16x16x128_d0⟩,
    ⟨S18x1x16x128, broadcast S18x1x16x128 (Scalar.ofBits .f32 0x00000000#32)⟩] concatenates_S18x1x16x128_S18x16x16x128_S18x1x16x128_S18x18x16x128_d1

/-- Layer 1's padded activation at an entry. -/
theorem act1_at (s : FVec Ideal S32x32x16x128 .f32) (b : FVec Ideal S1x128 .f32) (y z : Fin 18) (g : Fin 16) (o : Fin 128) :
    act1 s b (ix4 y z g o) = tap (n := 16) (fun (o : Fin 128) (y z : Fin 16) => mx1 s b (ix4 y z g o)) o y.val z.val := by
  unfold act1 tap
  generalize mx1 s b = a
  pointwise
  split_ifs <;> first | omega | rfl | (rw [dif_pos (by omega)]) | (rw [dif_neg (by omega)])

/-- Layer 2's nine taps of the padded activations, side by side. -/
def cols2 (a : FVec Ideal S18x18x16x128 .f32) : FVec Ideal S16x16x16x1152 .f32 :=
  concatenate S16x16x16x1152 3 [⟨S16x16x16x128, extractStridedSlice S16x16x16x128 ![0, 0, 0, 0] a slices_S18x18x16x128_o0_0_0_0_S16x16x16x128⟩, ⟨S16x16x16x128, extractStridedSlice S16x16x16x128 ![0, 1, 0, 0] a slices_S18x18x16x128_o0_1_0_0_S16x16x16x128⟩, ⟨S16x16x16x128, extractStridedSlice S16x16x16x128 ![0, 2, 0, 0] a slices_S18x18x16x128_o0_2_0_0_S16x16x16x128⟩, ⟨S16x16x16x128, extractStridedSlice S16x16x16x128 ![1, 0, 0, 0] a slices_S18x18x16x128_o1_0_0_0_S16x16x16x128⟩, ⟨S16x16x16x128, extractStridedSlice S16x16x16x128 ![1, 1, 0, 0] a slices_S18x18x16x128_o1_1_0_0_S16x16x16x128⟩, ⟨S16x16x16x128, extractStridedSlice S16x16x16x128 ![1, 2, 0, 0] a slices_S18x18x16x128_o1_2_0_0_S16x16x16x128⟩, ⟨S16x16x16x128, extractStridedSlice S16x16x16x128 ![2, 0, 0, 0] a slices_S18x18x16x128_o2_0_0_0_S16x16x16x128⟩, ⟨S16x16x16x128, extractStridedSlice S16x16x16x128 ![2, 1, 0, 0] a slices_S18x18x16x128_o2_1_0_0_S16x16x16x128⟩, ⟨S16x16x16x128, extractStridedSlice S16x16x16x128 ![2, 2, 0, 0] a slices_S18x18x16x128_o2_2_0_0_S16x16x16x128⟩] concatenates_S16x16x16x128_S16x16x16x128_S16x16x16x128_S16x16x16x128_S16x16x16x128_S16x16x16x128_S16x16x16x128_S16x16x16x128_S16x16x16x128_S16x16x16x1152_d3

set_option maxHeartbeats 4000000 in
/-- Tap `t` of channel `c` stands at place `128 t + c`. -/
theorem cols2_at (a : FVec Ideal S18x18x16x128 .f32) (y z : Fin 16) (g : Fin 16) (t : Fin 9) (c : Fin 128) :
    cols2 a (ix4 y z g ⟨128 * t.val + c.val, by omega⟩) = a (ix4 ⟨y.val + t.val / 3, by omega⟩ ⟨z.val + t.val % 3, by omega⟩ g c) := by
  unfold cols2
  fin_cases t <;> pointwise <;> (try simp only [Nat.add_comm _ y.val, Nat.add_comm _ z.val])
  all_goals first
    | done
    | rfl
    | (simp (disch := omega) only [dif_neg, dif_pos]
       exact congrArg a (congrArg (ix4 _ _ _) (Fin.ext (by dsimp only; omega))))

/-- Layer 2's product. -/
def prod2 (a : FVec Ideal S18x18x16x128 .f32) (w : FVec Ideal S1152x256 .f32) : FVec Ideal S16x16x16x256 .f32 :=
  shapeCast S16x16x16x256 (matmul dot_S4096x1152_S1152x256_S4096x256_1_0_0_1_n_n none (shapeCast S4096x1152 (cols2 a) shapeCasts_S16x16x16x1152_S4096x1152)
    (shapeCast S1152x256 w shapeCasts_S1152x256_S1152x256) (constant (F := Ideal) S4096x256 .f32 0x00000000#32)) shapeCasts_S4096x256_S16x16x16x256

/-- Layer 2's product at an entry: nine taps, each summed over the stored channels. -/
theorem prod2_at (a : FVec Ideal S18x18x16x128 .f32) (w : FVec Ideal S1152x256 .f32) (y z : Fin 16) (g : Fin 16) (o : Fin 256) :
    prod2 a w (ix4 y z g o) = (∑ t : Fin 9, ∑ c : Fin 128, (a (ix4 ⟨y.val + t.val / 3, by omega⟩ ⟨z.val + t.val % 3, by omega⟩ g c) * w (ix2 ⟨128 * t.val + c.val, by omega⟩ o) : EReal) : EReal) := by
  have e : prod2 a w (ix4 y z g o) = (∑ k : Fin 1152, cols2 a (ix4 y z g k) * w (ix2 k o) : EReal) := by
    unfold prod2
    generalize cols2 a = A
    pointwise
  rw [e, Fin.sum_univ_tiles 9 128 (by norm_num)]
  refine sums_congr fun t c => ?_
  refine Eq.trans ?_ (congrArg (fun v : EReal => v * w (ix2 ⟨128 * t.val + c.val, by omega⟩ o)) (cols2_at a y z g t c))
  simp only [Nat.mul_comm t.val 128]

/-- Layer 2's bias, cut at zero and 2x2 maximum. -/
def mx2 (s : FVec Ideal S16x16x16x256 .f32) (b : FVec Ideal S1x256 .f32) : FVec Ideal S8x8x16x256 .f32 :=
  multiReduction .maximumf [1] S8x8x16x256 (multiReduction .maximumf [3] S8x2x8x16x256
    (shapeCast S8x2x8x2x16x256 (maximumf (addf s (broadcastTo S16x16x16x256 (shapeCast S1x1x1x256 (shapeCast S1x256 b shapeCasts_S1x256_S1x256) shapeCasts_S1x256_S1x1x1x256) broadcasts_S1x1x1x256_S16x16x16x256))
      (broadcast S16x16x16x256 (Scalar.ofBits .f32 0x00000000#32))) shapeCasts_S16x16x16x256_S8x2x8x2x16x256)
    0xFF800000#32 reduces_S8x2x8x2x16x256_S8x2x8x16x256 (.inl rfl) rfl) 0xFF800000#32 reduces_S8x2x8x16x256_S8x8x16x256 (.inl rfl) rfl

/-- Layer 2's maximum at an entry. -/
theorem mx2_at (s : FVec Ideal S16x16x16x256 .f32) (b : FVec Ideal S1x256 .f32) (y z : Fin 8) (g : Fin 16) (o : Fin 256) :
    mx2 s b (ix4 y z g o) = pool2 (n := 8) (fun p q => max (s (ix4 p q g o) + b (ix2 0 o)) 0) y z := by
  unfold mx2 pool2
  pointwise
  simp only [bot_word]
  refine (fold2 _).trans ?_
  refine congrArg₂ (max : EReal → EReal → EReal) ?_ ?_
  · refine (fold3 reduces_S8x2x8x2x16x256_S8x2x8x16x256 y 0 z g o _).trans ?_
    simp only [Nat.mul_comm _ 2]
    rfl
  · refine (fold3 reduces_S8x2x8x2x16x256_S8x2x8x16x256 y 1 z g o _).trans ?_
    simp only [Nat.mul_comm _ 2]
    rfl

/-- Layer 2's activations with the border of zeros for the next layer. -/
def act2 (s : FVec Ideal S16x16x16x256 .f32) (b : FVec Ideal S1x256 .f32) : FVec Ideal S10x10x16x256 .f32 :=
  concatenate S10x10x16x256 1 [⟨S10x1x16x256, broadcast S10x1x16x256 (Scalar.ofBits .f32 0x00000000#32)⟩, ⟨S10x8x16x256,
    concatenate S10x8x16x256 0 [⟨S1x8x16x256, broadcast S1x8x16x256 (Scalar.ofBits .f32 0x00000000#32)⟩, ⟨S8x8x16x256, mx2 s b⟩, ⟨S1x8x16x256, broadcast S1x8x16x256 (Scalar.ofBits .f32 0x00000000#32)⟩]
      concatenates_S1x8x16x256_S8x8x16x256_S1x8x16x256_S10x8x16x256_d0⟩,
    ⟨S10x1x16x256, broadcast S10x1x16x256 (Scalar.ofBits .f32 0x00000000#32)⟩] concatenates_S10x1x16x256_S10x8x16x256_S10x1x16x256_S10x10x16x256_d1

/-- Layer 2's padded activation at an entry. -/
theorem act2_at (s : FVec Ideal S16x16x16x256 .f32) (b : FVec Ideal S1x256 .f32) (y z : Fin 10) (g : Fin 16) (o : Fin 256) :
    act2 s b (ix4 y z g o) = tap (n := 8) (fun (o : Fin 256) (y z : Fin 8) => mx2 s b (ix4 y z g o)) o y.val z.val := by
  unfold act2 tap
  generalize mx2 s b = a
  pointwise
  split_ifs <;> first | omega | rfl | (rw [dif_pos (by omega)]) | (rw [dif_neg (by omega)])

/-- Layer 3's nine taps of the padded activations, side by side. -/
def cols3 (a : FVec Ideal S10x10x16x256 .f32) : FVec Ideal S8x8x16x2304 .f32 :=
  concatenate S8x8x16x2304 3 [⟨S8x8x16x256, extractStridedSlice S8x8x16x256 ![0, 0, 0, 0] a slices_S10x10x16x256_o0_0_0_0_S8x8x16x256⟩, ⟨S8x8x16x256, extractStridedSlice S8x8x16x256 ![0, 1, 0, 0] a slices_S10x10x16x256_o0_1_0_0_S8x8x16x256⟩, ⟨S8x8x16x256, extractStridedSlice S8x8x16x256 ![0, 2, 0, 0] a slices_S10x10x16x256_o0_2_0_0_S8x8x16x256⟩, ⟨S8x8x16x256, extractStridedSlice S8x8x16x256 ![1, 0, 0, 0] a slices_S10x10x16x256_o1_0_0_0_S8x8x16x256⟩, ⟨S8x8x16x256, extractStridedSlice S8x8x16x256 ![1, 1, 0, 0] a slices_S10x10x16x256_o1_1_0_0_S8x8x16x256⟩, ⟨S8x8x16x256, extractStridedSlice S8x8x16x256 ![1, 2, 0, 0] a slices_S10x10x16x256_o1_2_0_0_S8x8x16x256⟩, ⟨S8x8x16x256, extractStridedSlice S8x8x16x256 ![2, 0, 0, 0] a slices_S10x10x16x256_o2_0_0_0_S8x8x16x256⟩, ⟨S8x8x16x256, extractStridedSlice S8x8x16x256 ![2, 1, 0, 0] a slices_S10x10x16x256_o2_1_0_0_S8x8x16x256⟩, ⟨S8x8x16x256, extractStridedSlice S8x8x16x256 ![2, 2, 0, 0] a slices_S10x10x16x256_o2_2_0_0_S8x8x16x256⟩] concatenates_S8x8x16x256_S8x8x16x256_S8x8x16x256_S8x8x16x256_S8x8x16x256_S8x8x16x256_S8x8x16x256_S8x8x16x256_S8x8x16x256_S8x8x16x2304_d3

set_option maxHeartbeats 4000000 in
/-- Tap `t` of channel `c` stands at place `256 t + c`. -/
theorem cols3_at (a : FVec Ideal S10x10x16x256 .f32) (y z : Fin 8) (g : Fin 16) (t : Fin 9) (c : Fin 256) :
    cols3 a (ix4 y z g ⟨256 * t.val + c.val, by omega⟩) = a (ix4 ⟨y.val + t.val / 3, by omega⟩ ⟨z.val + t.val % 3, by omega⟩ g c) := by
  unfold cols3
  fin_cases t <;> pointwise <;> (try simp only [Nat.add_comm _ y.val, Nat.add_comm _ z.val])
  all_goals first
    | done
    | rfl
    | (simp (disch := omega) only [dif_neg, dif_pos]
       exact congrArg a (congrArg (ix4 _ _ _) (Fin.ext (by dsimp only; omega))))

/-- Layer 3's product. -/
def prod3 (a : FVec Ideal S10x10x16x256 .f32) (w : FVec Ideal S2304x256 .f32) : FVec Ideal S8x8x16x256 .f32 :=
  shapeCast S8x8x16x256 (matmul dot_S1024x2304_S2304x256_S1024x256_1_0_0_1_n_n none (shapeCast S1024x2304 (cols3 a) shapeCasts_S8x8x16x2304_S1024x2304)
    (shapeCast S2304x256 w shapeCasts_S2304x256_S2304x256) (constant (F := Ideal) S1024x256 .f32 0x00000000#32)) shapeCasts_S1024x256_S8x8x16x256

/-- Layer 3's product at an entry: nine taps, each summed over the stored channels. -/
theorem prod3_at (a : FVec Ideal S10x10x16x256 .f32) (w : FVec Ideal S2304x256 .f32) (y z : Fin 8) (g : Fin 16) (o : Fin 256) :
    prod3 a w (ix4 y z g o) = (∑ t : Fin 9, ∑ c : Fin 256, (a (ix4 ⟨y.val + t.val / 3, by omega⟩ ⟨z.val + t.val % 3, by omega⟩ g c) * w (ix2 ⟨256 * t.val + c.val, by omega⟩ o) : EReal) : EReal) := by
  have e : prod3 a w (ix4 y z g o) = (∑ k : Fin 2304, cols3 a (ix4 y z g k) * w (ix2 k o) : EReal) := by
    unfold prod3
    generalize cols3 a = A
    pointwise
  rw [e, Fin.sum_univ_tiles 9 256 (by norm_num)]
  refine sums_congr fun t c => ?_
  refine Eq.trans ?_ (congrArg (fun v : EReal => v * w (ix2 ⟨256 * t.val + c.val, by omega⟩ o)) (cols3_at a y z g t c))
  simp only [Nat.mul_comm t.val 256]

/-- Layer 3's bias, cut at zero and 2x2 maximum. -/
def mx3 (s : FVec Ideal S8x8x16x256 .f32) (b : FVec Ideal S1x256 .f32) : FVec Ideal S4x4x16x256 .f32 :=
  multiReduction .maximumf [1] S4x4x16x256 (multiReduction .maximumf [3] S4x2x4x16x256
    (shapeCast S4x2x4x2x16x256 (maximumf (addf s (broadcastTo S8x8x16x256 (shapeCast S1x1x1x256 (shapeCast S1x256 b shapeCasts_S1x256_S1x256) shapeCasts_S1x256_S1x1x1x256) broadcasts_S1x1x1x256_S8x8x16x256))
      (broadcast S8x8x16x256 (Scalar.ofBits .f32 0x00000000#32))) shapeCasts_S8x8x16x256_S4x2x4x2x16x256)
    0xFF800000#32 reduces_S4x2x4x2x16x256_S4x2x4x16x256 (.inl rfl) rfl) 0xFF800000#32 reduces_S4x2x4x16x256_S4x4x16x256 (.inl rfl) rfl

/-- Layer 3's maximum at an entry. -/
theorem mx3_at (s : FVec Ideal S8x8x16x256 .f32) (b : FVec Ideal S1x256 .f32) (y z : Fin 4) (g : Fin 16) (o : Fin 256) :
    mx3 s b (ix4 y z g o) = pool2 (n := 4) (fun p q => max (s (ix4 p q g o) + b (ix2 0 o)) 0) y z := by
  unfold mx3 pool2
  pointwise
  simp only [bot_word]
  refine (fold2 _).trans ?_
  refine congrArg₂ (max : EReal → EReal → EReal) ?_ ?_
  · refine (fold3 reduces_S4x2x4x2x16x256_S4x2x4x16x256 y 0 z g o _).trans ?_
    simp only [Nat.mul_comm _ 2]
    rfl
  · refine (fold3 reduces_S4x2x4x2x16x256_S4x2x4x16x256 y 1 z g o _).trans ?_
    simp only [Nat.mul_comm _ 2]
    rfl

/-- Layer 3's activations with the border of zeros for the next layer. -/
def act3 (s : FVec Ideal S8x8x16x256 .f32) (b : FVec Ideal S1x256 .f32) : FVec Ideal S6x6x16x256 .f32 :=
  concatenate S6x6x16x256 1 [⟨S6x1x16x256, broadcast S6x1x16x256 (Scalar.ofBits .f32 0x00000000#32)⟩, ⟨S6x4x16x256,
    concatenate S6x4x16x256 0 [⟨S1x4x16x256, broadcast S1x4x16x256 (Scalar.ofBits .f32 0x00000000#32)⟩, ⟨S4x4x16x256, mx3 s b⟩, ⟨S1x4x16x256, broadcast S1x4x16x256 (Scalar.ofBits .f32 0x00000000#32)⟩]
      concatenates_S1x4x16x256_S4x4x16x256_S1x4x16x256_S6x4x16x256_d0⟩,
    ⟨S6x1x16x256, broadcast S6x1x16x256 (Scalar.ofBits .f32 0x00000000#32)⟩] concatenates_S6x1x16x256_S6x4x16x256_S6x1x16x256_S6x6x16x256_d1

/-- Layer 3's padded activation at an entry. -/
theorem act3_at (s : FVec Ideal S8x8x16x256 .f32) (b : FVec Ideal S1x256 .f32) (y z : Fin 6) (g : Fin 16) (o : Fin 256) :
    act3 s b (ix4 y z g o) = tap (n := 4) (fun (o : Fin 256) (y z : Fin 4) => mx3 s b (ix4 y z g o)) o y.val z.val := by
  unfold act3 tap
  generalize mx3 s b = a
  pointwise
  split_ifs <;> first | omega | rfl | (rw [dif_pos (by omega)]) | (rw [dif_neg (by omega)])

/-- Layer 4's nine taps of the padded activations, side by side. -/
def cols4 (a : FVec Ideal S6x6x16x256 .f32) : FVec Ideal S4x4x16x2304 .f32 :=
  concatenate S4x4x16x2304 3 [⟨S4x4x16x256, extractStridedSlice S4x4x16x256 ![0, 0, 0, 0] a slices_S6x6x16x256_o0_0_0_0_S4x4x16x256⟩, ⟨S4x4x16x256, extractStridedSlice S4x4x16x256 ![0, 1, 0, 0] a slices_S6x6x16x256_o0_1_0_0_S4x4x16x256⟩, ⟨S4x4x16x256, extractStridedSlice S4x4x16x256 ![0, 2, 0, 0] a slices_S6x6x16x256_o0_2_0_0_S4x4x16x256⟩, ⟨S4x4x16x256, extractStridedSlice S4x4x16x256 ![1, 0, 0, 0] a slices_S6x6x16x256_o1_0_0_0_S4x4x16x256⟩, ⟨S4x4x16x256, extractStridedSlice S4x4x16x256 ![1, 1, 0, 0] a slices_S6x6x16x256_o1_1_0_0_S4x4x16x256⟩, ⟨S4x4x16x256, extractStridedSlice S4x4x16x256 ![1, 2, 0, 0] a slices_S6x6x16x256_o1_2_0_0_S4x4x16x256⟩, ⟨S4x4x16x256, extractStridedSlice S4x4x16x256 ![2, 0, 0, 0] a slices_S6x6x16x256_o2_0_0_0_S4x4x16x256⟩, ⟨S4x4x16x256, extractStridedSlice S4x4x16x256 ![2, 1, 0, 0] a slices_S6x6x16x256_o2_1_0_0_S4x4x16x256⟩, ⟨S4x4x16x256, extractStridedSlice S4x4x16x256 ![2, 2, 0, 0] a slices_S6x6x16x256_o2_2_0_0_S4x4x16x256⟩] concatenates_S4x4x16x256_S4x4x16x256_S4x4x16x256_S4x4x16x256_S4x4x16x256_S4x4x16x256_S4x4x16x256_S4x4x16x256_S4x4x16x256_S4x4x16x2304_d3

set_option maxHeartbeats 4000000 in
/-- Tap `t` of channel `c` stands at place `256 t + c`. -/
theorem cols4_at (a : FVec Ideal S6x6x16x256 .f32) (y z : Fin 4) (g : Fin 16) (t : Fin 9) (c : Fin 256) :
    cols4 a (ix4 y z g ⟨256 * t.val + c.val, by omega⟩) = a (ix4 ⟨y.val + t.val / 3, by omega⟩ ⟨z.val + t.val % 3, by omega⟩ g c) := by
  unfold cols4
  fin_cases t <;> pointwise <;> (try simp only [Nat.add_comm _ y.val, Nat.add_comm _ z.val])
  all_goals first
    | done
    | rfl
    | (simp (disch := omega) only [dif_neg, dif_pos]
       exact congrArg a (congrArg (ix4 _ _ _) (Fin.ext (by dsimp only; omega))))

/-- Layer 4's product. -/
def prod4 (a : FVec Ideal S6x6x16x256 .f32) (w : FVec Ideal S2304x256 .f32) : FVec Ideal S4x4x16x256 .f32 :=
  shapeCast S4x4x16x256 (matmul dot_S256x2304_S2304x256_S256x256_1_0_0_1_n_n none (shapeCast S256x2304 (cols4 a) shapeCasts_S4x4x16x2304_S256x2304)
    (shapeCast S2304x256 w shapeCasts_S2304x256_S2304x256) (constant (F := Ideal) S256x256 .f32 0x00000000#32)) shapeCasts_S256x256_S4x4x16x256

/-- Layer 4's product at an entry: nine taps, each summed over the stored channels. -/
theorem prod4_at (a : FVec Ideal S6x6x16x256 .f32) (w : FVec Ideal S2304x256 .f32) (y z : Fin 4) (g : Fin 16) (o : Fin 256) :
    prod4 a w (ix4 y z g o) = (∑ t : Fin 9, ∑ c : Fin 256, (a (ix4 ⟨y.val + t.val / 3, by omega⟩ ⟨z.val + t.val % 3, by omega⟩ g c) * w (ix2 ⟨256 * t.val + c.val, by omega⟩ o) : EReal) : EReal) := by
  have e : prod4 a w (ix4 y z g o) = (∑ k : Fin 2304, cols4 a (ix4 y z g k) * w (ix2 k o) : EReal) := by
    unfold prod4
    generalize cols4 a = A
    pointwise
  rw [e, Fin.sum_univ_tiles 9 256 (by norm_num)]
  refine sums_congr fun t c => ?_
  refine Eq.trans ?_ (congrArg (fun v : EReal => v * w (ix2 ⟨256 * t.val + c.val, by omega⟩ o)) (cols4_at a y z g t c))
  simp only [Nat.mul_comm t.val 256]

/-- Layer 4's bias, cut at zero and 2x2 maximum. -/
def mx4 (s : FVec Ideal S4x4x16x256 .f32) (b : FVec Ideal S1x256 .f32) : FVec Ideal S2x2x16x256 .f32 :=
  multiReduction .maximumf [1] S2x2x16x256 (multiReduction .maximumf [3] S2x2x2x16x256
    (shapeCast S2x2x2x2x16x256 (maximumf (addf s (broadcastTo S4x4x16x256 (shapeCast S1x1x1x256 (shapeCast S1x256 b shapeCasts_S1x256_S1x256) shapeCasts_S1x256_S1x1x1x256) broadcasts_S1x1x1x256_S4x4x16x256))
      (broadcast S4x4x16x256 (Scalar.ofBits .f32 0x00000000#32))) shapeCasts_S4x4x16x256_S2x2x2x2x16x256)
    0xFF800000#32 reduces_S2x2x2x2x16x256_S2x2x2x16x256 (.inl rfl) rfl) 0xFF800000#32 reduces_S2x2x2x16x256_S2x2x16x256 (.inl rfl) rfl

/-- Layer 4's maximum at an entry. -/
theorem mx4_at (s : FVec Ideal S4x4x16x256 .f32) (b : FVec Ideal S1x256 .f32) (y z : Fin 2) (g : Fin 16) (o : Fin 256) :
    mx4 s b (ix4 y z g o) = pool2 (n := 2) (fun p q => max (s (ix4 p q g o) + b (ix2 0 o)) 0) y z := by
  unfold mx4 pool2
  pointwise
  simp only [bot_word]
  refine (fold2 _).trans ?_
  refine congrArg₂ (max : EReal → EReal → EReal) ?_ ?_
  · refine (fold3 reduces_S2x2x2x2x16x256_S2x2x2x16x256 y 0 z g o _).trans ?_
    simp only [Nat.mul_comm _ 2]
    rfl
  · refine (fold3 reduces_S2x2x2x2x16x256_S2x2x2x16x256 y 1 z g o _).trans ?_
    simp only [Nat.mul_comm _ 2]
    rfl

/-- Layer 4's activations with the border of zeros for the next layer. -/
def act4 (s : FVec Ideal S4x4x16x256 .f32) (b : FVec Ideal S1x256 .f32) : FVec Ideal S4x4x16x256 .f32 :=
  concatenate S4x4x16x256 1 [⟨S4x1x16x256, broadcast S4x1x16x256 (Scalar.ofBits .f32 0x00000000#32)⟩, ⟨S4x2x16x256,
    concatenate S4x2x16x256 0 [⟨S1x2x16x256, broadcast S1x2x16x256 (Scalar.ofBits .f32 0x00000000#32)⟩, ⟨S2x2x16x256, mx4 s b⟩, ⟨S1x2x16x256, broadcast S1x2x16x256 (Scalar.ofBits .f32 0x00000000#32)⟩]
      concatenates_S1x2x16x256_S2x2x16x256_S1x2x16x256_S4x2x16x256_d0⟩,
    ⟨S4x1x16x256, broadcast S4x1x16x256 (Scalar.ofBits .f32 0x00000000#32)⟩] concatenates_S4x1x16x256_S4x2x16x256_S4x1x16x256_S4x4x16x256_d1

/-- Layer 4's padded activation at an entry. -/
theorem act4_at (s : FVec Ideal S4x4x16x256 .f32) (b : FVec Ideal S1x256 .f32) (y z : Fin 4) (g : Fin 16) (o : Fin 256) :
    act4 s b (ix4 y z g o) = tap (n := 2) (fun (o : Fin 256) (y z : Fin 2) => mx4 s b (ix4 y z g o)) o y.val z.val := by
  unfold act4 tap
  generalize mx4 s b = a
  pointwise
  split_ifs <;> first | omega | rfl | (rw [dif_pos (by omega)]) | (rw [dif_neg (by omega)])

/-- Layer 5's nine taps of the padded activations, side by side. -/
def cols5 (a : FVec Ideal S4x4x16x256 .f32) : FVec Ideal S2x2x16x2304 .f32 :=
  concatenate S2x2x16x2304 3 [⟨S2x2x16x256, extractStridedSlice S2x2x16x256 ![0, 0, 0, 0] a slices_S4x4x16x256_o0_0_0_0_S2x2x16x256⟩, ⟨S2x2x16x256, extractStridedSlice S2x2x16x256 ![0, 1, 0, 0] a slices_S4x4x16x256_o0_1_0_0_S2x2x16x256⟩, ⟨S2x2x16x256, extractStridedSlice S2x2x16x256 ![0, 2, 0, 0] a slices_S4x4x16x256_o0_2_0_0_S2x2x16x256⟩, ⟨S2x2x16x256, extractStridedSlice S2x2x16x256 ![1, 0, 0, 0] a slices_S4x4x16x256_o1_0_0_0_S2x2x16x256⟩, ⟨S2x2x16x256, extractStridedSlice S2x2x16x256 ![1, 1, 0, 0] a slices_S4x4x16x256_o1_1_0_0_S2x2x16x256⟩, ⟨S2x2x16x256, extractStridedSlice S2x2x16x256 ![1, 2, 0, 0] a slices_S4x4x16x256_o1_2_0_0_S2x2x16x256⟩, ⟨S2x2x16x256, extractStridedSlice S2x2x16x256 ![2, 0, 0, 0] a slices_S4x4x16x256_o2_0_0_0_S2x2x16x256⟩, ⟨S2x2x16x256, extractStridedSlice S2x2x16x256 ![2, 1, 0, 0] a slices_S4x4x16x256_o2_1_0_0_S2x2x16x256⟩, ⟨S2x2x16x256, extractStridedSlice S2x2x16x256 ![2, 2, 0, 0] a slices_S4x4x16x256_o2_2_0_0_S2x2x16x256⟩] concatenates_S2x2x16x256_S2x2x16x256_S2x2x16x256_S2x2x16x256_S2x2x16x256_S2x2x16x256_S2x2x16x256_S2x2x16x256_S2x2x16x256_S2x2x16x2304_d3

set_option maxHeartbeats 4000000 in
/-- Tap `t` of channel `c` stands at place `256 t + c`. -/
theorem cols5_at (a : FVec Ideal S4x4x16x256 .f32) (y z : Fin 2) (g : Fin 16) (t : Fin 9) (c : Fin 256) :
    cols5 a (ix4 y z g ⟨256 * t.val + c.val, by omega⟩) = a (ix4 ⟨y.val + t.val / 3, by omega⟩ ⟨z.val + t.val % 3, by omega⟩ g c) := by
  unfold cols5
  fin_cases t <;> pointwise <;> (try simp only [Nat.add_comm _ y.val, Nat.add_comm _ z.val])
  all_goals first
    | done
    | rfl
    | (simp (disch := omega) only [dif_neg, dif_pos]
       exact congrArg a (congrArg (ix4 _ _ _) (Fin.ext (by dsimp only; omega))))

/-- Layer 5's product. -/
def prod5 (a : FVec Ideal S4x4x16x256 .f32) (w : FVec Ideal S2304x128 .f32) : FVec Ideal S2x2x16x128 .f32 :=
  shapeCast S2x2x16x128 (matmul dot_S64x2304_S2304x128_S64x128_1_0_0_1_n_n none (shapeCast S64x2304 (cols5 a) shapeCasts_S2x2x16x2304_S64x2304)
    (shapeCast S2304x128 w shapeCasts_S2304x128_S2304x128) (constant (F := Ideal) S64x128 .f32 0x00000000#32)) shapeCasts_S64x128_S2x2x16x128

/-- Layer 5's product at an entry: nine taps, each summed over the stored channels. -/
theorem prod5_at (a : FVec Ideal S4x4x16x256 .f32) (w : FVec Ideal S2304x128 .f32) (y z : Fin 2) (g : Fin 16) (o : Fin 128) :
    prod5 a w (ix4 y z g o) = (∑ t : Fin 9, ∑ c : Fin 256, (a (ix4 ⟨y.val + t.val / 3, by omega⟩ ⟨z.val + t.val % 3, by omega⟩ g c) * w (ix2 ⟨256 * t.val + c.val, by omega⟩ o) : EReal) : EReal) := by
  have e : prod5 a w (ix4 y z g o) = (∑ k : Fin 2304, cols5 a (ix4 y z g k) * w (ix2 k o) : EReal) := by
    unfold prod5
    generalize cols5 a = A
    pointwise
  rw [e, Fin.sum_univ_tiles 9 256 (by norm_num)]
  refine sums_congr fun t c => ?_
  refine Eq.trans ?_ (congrArg (fun v : EReal => v * w (ix2 ⟨256 * t.val + c.val, by omega⟩ o)) (cols5_at a y z g t c))
  simp only [Nat.mul_comm t.val 256]

end Cert.ConvIdeal.Layers
-- ==== Proof.ConvNet.lean ====
module

public import proofs.«01_k».proof.Proof.ConvLayers

@[expose] public section

set_option maxRecDepth 16384

noncomputable section

open Idealize.ShloMosaic Idealize.ShloMosaic.TcCoe Idealize.SL.Sem Idealize.ShloMosaic.Tactic Cert.ConvSpec

namespace Cert.ConvIdeal.Net

open Cert.ConvIdeal Cert.ConvIdeal.Gen Cert.ConvIdeal.Layers

/-- Layer 5's bias, cut at zero and 2x2 maximum. -/
def mx5 (s : FVec Ideal S2x2x16x128 .f32) (b : FVec Ideal S1x128 .f32) : FVec Ideal S1x1x16x128 .f32 :=
  multiReduction .maximumf [1] S1x1x16x128 (multiReduction .maximumf [3] S1x2x1x16x128
    (shapeCast S1x2x1x2x16x128 (maximumf (addf s (broadcastTo S2x2x16x128 (shapeCast S1x1x1x128 (shapeCast S1x128 b shapeCasts_S1x128_S1x128) shapeCasts_S1x128_S1x1x1x128) broadcasts_S1x1x1x128_S2x2x16x128))
      (broadcast S2x2x16x128 (Scalar.ofBits .f32 0x00000000#32))) shapeCasts_S2x2x16x128_S1x2x1x2x16x128)
    0xFF800000#32 reduces_S1x2x1x2x16x128_S1x2x1x16x128 (.inl rfl) rfl) 0xFF800000#32 reduces_S1x2x1x16x128_S1x1x16x128 (.inl rfl) rfl

/-- Layer 5's maximum at an entry. -/
theorem mx5_at (s : FVec Ideal S2x2x16x128 .f32) (b : FVec Ideal S1x128 .f32) (y z : Fin 1) (g : Fin 16) (o : Fin 128) :
    mx5 s b (ix4 y z g o) = pool2 (n := 1) (fun p q => max (s (ix4 p q g o) + b (ix2 0 o)) 0) y z := by
  obtain rfl : y = 0 := Subsingleton.elim _ _
  obtain rfl : z = 0 := Subsingleton.elim _ _
  unfold mx5 pool2
  pointwise
  simp only [bot_word]
  refine (fold2 _).trans ?_
  refine congrArg₂ (max : EReal → EReal → EReal) ?_ ?_
  · exact fold3 reduces_S1x2x1x2x16x128_S1x2x1x16x128 0 0 0 g o _
  · exact fold3 reduces_S1x2x1x2x16x128_S1x2x1x16x128 0 1 0 g o _

/-- The stretch up to the second product. -/
theorem pay2_eq (v0 : FVec Ideal S32x32x16x108 .f32) (v3 : FVec Ideal S108x128 .f32) (v7 : FVec Ideal S1x128 .f32) (v32 : FVec Ideal S1152x256 .f32) :
    k0_pay2 (F := Ideal) v0 v3 v7 v32 = prod2 (act1 (prod1 v0 v3) v7) v32 := rfl

/-- The stretch from the second product to the third layer's padded activations. -/
theorem pay4_eq (s2 : FVec Ideal S16x16x16x256 .f32) (b2 : FVec Ideal S1x256 .f32) (w3 : FVec Ideal S2304x256 .f32) (b3 : FVec Ideal S1x256 .f32) :
    k0_pay4 (F := Ideal) s2 (k0_pay3 b2) w3 b3 = act3 (prod3 (act2 s2 b2) w3) b3 := rfl

/-- The fifth product with its bias added. -/
def biased5 (s : FVec Ideal S2x2x16x128 .f32) (b : FVec Ideal S1x128 .f32) : FVec Ideal S2x2x16x128 .f32 :=
  addf s (broadcastTo S2x2x16x128 (shapeCast S1x1x1x128 (shapeCast S1x128 b shapeCasts_S1x128_S1x128) shapeCasts_S1x128_S1x1x1x128) broadcasts_S1x1x1x128_S2x2x16x128)

/-- The stretch from the third layer's activations to the fifth product and bias. -/
theorem pay10_eq (s2 : FVec Ideal S16x16x16x256 .f32) (b2 : FVec Ideal S1x1x1x256 .f32) (w3 : FVec Ideal S2304x256 .f32) (b3 : FVec Ideal S1x256 .f32)
    (w4 : FVec Ideal S2304x256 .f32) (b4 : FVec Ideal S1x256 .f32) (w5 : FVec Ideal S2304x128 .f32) (b5 : FVec Ideal S1x128 .f32) :
    k0_pay10 (F := Ideal) (k0_pay4 s2 b2 w3 b3) (k0_pay5 s2 b2 w3 b3) (k0_pay6 s2 b2 w3 b3) (k0_pay7 s2 b2 w3 b3) (k0_pay8 s2 b2 w3 b3) (k0_pay9 s2 b2 w3 b3) w4 b4 w5 b5
      = biased5 (prod5 (act4 (prod4 (k0_pay4 (F := Ideal) s2 b2 w3 b3) w4) b4) w5) b5 := rfl

/-- The two dense layers: one row of 128 logits for each sequence. -/
def lg (x : FVec Ideal S1x1x16x128 .f32) (dw : FVec Ideal S128x128 .f32) (db : FVec Ideal S1x128 .f32) (ow : FVec Ideal S128x128 .f32) (ob : FVec Ideal S1x128 .f32) : FVec Ideal S16x128 .f32 :=
  addf (matmul dot_S16x128_S128x128_S16x128_1_0_0_1_n_n none
    (maximumf (addf (matmul dot_S16x128_S128x128_S16x128_1_0_0_1_n_n none (shapeCast S16x128 x shapeCasts_S1x1x16x128_S16x128) (shapeCast S128x128 dw shapeCasts_S128x128_S128x128) (constant (F := Ideal) S16x128 .f32 0x00000000#32))
      (broadcastTo S16x128 (shapeCast S1x128 db shapeCasts_S1x128_S1x128) broadcasts_S1x128_S16x128)) (broadcast S16x128 (Scalar.ofBits .f32 0x00000000#32)))
    (shapeCast S128x128 ow shapeCasts_S128x128_S128x128) (constant (F := Ideal) S16x128 .f32 0x00000000#32))
    (broadcastTo S16x128 (shapeCast S1x128 ob shapeCasts_S1x128_S1x128) broadcasts_S1x128_S16x128)

/-- A logit at an entry. -/
theorem lg_at (x : FVec Ideal S1x1x16x128 .f32) (dw : FVec Ideal S128x128 .f32) (db : FVec Ideal S1x128 .f32) (ow : FVec Ideal S128x128 .f32) (ob : FVec Ideal S1x128 .f32) (g : Fin 16) (o : Fin 128) :
    lg x dw db ow ob (ix2 g o) = ((∑ k : Fin 128, max ((∑ j : Fin 128, x (ix4 0 0 g j) * dw (ix2 j k) : EReal) + db (ix2 0 k)) 0 * ow (ix2 k o) : EReal) + ob (ix2 0 o) : EReal) := by
  unfold lg
  pointwise

/-- A row's largest logit, as a column. -/
def peak (l : FVec Ideal S16x128 .f32) : FVec Ideal S16x1 .f32 :=
  shapeCast S16x1 (multiReduction .maximumf [1] S16 l 0xFF800000#32 reduces_S16x128_S16 (.inl rfl) rfl) shapeCasts_S16_S16x1

theorem peak_at (l : FVec Ideal S16x128 .f32) (g : Fin 16) : peak l (ix2 g 0) = Finset.univ.fold max ⊥ (fun k : Fin 128 => (l (ix2 g k) : EReal)) := by
  unfold peak
  pointwise
  simp only [bot_word]

/-- A row's logarithm of the sum of exponentials. -/
def norm (l : FVec Ideal S16x128 .f32) (p : FVec Ideal S16x1 .f32) : FVec Ideal S16x1 .f32 :=
  addf (log (shapeCast S16x1 (multiReduction .add [1] S16 (exp (subf l (broadcastTo S16x128 p broadcasts_S16x1_S16x128))) 0x00000000#32 reduces_S16x128_S16 (.inl rfl) rfl) shapeCasts_S16_S16x1)) p

theorem norm_at (l : FVec Ideal S16x128 .f32) (p : FVec Ideal S16x1 .f32) (g : Fin 16) :
    norm l p (ix2 g 0) = (Ideal.log (∑ k : Fin 128, Ideal.exp ((l (ix2 g k) : EReal) - p (ix2 g 0))) + p (ix2 g 0) : EReal) := by
  unfold norm
  pointwise

/-- The rows less their normalisers. -/
def soft (l : FVec Ideal S16x128 .f32) : FVec Ideal S16x128 .f32 := subf l (broadcastTo S16x128 (norm l (peak l)) broadcasts_S16x1_S16x128)

theorem soft_at (l : FVec Ideal S16x128 .f32) (g : Fin 16) (o : Fin 128) : soft l (ix2 g o) = ((l (ix2 g o) : EReal) - norm l (peak l) (ix2 g 0) : EReal) := by
  unfold soft
  generalize norm l (peak l) = n
  pointwise

/-- The last stretch. -/
theorem pay1_eq (s5 : FVec Ideal S2x2x16x128 .f32) (b5 : FVec Ideal S1x128 .f32) (dw : FVec Ideal S128x128 .f32) (db : FVec Ideal S1x128 .f32) (ow : FVec Ideal S128x128 .f32) (ob : FVec Ideal S1x128 .f32) :
    k0_pay1 (F := Ideal) (biased5 s5 b5) (Scalar.ofBits .f32 0x00000000#32) dw db ow ob = soft (lg (mx5 s5 b5) dw db ow ob) := rfl

variable (P : Args) (q : Fin 16 → Fin 256)

/-- Layer 1 of the kernel is layer 1 of the specification on the real channels, when its stored weights are the real ones bordered by zeros. -/
theorem layer1 (x : FVec Ideal S32x32x16x108 .f32) (hx : ∀ (y z : Fin 32) (g : Fin 16) (t : Fin 9) (c : Fin 12), (x (ix4 y z g ⟨12 * t.val + c.val, by omega⟩) : EReal) = tap (n := 2 * 16) (feat0 P (q g)) c (y.val + t.val / 3) (z.val + t.val % 3))
    (w : FVec Ideal S108x128 .f32) (hw : ∀ (t : Fin 9) (c : Fin 12) (o : Fin 128), (w (ix2 ⟨12 * t.val + c.val, by omega⟩ ⟨o.val, by omega⟩) : EReal) = if h : c.val < 12 then taps P.w1 o ⟨c.val, h⟩ t else 0)
    (b : FVec Ideal S1x128 .f32) (hb : ∀ o : Fin 128, (b (ix2 0 ⟨o.val, by omega⟩) : EReal) = P.b1 (ix1 o))
    (y z : Fin 16) (g : Fin 16) (o : Fin 128) : (mx1 (prod1 x w) b (ix4 y z g ⟨o.val, by omega⟩) : EReal) = feat1 P (q g) o y z := by
  have e : ∀ u v : Fin 32, (prod1 x w (ix4 u v g ⟨o.val, by omega⟩) : EReal) = conv (n := 2 * 16) (taps P.w1) (feat0 P (q g)) o u.val v.val := fun u v => by
    rw [prod1_at]
    rw [Fin.sum_univ_tiles 9 12 (by norm_num)]
    unfold conv
    refine Finset.sum_congr rfl fun t _ => ?_
    simp only [Nat.mul_comm t.val 12]
    refine sum_pad (C := 12) (by norm_num) _ _ _ _ (fun c => ?_) (fun c => hw t c o)
    exact hx u v g t c
  rw [mx1_at]
  unfold feat1 layer
  refine congrArg (fun a => pool2 (n := 16) a y z) (funext fun u => funext fun v => ?_)
  rw [hb o]
  exact congrArg (fun r : EReal => max (r + P.b1 (ix1 o)) 0) (e u v)

/-- Layer 2 of the kernel is layer 2 of the specification on the real channels, when its stored weights are the real ones bordered by zeros. -/
theorem layer2 (s : FVec Ideal S32x32x16x128 .f32) (bp : FVec Ideal S1x128 .f32) (hx : ∀ (y z : Fin 16) (g : Fin 16) (o : Fin 128), (mx1 s bp (ix4 y z g ⟨o.val, by omega⟩) : EReal) = feat1 P (q g) o y z)
    (w : FVec Ideal S1152x256 .f32) (hw : ∀ (t : Fin 9) (c : Fin 128) (o : Fin 164), (w (ix2 ⟨128 * t.val + c.val, by omega⟩ ⟨o.val, by omega⟩) : EReal) = if h : c.val < 128 then taps P.w2 o ⟨c.val, h⟩ t else 0)
    (b : FVec Ideal S1x256 .f32) (hb : ∀ o : Fin 164, (b (ix2 0 ⟨o.val, by omega⟩) : EReal) = P.b2 (ix1 o))
    (y z : Fin 8) (g : Fin 16) (o : Fin 164) : (mx2 (prod2 (act1 s bp) w) b (ix4 y z g ⟨o.val, by omega⟩) : EReal) = feat2 P (q g) o y z := by
  have e : ∀ u v : Fin 16, (prod2 (act1 s bp) w (ix4 u v g ⟨o.val, by omega⟩) : EReal) = conv (n := 2 * 8) (taps P.w2) (feat1 P (q g)) o u.val v.val := fun u v => by
    refine (prod2_at _ _ _ _ _ _).trans ?_
    unfold conv
    refine Finset.sum_congr rfl fun t _ => ?_
    refine sum_pad (C := 128) (by norm_num) _ _ _ _ (fun c => ?_) (fun c => hw t c o)
    exact by
      refine (act1_at _ _ _ _ _ _).trans ?_
      unfold tap
      refine dite_congr rfl (fun hh => ?_) (fun _ => rfl)
      exact hx _ _ g c
  rw [mx2_at]
  unfold feat2 layer
  refine congrArg (fun a => pool2 (n := 8) a y z) (funext fun u => funext fun v => ?_)
  rw [hb o]
  exact congrArg (fun r : EReal => max (r + P.b2 (ix1 o)) 0) (e u v)

/-- Layer 3 of the kernel is layer 3 of the specification on the real channels, when its stored weights are the real ones bordered by zeros. -/
theorem layer3 (s : FVec Ideal S16x16x16x256 .f32) (bp : FVec Ideal S1x256 .f32) (hx : ∀ (y z : Fin 8) (g : Fin 16) (o : Fin 164), (mx2 s bp (ix4 y z g ⟨o.val, by omega⟩) : EReal) = feat2 P (q g) o y z)
    (w : FVec Ideal S2304x256 .f32) (hw : ∀ (t : Fin 9) (c : Fin 256) (o : Fin 192), (w (ix2 ⟨256 * t.val + c.val, by omega⟩ ⟨o.val, by omega⟩) : EReal) = if h : c.val < 164 then taps P.w3 o ⟨c.val, h⟩ t else 0)
    (b : FVec Ideal S1x256 .f32) (hb : ∀ o : Fin 192, (b (ix2 0 ⟨o.val, by omega⟩) : EReal) = P.b3 (ix1 o))
    (y z : Fin 4) (g : Fin 16) (o : Fin 192) : (mx3 (prod3 (act2 s bp) w) b (ix4 y z g ⟨o.val, by omega⟩) : EReal) = feat3 P (q g) o y z := by
  have e : ∀ u v : Fin 8, (prod3 (act2 s bp) w (ix4 u v g ⟨o.val, by omega⟩) : EReal) = conv (n := 2 * 4) (taps P.w3) (feat2 P (q g)) o u.val v.val := fun u v => by
    refine (prod3_at _ _ _ _ _ _).trans ?_
    unfold conv
    refine Finset.sum_congr rfl fun t _ => ?_
    refine sum_pad (C := 164) (by norm_num) _ _ _ _ (fun c => ?_) (fun c => hw t c o)
    exact by
      refine (act2_at _ _ _ _ _ _).trans ?_
      unfold tap
      refine dite_congr rfl (fun hh => ?_) (fun _ => rfl)
      exact hx _ _ g c
  rw [mx3_at]
  unfold feat3 layer
  refine congrArg (fun a => pool2 (n := 4) a y z) (funext fun u => funext fun v => ?_)
  rw [hb o]
  exact congrArg (fun r : EReal => max (r + P.b3 (ix1 o)) 0) (e u v)

/-- Layer 4 of the kernel is layer 4 of the specification on the real channels, when its stored weights are the real ones bordered by zeros. -/
theorem layer4 (s : FVec Ideal S8x8x16x256 .f32) (bp : FVec Ideal S1x256 .f32) (hx : ∀ (y z : Fin 4) (g : Fin 16) (o : Fin 192), (mx3 s bp (ix4 y z g ⟨o.val, by omega⟩) : EReal) = feat3 P (q g) o y z)
    (w : FVec Ideal S2304x256 .f32) (hw : ∀ (t : Fin 9) (c : Fin 256) (o : Fin 192), (w (ix2 ⟨256 * t.val + c.val, by omega⟩ ⟨o.val, by omega⟩) : EReal) = if h : c.val < 192 then taps P.w4 o ⟨c.val, h⟩ t else 0)
    (b : FVec Ideal S1x256 .f32) (hb : ∀ o : Fin 192, (b (ix2 0 ⟨o.val, by omega⟩) : EReal) = P.b4 (ix1 o))
    (y z : Fin 2) (g : Fin 16) (o : Fin 192) : (mx4 (prod4 (act3 s bp) w) b (ix4 y z g ⟨o.val, by omega⟩) : EReal) = feat4 P (q g) o y z := by
  have e : ∀ u v : Fin 4, (prod4 (act3 s bp) w (ix4 u v g ⟨o.val, by omega⟩) : EReal) = conv (n := 2 * 2) (taps P.w4) (feat3 P (q g)) o u.val v.val := fun u v => by
    refine (prod4_at _ _ _ _ _ _).trans ?_
    unfold conv
    refine Finset.sum_congr rfl fun t _ => ?_
    refine sum_pad (C := 192) (by norm_num) _ _ _ _ (fun c => ?_) (fun c => hw t c o)
    exact by
      refine (act3_at _ _ _ _ _ _).trans ?_
      unfold tap
      refine dite_congr rfl (fun hh => ?_) (fun _ => rfl)
      exact hx _ _ g c
  rw [mx4_at]
  unfold feat4 layer
  refine congrArg (fun a => pool2 (n := 2) a y z) (funext fun u => funext fun v => ?_)
  rw [hb o]
  exact congrArg (fun r : EReal => max (r + P.b4 (ix1 o)) 0) (e u v)

/-- Layer 5 of the kernel is layer 5 of the specification on the real channels, when its stored weights are the real ones bordered by zeros. -/
theorem layer5 (s : FVec Ideal S4x4x16x256 .f32) (bp : FVec Ideal S1x256 .f32) (hx : ∀ (y z : Fin 2) (g : Fin 16) (o : Fin 192), (mx4 s bp (ix4 y z g ⟨o.val, by omega⟩) : EReal) = feat4 P (q g) o y z)
    (w : FVec Ideal S2304x128 .f32) (hw : ∀ (t : Fin 9) (c : Fin 256) (o : Fin 128), (w (ix2 ⟨256 * t.val + c.val, by omega⟩ ⟨o.val, by omega⟩) : EReal) = if h : c.val < 192 then taps P.w5 o ⟨c.val, h⟩ t else 0)
    (b : FVec Ideal S1x128 .f32) (hb : ∀ o : Fin 128, (b (ix2 0 ⟨o.val, by omega⟩) : EReal) = P.b5 (ix1 o))
    (y z : Fin 1) (g : Fin 16) (o : Fin 128) : (mx5 (prod5 (act4 s bp) w) b (ix4 y z g ⟨o.val, by omega⟩) : EReal) = feat5 P (q g) o y z := by
  have e : ∀ u v : Fin 2, (prod5 (act4 s bp) w (ix4 u v g ⟨o.val, by omega⟩) : EReal) = conv (n := 2 * 1) (taps P.w5) (feat4 P (q g)) o u.val v.val := fun u v => by
    refine (prod5_at _ _ _ _ _ _).trans ?_
    unfold conv
    refine Finset.sum_congr rfl fun t _ => ?_
    refine sum_pad (C := 192) (by norm_num) _ _ _ _ (fun c => ?_) (fun c => hw t c o)
    exact by
      refine (act4_at _ _ _ _ _ _).trans ?_
      unfold tap
      refine dite_congr rfl (fun hh => ?_) (fun _ => rfl)
      exact hx _ _ g c
  rw [mx5_at]
  unfold feat5 layer
  refine congrArg (fun a => pool2 (n := 1) a y z) (funext fun u => funext fun v => ?_)
  rw [hb o]
  exact congrArg (fun r : EReal => max (r + P.b5 (ix1 o)) 0) (e u v)

/-- The logits: five real ones, minus infinity in the lanes beside them. -/
theorem logits (x : FVec Ideal S1x1x16x128 .f32) (hx : ∀ (g : Fin 16) (o : Fin 128), (x (ix4 0 0 g o) : EReal) = feat5 P (q g) o 0 0)
    (dw : FVec Ideal S128x128 .f32) (hdw : ∀ j k : Fin 128, (dw (ix2 j k) : EReal) = P.dw (ix2 k j)) (db : FVec Ideal S1x128 .f32) (hdb : ∀ k : Fin 128, (db (ix2 0 k) : EReal) = P.db (ix1 k))
    (ow : FVec Ideal S128x128 .f32) (how : ∀ k o : Fin 128, (ow (ix2 k o) : EReal) = if h : o.val < 5 then P.ow (ix2 ⟨o.val, h⟩ k) else 0)
    (ob : FVec Ideal S1x128 .f32) (hob : ∀ o : Fin 128, (ob (ix2 0 o) : EReal) = if h : o.val < 5 then P.ob (ix1 ⟨o.val, h⟩) else ⊥) (g : Fin 16) (o : Fin 128) :
    (lg x dw db ow ob (ix2 g o) : EReal) = if h : o.val < 5 then logit P (q g) ⟨o.val, h⟩ else ⊥ := by
  rw [lg_at]
  have e : ∀ k : Fin 128, (max ((∑ j : Fin 128, x (ix4 0 0 g j) * dw (ix2 j k) : EReal) + db (ix2 0 k)) 0 : EReal) = hid P (q g) k := fun k => by
    unfold hid dense
    rw [hdb]
    refine congrArg (fun r : EReal => max (r + P.db (ix1 k)) 0) (Finset.sum_congr rfl fun j _ => ?_)
    rw [hx, hdw]
  simp only [e, how, hob]
  split_ifs with h
  · rfl
  · simp only [mul_zero, Finset.sum_const_zero, zero_add]

/-- The log-softmax of such rows. -/
theorem soft_pad (l : FVec Ideal S16x128 .f32) (hl : ∀ (g : Fin 16) (o : Fin 128), (l (ix2 g o) : EReal) = if h : o.val < 5 then logit P (q g) ⟨o.val, h⟩ else ⊥) (g : Fin 16) (o : Fin 5) :
    (soft l (ix2 g ⟨o.val, by omega⟩) : EReal) = logProb P (q g) o := by
  have hm : (peak l (ix2 g 0) : EReal) = top P (q g) := (peak_at l g).trans (fold_pad (C := 5) (by norm_num) _ _ (hl g))
  rw [soft_at, norm_at, hm, hl, dif_pos (show (⟨o.val, by omega⟩ : Fin 128).val < 5 from o.isLt)]
  unfold logProb
  exact congrArg (fun r : EReal => logit P (q g) o - (Ideal.log r + top P (q g))) (exp_pad (C := 5) (by norm_num) _ _ _ (hl g))

/-- What is asked of the kernel's fifteen operands: the laid-out taps, and weights and biases bordered by zeros (the output biases by minus infinity). -/
structure Fed (x0 : FVec Ideal S32x32x16x108 .f32) (x1 : FVec Ideal S108x128 .f32) (x2 : FVec Ideal S1x128 .f32) (x3 : FVec Ideal S1152x256 .f32) (x4 : FVec Ideal S1x256 .f32)
    (x5 : FVec Ideal S2304x256 .f32) (x6 : FVec Ideal S1x256 .f32) (x7 : FVec Ideal S2304x256 .f32) (x8 : FVec Ideal S1x256 .f32) (x9 : FVec Ideal S2304x128 .f32) (x10 : FVec Ideal S1x128 .f32)
    (x11 : FVec Ideal S128x128 .f32) (x12 : FVec Ideal S1x128 .f32) (x13 : FVec Ideal S128x128 .f32) (x14 : FVec Ideal S1x128 .f32) : Prop where
  h0 : ∀ (y z : Fin 32) (g : Fin 16) (t : Fin 9) (c : Fin 12), (x0 (ix4 y z g ⟨12 * t.val + c.val, by omega⟩) : EReal) = tap (n := 2 * 16) (feat0 P (q g)) c (y.val + t.val / 3) (z.val + t.val % 3)
  h1 : ∀ (t : Fin 9) (c : Fin 12) (o : Fin 128), (x1 (ix2 ⟨12 * t.val + c.val, by omega⟩ ⟨o.val, by omega⟩) : EReal) = if h : c.val < 12 then taps P.w1 o ⟨c.val, h⟩ t else 0
  h2 : ∀ o : Fin 128, (x2 (ix2 0 ⟨o.val, by omega⟩) : EReal) = P.b1 (ix1 o)
  h3 : ∀ (t : Fin 9) (c : Fin 128) (o : Fin 164), (x3 (ix2 ⟨128 * t.val + c.val, by omega⟩ ⟨o.val, by omega⟩) : EReal) = if h : c.val < 128 then taps P.w2 o ⟨c.val, h⟩ t else 0
  h4 : ∀ o : Fin 164, (x4 (ix2 0 ⟨o.val, by omega⟩) : EReal) = P.b2 (ix1 o)
  h5 : ∀ (t : Fin 9) (c : Fin 256) (o : Fin 192), (x5 (ix2 ⟨256 * t.val + c.val, by omega⟩ ⟨o.val, by omega⟩) : EReal) = if h : c.val < 164 then taps P.w3 o ⟨c.val, h⟩ t else 0
  h6 : ∀ o : Fin 192, (x6 (ix2 0 ⟨o.val, by omega⟩) : EReal) = P.b3 (ix1 o)
  h7 : ∀ (t : Fin 9) (c : Fin 256) (o : Fin 192), (x7 (ix2 ⟨256 * t.val + c.val, by omega⟩ ⟨o.val, by omega⟩) : EReal) = if h : c.val < 192 then taps P.w4 o ⟨c.val, h⟩ t else 0
  h8 : ∀ o : Fin 192, (x8 (ix2 0 ⟨o.val, by omega⟩) : EReal) = P.b4 (ix1 o)
  h9 : ∀ (t : Fin 9) (c : Fin 256) (o : Fin 128), (x9 (ix2 ⟨256 * t.val + c.val, by omega⟩ ⟨o.val, by omega⟩) : EReal) = if h : c.val < 192 then taps P.w5 o ⟨c.val, h⟩ t else 0
  h10 : ∀ o : Fin 128, (x10 (ix2 0 ⟨o.val, by omega⟩) : EReal) = P.b5 (ix1 o)
  h11 : ∀ j k : Fin 128, (x11 (ix2 j k) : EReal) = P.dw (ix2 k j)
  h12 : ∀ k : Fin 128, (x12 (ix2 0 k) : EReal) = P.db (ix1 k)
  h13 : ∀ k o : Fin 128, (x13 (ix2 k o) : EReal) = if h : o.val < 5 then P.ow (ix2 ⟨o.val, h⟩ k) else 0
  h14 : ∀ o : Fin 128, (x14 (ix2 0 o) : EReal) = if h : o.val < 5 then P.ob (ix1 ⟨o.val, h⟩) else ⊥

/-- The kernel on sixteen sequences: the composed payloads. -/
def net (x0 : FVec Ideal S32x32x16x108 .f32) (x1 : FVec Ideal S108x128 .f32) (x2 : FVec Ideal S1x128 .f32) (x3 : FVec Ideal S1152x256 .f32) (x4 : FVec Ideal S1x256 .f32)
    (x5 : FVec Ideal S2304x256 .f32) (x6 : FVec Ideal S1x256 .f32) (x7 : FVec Ideal S2304x256 .f32) (x8 : FVec Ideal S1x256 .f32) (x9 : FVec Ideal S2304x128 .f32) (x10 : FVec Ideal S1x128 .f32)
    (x11 : FVec Ideal S128x128 .f32) (x12 : FVec Ideal S1x128 .f32) (x13 : FVec Ideal S128x128 .f32) (x14 : FVec Ideal S1x128 .f32) : FVec Ideal S16x128 .f32 :=
  soft (lg (mx5 (prod5 (act4 (prod4 (act3 (prod3 (act2 (prod2 (act1 (prod1 x0 x1) x2) x3) x4) x5) x6) x7) x8) x9) x10) x11 x12 x13 x14)

/-- On sixteen sequences the kernel computes the specification's log-probabilities. -/
theorem net_eq {x0 x1 x2 x3 x4 x5 x6 x7 x8 x9 x10 x11 x12 x13 x14} (h : Fed P q x0 x1 x2 x3 x4 x5 x6 x7 x8 x9 x10 x11 x12 x13 x14) (g : Fin 16) (o : Fin 5) :
    (net x0 x1 x2 x3 x4 x5 x6 x7 x8 x9 x10 x11 x12 x13 x14 (ix2 g ⟨o.val, by omega⟩) : EReal) = logProb P (q g) o := by
  have f1 := layer1 P q x0 h.h0 x1 h.h1 x2 h.h2
  have f2 := layer2 P q _ _ f1 x3 h.h3 x4 h.h4
  have f3 := layer3 P q _ _ f2 x5 h.h5 x6 h.h6
  have f4 := layer4 P q _ _ f3 x7 h.h7 x8 h.h8
  have f5 := layer5 P q _ _ f4 x9 h.h9 x10 h.h10
  exact soft_pad P q _ (logits P q _ (fun g o => f5 0 0 g o) x11 h.h11 x12 h.h12 x13 h.h13 x14 h.h14) g o

end Cert.ConvIdeal.Net
-- ==== Proof.ConvHost.lean ====
module

public import proofs.«01_k».proof.Proof.ConvNet
public import proofs.«01_k».proof.Proof.BlockStore
public import proofs.«01_k».proof.Proof.Gen.ConvIdeal.Frame

@[expose] public section

set_option maxRecDepth 16384

noncomputable section

open Idealize.ShloMosaic Idealize.ShloMosaic.TcCoe Idealize.SL.Sem Idealize.ShloMosaic.Tactic Cert.ConvSpec

namespace Cert.ConvIdeal.Host

open Cert.ConvIdeal Cert.ConvIdeal.Gen

/-- `block_set` for an array of rank 4 whose block starts at the origin, the coordinates one by one. -/
theorem block_set4 {α : Type} {a b e f p q r s : ℕ} {si : Shape} {w : ℕ} (d : ScatterDims ⟨4, ![a, b, e, f]⟩ si ⟨4, ![p, q, r, s]⟩)
    (x : (⟨4, ![a, b, e, f]⟩ : Shape).Idx → α) (idx : IVec si w) (u : (⟨4, ![p, q, r, s]⟩ : Shape).Idx → α) (i : Fin a) (j : Fin b) (k : Fin e) (l : Fin f)
    (hw : ∀ (k : (⟨4, ![p, q, r, s]⟩ : Shape).Idx) (e : Fin 4), d.window k e = (k e).val)
    (hs : ∀ (k : (⟨4, ![p, q, r, s]⟩ : Shape).Idx) (e : Fin 4), d.start k idx e = ((0 : ℕ) : ℤ)) :
    Host.scatter d (fun _ b => b) x idx u (ix4 i j k l)
      = if h : (i.val < p ∧ j.val < q) ∧ (k.val < r ∧ l.val < s) then u (ix4 ⟨i.val, h.1.1⟩ ⟨j.val, h.1.2⟩ ⟨k.val, h.2.1⟩ ⟨l.val, h.2.2⟩)
        else x (ix4 i j k l) := by
  rw [Cert.BlockStore.block_set d x idx u (fun _ => 0) hw hs]
  by_cases h : (i.val < p ∧ j.val < q) ∧ (k.val < r ∧ l.val < s)
  · rw [dif_pos h, dif_pos (fun c => match c with
      | ⟨0, _⟩ => ⟨Nat.zero_le _, by have := h.1.1; show i.val < 0 + p; omega⟩
      | ⟨1, _⟩ => ⟨Nat.zero_le _, by have := h.1.2; show j.val < 0 + q; omega⟩
      | ⟨2, _⟩ => ⟨Nat.zero_le _, by have := h.2.1; show k.val < 0 + r; omega⟩
      | ⟨3, _⟩ => ⟨Nat.zero_le _, by have := h.2.2; show l.val < 0 + s; omega⟩)]
    exact congrArg u (funext fun c => match c with | ⟨0, _⟩ => rfl | ⟨1, _⟩ => rfl | ⟨2, _⟩ => rfl | ⟨3, _⟩ => rfl)
  · rw [dif_neg h, dif_neg (fun g => h ⟨⟨by have := (g (0 : Fin 4)).2; change i.val < 0 + p at this; omega, by have := (g (1 : Fin 4)).2; change j.val < 0 + q at this; omega⟩,
      ⟨by have := (g (2 : Fin 4)).2; change k.val < 0 + r at this; omega, by have := (g (3 : Fin 4)).2; change l.val < 0 + s at this; omega⟩⟩)]

variable (m : (ℓ : Loc nD τ sig) → Buf (Elt Ideal) ℓ)

/-- A core's arguments. -/
def args (c : Dev nD) : Args where
  focus := (m (c, Proc.devRef .tc main_arg0) : FVec Ideal S12x32x32x256 .f32)
  w1 := (m (c, Proc.devRef .tc main_arg1) : FVec Ideal S128x12x3x3 .f32)
  b1 := (m (c, Proc.devRef .tc main_arg2) : FVec Ideal S128 .f32)
  w2 := (m (c, Proc.devRef .tc main_arg3) : FVec Ideal S164x128x3x3 .f32)
  b2 := (m (c, Proc.devRef .tc main_arg4) : FVec Ideal S164 .f32)
  w3 := (m (c, Proc.devRef .tc main_arg5) : FVec Ideal S192x164x3x3 .f32)
  b3 := (m (c, Proc.devRef .tc main_arg6) : FVec Ideal S192 .f32)
  w4 := (m (c, Proc.devRef .tc main_arg7) : FVec Ideal S192x192x3x3 .f32)
  b4 := (m (c, Proc.devRef .tc main_arg8) : FVec Ideal S192 .f32)
  w5 := (m (c, Proc.devRef .tc main_arg9) : FVec Ideal S128x192x3x3 .f32)
  b5 := (m (c, Proc.devRef .tc main_arg10) : FVec Ideal S128 .f32)
  dw := (m (c, Proc.devRef .tc main_arg11) : FVec Ideal S128x128 .f32)
  db := (m (c, Proc.devRef .tc main_arg12) : FVec Ideal S128 .f32)
  ow := (m (c, Proc.devRef .tc main_arg13) : FVec Ideal S5x128 .f32)
  ob := (m (c, Proc.devRef .tc main_arg14) : FVec Ideal S5 .f32)

/-- The first layer's weights: tap after tap, channel after channel. -/
theorem V_w1 (c : Dev nD) (t : Fin 9) (k : Fin 12) (o : Fin 128) : (V m c main_v23 : FVec Ideal S108x128 .f32) (ix2 ⟨12 * t.val + k.val, by omega⟩ o)
    = (taps (args m c).w1 o k t : EReal) := by
  simp only [V, V0, hostOps0, hostOps0_1, hostOps0_2, List.flatten_cons, List.flatten_nil, List.append_nil, List.cons_append, List.nil_append]
  entry_read
  unfold taps args
  pointwise
  simp only [show (12 * t.val + k.val) / 36 = t.val / 3 from by omega, show (12 * t.val + k.val) / 12 % 3 = t.val % 3 from by omega]

/-- The second layer's weights: tap after tap, stored channel after stored channel, zero beside the real channels. -/
theorem V_w2 (c : Dev nD) (t : Fin 9) (k : Fin 128) (o : Fin 164) : (V m c main_v28 : FVec Ideal S1152x256 .f32) (ix2 ⟨128 * t.val + k.val, by omega⟩ ⟨o.val, by omega⟩)
    = (if h : k.val < 128 then taps (args m c).w2 o ⟨k.val, h⟩ t else 0 : EReal) := by
  simp only [V, V0, hostOps0, hostOps0_1, hostOps0_2, List.flatten_cons, List.flatten_nil, List.append_nil, List.cons_append, List.nil_append]
  entry_read
  generalize hS : (Host.scatter _ _ _ _ _ : FVec Ideal S3x3x128x256 .f32) = Z
  pointwise
  rw [← hS, block_set4 _ _ _ _ _ _ _ _ (fun k a => match a with | ⟨0, _⟩ => rfl | ⟨1, _⟩ => rfl | ⟨2, _⟩ => rfl | ⟨3, _⟩ => rfl) (fun k a => match a with | ⟨0, _⟩ => rfl | ⟨1, _⟩ => rfl | ⟨2, _⟩ => rfl | ⟨3, _⟩ => rfl)]
  clear hS
  unfold taps args
  pointwise
  simp only [show (128 * t.val + k.val) / 384 = t.val / 3 from by omega, show (128 * t.val + k.val) / 128 % 3 = t.val % 3 from by omega]
  split_ifs <;> first | rfl | omega

/-- The third layer's weights: tap after tap, stored channel after stored channel, zero beside the real channels. -/
theorem V_w3 (c : Dev nD) (t : Fin 9) (k : Fin 256) (o : Fin 192) : (V m c main_v35 : FVec Ideal S2304x256 .f32) (ix2 ⟨256 * t.val + k.val, by omega⟩ ⟨o.val, by omega⟩)
    = (if h : k.val < 164 then taps (args m c).w3 o ⟨k.val, h⟩ t else 0 : EReal) := by
  simp only [V, V0, hostOps0, hostOps0_1, hostOps0_2, List.flatten_cons, List.flatten_nil, List.append_nil, List.cons_append, List.nil_append]
  entry_read
  generalize hS : (Host.scatter _ _ _ _ _ : FVec Ideal S3x3x256x256 .f32) = Z
  pointwise
  rw [← hS, block_set4 _ _ _ _ _ _ _ _ (fun k a => match a with | ⟨0, _⟩ => rfl | ⟨1, _⟩ => rfl | ⟨2, _⟩ => rfl | ⟨3, _⟩ => rfl) (fun k a => match a with | ⟨0, _⟩ => rfl | ⟨1, _⟩ => rfl | ⟨2, _⟩ => rfl | ⟨3, _⟩ => rfl)]
  clear hS
  unfold taps args
  pointwise
  simp only [show (256 * t.val + k.val) / 768 = t.val / 3 from by omega, show (256 * t.val + k.val) / 256 % 3 = t.val % 3 from by omega]
  split_ifs <;> first | rfl | omega

/-- The fourth layer's weights: tap after tap, stored channel after stored channel, zero beside the real channels. -/
theorem V_w4 (c : Dev nD) (t : Fin 9) (k : Fin 256) (o : Fin 192) : (V m c main_v42 : FVec Ideal S2304x256 .f32) (ix2 ⟨256 * t.val + k.val, by omega⟩ ⟨o.val, by omega⟩)
    = (if h : k.val < 192 then taps (args m c).w4 o ⟨k.val, h⟩ t else 0 : EReal) := by
  simp only [V, V0, hostOps0, hostOps0_1, hostOps0_2, List.flatten_cons, List.flatten_nil, List.append_nil, List.cons_append, List.nil_append]
  entry_read
  generalize hS : (Host.scatter _ _ _ _ _ : FVec Ideal S3x3x256x256 .f32) = Z
  pointwise
  rw [← hS, block_set4 _ _ _ _ _ _ _ _ (fun k a => match a with | ⟨0, _⟩ => rfl | ⟨1, _⟩ => rfl | ⟨2, _⟩ => rfl | ⟨3, _⟩ => rfl) (fun k a => match a with | ⟨0, _⟩ => rfl | ⟨1, _⟩ => rfl | ⟨2, _⟩ => rfl | ⟨3, _⟩ => rfl)]
  clear hS
  unfold taps args
  pointwise
  simp only [show (256 * t.val + k.val) / 768 = t.val / 3 from by omega, show (256 * t.val + k.val) / 256 % 3 = t.val % 3 from by omega]
  split_ifs <;> first | rfl | omega

/-- The fifth layer's weights: tap after tap, stored channel after stored channel, zero beside the real channels. -/
theorem V_w5 (c : Dev nD) (t : Fin 9) (k : Fin 256) (o : Fin 128) : (V m c main_v47 : FVec Ideal S2304x128 .f32) (ix2 ⟨256 * t.val + k.val, by omega⟩ ⟨o.val, by omega⟩)
    = (if h : k.val < 192 then taps (args m c).w5 o ⟨k.val, h⟩ t else 0 : EReal) := by
  simp only [V, V0, hostOps0, hostOps0_1, hostOps0_2, List.flatten_cons, List.flatten_nil, List.append_nil, List.cons_append, List.nil_append]
  entry_read
  generalize hS : (Host.scatter _ _ _ _ _ : FVec Ideal S3x3x256x128 .f32) = Z
  pointwise
  rw [← hS, block_set4 _ _ _ _ _ _ _ _ (fun k a => match a with | ⟨0, _⟩ => rfl | ⟨1, _⟩ => rfl | ⟨2, _⟩ => rfl | ⟨3, _⟩ => rfl) (fun k a => match a with | ⟨0, _⟩ => rfl | ⟨1, _⟩ => rfl | ⟨2, _⟩ => rfl | ⟨3, _⟩ => rfl)]
  clear hS
  unfold taps args
  pointwise
  simp only [show (256 * t.val + k.val) / 768 = t.val / 3 from by omega, show (256 * t.val + k.val) / 256 % 3 = t.val % 3 from by omega]
  split_ifs <;> first | rfl | omega

/-- The first layer's biases. -/
theorem V_b1 (c : Dev nD) (o : Fin 128) : (V m c main_v48 : FVec Ideal S1x128 .f32) (ix2 0 o) = ((args m c).b1 (ix1 o) : EReal) := by
  simp only [V, V0, hostOps0, hostOps0_1, hostOps0_2, List.flatten_cons, List.flatten_nil, List.append_nil, List.cons_append, List.nil_append]
  entry_read
  unfold args
  pointwise

/-- The fifth layer's biases. -/
theorem V_b5 (c : Dev nD) (o : Fin 128) : (V m c main_v61 : FVec Ideal S1x128 .f32) (ix2 0 o) = ((args m c).b5 (ix1 o) : EReal) := by
  simp only [V, V0, hostOps0, hostOps0_1, hostOps0_2, List.flatten_cons, List.flatten_nil, List.append_nil, List.cons_append, List.nil_append]
  entry_read
  unfold args
  pointwise

/-- The second layer's biases. -/
theorem V_b2 (c : Dev nD) (o : Fin 164) : (V m c main_v52 : FVec Ideal S1x256 .f32) (ix2 0 ⟨o.val, by omega⟩) = ((args m c).b2 (ix1 o) : EReal) := by
  simp only [V, V0, hostOps0, hostOps0_1, hostOps0_2, List.flatten_cons, List.flatten_nil, List.append_nil, List.cons_append, List.nil_append]
  entry_read
  rw [Cert.BlockStore.block_set2 0 0 _ _ _ _ _ _ (fun k a => match a with | ⟨0, _⟩ => rfl | ⟨1, _⟩ => rfl) (fun _ => rfl) (fun _ => rfl)]
  unfold args
  pointwise

/-- The third layer's biases. -/
theorem V_b3 (c : Dev nD) (o : Fin 192) : (V m c main_v56 : FVec Ideal S1x256 .f32) (ix2 0 ⟨o.val, by omega⟩) = ((args m c).b3 (ix1 o) : EReal) := by
  simp only [V, V0, hostOps0, hostOps0_1, hostOps0_2, List.flatten_cons, List.flatten_nil, List.append_nil, List.cons_append, List.nil_append]
  entry_read
  rw [Cert.BlockStore.block_set2 0 0 _ _ _ _ _ _ (fun k a => match a with | ⟨0, _⟩ => rfl | ⟨1, _⟩ => rfl) (fun _ => rfl) (fun _ => rfl)]
  unfold args
  pointwise

/-- The fourth layer's biases. -/
theorem V_b4 (c : Dev nD) (o : Fin 192) : (V m c main_v60 : FVec Ideal S1x256 .f32) (ix2 0 ⟨o.val, by omega⟩) = ((args m c).b4 (ix1 o) : EReal) := by
  simp only [V, V0, hostOps0, hostOps0_1, hostOps0_2, List.flatten_cons, List.flatten_nil, List.append_nil, List.cons_append, List.nil_append]
  entry_read
  rw [Cert.BlockStore.block_set2 0 0 _ _ _ _ _ _ (fun k a => match a with | ⟨0, _⟩ => rfl | ⟨1, _⟩ => rfl) (fun _ => rfl) (fun _ => rfl)]
  unfold args
  pointwise

/-- The dense layer's weights, transposed. -/
theorem V_dw (c : Dev nD) (j k : Fin 128) : (V m c main_v71 : FVec Ideal S128x128 .f32) (ix2 j k) = ((args m c).dw (ix2 k j) : EReal) := by
  simp only [V, V0, hostOps0, hostOps0_1, hostOps0_2, List.flatten_cons, List.flatten_nil, List.append_nil, List.cons_append, List.nil_append]
  entry_read
  unfold args
  pointwise

/-- The dense layer's biases. -/
theorem V_db (c : Dev nD) (k : Fin 128) : (V m c main_v70 : FVec Ideal S1x128 .f32) (ix2 0 k) = ((args m c).db (ix1 k) : EReal) := by
  simp only [V, V0, hostOps0, hostOps0_1, hostOps0_2, List.flatten_cons, List.flatten_nil, List.append_nil, List.cons_append, List.nil_append]
  entry_read
  unfold args
  pointwise

/-- The output layer's weights, transposed, zero beside the five labels. -/
theorem V_ow (c : Dev nD) (k o : Fin 128) : (V m c main_v65 : FVec Ideal S128x128 .f32) (ix2 k o) = (if h : o.val < 5 then (args m c).ow (ix2 ⟨o.val, h⟩ k) else 0 : EReal) := by
  simp only [V, V0, hostOps0, hostOps0_1, hostOps0_2, List.flatten_cons, List.flatten_nil, List.append_nil, List.cons_append, List.nil_append]
  entry_read
  rw [Cert.BlockStore.block_set2 0 0 _ _ _ _ _ _ (fun k a => match a with | ⟨0, _⟩ => rfl | ⟨1, _⟩ => rfl) (fun _ => rfl) (fun _ => rfl)]
  unfold args
  pointwise

/-- The output layer's biases, minus infinity beside the five labels. -/
theorem V_ob (c : Dev nD) (o : Fin 128) : (V m c main_v69 : FVec Ideal S1x128 .f32) (ix2 0 o) = (if h : o.val < 5 then (args m c).ob (ix1 ⟨o.val, h⟩) else ⊥ : EReal) := by
  simp only [V, V0, hostOps0, hostOps0_1, hostOps0_2, List.flatten_cons, List.flatten_nil, List.append_nil, List.cons_append, List.nil_append]
  entry_read
  rw [Cert.BlockStore.block_set2 0 0 _ _ _ _ _ _ (fun k a => match a with | ⟨0, _⟩ => rfl | ⟨1, _⟩ => rfl) (fun _ => rfl) (fun _ => rfl)]
  unfold args
  pointwise
  simp only [bot_word]

/-- The operations before the nine shifted copies are laid one after another, and that operation. -/
theorem V_main_v21 (c : Dev nD) (W : Valuation τ sig (Elt Ideal)) (hW : W = StableHlo.after ((List.flatten [hostOps0, hostOps0_1, hostOps0_2]).take 22) (fun b => m (c, b))) :
    (V m c main_v21 : FVec Ideal S32x32x256x108 .f32)
      = (shapeCast S32x32x256x108 (transpose S32x32x256x9x12 [2, 3, 4, 0, 1] (W (Proc.devRef .tc main_v19) : FVec Ideal S9x12x32x32x256 .f32) transposes_S9x12x32x32x256_S32x32x256x9x12_2_3_4_0_1) shapeCasts_S32x32x256x9x12_S32x32x256x108 : FVec Ideal S32x32x256x108 .f32) := by
  have h : ∀ σ : Valuation τ sig (Elt Ideal), StableHlo.after (List.flatten [hostOps0, hostOps0_1, hostOps0_2]) σ
      = StableHlo.after ((List.flatten [hostOps0, hostOps0_1, hostOps0_2]).drop 22) (StableHlo.after ((List.flatten [hostOps0, hostOps0_1, hostOps0_2]).take 22) σ) := fun σ => rfl
  show StableHlo.after (List.flatten [hostOps0, hostOps0_1, hostOps0_2]) (fun b => m (c, b)) (Proc.devRef .tc main_v21) = _
  rw [h, ← hW]
  simp only [hostOps0, hostOps0_1, hostOps0_2, List.flatten_cons, List.flatten_nil, List.append_nil, List.cons_append, List.nil_append, List.drop]
  after_results
  rfl

/-- The nine shifted copies, one after another. -/
theorem nine (c : Dev nD) (W : Valuation τ sig (Elt Ideal)) (hW : W = StableHlo.after ((List.flatten [hostOps0, hostOps0_1, hostOps0_2]).take 21) (fun b => m (c, b))) :
    StableHlo.after ((List.flatten [hostOps0, hostOps0_1, hostOps0_2]).take 22) (fun b => m (c, b)) (Proc.devRef .tc main_v19)
      = (concatenate S9x12x32x32x256 0 [⟨S1x12x32x32x256, (W (Proc.devRef .tc main_v10) : FVec Ideal S1x12x32x32x256 .f32)⟩, ⟨S1x12x32x32x256, (W (Proc.devRef .tc main_v11) : FVec Ideal S1x12x32x32x256 .f32)⟩, ⟨S1x12x32x32x256, (W (Proc.devRef .tc main_v12) : FVec Ideal S1x12x32x32x256 .f32)⟩, ⟨S1x12x32x32x256, (W (Proc.devRef .tc main_v13) : FVec Ideal S1x12x32x32x256 .f32)⟩, ⟨S1x12x32x32x256, (W (Proc.devRef .tc main_v14) : FVec Ideal S1x12x32x32x256 .f32)⟩, ⟨S1x12x32x32x256, (W (Proc.devRef .tc main_v15) : FVec Ideal S1x12x32x32x256 .f32)⟩, ⟨S1x12x32x32x256, (W (Proc.devRef .tc main_v16) : FVec Ideal S1x12x32x32x256 .f32)⟩, ⟨S1x12x32x32x256, (W (Proc.devRef .tc main_v17) : FVec Ideal S1x12x32x32x256 .f32)⟩, ⟨S1x12x32x32x256, (W (Proc.devRef .tc main_v18) : FVec Ideal S1x12x32x32x256 .f32)⟩] concatenates_S1x12x32x32x256_S1x12x32x32x256_S1x12x32x32x256_S1x12x32x32x256_S1x12x32x32x256_S1x12x32x32x256_S1x12x32x32x256_S1x12x32x32x256_S1x12x32x32x256_S9x12x32x32x256_d0 : FVec Ideal S9x12x32x32x256 .f32) := by
  subst hW
  simp only [hostOps0, hostOps0_1, hostOps0_2, List.flatten_cons, List.flatten_nil, List.append_nil, List.cons_append, List.nil_append, List.take, StableHlo.after_cons, StableHlo.after_nil]
  rw [StableHlo.nary_result]
  rfl

/-- The focus maps with their border of zeros. -/
def padded (x : FVec Ideal S12x32x32x256 .f32) : FVec Ideal S12x34x34x256 .f32 :=
  pad S12x34x34x256 ![0, 1, 1, 0] ![0, 1, 1, 0] ![0, 0, 0, 0] x (sitofp (F := Ideal) .f32 (constantI S_ 32 0#32)) pads_S12x32x32x256_S12x34x34x256_000_110_110_000 h_S_

theorem padded_at (x : FVec Ideal S12x32x32x256 .f32) (k : Fin 12) (y z : Fin 34) (b : Fin 256) :
    padded x (ix4 k y z b) = (tap (n := 2 * 16) (fun (k : Fin 12) (y z : Fin (2 * 16)) => x (ix4 k y z b)) k y.val z.val : EReal) := by
  unfold padded tap
  pointwise
  simp only [zero_word]
  split_ifs <;> first | rfl | omega

/-- Copy 0: the padded maps from row 0 and column 0 on. -/
theorem copy0 (c : Dev nD) : StableHlo.after ((List.flatten [hostOps0, hostOps0_1, hostOps0_2]).take 21) (fun b => m (c, b)) (Proc.devRef .tc main_v10)
    = (broadcastInDim S1x12x32x32x256 ![1, 2, 3, 4] bcast_S12x32x32x256_S1x12x32x32x256_1_2_3_4 (extractStridedSlice S12x32x32x256 ![0, 0, 0, 0] (padded (m (c, Proc.devRef .tc main_arg0))) slices_S12x34x34x256_S12x32x32x256_0_0_0_0) : FVec Ideal S1x12x32x32x256 .f32) := by
  unfold padded
  simp only [hostOps0, hostOps0_1, hostOps0_2, List.flatten_cons, List.flatten_nil, List.append_nil, List.cons_append, List.nil_append, List.take]
  after_results
  rfl

/-- Copy 1: the padded maps from row 0 and column 1 on. -/
theorem copy1 (c : Dev nD) : StableHlo.after ((List.flatten [hostOps0, hostOps0_1, hostOps0_2]).take 21) (fun b => m (c, b)) (Proc.devRef .tc main_v11)
    = (broadcastInDim S1x12x32x32x256 ![1, 2, 3, 4] bcast_S12x32x32x256_S1x12x32x32x256_1_2_3_4 (extractStridedSlice S12x32x32x256 ![0, 0, 1, 0] (padded (m (c, Proc.devRef .tc main_arg0))) slices_S12x34x34x256_S12x32x32x256_0_0_1_0) : FVec Ideal S1x12x32x32x256 .f32) := by
  unfold padded
  simp only [hostOps0, hostOps0_1, hostOps0_2, List.flatten_cons, List.flatten_nil, List.append_nil, List.cons_append, List.nil_append, List.take]
  after_results
  rfl

/-- Copy 2: the padded maps from row 0 and column 2 on. -/
theorem copy2 (c : Dev nD) : StableHlo.after ((List.flatten [hostOps0, hostOps0_1, hostOps0_2]).take 21) (fun b => m (c, b)) (Proc.devRef .tc main_v12)
    = (broadcastInDim S1x12x32x32x256 ![1, 2, 3, 4] bcast_S12x32x32x256_S1x12x32x32x256_1_2_3_4 (extractStridedSlice S12x32x32x256 ![0, 0, 2, 0] (padded (m (c, Proc.devRef .tc main_arg0))) slices_S12x34x34x256_S12x32x32x256_0_0_2_0) : FVec Ideal S1x12x32x32x256 .f32) := by
  unfold padded
  simp only [hostOps0, hostOps0_1, hostOps0_2, List.flatten_cons, List.flatten_nil, List.append_nil, List.cons_append, List.nil_append, List.take]
  after_results
  rfl

/-- Copy 3: the padded maps from row 1 and column 0 on. -/
theorem copy3 (c : Dev nD) : StableHlo.after ((List.flatten [hostOps0, hostOps0_1, hostOps0_2]).take 21) (fun b => m (c, b)) (Proc.devRef .tc main_v13)
    = (broadcastInDim S1x12x32x32x256 ![1, 2, 3, 4] bcast_S12x32x32x256_S1x12x32x32x256_1_2_3_4 (extractStridedSlice S12x32x32x256 ![0, 1, 0, 0] (padded (m (c, Proc.devRef .tc main_arg0))) slices_S12x34x34x256_S12x32x32x256_0_1_0_0) : FVec Ideal S1x12x32x32x256 .f32) := by
  unfold padded
  simp only [hostOps0, hostOps0_1, hostOps0_2, List.flatten_cons, List.flatten_nil, List.append_nil, List.cons_append, List.nil_append, List.take]
  after_results
  rfl

/-- Copy 4: the padded maps from row 1 and column 1 on. -/
theorem copy4 (c : Dev nD) : StableHlo.after ((List.flatten [hostOps0, hostOps0_1, hostOps0_2]).take 21) (fun b => m (c, b)) (Proc.devRef .tc main_v14)
    = (broadcastInDim S1x12x32x32x256 ![1, 2, 3, 4] bcast_S12x32x32x256_S1x12x32x32x256_1_2_3_4 (extractStridedSlice S12x32x32x256 ![0, 1, 1, 0] (padded (m (c, Proc.devRef .tc main_arg0))) slices_S12x34x34x256_S12x32x32x256_0_1_1_0) : FVec Ideal S1x12x32x32x256 .f32) := by
  unfold padded
  simp only [hostOps0, hostOps0_1, hostOps0_2, List.flatten_cons, List.flatten_nil, List.append_nil, List.cons_append, List.nil_append, List.take]
  after_results
  rfl

/-- Copy 5: the padded maps from row 1 and column 2 on. -/
theorem copy5 (c : Dev nD) : StableHlo.after ((List.flatten [hostOps0, hostOps0_1, hostOps0_2]).take 21) (fun b => m (c, b)) (Proc.devRef .tc main_v15)
    = (broadcastInDim S1x12x32x32x256 ![1, 2, 3, 4] bcast_S12x32x32x256_S1x12x32x32x256_1_2_3_4 (extractStridedSlice S12x32x32x256 ![0, 1, 2, 0] (padded (m (c, Proc.devRef .tc main_arg0))) slices_S12x34x34x256_S12x32x32x256_0_1_2_0) : FVec Ideal S1x12x32x32x256 .f32) := by
  unfold padded
  simp only [hostOps0, hostOps0_1, hostOps0_2, List.flatten_cons, List.flatten_nil, List.append_nil, List.cons_append, List.nil_append, List.take]
  after_results
  rfl

/-- Copy 6: the padded maps from row 2 and column 0 on. -/
theorem copy6 (c : Dev nD) : StableHlo.after ((List.flatten [hostOps0, hostOps0_1, hostOps0_2]).take 21) (fun b => m (c, b)) (Proc.devRef .tc main_v16)
    = (broadcastInDim S1x12x32x32x256 ![1, 2, 3, 4] bcast_S12x32x32x256_S1x12x32x32x256_1_2_3_4 (extractStridedSlice S12x32x32x256 ![0, 2, 0, 0] (padded (m (c, Proc.devRef .tc main_arg0))) slices_S12x34x34x256_S12x32x32x256_0_2_0_0) : FVec Ideal S1x12x32x32x256 .f32) := by
  unfold padded
  simp only [hostOps0, hostOps0_1, hostOps0_2, List.flatten_cons, List.flatten_nil, List.append_nil, List.cons_append, List.nil_append, List.take]
  after_results
  rfl

/-- Copy 7: the padded maps from row 2 and column 1 on. -/
theorem copy7 (c : Dev nD) : StableHlo.after ((List.flatten [hostOps0, hostOps0_1, hostOps0_2]).take 21) (fun b => m (c, b)) (Proc.devRef .tc main_v17)
    = (broadcastInDim S1x12x32x32x256 ![1, 2, 3, 4] bcast_S12x32x32x256_S1x12x32x32x256_1_2_3_4 (extractStridedSlice S12x32x32x256 ![0, 2, 1, 0] (padded (m (c, Proc.devRef .tc main_arg0))) slices_S12x34x34x256_S12x32x32x256_0_2_1_0) : FVec Ideal S1x12x32x32x256 .f32) := by
  unfold padded
  simp only [hostOps0, hostOps0_1, hostOps0_2, List.flatten_cons, List.flatten_nil, List.append_nil, List.cons_append, List.nil_append, List.take]
  after_results
  rfl

/-- Copy 8: the padded maps from row 2 and column 2 on. -/
theorem copy8 (c : Dev nD) : StableHlo.after ((List.flatten [hostOps0, hostOps0_1, hostOps0_2]).take 21) (fun b => m (c, b)) (Proc.devRef .tc main_v18)
    = (broadcastInDim S1x12x32x32x256 ![1, 2, 3, 4] bcast_S12x32x32x256_S1x12x32x32x256_1_2_3_4 (extractStridedSlice S12x32x32x256 ![0, 2, 2, 0] (padded (m (c, Proc.devRef .tc main_arg0))) slices_S12x34x34x256_S12x32x32x256_0_2_2_0) : FVec Ideal S1x12x32x32x256 .f32) := by
  unfold padded
  simp only [hostOps0, hostOps0_1, hostOps0_2, List.flatten_cons, List.flatten_nil, List.append_nil, List.cons_append, List.nil_append, List.take]
  after_results
  rfl

set_option maxHeartbeats 4000000 in
/-- The kernel's first operand: tap after tap, channel after channel, the padded focus maps. -/
theorem V_x (c : Dev nD) (y z : Fin 32) (b : Fin 256) (t : Fin 9) (k : Fin 12) : (V m c main_v21 : FVec Ideal S32x32x256x108 .f32) (ix4 y z b ⟨12 * t.val + k.val, by omega⟩)
    = (tap (n := 2 * 16) (feat0 (args m c) b) k (y.val + t.val / 3) (z.val + t.val % 3) : EReal) := by
  rw [V_main_v21 m c _ rfl, nine m c _ rfl, copy0, copy1, copy2, copy3, copy4, copy5, copy6, copy7, copy8]
  have e : ∀ u v : Fin 34, (padded (m (c, Proc.devRef .tc main_arg0)) (ix4 k u v b) : EReal) = tap (n := 2 * 16) (feat0 (args m c) b) k u.val v.val := fun u v => padded_at _ k u v b
  generalize (padded (m (c, Proc.devRef .tc main_arg0)) : FVec Ideal S12x34x34x256 .f32) = A at e ⊢
  refine Eq.trans ?_ (e ⟨y.val + t.val / 3, by omega⟩ ⟨z.val + t.val % 3, by omega⟩)
  clear e
  fin_cases t <;> pointwise <;> (try simp only [Nat.add_comm _ y.val, Nat.add_comm _ z.val, Nat.mod_eq_of_lt k.isLt])
  all_goals first
    | done
    | rfl
    | (simp (disch := omega) only [dif_neg, dif_pos])

end Cert.ConvIdeal.Host
-- ==== Proof.ConvBlocks.lean ====
module

public import proofs.«01_k».proof.Proof.ConvHost
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem Idealize.ShloMosaic.Tactic Cert.ConvSpec
open Idealize.ShloMosaic.Pipeline (Dat)

namespace Cert.ConvIdeal.Out

open Cert.ConvIdeal Cert.ConvIdeal.Gen Cert.ConvIdeal.Net Cert.ConvIdeal.Host

/-- What one grid point leaves in its output block: the composed payloads of its fifteen input blocks. -/
theorem out_eq (x0 : FVec Ideal S32x32x16x108 .f32) (x1 : FVec Ideal S108x128 .f32) (x2 : FVec Ideal S1x128 .f32) (x3 : FVec Ideal S1152x256 .f32) (x4 : FVec Ideal S1x256 .f32) (x5 : FVec Ideal S2304x256 .f32) (x6 : FVec Ideal S1x256 .f32) (x7 : FVec Ideal S2304x256 .f32) (x8 : FVec Ideal S1x256 .f32) (x9 : FVec Ideal S2304x128 .f32) (x10 : FVec Ideal S1x128 .f32) (x11 : FVec Ideal S128x128 .f32) (x12 : FVec Ideal S1x128 .f32) (x13 : FVec Ideal S128x128 .f32) (x14 : FVec Ideal S1x128 .f32) :
    out0_15 (F := Ideal) x0 x1 x2 x3 x4 x5 x6 x7 x8 x9 x10 x11 x12 x13 x14 = net x0 x1 x2 x3 x4 x5 x6 x7 x8 x9 x10 x11 x12 x13 x14 := by
  unfold out0_15 k0_pay11 k0_pay12
  rw [View.canon_unit_zero (S := S16x128) (View.eq_zero_of_forall (by decide))]
  simp (disch := decide) only [View.ld_unit_lit']
  rw [pay2_eq, pay10_eq, pay4_eq, pay1_eq]
  rfl

variable (m : (ℓ : Loc nD τ sig) → Buf (Elt Ideal) ℓ) (ρ : Dev nD → PrngReg)

/-- Sixteen sequences of the laid-out taps. -/
def tile (X : FVec Ideal S32x32x256x108 .f32) (q : ℕ) : FVec Ideal S32x32x16x108 .f32 :=
  fun j => X (ix4 (j 0) (j 1) (⟨(16 * q + (j 2).val) % 256, Nat.mod_lt _ (by decide)⟩ : Fin 256) (j 3))

/-- Which block of its array each window takes at a grid point. -/
theorem idx : ∀ t : Fin cfg0.N, win0_0.index t = ![0, 0, t.val, 0] ∧ win0_15.index t = ![t.val, 0] ∧ t.val < 16 :=
  (by decide +kernel : ∀ t : Fin grid0.N, _)

theorem idx1 : ∀ t : Fin cfg0.N, win0_1.index t = ![0, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![0, 0] :=
  (by decide +kernel : ∀ t : Fin grid0.N, _)

theorem idx4 : ∀ t : Fin cfg0.N, win0_4.index t = ![0, 0] :=
  (by decide +kernel : ∀ t : Fin grid0.N, _)

theorem idx5 : ∀ t : Fin cfg0.N, win0_5.index t = ![0, 0] :=
  (by decide +kernel : ∀ t : Fin grid0.N, _)

theorem idx6 : ∀ t : Fin cfg0.N, win0_6.index t = ![0, 0] :=
  (by decide +kernel : ∀ t : Fin grid0.N, _)

theorem idx7 : ∀ t : Fin cfg0.N, win0_7.index t = ![0, 0] :=
  (by decide +kernel : ∀ t : Fin grid0.N, _)

theorem idx8 : ∀ t : Fin cfg0.N, win0_8.index t = ![0, 0] :=
  (by decide +kernel : ∀ t : Fin grid0.N, _)

theorem idx9 : ∀ t : Fin cfg0.N, win0_9.index t = ![0, 0] :=
  (by decide +kernel : ∀ t : Fin grid0.N, _)

theorem idx10 : ∀ t : Fin cfg0.N, win0_10.index t = ![0, 0] :=
  (by decide +kernel : ∀ t : Fin grid0.N, _)

theorem idx11 : ∀ t : Fin cfg0.N, win0_11.index t = ![0, 0] :=
  (by decide +kernel : ∀ t : Fin grid0.N, _)

theorem idx12 : ∀ t : Fin cfg0.N, win0_12.index t = ![0, 0] :=
  (by decide +kernel : ∀ t : Fin grid0.N, _)

theorem idx13 : ∀ t : Fin cfg0.N, win0_13.index t = ![0, 0] :=
  (by decide +kernel : ∀ t : Fin grid0.N, _)

theorem idx14 : ∀ t : Fin cfg0.N, win0_14.index t = ![0, 0] :=
  (by decide +kernel : ∀ t : Fin grid0.N, _)

theorem blk0 (c : Dev nD) (t : Fin cfg0.N) : iblk m c 0 t = tile (V m c main_v21) t.val := by
  funext y
  show V m c main_v21 (((cfg0.win 0).blk t).view.emb y) = _
  unfold tile
  generalize V m c main_v21 = X
  blk_ext [idx t]

theorem blk1 (c : Dev nD) (t : Fin cfg0.N) : iblk m c 1 t = V m c main_v23 := by
  funext y
  show V m c main_v23 (((cfg0.win 1).blk t).view.emb y) = V m c main_v23 y
  generalize V m c main_v23 = X
  blk_ext [idx1 t]

theorem blk2 (c : Dev nD) (t : Fin cfg0.N) : iblk m c 2 t = V m c main_v48 := by
  funext y
  show V m c main_v48 (((cfg0.win 2).blk t).view.emb y) = V m c main_v48 y
  generalize V m c main_v48 = X
  blk_ext [idx2 t]

theorem blk3 (c : Dev nD) (t : Fin cfg0.N) : iblk m c 3 t = V m c main_v28 := by
  funext y
  show V m c main_v28 (((cfg0.win 3).blk t).view.emb y) = V m c main_v28 y
  generalize V m c main_v28 = X
  blk_ext [idx3 t]

theorem blk4 (c : Dev nD) (t : Fin cfg0.N) : iblk m c 4 t = V m c main_v52 := by
  funext y
  show V m c main_v52 (((cfg0.win 4).blk t).view.emb y) = V m c main_v52 y
  generalize V m c main_v52 = X
  blk_ext [idx4 t]

theorem blk5 (c : Dev nD) (t : Fin cfg0.N) : iblk m c 5 t = V m c main_v35 := by
  funext y
  show V m c main_v35 (((cfg0.win 5).blk t).view.emb y) = V m c main_v35 y
  generalize V m c main_v35 = X
  blk_ext [idx5 t]

theorem blk6 (c : Dev nD) (t : Fin cfg0.N) : iblk m c 6 t = V m c main_v56 := by
  funext y
  show V m c main_v56 (((cfg0.win 6).blk t).view.emb y) = V m c main_v56 y
  generalize V m c main_v56 = X
  blk_ext [idx6 t]

theorem blk7 (c : Dev nD) (t : Fin cfg0.N) : iblk m c 7 t = V m c main_v42 := by
  funext y
  show V m c main_v42 (((cfg0.win 7).blk t).view.emb y) = V m c main_v42 y
  generalize V m c main_v42 = X
  blk_ext [idx7 t]

theorem blk8 (c : Dev nD) (t : Fin cfg0.N) : iblk m c 8 t = V m c main_v60 := by
  funext y
  show V m c main_v60 (((cfg0.win 8).blk t).view.emb y) = V m c main_v60 y
  generalize V m c main_v60 = X
  blk_ext [idx8 t]

theorem blk9 (c : Dev nD) (t : Fin cfg0.N) : iblk m c 9 t = V m c main_v47 := by
  funext y
  show V m c main_v47 (((cfg0.win 9).blk t).view.emb y) = V m c main_v47 y
  generalize V m c main_v47 = X
  blk_ext [idx9 t]

theorem blk10 (c : Dev nD) (t : Fin cfg0.N) : iblk m c 10 t = V m c main_v61 := by
  funext y
  show V m c main_v61 (((cfg0.win 10).blk t).view.emb y) = V m c main_v61 y
  generalize V m c main_v61 = X
  blk_ext [idx10 t]

theorem blk11 (c : Dev nD) (t : Fin cfg0.N) : iblk m c 11 t = V m c main_v71 := by
  funext y
  show V m c main_v71 (((cfg0.win 11).blk t).view.emb y) = V m c main_v71 y
  generalize V m c main_v71 = X
  blk_ext [idx11 t]

theorem blk12 (c : Dev nD) (t : Fin cfg0.N) : iblk m c 12 t = V m c main_v70 := by
  funext y
  show V m c main_v70 (((cfg0.win 12).blk t).view.emb y) = V m c main_v70 y
  generalize V m c main_v70 = X
  blk_ext [idx12 t]

theorem blk13 (c : Dev nD) (t : Fin cfg0.N) : iblk m c 13 t = V m c main_v65 := by
  funext y
  show V m c main_v65 (((cfg0.win 13).blk t).view.emb y) = V m c main_v65 y
  generalize V m c main_v65 = X
  blk_ext [idx13 t]

theorem blk14 (c : Dev nD) (t : Fin cfg0.N) : iblk m c 14 t = V m c main_v69 := by
  funext y
  show V m c main_v69 (((cfg0.win 14).blk t).view.emb y) = V m c main_v69 y
  generalize V m c main_v69 = X
  blk_ext [idx14 t]

/-- The whole output array: tile by tile, the composed payloads. -/
def whole (x0 : FVec Ideal S32x32x256x108 .f32) (x1 : FVec Ideal S108x128 .f32) (x2 : FVec Ideal S1x128 .f32) (x3 : FVec Ideal S1152x256 .f32) (x4 : FVec Ideal S1x256 .f32) (x5 : FVec Ideal S2304x256 .f32) (x6 : FVec Ideal S1x256 .f32) (x7 : FVec Ideal S2304x256 .f32) (x8 : FVec Ideal S1x256 .f32) (x9 : FVec Ideal S2304x128 .f32) (x10 : FVec Ideal S1x128 .f32) (x11 : FVec Ideal S128x128 .f32) (x12 : FVec Ideal S1x128 .f32) (x13 : FVec Ideal S128x128 .f32) (x14 : FVec Ideal S1x128 .f32) : FVec Ideal S256x128 .f32 := fun y =>
  net (tile x0 ((y 0).val / 16)) x1 x2 x3 x4 x5 x6 x7 x8 x9 x10 x11 x12 x13 x14 (ix2 (⟨(y 0).val % 16, Nat.mod_lt _ (by decide)⟩ : Fin 16) (y 1))

/-- The whole output array at an entry. -/
theorem whole_at (x0 : FVec Ideal S32x32x256x108 .f32) (x1 : FVec Ideal S108x128 .f32) (x2 : FVec Ideal S1x128 .f32) (x3 : FVec Ideal S1152x256 .f32) (x4 : FVec Ideal S1x256 .f32) (x5 : FVec Ideal S2304x256 .f32) (x6 : FVec Ideal S1x256 .f32) (x7 : FVec Ideal S2304x256 .f32) (x8 : FVec Ideal S1x256 .f32) (x9 : FVec Ideal S2304x128 .f32) (x10 : FVec Ideal S1x128 .f32) (x11 : FVec Ideal S128x128 .f32) (x12 : FVec Ideal S1x128 .f32) (x13 : FVec Ideal S128x128 .f32) (x14 : FVec Ideal S1x128 .f32) (b : Fin 256) (o : Fin 128) :
    whole x0 x1 x2 x3 x4 x5 x6 x7 x8 x9 x10 x11 x12 x13 x14 (ix2 b o) = net (tile x0 (b.val / 16)) x1 x2 x3 x4 x5 x6 x7 x8 x9 x10 x11 x12 x13 x14 (ix2 (⟨b.val % 16, Nat.mod_lt _ (by decide)⟩ : Fin 16) o) := rfl

/-- The whole output array of a core. -/
def OUT (c : Dev nD) : FVec Ideal S256x128 .f32 := whole (V m c main_v21) (V m c main_v23) (V m c main_v48) (V m c main_v28) (V m c main_v52) (V m c main_v35) (V m c main_v56) (V m c main_v42) (V m c main_v60) (V m c main_v47) (V m c main_v61) (V m c main_v71) (V m c main_v70) (V m c main_v65) (V m c main_v69)

/-- The output array after the run. -/
theorem final (c : Dev nD) : (dats m 0 c).arrAt 15 cfg0.N = OUT m c := by
  refine (dats m 0 c).arrAt_eq_of_covers 15 _ (by decide +kernel) fun t _ y => ?_
  blk_simp
  rw [after0_15, out_eq, blk0, blk1, blk2, blk3, blk4, blk5, blk6, blk7, blk8, blk9, blk10, blk11, blk12, blk13, blk14]
  unfold OUT whole
  have e := idx t
  have h0 : ((((cfg0.win 15).blk t).view.emb y) 0).val = t.val * 16 + (y 0).val := by blk_simp [idx t]
  have h1 : ((((cfg0.win 15).blk t).view.emb y) 1).val = (y 1).val := by blk_simp [idx t]
  clear e
  generalize ((cfg0.win 15).blk t).view.emb y = i at h0 h1 ⊢
  have hy : (y 0).val < 16 := (y 0).isLt
  have d1 : (i 0).val / 16 = t.val := by omega
  have m1 : (i 0).val % 16 = (y 0).val := by omega
  rw [d1]
  refine congrArg _ (funext fun a => Fin.ext ?_)
  match a with
  | ⟨0, _⟩ => exact m1.symm
  | ⟨1, _⟩ => exact h1.symm

end Cert.ConvIdeal.Out
-- ==== Proof.ConvFinal.lean ====
module

public import proofs.«01_k».proof.Proof.ConvBlocks
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem Idealize.ShloMosaic.Tactic Cert.ConvSpec
open Idealize.ShloMosaic.Pipeline (Dat)

namespace Cert.ConvIdeal.Out

open Cert.ConvIdeal Cert.ConvIdeal.Gen Cert.ConvIdeal.Net Cert.ConvIdeal.Host

variable (m : (ℓ : Loc nD τ sig) → Buf (Elt Ideal) ℓ) (ρ : Dev nD → PrngReg)

/-- Tile `q`'s operands are what the kernel is to be fed. -/
theorem fed (c : Dev nD) (q : ℕ) (hq : q < 16) : Fed (args m c) (fun g => ⟨16 * q + g.val, by omega⟩) (tile (V m c main_v21) q) (V m c main_v23) (V m c main_v48) (V m c main_v28) (V m c main_v52) (V m c main_v35) (V m c main_v56) (V m c main_v42) (V m c main_v60) (V m c main_v47) (V m c main_v61) (V m c main_v71) (V m c main_v70) (V m c main_v65) (V m c main_v69) where
  h0 y z g t k := by
    refine Eq.trans ?_ (V_x m c y z ⟨16 * q + g.val, by omega⟩ t k)
    refine congrArg (V m c main_v21 : FVec Ideal S32x32x256x108 .f32) (congrArg (fun b : Fin 256 => ix4 y z b (⟨12 * t.val + k.val, by omega⟩ : Fin 108)) (Fin.ext ?_))
    show (16 * q + g.val) % 256 = 16 * q + g.val
    exact Nat.mod_eq_of_lt (by omega)
  h1 t k o := by
    rw [dif_pos k.isLt]
    exact V_w1 m c t k o
  h2 o := V_b1 m c o
  h3 t k o := V_w2 m c t k o
  h4 o := V_b2 m c o
  h5 t k o := V_w3 m c t k o
  h6 o := V_b3 m c o
  h7 t k o := V_w4 m c t k o
  h8 o := V_b4 m c o
  h9 t k o := V_w5 m c t k o
  h10 o := V_b5 m c o
  h11 j k := V_dw m c j k
  h12 k := V_db m c k
  h13 k o := V_ow m c k o
  h14 o := V_ob m c o

/-- All the log-probabilities. -/
def LP (P : Args) : FVec Ideal S256x5 .f32 := fun y => logProb P (y 0) (y 1)

/-- The kernel's result, after the lanes beside the five labels are cut off. -/
theorem result (c : Dev nD) : (extractStridedSlice S256x5 ![0, 0] (OUT m c) slices_S256x128_S256x5_0_0 : FVec Ideal S256x5 .f32) = LP (args m c) := by
  have e : ∀ (b : Fin 256) (o : Fin 5), (OUT m c (ix2 b ⟨o.val, by omega⟩) : EReal) = logProb (args m c) b o := fun b o => by
    unfold OUT
    rw [whole_at]
    refine (net_eq (args m c) _ (fed m c (b.val / 16) (by omega)) ⟨b.val % 16, by omega⟩ o).trans ?_
    refine congrArg (fun b => logProb (args m c) b o) (Fin.ext ?_)
    show 16 * (b.val / 16) + b.val % 16 = b.val
    omega
  generalize OUT m c = O at e ⊢
  funext y
  refine Eq.trans ?_ (e (y 0) (y 1))
  idx_vars y
  pointwise

/-- The operation after the grid cuts the output array. -/
theorem tail (c : Dev nD) : Pipeline.afterTail₀ cfgs (dats m) 0 (V0 m) [hostOps1] c main_v73 = LP (args m c) := by
  have e : Pipeline.withArrays cfg0.spec c (V0 m c) (fun w => (dats m 0 c).arrAt w cfg0.N) (Proc.devRef .tc main_v72) = (dats m 0 c).arrAt 15 cfg0.N :=
    Pipeline.withArrays_arr cfg0.spec launch0.win.arr_inj c (V0 m c) _ 15
  rw [← result m c, ← final m c, ← e]
  unfold Pipeline.afterTail₀
  simp only [hostOps1, List.flatten_cons, List.flatten_nil, List.append_nil, List.cons_append, List.nil_append]
  after_results

/-- The kernel ends with the specification's log-probabilities, its arguments unchanged. -/
theorem run : θ_run defs (onTc (τ := τ) (main (F := Ideal))) ⟨m, fun _ => 0, ρ⟩ fun r => ∀ c : Dev nD,
      r.2.mem ((c : Thread nD τ).loc main_v73) = LP (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).2 main_v73 (Pipeline.mem_restRefs_of main_v73 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

end Cert.ConvIdeal.Out
-- ==== Proof.FocusSpec.lean ====
module

public import Idealize.ShloMosaic.Lib.Pointwise
public import Idealize.ShloMosaic.Lib.KernelVsHost
public import Idealize.ShloMosaic.Lib.SortNet.Extract

@[expose] public section

set_option maxRecDepth 16384

noncomputable section

open Idealize.ShloMosaic Idealize.ShloMosaic.TcCoe Idealize.SL.Sem Idealize.ShloMosaic.Tactic

namespace Cert.FocusSpec

/-- One similarity map: a row per word of the first sentence, a column per word of the second. -/
abbrev Map := Fin 32 → Fin 32 → EReal

/-- The map's largest entry. -/
def best (M : Map) : EReal := Finset.univ.sup fun p : Fin 32 × Fin 32 => M p.1 p.2

/-- The first position, rows one after the other, that holds the largest entry. -/
def pick (M : Map) : ℕ := sInf {n | ∃ r c : Fin 32, r.val * 32 + c.val = n ∧ M r c = best M}

/-- A bound on every entry that is an entry is the largest one, and a position holding it that no other such position
    precedes is the first. -/
theorem pick_of (M : Map) (v : EReal) (n : ℕ) (hle : ∀ r c, M r c ≤ v) (r c : Fin 32) (hn : r.val * 32 + c.val = n) (hv : M r c = v)
    (hmin : ∀ r c, M r c = v → n ≤ r.val * 32 + c.val) : best M = v ∧ pick M = n := by
  have hb : best M = v := le_antisymm (Finset.sup_le fun p _ => hle p.1 p.2) (hv ▸ Finset.le_sup (f := fun p : Fin 32 × Fin 32 => M p.1 p.2) (Finset.mem_univ (r, c)))
  refine ⟨hb, le_antisymm (Nat.sInf_le ⟨r, c, hn, hv.trans hb.symm⟩) (le_csInf ⟨n, r, c, hn, hv.trans hb.symm⟩ ?_)⟩
  rintro k ⟨r', c', hk, h⟩
  exact hk ▸ hmin r' c' (h.trans hb)

/-- Some position holds the largest entry. -/
theorem best_mem (M : Map) : ∃ r c, M r c = best M := by
  obtain ⟨p, _, h⟩ := Finset.exists_mem_eq_sup (Finset.univ : Finset (Fin 32 × Fin 32)) ⟨(0, 0), Finset.mem_univ _⟩ fun p => M p.1 p.2
  exact ⟨p.1, p.2, h.symm⟩

/-- The first position holding it is one of the map's. -/
theorem pick_lt (M : Map) : pick M < 1024 := by
  obtain ⟨r, c, h⟩ := best_mem M
  have := Nat.sInf_le (s := {n | ∃ r c : Fin 32, r.val * 32 + c.val = n ∧ M r c = best M}) ⟨r, c, rfl, h⟩
  change pick M ≤ _ at this
  omega

/-- The first position holding the largest entry holds it. -/
theorem pick_mem (M : Map) : ∃ r c : Fin 32, r.val * 32 + c.val = pick M ∧ M r c = best M := by
  obtain ⟨r, c, h⟩ := best_mem M
  exact Nat.sInf_mem (s := {n | ∃ r c : Fin 32, r.val * 32 + c.val = n ∧ M r c = best M}) ⟨_, r, c, rfl, h⟩

/-- No position before it does. -/
theorem pick_le (M : Map) (r c : Fin 32) (h : M r c = best M) : pick M ≤ r.val * 32 + c.val :=
  Nat.sInf_le ⟨r, c, rfl, h⟩

/-- No entry exceeds the largest. -/
theorem le_best (M : Map) (r c : Fin 32) : M r c ≤ best M :=
  Finset.le_sup (f := fun p : Fin 32 × Fin 32 => M p.1 p.2) (Finset.mem_univ (r, c))

/-- A fold of the signed minimum over words none of which is below a small number that is among them. -/
theorem fold_minsi {ι : Type} (s : Finset ι) (f : ι → BitVec 32) (n : ℕ) (hn : n < 1024) (hle : ∀ i ∈ s, (n : ℤ) ≤ (f i).toInt)
    (i : ι) (hi : i ∈ s) (h : f i = BitVec.ofNat 32 n) : s.fold IntOp.minsi 2147483647#32 f = BitVec.ofNat 32 n := by
  have hw : ∀ n : Fin 1024, (BitVec.ofNat 32 n.val).toInt = (n.val : ℤ) := by decide +kernel
  have hw := hw ⟨n, hn⟩
  apply BitVec.eq_of_toInt_eq
  rw [← Finset.fold_hom (op' := (min : ℤ → ℤ → ℤ)) (m := BitVec.toInt) Idealize.ShloMosaic.SortNet.toInt_minsi, hw]
  refine le_antisymm (Finset.fold_min_le _ |>.mpr (Or.inr ⟨i, hi, ?_⟩)) (Finset.le_fold_min _ |>.mpr ⟨?_, hle⟩)
  · rw [h, hw]
  · have : ((2147483647#32 : BitVec 32).toInt) = 2147483647 := by decide
    rw [this]; omega

/-- A bit is zero or one. -/
theorem bit_cases (b : BitVec 1) : b = 0#1 ∨ b = 1#1 := by
  revert b; decide

/-- The row holds the position picked. -/
def rowBit (M : Map) (r : Fin 32) : BitVec 1 := IntOp.cmpi .eq (BitVec.ofNat 32 r.val) (BitVec.ofNat 32 (pick M / 32))

/-- The column holds the position picked. -/
def colBit (M : Map) (c : Fin 32) : BitVec 1 := IntOp.cmpi .eq (BitVec.ofNat 32 c.val) (BitVec.ofNat 32 (pick M % 32))

/-- The largest entry is still one of a pair of words: at least half the fill. -/
def active (M : Map) : BitVec 1 := FloatOps.cmpf (F := Ideal) (φ := .f32) .oge (best M) (FloatOps.ofBits (F := Ideal) .f32 0xC59C4000#32)

/-- The map with the picked row and column struck out. -/
def strike (M : Map) : Map := fun r c =>
  Scalar.select (IntOp.andi (IntOp.ori (rowBit M r) (colBit M c)) (active M)) (FloatOps.ofBits (F := Ideal) .f32 0xC61C4000#32 : EReal) (M r c)

/-- What is left of the map after `k` picks. -/
def left (M : Map) : ℕ → Map
  | 0 => M
  | k + 1 => strike (left M k)

/-- The positions picked in the first `k` picks. -/
def picked (M : Map) : ℕ → Fin 32 → Fin 32 → BitVec 1
  | 0 => fun _ _ => 0#1
  | k + 1 => fun r c => IntOp.ori (picked M k r c)
      (IntOp.andi (IntOp.andi (rowBit (left M k) r) (colBit (left M k) c)) (active (left M k)))

/-- The three similarities of two words: their inner product, the cosine, and the distance, from the inner product and
    the squared norms. -/
def three (d p q : EReal) : Fin 3 → EReal
  | 0 => d
  | 1 => Ideal.div d (Ideal.sqrt p * Ideal.sqrt q + FloatOps.ofBits (F := Ideal) .f32 0x322BCC77#32)
  | 2 => Ideal.sqrt (max (p + q - FloatOps.ofBits (F := Ideal) .f32 0x40000000#32 * d) (FloatOps.ofBits (F := Ideal) .f32 0x2B8CBCCC#32))

/-- The inner products and squared norms of one pair of words, forward and backward. -/
structure Words where
  /-- forward with forward -/
  ff : EReal
  /-- forward with backward -/
  fb : EReal
  /-- backward with forward -/
  bf : EReal
  /-- backward with backward -/
  bb : EReal
  /-- the first word's forward squared norm -/
  f1 : EReal
  /-- the first word's backward squared norm -/
  b1 : EReal
  /-- the second word's forward squared norm -/
  f2 : EReal
  /-- the second word's backward squared norm -/
  b2 : EReal
  /-- the first word's forward state with its backward one -/
  r1 : EReal
  /-- the second word's forward state with its backward one -/
  r2 : EReal

/-- The twelve similarities: of the concatenated, the forward, the backward and the added states. -/
def sim (w : Words) : Fin 4 → Fin 3 → EReal
  | 0 => three (w.ff + w.bb) (w.f1 + w.b1) (w.f2 + w.b2)
  | 1 => three w.ff w.f1 w.f2
  | 2 => three w.bb w.b1 w.b2
  | 3 => three (w.ff + w.bb + w.fb + w.bf) (w.f1 + w.b1 + FloatOps.ofBits (F := Ideal) .f32 0x40000000#32 * w.r1)
      (w.f2 + w.b2 + FloatOps.ofBits (F := Ideal) .f32 0x40000000#32 * w.r2)

/-- One where either word is past its sentence's end. -/
def padBit (l1 l2 : BitVec 32) (r c : Fin 32) : BitVec 1 :=
  IntOp.ori (IntOp.cmpi .sge (BitVec.ofNat 32 r.val) l1) (IntOp.cmpi .sge (BitVec.ofNat 32 c.val) l2)

/-- A bit as a number. -/
def num (b : BitVec 1) : EReal := ((b.toNat : ℝ) : EReal)

/-- One similarity, a large negative number added where either word is past its sentence's end. -/
def masked (w : Words) (p : BitVec 1) (q : Fin 4) (j : Fin 3) : EReal :=
  sim w q j + FloatOps.ofBits (F := Ideal) .f32 0xC61C4000#32 * num p

/-- A similarity weighted: in full where either selection picked the pair of words, by a tenth elsewhere, and zero where
    either word is past its sentence's end. -/
def weighted (s : BitVec 1) (v : EReal) (p : BitVec 1) : EReal :=
  Scalar.select s (FloatOps.ofBits (F := Ideal) .f32 0x3F800000#32 : EReal) (FloatOps.ofBits (F := Ideal) .f32 0x3DCCCCCD#32 : EReal) * v
    * (FloatOps.ofBits (F := Ideal) .f32 0x3F800000#32 - num p)

/-- One sentence pair's map of one masked similarity. -/
def simMap (W : Fin 32 → Fin 32 → Words) (l1 l2 : BitVec 32) (q : Fin 4) (j : Fin 3) : Map :=
  fun r c => masked (W r c) (padBit l1 l2 r c) q j

/-- One sentence pair's weighted similarity: the picks are those of the added states' inner products and of their
    cosines. -/
def pairOut (W : Fin 32 → Fin 32 → Words) (l1 l2 : BitVec 32) (q : Fin 4) (j : Fin 3) : Map :=
  fun r c => weighted (IntOp.ori (picked (simMap W l1 l2 3 0) 32 r c) (picked (simMap W l1 l2 3 1) 32 r c))
    (simMap W l1 l2 q j r c) (padBit l1 l2 r c)

/-- Which of the four states a channel compares. -/
def chanQ (k : ℕ) : Fin 4 := ⟨k / 3 % 4, Nat.mod_lt _ (by decide)⟩

/-- Which of the three similarities a channel is. -/
def chanJ (k : ℕ) : Fin 3 := ⟨k % 3, Nat.mod_lt _ (by decide)⟩

/-- A sentence pair's inner products and squared norms, out of the ten arrays. -/
def wordsAt (d0 d1 d2 d3 : FVec Ideal ⟨3, ![256, 32, 32]⟩ .f32) (n4 n5 n6 n7 n8 n9 : FVec Ideal ⟨2, ![256, 32]⟩ .f32) (b : Fin 256)
    (r c : Fin 32) : Words :=
  ⟨d0 (ix3 b r c), d1 (ix3 b r c), d2 (ix3 b r c), d3 (ix3 b r c), n4 (ix2 b r), n5 (ix2 b r), n6 (ix2 b c), n7 (ix2 b c), n8 (ix2 b r), n9 (ix2 b c)⟩

/-- The weighted similarities of all sentence pairs, channels first, sentence pairs last. -/
def focus (d0 d1 d2 d3 : FVec Ideal ⟨3, ![256, 32, 32]⟩ .f32) (n4 n5 n6 n7 n8 n9 : FVec Ideal ⟨2, ![256, 32]⟩ .f32)
    (l1 l2 : IVec ⟨1, ![256]⟩ 32) : FVec Ideal ⟨4, ![12, 32, 32, 256]⟩ .f32 :=
  fun y => pairOut (wordsAt d0 d1 d2 d3 n4 n5 n6 n7 n8 n9 (y 3)) (l1 (ix1 (y 3))) (l2 (ix1 (y 3))) (chanQ (y 0).val) (chanJ (y 0).val) (y 1) (y 2)

end Cert.FocusSpec
-- ==== Proof.FocusTrip.lean ====
module

public import proofs.«01_k».proof.Proof.Gen.FocusIdeal.Loops
public import Idealize.ShloMosaic.Lib.VecWindow
public import Idealize.ShloMosaic.Lib.Pointwise

@[expose] public section

set_option maxRecDepth 16384

noncomputable section

open Idealize.ShloMosaic Idealize.ShloMosaic.TcCoe Idealize.SL.Sem

namespace Cert.FocusIdeal.Trip

open Cert.FocusIdeal Cert.FocusIdeal.Gen

variable {F : FTy → Type} [FloatOps F]

/-- One pick on a block of maps and its record of picks. -/
def step (p : FVec F S2x32x32x128 .f32 × FVec F S2x32x32x128 .f32) (u v : IVec S2x32x32x128 32) : FVec F S2x32x32x128 .f32 × FVec F S2x32x32x128 .f32 :=
  (k0_pay58 p.1 (k0_pay7 p.1) (k0_pay8 u k0_pay56 p.1) (k0_pay9 v k0_pay56 p.1),
    k0_pay57 (k0_pay7 p.1) (k0_pay10 u v k0_pay56 p.1) p.2)

/-- The maps and the record after `k` picks. -/
def st (A Z : FVec F S2x32x32x128 .f32) (u v : IVec S2x32x32x128 32) : ℕ → FVec F S2x32x32x128 .f32 × FVec F S2x32x32x128 .f32
  | 0 => (A, Z)
  | k + 1 => step (st A Z u v k) u v

variable (𝒱 : Variants) (c : Dev nD) (bd : Option 𝒱.V) (i : grid0.Coords)
  (arg1 : Memref sig .tc .vmem S32x32x128 .f32) (harg1 : arg1.IsWhole)
  (arg2 : Memref sig .tc .vmem S32x32x128 .f32) (harg2 : arg2.IsWhole)
  (arg3 : Memref sig .tc .vmem S32x32x128 .f32) (harg3 : arg3.IsWhole)
  (arg4 : Memref sig .tc .vmem S32x32x128 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S32x128 .f32) (harg8 : arg8.IsWhole)
  (arg9 : Memref sig .tc .vmem S32x128 .f32) (harg9 : arg9.IsWhole)
  (arg10 : Memref sig .tc .vmem S32x128 .f32) (harg10 : arg10.IsWhole)
  (arg11 : Memref sig .tc .vmem S1x128 .i32) (harg11 : arg11.IsWhole)
  (arg12 : Memref sig .tc .vmem S1x128 .i32) (harg12 : arg12.IsWhole)
  (arg13 : Memref sig .tc .vmem S12x32x32x128 .f32) (harg13 : arg13.IsWhole)
  (arg14 : Memref sig .tc .vmem S2x32x32x128 .f32) (harg14 : arg14.IsWhole)
  (arg15 : Memref sig .tc .vmem S2x32x32x128 .f32) (harg15 : arg15.IsWhole)
  (v34 v132 v135 v138 : FVec F S32x32x128 .f32) (v172 : FVec F S2x32x32x128 .f32) (v176 v177 : IVec S2x32x32x128 32)

/-- The loop makes 32 trips. -/
theorem trips_eq : k0_t1_loop.trips = 32 := by decide +kernel

/-- One trip's stores: the maps and the record after one more pick. -/
theorem tripL_eq (k : Fin k0_t1_loop.trips)
    (f14 : BufTy.Contents (Elt F) arg14.view.ty) (f15 : BufTy.Contents (Elt F) arg15.view.ty) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 v176 v177 k f14 f15
      = ([⟨(Rect.unit (s := S2x32x32x128) ![0, 0, 0, 0] S2x32x32x128.size inb_S2x32x32x128_S2x32x32x128_0_0_0_0),
            (step (arg14.view.read (Elt F) f14, arg15.view.read (Elt F) f15) v176 v177).1⟩],
         [⟨(Rect.unit (s := S2x32x32x128) ![0, 0, 0, 0] S2x32x32x128.size inb_S2x32x32x128_S2x32x32x128_0_0_0_0),
            (step (arg14.view.read (Elt F) f14, arg15.view.read (Elt F) f15) v176 v177).2⟩]) := by
  rw [← View.readAt_full arg14.view f14 inb_S2x32x32x128_S2x32x32x128_0_0_0_0,
    ← View.readAt_full arg15.view f15 inb_S2x32x32x128_S2x32x32x128_0_0_0_0]
  unfold tripL_k0_t1 trip_k0_t1 step
  dsimp only
  rfl

/-- What the loop has left in the two buffers after `n` trips. -/
theorem pb_read (G14 : BufTy.Contents (Elt F) arg14.view.ty) (G15 : BufTy.Contents (Elt F) arg15.view.ty)
    (A Z : FVec F S2x32x32x128 .f32) (h14 : arg14.view.read (Elt F) G14 = A) (h15 : arg15.view.read (Elt F) G15 = Z) (n : ℕ) (hn : n ≤ k0_t1_loop.trips) :
    arg14.view.read (Elt F) (arg14.view.writes (Elt F) G14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 v176 v177 G14 G15 n).1) = (st A Z v176 v177 n).1
    ∧ arg15.view.read (Elt F) (arg15.view.writes (Elt F) G15 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 v176 v177 G14 G15 n).2) = (st A Z v176 v177 n).2 := by
  induction n with
  | zero => exact ⟨h14, h15⟩
  | succ n ih =>
    have ih := ih (Nat.le_of_succ_le hn)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 v176 v177 G14 G15 ⟨n, hn⟩
    rw [tripL_eq] at e
    rw [show pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 v176 v177 G14 G15 (n + 1) = _ from e]
    clear e
    generalize pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 v176 v177 G14 G15 n = L at ih ⊢
    dsimp only [List.cons_append, List.nil_append]
    rw [View.read_writes_full, View.read_writes_full, ih.1, ih.2]
    exact ⟨rfl, rfl⟩

end Cert.FocusIdeal.Trip
-- ==== Proof.FocusStep.lean ====
module

public import proofs.«01_k».proof.Proof.FocusSpec
public import proofs.«01_k».proof.Proof.FocusTrip
public import proofs.«01_k».proof.Proof.ConvSpec

@[expose] public section

set_option maxRecDepth 16384

noncomputable section

open Idealize.ShloMosaic Idealize.ShloMosaic.TcCoe Idealize.SL.Sem Idealize.ShloMosaic.Tactic Cert.FocusSpec

namespace Cert.FocusIdeal.Trip

open Cert.FocusIdeal Cert.FocusIdeal.Gen

/-- One map of a block of maps. -/
def lane (Y : FVec Ideal S2x32x32x128 .f32) (a : Fin 2) (g : Fin 128) : Map := fun r c => Y (ix4 a r c g)

/-- The reduced index of an entry of the block. -/
theorem drop_eq (i : S2x32x32x128.Idx) : reduces_S2x32x32x128_S2x128.drop i = ix2 (i 0) (i 3) := by
  funext a
  match a with
  | ⟨0, _⟩ => rfl
  | ⟨1, _⟩ => rfl

/-- The entries of one map are the block entries that reduce to it. -/
theorem mem_lane (a : Fin 2) (g : Fin 128) (i : S2x32x32x128.Idx) :
    i ∈ (Finset.univ.filter fun i => reduces_S2x32x32x128_S2x128.drop i = ix2 a g) ↔ ∃ r c : Fin 32, i = ix4 a r c g := by
  rw [Finset.mem_filter, drop_eq]
  constructor
  · rintro ⟨-, h⟩
    have h0 : i 0 = a := congrFun h 0
    have h1 : i 3 = g := congrFun h 1
    refine ⟨i 1, i 2, funext fun x => ?_⟩
    match x with
    | ⟨0, _⟩ => exact h0
    | ⟨1, _⟩ => rfl
    | ⟨2, _⟩ => rfl
    | ⟨3, _⟩ => exact h1
  · rintro ⟨r, c, rfl⟩
    exact ⟨Finset.mem_univ _, rfl⟩

/-- The largest entry of each map. -/
theorem pay4_at (Y : FVec Ideal S2x32x32x128 .f32) (a : Fin 2) (g : Fin 128) :
    k0_pay4 (F := Ideal) Y (ix4 a 0 0 g) = best (lane Y a g) := by
  have e : k0_pay4 (F := Ideal) Y (ix4 a 0 0 g) = (Finset.univ.filter fun i => reduces_S2x32x32x128_S2x128.drop i = ix2 a g).fold FloatOps.maximumf (FloatOps.ofBits (F := Ideal) .f32 0xFF800000#32) Y := by
    refine Eq.trans ?_ (multiReduction_maximumf_eq_fold Y 0xFF800000#32 reduces_S2x32x32x128_S2x128 (.inl rfl) rfl (ix2 a g))
    show shapeCast S2x1x1x128 (multiReduction .maximumf [1, 2] S2x128 Y 0xFF800000#32 reduces_S2x32x32x128_S2x128 (.inl rfl) rfl) shapeCasts_S2x128_S2x1x1x128 (ix4 a 0 0 g) = _
    generalize multiReduction (F := Ideal) .maximumf [1, 2] S2x128 Y 0xFF800000#32 reduces_S2x32x32x128_S2x128 (.inl rfl) rfl = R
    pointwise
  rw [e]
  change Finset.fold (max : EReal → EReal → EReal) _ _ _ = _
  refine le_antisymm (Finset.fold_max_le _ |>.mpr ⟨?_, fun i hi => ?_⟩) ?_
  · exact le_of_eq_of_le Cert.ConvSpec.bot_word bot_le
  · obtain ⟨r, c, rfl⟩ := (mem_lane a g i).mp hi
    exact le_best (lane Y a g) r c
  · obtain ⟨r, c, h⟩ := best_mem (lane Y a g)
    exact Finset.le_fold_max _ |>.mpr (Or.inr ⟨ix4 a r c g, (mem_lane a g _).mpr ⟨r, c, rfl⟩, le_of_eq h.symm⟩)

/-- The position of each entry in its map, rows one after the other. -/
theorem pay56_at (a : Fin 2) (r c : Fin 32) (g : Fin 128) : k0_pay56 (ix4 a r c g) = BitVec.ofNat 32 (r.val * 32 + c.val) := by
  unfold k0_pay56
  pointwise
  exact (by decide +kernel : ∀ r c : Fin 32, IntOp.addi (IntOp.muli (BitVec.ofNat 32 r.val) 32#32) (BitVec.ofNat 32 c.val) = BitVec.ofNat 32 (r.val * 32 + c.val)) r c

/-- The first position of each map's largest entry. -/
theorem pay5_at (Y : FVec Ideal S2x32x32x128 .f32) (a : Fin 2) (g : Fin 128) :
    k0_pay5 (F := Ideal) k0_pay56 Y (ix4 a 0 0 g) = BitVec.ofNat 32 (pick (lane Y a g)) := by
  have hw : ∀ n : Fin 1024, (BitVec.ofNat 32 n.val).toInt = (n.val : ℤ) := by decide +kernel
  have hp := pick_lt (lane Y a g)
  unfold k0_pay5
  pointwise
  obtain ⟨r, c, hn, h⟩ := pick_mem (lane Y a g)
  refine fold_minsi _ _ _ hp (fun i hi => ?_) (ix4 a r c g) ((mem_lane a g _).mpr ⟨r, c, rfl⟩) ?_
  · obtain ⟨r', c', rfl⟩ := (mem_lane a g i).mp hi
    change _ ≤ (if Y (ix4 a r' c' g) = k0_pay4 Y (ix4 a 0 0 g) then k0_pay56 (ix4 a r' c' g) else 1024#32).toInt
    rw [pay4_at, pay56_at]
    split
    · next h' =>
      rw [hw ⟨r'.val * 32 + c'.val, by omega⟩]
      exact_mod_cast pick_le (lane Y a g) r' c' h'
    · have : ((1024#32 : BitVec 32).toInt) = 1024 := by decide
      rw [this]; omega
  · change (if Y (ix4 a r c g) = k0_pay4 Y (ix4 a 0 0 g) then k0_pay56 (ix4 a r c g) else 1024#32) = _
    rw [pay4_at, pay56_at]
    exact (if_pos h).trans (congrArg _ hn)

/-- The row of that position. -/
theorem pay6_at (Y : FVec Ideal S2x32x32x128 .f32) (a : Fin 2) (g : Fin 128) :
    k0_pay6 (F := Ideal) k0_pay56 Y (ix4 a 0 0 g) = BitVec.ofNat 32 (pick (lane Y a g) / 32) := by
  unfold k0_pay6
  pointwise
  rw [pay5_at]
  exact (by decide +kernel : ∀ n : Fin 1024, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 n.val) 32#32) 0#32))
      (IntOp.subi (IntOp.divsi ArithUnit.vector (BitVec.ofNat 32 n.val) 32#32) 1#32)
      (IntOp.divsi ArithUnit.vector (BitVec.ofNat 32 n.val) 32#32) = BitVec.ofNat 32 (n.val / 32)) ⟨pick (lane Y a g), pick_lt _⟩

/-- The rows of the block. -/
abbrev rowsOf : IVec S2x32x32x128 32 := iota .tc S2x32x32x128 32 [1] iota_S2x32x32x128_d1_w32

/-- The columns of the block. -/
abbrev colsOf : IVec S2x32x32x128 32 := iota .tc S2x32x32x128 32 [2] iota_S2x32x32x128_d2_w32

/-- The entries a step strikes out. -/
theorem pay8_at (Y : FVec Ideal S2x32x32x128 .f32) (a : Fin 2) (r c : Fin 32) (g : Fin 128) :
    k0_pay8 (F := Ideal) rowsOf k0_pay56 Y (ix4 a r c g) = rowBit (lane Y a g) r := by
  unfold k0_pay8 rowBit
  pointwise
  rw [pay6_at]

/-- The entry a step picks. -/
theorem pay9_at (Y : FVec Ideal S2x32x32x128 .f32) (a : Fin 2) (r c : Fin 32) (g : Fin 128) :
    k0_pay9 (F := Ideal) colsOf k0_pay56 Y (ix4 a r c g) = colBit (lane Y a g) c := by
  unfold k0_pay9 colBit
  pointwise
  rw [pay6_at, pay5_at]
  exact congrArg _ ((by decide +kernel : ∀ n : Fin 1024, IntOp.subi (BitVec.ofNat 32 n.val) (IntOp.muli (BitVec.ofNat 32 (n.val / 32)) 32#32) = BitVec.ofNat 32 (n.val % 32)) ⟨pick (lane Y a g), pick_lt _⟩)

/-- Whether the largest entry is still one of a pair of words. -/
theorem pay7_at (Y : FVec Ideal S2x32x32x128 .f32) (a : Fin 2) (g : Fin 128) : k0_pay7 (F := Ideal) Y (ix4 a 0 0 g) = active (lane Y a g) := by
  unfold k0_pay7 active
  rw [← pay4_at]
  rfl

/-- The maximum of two bits as numbers is the number of either bit. -/
theorem max_bits (s h : BitVec 1) : max (Scalar.select s (1 : EReal) 0) (Scalar.select h (1 : EReal) 0) = Scalar.select (IntOp.ori s h) (1 : EReal) 0 := by
  rcases bit_cases s with rfl | rfl <;> rcases bit_cases h with rfl | rfl
  · exact max_self (0 : EReal)
  · exact max_eq_right zero_le_one
  · exact max_eq_left zero_le_one
  · exact max_self (1 : EReal)

/-- After `k` picks a block's maps are what is left of them, and its record holds one at the positions picked. -/
theorem st_at (A Z : FVec Ideal S2x32x32x128 .f32) (hZ : ∀ y, Z y = (0 : EReal)) (k : ℕ) (a : Fin 2) (g : Fin 128) :
    lane (st (F := Ideal) A Z rowsOf colsOf k).1 a g = left (lane A a g) k
    ∧ ∀ r c, (st (F := Ideal) A Z rowsOf colsOf k).2 (ix4 a r c g) = Scalar.select (picked (lane A a g) k r c) (1 : EReal) 0 := by
  induction k with
  | zero => exact ⟨rfl, fun r c => hZ _⟩
  | succ k ih =>
    obtain ⟨i1, i2⟩ := ih
    constructor
    · funext r c
      show k0_pay58 (F := Ideal) _ _ _ _ (ix4 a r c g) = strike (left (lane A a g) k) r c
      rw [← i1]
      unfold k0_pay58 strike
      pointwise
      rw [pay8_at, pay9_at, pay7_at]
      rfl
    · intro r c
      show k0_pay57 (F := Ideal) _ _ _ (ix4 a r c g) = Scalar.select (IntOp.ori (picked (lane A a g) k r c) (IntOp.andi (IntOp.andi (rowBit (left (lane A a g) k) r) (colBit (left (lane A a g) k) c)) (active (left (lane A a g) k)))) (1 : EReal) 0
      rw [← max_bits, ← i1, ← i2]
      unfold k0_pay57 k0_pay10
      pointwise
      rw [pay8_at, pay9_at, pay7_at]

end Cert.FocusIdeal.Trip
-- ==== Proof.FocusChan.lean ====
module

public import proofs.«01_k».proof.Proof.FocusStep

@[expose] public section

set_option maxRecDepth 16384

noncomputable section

open Idealize.ShloMosaic Idealize.ShloMosaic.TcCoe Idealize.SL.Sem Idealize.ShloMosaic.Tactic Cert.FocusSpec

namespace Cert.FocusIdeal.Chan

open Cert.FocusIdeal Cert.FocusIdeal.Gen Cert.FocusIdeal.Trip

variable (x0 x1 x2 x3 : FVec Ideal S32x32x128 .f32) (x4 x5 x6 x7 x8 x9 : FVec Ideal S32x128 .f32) (x10 x11 : IVec S1x128 32)

/-- One where either word is past its sentence's end, for a block of sentence pairs. -/
def pad : FVec Ideal S32x32x128 .f32 :=
  k0_pay23 (F := Ideal) (iota .tc S32x32x128 32 [1] iota_S32x32x128_d1_w32) (k0_pay21 (F := Ideal) x10) (k0_pay22 (F := Ideal) x11)

/-- The inner products and squared norms of one sentence pair of a block. -/
def wordsBlk (g : Fin 128) (r c : Fin 32) : Words :=
  ⟨x0 (ix3 r c g), x1 (ix3 r c g), x2 (ix3 r c g), x3 (ix3 r c g), x4 (ix2 r g), x5 (ix2 r g), x6 (ix2 c g), x7 (ix2 c g), x8 (ix2 r g), x9 (ix2 c g)⟩

/-- One masked similarity of one sentence pair of a block. -/
def blkMap (g : Fin 128) (q : Fin 4) (j : Fin 3) : Map :=
  simMap (wordsBlk x0 x1 x2 x3 x4 x5 x6 x7 x8 x9 g) (x10 (ix2 0 g)) (x11 (ix2 0 g)) q j

/-- The word that stands for one half. -/
theorem half_word : Ideal.ofBits .f32 1056964608#32 = ((1 / 2 : ℝ) : EReal) := by
  simp [Ideal.ofBits, Ideal.ieee]
  rw [← EReal.coe_mul]
  norm_num

/-- The words past a sentence's end, as numbers. -/
theorem pad_at (r c : Fin 32) (g : Fin 128) : pad x10 x11 (ix3 r c g) = num (padBit (x10 (ix2 0 g)) (x11 (ix2 0 g)) r c) := by
  have hb : ∀ b : BitVec 1, ((((b.setWidth 32).toInt : ℝ)) : EReal) = num b := fun b => by
    rcases bit_cases b with rfl | rfl <;> rfl
  unfold pad k0_pay23 k0_pay21 k0_pay22
  rw [← hb]
  pointwise
  rfl

/-- The weight of each pair of words. -/
theorem keep_at (S0 S1 : FVec Ideal S1x32x32x128 .f32) (r c : Fin 32) (g : Fin 128) (s0 s1 : BitVec 1)
    (h0 : S0 (ix4 0 r c g) = Scalar.select s0 (1 : EReal) 0) (h1 : S1 (ix4 0 r c g) = Scalar.select s1 (1 : EReal) 0) :
    k0_pay59 (F := Ideal) (pad x10 x11) S0 S1 (ix3 r c g)
      = Scalar.select (IntOp.ori s0 s1) (FloatOps.ofBits (F := Ideal) .f32 0x3F800000#32 : EReal) (FloatOps.ofBits (F := Ideal) .f32 0x3DCCCCCD#32 : EReal)
        * (FloatOps.ofBits (F := Ideal) .f32 0x3F800000#32 - num (padBit (x10 (ix2 0 g)) (x11 (ix2 0 g)) r c)) := by
  rw [← pad_at]
  unfold k0_pay59
  pointwise
  rw [h0, h1, max_bits, half_word]
  congr 1
  rcases bit_cases (IntOp.ori s0 s1) with h | h <;> rw [h]
  · exact if_neg (not_lt.mpr (show (0 : EReal) ≤ _ by exact_mod_cast (by norm_num : (0 : ℝ) ≤ 1 / 2)))
  · exact if_pos (show _ < (1 : EReal) by exact_mod_cast (by norm_num : (1 / 2 : ℝ) < 1))

/-- Channel 0: the inner product of the concatenated states, weighted. -/
theorem ch0_at (r c : Fin 32) (g : Fin 128) :
    k0_pay40 (F := Ideal) (pad x10 x11) (k0_pay24 (k0_pay11 x0) (k0_pay14 x3)) (ix3 r c g) = blkMap x0 x1 x2 x3 x4 x5 x6 x7 x8 x9 x10 x11 g 0 0 r c := by
  unfold blkMap simMap masked
  rw [← pad_at]
  unfold k0_pay11 k0_pay14 k0_pay24 k0_pay40 sim three wordsBlk
  pointwise

/-- Channel 1: the cosine of the concatenated states, weighted. -/
theorem ch1_at (r c : Fin 32) (g : Fin 128) :
    k0_pay42 (F := Ideal) (k0_pay30 (k0_pay11 x0) (k0_pay14 x3) (k0_pay15 x4) (k0_pay16 x5) (k0_pay17 x6) (k0_pay18 x7)) (k0_pay41 (pad x10 x11)) (ix3 r c g) = blkMap x0 x1 x2 x3 x4 x5 x6 x7 x8 x9 x10 x11 g 0 1 r c := by
  unfold blkMap simMap masked
  rw [← pad_at]
  unfold k0_pay11 k0_pay14 k0_pay15 k0_pay16 k0_pay17 k0_pay18 k0_pay30 k0_pay41 k0_pay42 k0_pay24 k0_pay25 k0_pay26 sim three wordsBlk
  pointwise

/-- Channel 2: the distance of the concatenated states, weighted. -/
theorem ch2_at (r c : Fin 32) (g : Fin 128) :
    k0_pay43 (F := Ideal) (pad x10 x11) (k0_pay31 (k0_pay11 x0) (k0_pay14 x3) (k0_pay15 x4) (k0_pay16 x5) (k0_pay17 x6) (k0_pay18 x7)) (ix3 r c g) = blkMap x0 x1 x2 x3 x4 x5 x6 x7 x8 x9 x10 x11 g 0 2 r c := by
  unfold blkMap simMap masked
  rw [← pad_at]
  unfold k0_pay11 k0_pay14 k0_pay15 k0_pay16 k0_pay17 k0_pay18 k0_pay31 k0_pay43 k0_pay24 k0_pay25 k0_pay26 sim three wordsBlk
  pointwise

/-- Channel 3: the inner product of the forward states, weighted. -/
theorem ch3_at (r c : Fin 32) (g : Fin 128) :
    k0_pay44 (F := Ideal) (k0_pay11 x0) (pad x10 x11) (ix3 r c g) = blkMap x0 x1 x2 x3 x4 x5 x6 x7 x8 x9 x10 x11 g 1 0 r c := by
  unfold blkMap simMap masked
  rw [← pad_at]
  unfold k0_pay11 k0_pay44 sim three wordsBlk
  pointwise

/-- Channel 4: the cosine of the forward states, weighted. -/
theorem ch4_at (r c : Fin 32) (g : Fin 128) :
    k0_pay45 (F := Ideal) (pad x10 x11) (k0_pay32 (k0_pay11 x0) (k0_pay15 x4) (k0_pay17 x6)) (ix3 r c g) = blkMap x0 x1 x2 x3 x4 x5 x6 x7 x8 x9 x10 x11 g 1 1 r c := by
  unfold blkMap simMap masked
  rw [← pad_at]
  unfold k0_pay11 k0_pay15 k0_pay17 k0_pay32 k0_pay45 sim three wordsBlk
  pointwise

/-- Channel 5: the distance of the forward states, weighted. -/
theorem ch5_at (r c : Fin 32) (g : Fin 128) :
    k0_pay46 (F := Ideal) (pad x10 x11) (k0_pay35 (k0_pay33 (k0_pay15 x4) (k0_pay17 x6)) (k0_pay34 (k0_pay11 x0))) (ix3 r c g) = blkMap x0 x1 x2 x3 x4 x5 x6 x7 x8 x9 x10 x11 g 1 2 r c := by
  unfold blkMap simMap masked
  rw [← pad_at]
  unfold k0_pay11 k0_pay15 k0_pay17 k0_pay33 k0_pay34 k0_pay35 k0_pay46 sim three wordsBlk
  pointwise

/-- Channel 6: the inner product of the backward states, weighted. -/
theorem ch6_at (r c : Fin 32) (g : Fin 128) :
    k0_pay47 (F := Ideal) (k0_pay14 x3) (pad x10 x11) (ix3 r c g) = blkMap x0 x1 x2 x3 x4 x5 x6 x7 x8 x9 x10 x11 g 2 0 r c := by
  unfold blkMap simMap masked
  rw [← pad_at]
  unfold k0_pay14 k0_pay47 sim three wordsBlk
  pointwise

/-- Channel 7: the cosine of the backward states, weighted. -/
theorem ch7_at (r c : Fin 32) (g : Fin 128) :
    k0_pay48 (F := Ideal) (pad x10 x11) (k0_pay36 (k0_pay14 x3) (k0_pay16 x5) (k0_pay18 x7)) (ix3 r c g) = blkMap x0 x1 x2 x3 x4 x5 x6 x7 x8 x9 x10 x11 g 2 1 r c := by
  unfold blkMap simMap masked
  rw [← pad_at]
  unfold k0_pay14 k0_pay16 k0_pay18 k0_pay36 k0_pay48 sim three wordsBlk
  pointwise

/-- Channel 8: the distance of the backward states, weighted. -/
theorem ch8_at (r c : Fin 32) (g : Fin 128) :
    k0_pay49 (F := Ideal) (pad x10 x11) (k0_pay37 (k0_pay14 x3) (k0_pay16 x5) (k0_pay18 x7)) (ix3 r c g) = blkMap x0 x1 x2 x3 x4 x5 x6 x7 x8 x9 x10 x11 g 2 2 r c := by
  unfold blkMap simMap masked
  rw [← pad_at]
  unfold k0_pay14 k0_pay16 k0_pay18 k0_pay37 k0_pay49 sim three wordsBlk
  pointwise

/-- Channel 9: the inner product of the added states, weighted. -/
theorem ch9_at (r c : Fin 32) (g : Fin 128) :
    k0_pay50 (F := Ideal) (pad x10 x11) (k0_pay27 (k0_pay11 x0) (k0_pay12 x1) (k0_pay13 x2) (k0_pay14 x3)) (ix3 r c g) = blkMap x0 x1 x2 x3 x4 x5 x6 x7 x8 x9 x10 x11 g 3 0 r c := by
  unfold blkMap simMap masked
  rw [← pad_at]
  unfold k0_pay11 k0_pay12 k0_pay13 k0_pay14 k0_pay27 k0_pay50 k0_pay24 sim three wordsBlk
  pointwise

/-- Channel 10: the cosine of the added states, weighted. -/
theorem ch10_at (r c : Fin 32) (g : Fin 128) :
    k0_pay51 (F := Ideal) (pad x10 x11) (k0_pay38 (k0_pay27 (k0_pay11 x0) (k0_pay12 x1) (k0_pay13 x2) (k0_pay14 x3)) (k0_pay28 (k0_pay15 x4) (k0_pay16 x5) (k0_pay19 x8)) (k0_pay29 (k0_pay17 x6) (k0_pay18 x7) (k0_pay20 x9))) (ix3 r c g) = blkMap x0 x1 x2 x3 x4 x5 x6 x7 x8 x9 x10 x11 g 3 1 r c := by
  unfold blkMap simMap masked
  rw [← pad_at]
  unfold k0_pay11 k0_pay12 k0_pay13 k0_pay14 k0_pay15 k0_pay16 k0_pay17 k0_pay18 k0_pay19 k0_pay20 k0_pay27 k0_pay28 k0_pay29 k0_pay38 k0_pay51 k0_pay24 k0_pay25 k0_pay26 sim three wordsBlk
  pointwise

/-- Channel 11: the distance of the added states, weighted. -/
theorem ch11_at (r c : Fin 32) (g : Fin 128) :
    k0_pay52 (F := Ideal) (pad x10 x11) (k0_pay39 (k0_pay27 (k0_pay11 x0) (k0_pay12 x1) (k0_pay13 x2) (k0_pay14 x3)) (k0_pay28 (k0_pay15 x4) (k0_pay16 x5) (k0_pay19 x8)) (k0_pay29 (k0_pay17 x6) (k0_pay18 x7) (k0_pay20 x9))) (ix3 r c g) = blkMap x0 x1 x2 x3 x4 x5 x6 x7 x8 x9 x10 x11 g 3 2 r c := by
  unfold blkMap simMap masked
  rw [← pad_at]
  unfold k0_pay11 k0_pay12 k0_pay13 k0_pay14 k0_pay15 k0_pay16 k0_pay17 k0_pay18 k0_pay19 k0_pay20 k0_pay27 k0_pay28 k0_pay29 k0_pay39 k0_pay52 k0_pay24 k0_pay25 k0_pay26 sim three wordsBlk
  pointwise

end Cert.FocusIdeal.Chan
-- ==== Proof.FocusBlocks.lean ====
module

public import proofs.«01_k».proof.Proof.FocusChan
public import proofs.«01_k».proof.Proof.Gen.FocusIdeal.Value
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem Idealize.ShloMosaic.Tactic Cert.FocusSpec
open Idealize.ShloMosaic.Pipeline (Dat)

namespace Cert.FocusIdeal.Out

open Cert.FocusIdeal Cert.FocusIdeal.Gen Cert.FocusIdeal.Trip Cert.FocusIdeal.Chan

section record

variable (c : Dev nD) (i : grid0.Coords)
  (arg1 : Memref sig .tc .vmem S32x32x128 .f32) (harg1 : arg1.IsWhole)
  (arg2 : Memref sig .tc .vmem S32x32x128 .f32) (harg2 : arg2.IsWhole)
  (arg3 : Memref sig .tc .vmem S32x32x128 .f32) (harg3 : arg3.IsWhole)
  (arg4 : Memref sig .tc .vmem S32x32x128 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S32x128 .f32) (harg8 : arg8.IsWhole)
  (arg9 : Memref sig .tc .vmem S32x128 .f32) (harg9 : arg9.IsWhole)
  (arg10 : Memref sig .tc .vmem S32x128 .f32) (harg10 : arg10.IsWhole)
  (arg11 : Memref sig .tc .vmem S1x128 .i32) (harg11 : arg11.IsWhole)
  (arg12 : Memref sig .tc .vmem S1x128 .i32) (harg12 : arg12.IsWhole)
  (arg13 : Memref sig .tc .vmem S12x32x32x128 .f32) (harg13 : arg13.IsWhole)
  (arg14 : Memref sig .tc .vmem S2x32x32x128 .f32) (harg14 : arg14.IsWhole)
  (arg15 : Memref sig .tc .vmem S2x32x32x128 .f32) (harg15 : arg15.IsWhole)
  (v34 v132 v135 v138 : FVec Ideal S32x32x128 .f32) (v172 : FVec Ideal S2x32x32x128 .f32)

/-- What is read of the record of picks of one of the two selections, after the loop. -/
theorem record0_at (A Z : FVec Ideal S2x32x32x128 .f32) (j : (Rect.unit (s := S2x32x32x128) ![0, 0, 0, 0] S1x32x32x128.size inb_S2x32x32x128_S1x32x32x128_0_0_0_0).toLoadRect.shape.Idx) (r c' : Fin 32) (g : Fin 128)
    (h1 : (j 1).val = r.val) (h2 : (j 2).val = c'.val) (h3 : (j 3).val = g.val) :
    arg15.view.readCov (Val := Elt Ideal)
      ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 rowsOf colsOf
          (arg14.view.writes (Elt Ideal) arg14.view.junk [⟨(Rect.unit (s := S2x32x32x128) ![0, 0, 0, 0] S2x32x32x128.size inb_S2x32x32x128_S2x32x32x128_0_0_0_0), A⟩])
          (arg15.view.writes (Elt Ideal) arg15.view.junk [⟨(Rect.unit (s := S2x32x32x128) ![0, 0, 0, 0] S2x32x32x128.size inb_S2x32x32x128_S2x32x32x128_0_0_0_0), Z⟩])
          (Scf.trips k0_t1_loop.lb k0_t1_loop.ub k0_t1_loop.st)).2 ++ [⟨(Rect.unit (s := S2x32x32x128) ![0, 0, 0, 0] S2x32x32x128.size inb_S2x32x32x128_S2x32x32x128_0_0_0_0), Z⟩])
      (Rect.unit (s := S2x32x32x128) ![0, 0, 0, 0] S1x32x32x128.size inb_S2x32x32x128_S1x32x32x128_0_0_0_0).toLoadRect j
      = (st (F := Ideal) A Z rowsOf colsOf 32).2 (ix4 0 r c' g) := by
  unfold View.readCov
  rw [View.writes_append]
  refine (congrFun (pb_read (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 rowsOf colsOf _ _ A Z
    (View.read_writes_full _ _ _ _ _) (View.read_writes_full _ _ _ _ _) k0_t1_loop.trips le_rfl).2 _).trans ?_
  rw [trips_eq]
  refine congrArg (st (F := Ideal) A Z rowsOf colsOf 32).2 (funext fun a => Fin.ext ?_)
  have h0 : (j 0).val < 1 := (j 0).isLt
  fin_cases a
  · show 0 + 1 * (j 0).val = 0
    omega
  · show 0 + 1 * (j 1).val = r.val
    omega
  · show 0 + 1 * (j 2).val = c'.val
    omega
  · show 0 + 1 * (j 3).val = g.val
    omega

/-- What is read of the record of picks of one of the two selections, after the loop. -/
theorem record1_at (A Z : FVec Ideal S2x32x32x128 .f32) (j : (Rect.unit (s := S2x32x32x128) ![1, 0, 0, 0] S1x32x32x128.size inb_S2x32x32x128_S1x32x32x128_1_0_0_0).toLoadRect.shape.Idx) (r c' : Fin 32) (g : Fin 128)
    (h1 : (j 1).val = r.val) (h2 : (j 2).val = c'.val) (h3 : (j 3).val = g.val) :
    arg15.view.readCov (Val := Elt Ideal)
      ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 rowsOf colsOf
          (arg14.view.writes (Elt Ideal) arg14.view.junk [⟨(Rect.unit (s := S2x32x32x128) ![0, 0, 0, 0] S2x32x32x128.size inb_S2x32x32x128_S2x32x32x128_0_0_0_0), A⟩])
          (arg15.view.writes (Elt Ideal) arg15.view.junk [⟨(Rect.unit (s := S2x32x32x128) ![0, 0, 0, 0] S2x32x32x128.size inb_S2x32x32x128_S2x32x32x128_0_0_0_0), Z⟩])
          (Scf.trips k0_t1_loop.lb k0_t1_loop.ub k0_t1_loop.st)).2 ++ [⟨(Rect.unit (s := S2x32x32x128) ![0, 0, 0, 0] S2x32x32x128.size inb_S2x32x32x128_S2x32x32x128_0_0_0_0), Z⟩])
      (Rect.unit (s := S2x32x32x128) ![1, 0, 0, 0] S1x32x32x128.size inb_S2x32x32x128_S1x32x32x128_1_0_0_0).toLoadRect j
      = (st (F := Ideal) A Z rowsOf colsOf 32).2 (ix4 1 r c' g) := by
  unfold View.readCov
  rw [View.writes_append]
  refine (congrFun (pb_read (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v34 v132 v135 v138 v172 rowsOf colsOf _ _ A Z
    (View.read_writes_full _ _ _ _ _) (View.read_writes_full _ _ _ _ _) k0_t1_loop.trips le_rfl).2 _).trans ?_
  rw [trips_eq]
  refine congrArg (st (F := Ideal) A Z rowsOf colsOf 32).2 (funext fun a => Fin.ext ?_)
  have h0 : (j 0).val < 1 := (j 0).isLt
  fin_cases a
  · show 1 + 1 * (j 0).val = 1
    omega
  · show 0 + 1 * (j 1).val = r.val
    omega
  · show 0 + 1 * (j 2).val = c'.val
    omega
  · show 0 + 1 * (j 3).val = g.val
    omega

end record

section blocks

variable (x0 x1 x2 x3 : FVec Ideal S32x32x128 .f32) (x4 x5 x6 x7 x8 x9 : FVec Ideal S32x128 .f32) (x10 x11 : IVec S1x128 32)

/-- The weighted similarities of a block of sentence pairs. -/
def outBlk : FVec Ideal S12x32x32x128 .f32 :=
  fun y => pairOut (wordsBlk x0 x1 x2 x3 x4 x5 x6 x7 x8 x9 (y 3)) (x10 (ix2 0 (y 3))) (x11 (ix2 0 (y 3))) (chanQ (y 0).val) (chanJ (y 0).val) (y 1) (y 2)

/-- The maps that the two selections start from. -/
def maps : FVec Ideal S2x32x32x128 .f32 :=
  k0_pay53 (F := Ideal) (pad x10 x11) (k0_pay27 (k0_pay11 x0) (k0_pay12 x1) (k0_pay13 x2) (k0_pay14 x3)) (k0_pay38 (k0_pay27 (k0_pay11 x0) (k0_pay12 x1) (k0_pay13 x2) (k0_pay14 x3)) (k0_pay28 (k0_pay15 x4) (k0_pay16 x5) (k0_pay19 x8)) (k0_pay29 (k0_pay17 x6) (k0_pay18 x7) (k0_pay20 x9)))

/-- The first selection starts from the inner products of the added states. -/
theorem maps_lo (g : Fin 128) : lane (maps x0 x1 x2 x3 x4 x5 x6 x7 x8 x9 x10 x11) 0 g = blkMap x0 x1 x2 x3 x4 x5 x6 x7 x8 x9 x10 x11 g 3 0 := by
  funext r c
  rw [← ch9_at]
  unfold lane maps k0_pay53
  pointwise

/-- The second selection starts from the cosines of the added states. -/
theorem maps_hi (g : Fin 128) : lane (maps x0 x1 x2 x3 x4 x5 x6 x7 x8 x9 x10 x11) 1 g = blkMap x0 x1 x2 x3 x4 x5 x6 x7 x8 x9 x10 x11 g 3 1 := by
  funext r c
  rw [← ch10_at]
  unfold lane maps k0_pay53
  pointwise

/-- One channel's store. -/
theorem piece_at (k : Fin 12) (V K : FVec Ideal S32x32x128 .f32) (hV : ∀ r c g, V (ix3 r c g) = blkMap x0 x1 x2 x3 x4 x5 x6 x7 x8 x9 x10 x11 g (chanQ k.val) (chanJ k.val) r c)
    (hK : ∀ r c g, K (ix3 r c g) = Scalar.select (IntOp.ori (picked (blkMap x0 x1 x2 x3 x4 x5 x6 x7 x8 x9 x10 x11 g 3 0) 32 r c) (picked (blkMap x0 x1 x2 x3 x4 x5 x6 x7 x8 x9 x10 x11 g 3 1) 32 r c)) (FloatOps.ofBits (F := Ideal) .f32 0x3F800000#32 : EReal) (FloatOps.ofBits (F := Ideal) .f32 0x3DCCCCCD#32 : EReal)
        * (FloatOps.ofBits (F := Ideal) .f32 0x3F800000#32 - num (padBit (x10 (ix2 0 g)) (x11 (ix2 0 g)) r c)))
    (inb : ∀ a, ![k.val, 0, 0, 0] a + S1x32x32x128.size a ≤ S12x32x32x128.size a) (x : S1x32x32x128.Idx) :
    shapeCast S1x32x32x128 (mulf K V) shapeCasts_S32x32x128_S1x32x32x128 x = outBlk x0 x1 x2 x3 x4 x5 x6 x7 x8 x9 x10 x11 ((Rect.unit (s := S12x32x32x128) ![k.val, 0, 0, 0] S1x32x32x128.size inb).emb x) := by
  have e : (Rect.unit (s := S12x32x32x128) ![k.val, 0, 0, 0] S1x32x32x128.size inb).emb x = ix4 k (x 1) (x 2) (x 3) := by
    have h0 : (x 0).val < 1 := (x 0).isLt
    refine funext fun a => Fin.ext ?_
    fin_cases a
    · show k.val + 1 * (x 0).val = k.val
      omega
    · show 0 + 1 * (x 1).val = (x 1).val
      omega
    · show 0 + 1 * (x 2).val = (x 2).val
      omega
    · show 0 + 1 * (x 3).val = (x 3).val
      omega
  rw [e]
  idx_vars x
  pointwise
  rw [hV, hK]
  show _ = _ * _ * _
  exact mul_right_comm _ _ _

end blocks

/-- Each store of the body stores a part of the block. -/
theorem pieces_at (c : Dev nD) (i : grid0.Coords)
  (arg1 : Memref sig .tc .vmem S32x32x128 .f32) (harg1 : arg1.IsWhole)
  (arg2 : Memref sig .tc .vmem S32x32x128 .f32) (harg2 : arg2.IsWhole)
  (arg3 : Memref sig .tc .vmem S32x32x128 .f32) (harg3 : arg3.IsWhole)
  (arg4 : Memref sig .tc .vmem S32x32x128 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S32x128 .f32) (harg8 : arg8.IsWhole)
  (arg9 : Memref sig .tc .vmem S32x128 .f32) (harg9 : arg9.IsWhole)
  (arg10 : Memref sig .tc .vmem S32x128 .f32) (harg10 : arg10.IsWhole)
  (arg11 : Memref sig .tc .vmem S1x128 .i32) (harg11 : arg11.IsWhole)
  (arg12 : Memref sig .tc .vmem S1x128 .i32) (harg12 : arg12.IsWhole)
  (arg13 : Memref sig .tc .vmem S12x32x32x128 .f32) (harg13 : arg13.IsWhole)
  (arg14 : Memref sig .tc .vmem S2x32x32x128 .f32) (harg14 : arg14.IsWhole)
  (arg15 : Memref sig .tc .vmem S2x32x32x128 .f32) (harg15 : arg15.IsWhole)
  (x0 x1 x2 x3 : FVec Ideal S32x32x128 .f32) (x4 x5 x6 x7 x8 x9 : FVec Ideal S32x128 .f32) (x10 x11 : IVec S1x128 32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1, ∀ x : p.1.shape.Idx, p.2 x = outBlk x0 x1 x2 x3 x4 x5 x6 x7 x8 x9 x10 x11 (p.1.emb x) := by
  unfold kernelRun0_A
  dsimp only
  sl_unfold_words
  rw [View.readAt_full arg1.view, View.readAt_full arg2.view, View.readAt_full arg3.view, View.readAt_full arg4.view, View.readAt_full arg5.view, View.readAt_full arg6.view, View.readAt_full arg7.view, View.readAt_full arg8.view, View.readAt_full arg9.view, View.readAt_full arg10.view, View.readAt_full arg11.view, View.readAt_full arg12.view, harg1.read_unread, harg2.read_unread, harg3.read_unread, harg4.read_unread, harg5.read_unread, harg6.read_unread, harg7.read_unread, harg8.read_unread, harg9.read_unread, harg10.read_unread, harg11.read_unread, harg12.read_unread]
  have r0 := fun A Z => record0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 (pad x10 x11) (k0_pay40 (pad x10 x11) (k0_pay24 (k0_pay11 x0) (k0_pay14 x3))) (k0_pay42 (k0_pay30 (k0_pay11 x0) (k0_pay14 x3) (k0_pay15 x4) (k0_pay16 x5) (k0_pay17 x6) (k0_pay18 x7)) (k0_pay41 (pad x10 x11))) (k0_pay43 (pad x10 x11) (k0_pay31 (k0_pay11 x0) (k0_pay14 x3) (k0_pay15 x4) (k0_pay16 x5) (k0_pay17 x6) (k0_pay18 x7))) k0_pay54 A Z
  have r1 := fun A Z => record1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 (pad x10 x11) (k0_pay40 (pad x10 x11) (k0_pay24 (k0_pay11 x0) (k0_pay14 x3))) (k0_pay42 (k0_pay30 (k0_pay11 x0) (k0_pay14 x3) (k0_pay15 x4) (k0_pay16 x5) (k0_pay17 x6) (k0_pay18 x7)) (k0_pay41 (pad x10 x11))) (k0_pay43 (pad x10 x11) (k0_pay31 (k0_pay11 x0) (k0_pay14 x3) (k0_pay15 x4) (k0_pay16 x5) (k0_pay17 x6) (k0_pay18 x7))) k0_pay54 A Z
  have hz : ∀ y, k0_pay55 (F := Ideal) k0_pay54 y = (0 : EReal) := fun y => by
    unfold k0_pay55 k0_pay54
    pointwise
  have q0 := fun j r c' g h1 h2 h3 => (r0 (maps x0 x1 x2 x3 x4 x5 x6 x7 x8 x9 x10 x11) (k0_pay55 k0_pay54) j r c' g h1 h2 h3).trans (((st_at (maps x0 x1 x2 x3 x4 x5 x6 x7 x8 x9 x10 x11) _ hz 32 0 g).2 r c').trans (by rw [maps_lo]))
  have q1 := fun j r c' g h1 h2 h3 => (r1 (maps x0 x1 x2 x3 x4 x5 x6 x7 x8 x9 x10 x11) (k0_pay55 k0_pay54) j r c' g h1 h2 h3).trans (((st_at (maps x0 x1 x2 x3 x4 x5 x6 x7 x8 x9 x10 x11) _ hz 32 1 g).2 r c').trans (by rw [maps_hi]))
  clear r0 r1
  unfold maps Chan.pad rowsOf colsOf at q0 q1
  generalize View.readCov (Val := Elt Ideal) arg15.view _ (Rect.unit (s := S2x32x32x128) ![0, 0, 0, 0] S1x32x32x128.size inb_S2x32x32x128_S1x32x32x128_0_0_0_0).toLoadRect = S0 at q0 ⊢
  generalize View.readCov (Val := Elt Ideal) arg15.view _ (Rect.unit (s := S2x32x32x128) ![1, 0, 0, 0] S1x32x32x128.size inb_S2x32x32x128_S1x32x32x128_1_0_0_0).toLoadRect = S1 at q1 ⊢
  have hK := fun r c' g => keep_at x10 x11 S0 S1 r c' g _ _ (q0 (ix4 0 r c' g) r c' g rfl rfl rfl) (q1 (ix4 0 r c' g) r c' g rfl rfl rfl)
  simp only [List.forall_mem_cons]
  refine ⟨?_, ?_, ?_, ?_, ?_, ?_, ?_, ?_, ?_, ?_, ?_, ?_, fun p hp => absurd hp List.not_mem_nil⟩
  · exact piece_at x0 x1 x2 x3 x4 x5 x6 x7 x8 x9 x10 x11 11 _ _ (fun r c' g => ch11_at x0 x1 x2 x3 x4 x5 x6 x7 x8 x9 x10 x11 r c' g) hK inb_S12x32x32x128_S1x32x32x128_11_0_0_0
  · exact piece_at x0 x1 x2 x3 x4 x5 x6 x7 x8 x9 x10 x11 10 _ _ (fun r c' g => ch10_at x0 x1 x2 x3 x4 x5 x6 x7 x8 x9 x10 x11 r c' g) hK inb_S12x32x32x128_S1x32x32x128_10_0_0_0
  · exact piece_at x0 x1 x2 x3 x4 x5 x6 x7 x8 x9 x10 x11 9 _ _ (fun r c' g => ch9_at x0 x1 x2 x3 x4 x5 x6 x7 x8 x9 x10 x11 r c' g) hK inb_S12x32x32x128_S1x32x32x128_9_0_0_0
  · exact piece_at x0 x1 x2 x3 x4 x5 x6 x7 x8 x9 x10 x11 8 _ _ (fun r c' g => ch8_at x0 x1 x2 x3 x4 x5 x6 x7 x8 x9 x10 x11 r c' g) hK inb_S12x32x32x128_S1x32x32x128_8_0_0_0
  · exact piece_at x0 x1 x2 x3 x4 x5 x6 x7 x8 x9 x10 x11 7 _ _ (fun r c' g => ch7_at x0 x1 x2 x3 x4 x5 x6 x7 x8 x9 x10 x11 r c' g) hK inb_S12x32x32x128_S1x32x32x128_7_0_0_0
  · exact piece_at x0 x1 x2 x3 x4 x5 x6 x7 x8 x9 x10 x11 6 _ _ (fun r c' g => ch6_at x0 x1 x2 x3 x4 x5 x6 x7 x8 x9 x10 x11 r c' g) hK inb_S12x32x32x128_S1x32x32x128_6_0_0_0
  · exact piece_at x0 x1 x2 x3 x4 x5 x6 x7 x8 x9 x10 x11 5 _ _ (fun r c' g => ch5_at x0 x1 x2 x3 x4 x5 x6 x7 x8 x9 x10 x11 r c' g) hK inb_S12x32x32x128_S1x32x32x128_5_0_0_0
  · exact piece_at x0 x1 x2 x3 x4 x5 x6 x7 x8 x9 x10 x11 4 _ _ (fun r c' g => ch4_at x0 x1 x2 x3 x4 x5 x6 x7 x8 x9 x10 x11 r c' g) hK inb_S12x32x32x128_S1x32x32x128_4_0_0_0
  · exact piece_at x0 x1 x2 x3 x4 x5 x6 x7 x8 x9 x10 x11 3 _ _ (fun r c' g => ch3_at x0 x1 x2 x3 x4 x5 x6 x7 x8 x9 x10 x11 r c' g) hK inb_S12x32x32x128_S1x32x32x128_3_0_0_0
  · exact piece_at x0 x1 x2 x3 x4 x5 x6 x7 x8 x9 x10 x11 2 _ _ (fun r c' g => ch2_at x0 x1 x2 x3 x4 x5 x6 x7 x8 x9 x10 x11 r c' g) hK inb_S12x32x32x128_S1x32x32x128_2_0_0_0
  · exact piece_at x0 x1 x2 x3 x4 x5 x6 x7 x8 x9 x10 x11 1 _ _ (fun r c' g => ch1_at x0 x1 x2 x3 x4 x5 x6 x7 x8 x9 x10 x11 r c' g) hK inb_S12x32x32x128_S1x32x32x128_1_0_0_0
  · exact piece_at x0 x1 x2 x3 x4 x5 x6 x7 x8 x9 x10 x11 0 _ _ (fun r c' g => ch0_at x0 x1 x2 x3 x4 x5 x6 x7 x8 x9 x10 x11 r c' g) hK inb_S12x32x32x128_S1x32x32x128_0_0_0_0

/-- What one grid point leaves in its output block. -/
theorem out_eq (c : Dev nD) (i : grid0.Coords)
  (arg1 : Memref sig .tc .vmem S32x32x128 .f32) (harg1 : arg1.IsWhole)
  (arg2 : Memref sig .tc .vmem S32x32x128 .f32) (harg2 : arg2.IsWhole)
  (arg3 : Memref sig .tc .vmem S32x32x128 .f32) (harg3 : arg3.IsWhole)
  (arg4 : Memref sig .tc .vmem S32x32x128 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S32x128 .f32) (harg8 : arg8.IsWhole)
  (arg9 : Memref sig .tc .vmem S32x128 .f32) (harg9 : arg9.IsWhole)
  (arg10 : Memref sig .tc .vmem S32x128 .f32) (harg10 : arg10.IsWhole)
  (arg11 : Memref sig .tc .vmem S1x128 .i32) (harg11 : arg11.IsWhole)
  (arg12 : Memref sig .tc .vmem S1x128 .i32) (harg12 : arg12.IsWhole)
  (arg13 : Memref sig .tc .vmem S12x32x32x128 .f32) (harg13 : arg13.IsWhole)
  (arg14 : Memref sig .tc .vmem S2x32x32x128 .f32) (harg14 : arg14.IsWhole)
  (arg15 : Memref sig .tc .vmem S2x32x32x128 .f32) (harg15 : arg15.IsWhole)
  (x0 x1 x2 x3 : FVec Ideal S32x32x128 .f32) (x4 x5 x6 x7 x8 x9 : FVec Ideal S32x128 .f32) (x10 x11 : IVec S1x128 32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = outBlk x0 x1 x2 x3 x4 x5 x6 x7 x8 x9 x10 x11 := by
  funext y
  unfold out0_A_12
  exact View.read_writes_apply_of_pieces VO0_12 VO0_12.junk (outBlk x0 x1 x2 x3 x4 x5 x6 x7 x8 x9 x10 x11) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1 (pieces_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11) y
    (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 y)

end Cert.FocusIdeal.Out
-- ==== Proof.FocusFinal.lean ====
module

public import proofs.«01_k».proof.Proof.FocusBlocks
public import Idealize.ShloMosaic.Lib.StableHlo.RunRead

@[expose] public section

set_option maxRecDepth 16384

noncomputable section

open Idealize.ShloMosaic Idealize.ShloMosaic.TcCoe Idealize.SL.Sem Idealize.ShloMosaic.Tactic Cert.FocusSpec
open Idealize.ShloMosaic.Pipeline (Dat)

namespace Cert.FocusIdeal.Out

open Cert.FocusIdeal Cert.FocusIdeal.Gen Cert.FocusIdeal.Trip Cert.FocusIdeal.Chan

variable (m : (ℓ : Loc nD τ sig) → Buf (Elt Ideal) ℓ) (ρ : Dev nD → PrngReg)

/-- One block of an array of maps, sentence pairs last. -/
def tile3 (X : FVec Ideal S32x32x256 .f32) (q : ℕ) : FVec Ideal S32x32x128 .f32 :=
  fun j => X (ix3 (j 0) (j 1) (⟨(128 * q + (j 2).val) % 256, Nat.mod_lt _ (by decide)⟩ : Fin 256))

/-- One block of an array of rows, sentence pairs last. -/
def tile2 (X : FVec Ideal S32x256 .f32) (q : ℕ) : FVec Ideal S32x128 .f32 :=
  fun j => X (ix2 (j 0) (⟨(128 * q + (j 1).val) % 256, Nat.mod_lt _ (by decide)⟩ : Fin 256))

/-- One block of an array of lengths. -/
def tile1 (X : IVec S1x256 32) (q : ℕ) : IVec S1x128 32 :=
  fun j => X (ix2 0 (⟨(128 * q + (j 1).val) % 256, Nat.mod_lt _ (by decide)⟩ : Fin 256))

/-- The block that window 0 takes at a grid point. -/
theorem idx0 : ∀ t : Fin cfg0.N, win0_0.index t = ![0, 0, t.val] ∧ t.val < 2 :=
  (by decide +kernel : ∀ t : Fin grid0.N, _)

/-- The block that window 1 takes at a grid point. -/
theorem idx1 : ∀ t : Fin cfg0.N, win0_1.index t = ![0, 0, t.val] ∧ t.val < 2 :=
  (by decide +kernel : ∀ t : Fin grid0.N, _)

/-- The block that window 2 takes at a grid point. -/
theorem idx2 : ∀ t : Fin cfg0.N, win0_2.index t = ![0, 0, t.val] ∧ t.val < 2 :=
  (by decide +kernel : ∀ t : Fin grid0.N, _)

/-- The block that window 3 takes at a grid point. -/
theorem idx3 : ∀ t : Fin cfg0.N, win0_3.index t = ![0, 0, t.val] ∧ t.val < 2 :=
  (by decide +kernel : ∀ t : Fin grid0.N, _)

/-- The block that window 4 takes at a grid point. -/
theorem idx4 : ∀ t : Fin cfg0.N, win0_4.index t = ![0, t.val] ∧ t.val < 2 :=
  (by decide +kernel : ∀ t : Fin grid0.N, _)

/-- The block that window 5 takes at a grid point. -/
theorem idx5 : ∀ t : Fin cfg0.N, win0_5.index t = ![0, t.val] ∧ t.val < 2 :=
  (by decide +kernel : ∀ t : Fin grid0.N, _)

/-- The block that window 6 takes at a grid point. -/
theorem idx6 : ∀ t : Fin cfg0.N, win0_6.index t = ![0, t.val] ∧ t.val < 2 :=
  (by decide +kernel : ∀ t : Fin grid0.N, _)

/-- The block that window 7 takes at a grid point. -/
theorem idx7 : ∀ t : Fin cfg0.N, win0_7.index t = ![0, t.val] ∧ t.val < 2 :=
  (by decide +kernel : ∀ t : Fin grid0.N, _)

/-- The block that window 8 takes at a grid point. -/
theorem idx8 : ∀ t : Fin cfg0.N, win0_8.index t = ![0, t.val] ∧ t.val < 2 :=
  (by decide +kernel : ∀ t : Fin grid0.N, _)

/-- The block that window 9 takes at a grid point. -/
theorem idx9 : ∀ t : Fin cfg0.N, win0_9.index t = ![0, t.val] ∧ t.val < 2 :=
  (by decide +kernel : ∀ t : Fin grid0.N, _)

/-- The block that window 10 takes at a grid point. -/
theorem idx10 : ∀ t : Fin cfg0.N, win0_10.index t = ![0, t.val] ∧ t.val < 2 :=
  (by decide +kernel : ∀ t : Fin grid0.N, _)

/-- The block that window 11 takes at a grid point. -/
theorem idx11 : ∀ t : Fin cfg0.N, win0_11.index t = ![0, t.val] ∧ t.val < 2 :=
  (by decide +kernel : ∀ t : Fin grid0.N, _)

/-- The block that window 12 takes at a grid point. -/
theorem idx12 : ∀ t : Fin cfg0.N, win0_12.index t = ![0, 0, 0, t.val] ∧ t.val < 2 :=
  (by decide +kernel : ∀ t : Fin grid0.N, _)

/-- The block that input window 0 reads at a grid point. -/
theorem blk0 (c : Dev nD) (t : Fin cfg0.N) : iblk m c 0 t = tile3 (V m c main_v0) t.val := by
  funext y
  show V m c main_v0 (((cfg0.win 0).blk t).view.emb y) = _
  generalize V m c main_v0 = X
  have e := idx0 t
  blk_ext [tile3, idx0 t]

/-- The block that input window 1 reads at a grid point. -/
theorem blk1 (c : Dev nD) (t : Fin cfg0.N) : iblk m c 1 t = tile3 (V m c main_v1) t.val := by
  funext y
  show V m c main_v1 (((cfg0.win 1).blk t).view.emb y) = _
  generalize V m c main_v1 = X
  have e := idx1 t
  blk_ext [tile3, idx1 t]

/-- The block that input window 2 reads at a grid point. -/
theorem blk2 (c : Dev nD) (t : Fin cfg0.N) : iblk m c 2 t = tile3 (V m c main_v2) t.val := by
  funext y
  show V m c main_v2 (((cfg0.win 2).blk t).view.emb y) = _
  generalize V m c main_v2 = X
  have e := idx2 t
  blk_ext [tile3, idx2 t]

/-- The block that input window 3 reads at a grid point. -/
theorem blk3 (c : Dev nD) (t : Fin cfg0.N) : iblk m c 3 t = tile3 (V m c main_v3) t.val := by
  funext y
  show V m c main_v3 (((cfg0.win 3).blk t).view.emb y) = _
  generalize V m c main_v3 = X
  have e := idx3 t
  blk_ext [tile3, idx3 t]

/-- The block that input window 4 reads at a grid point. -/
theorem blk4 (c : Dev nD) (t : Fin cfg0.N) : iblk m c 4 t = tile2 (V m c main_v4) t.val := by
  funext y
  show V m c main_v4 (((cfg0.win 4).blk t).view.emb y) = _
  generalize V m c main_v4 = X
  have e := idx4 t
  blk_ext [tile2, idx4 t]

/-- The block that input window 5 reads at a grid point. -/
theorem blk5 (c : Dev nD) (t : Fin cfg0.N) : iblk m c 5 t = tile2 (V m c main_v5) t.val := by
  funext y
  show V m c main_v5 (((cfg0.win 5).blk t).view.emb y) = _
  generalize V m c main_v5 = X
  have e := idx5 t
  blk_ext [tile2, idx5 t]

/-- The block that input window 6 reads at a grid point. -/
theorem blk6 (c : Dev nD) (t : Fin cfg0.N) : iblk m c 6 t = tile2 (V m c main_v6) t.val := by
  funext y
  show V m c main_v6 (((cfg0.win 6).blk t).view.emb y) = _
  generalize V m c main_v6 = X
  have e := idx6 t
  blk_ext [tile2, idx6 t]

/-- The block that input window 7 reads at a grid point. -/
theorem blk7 (c : Dev nD) (t : Fin cfg0.N) : iblk m c 7 t = tile2 (V m c main_v7) t.val := by
  funext y
  show V m c main_v7 (((cfg0.win 7).blk t).view.emb y) = _
  generalize V m c main_v7 = X
  have e := idx7 t
  blk_ext [tile2, idx7 t]

/-- The block that input window 8 reads at a grid point. -/
theorem blk8 (c : Dev nD) (t : Fin cfg0.N) : iblk m c 8 t = tile2 (V m c main_v8) t.val := by
  funext y
  show V m c main_v8 (((cfg0.win 8).blk t).view.emb y) = _
  generalize V m c main_v8 = X
  have e := idx8 t
  blk_ext [tile2, idx8 t]

/-- The block that input window 9 reads at a grid point. -/
theorem blk9 (c : Dev nD) (t : Fin cfg0.N) : iblk m c 9 t = tile2 (V m c main_v9) t.val := by
  funext y
  show V m c main_v9 (((cfg0.win 9).blk t).view.emb y) = _
  generalize V m c main_v9 = X
  have e := idx9 t
  blk_ext [tile2, idx9 t]

/-- The block that input window 10 reads at a grid point. -/
theorem blk10 (c : Dev nD) (t : Fin cfg0.N) : iblk m c 10 t = tile1 (V m c main_v10) t.val := by
  funext y
  show V m c main_v10 (((cfg0.win 10).blk t).view.emb y) = _
  generalize V m c main_v10 = X
  have e := idx10 t
  blk_ext [tile1, idx10 t]

/-- The block that input window 11 reads at a grid point. -/
theorem blk11 (c : Dev nD) (t : Fin cfg0.N) : iblk m c 11 t = tile1 (V m c main_v11) t.val := by
  funext y
  show V m c main_v11 (((cfg0.win 11).blk t).view.emb y) = _
  generalize V m c main_v11 = X
  have e := idx11 t
  blk_ext [tile1, idx11 t]

/-- Operand 0 is argument 0, sentence pairs last. -/
theorem V0_at (c : Dev nD) (r k : Fin 32) (b : Fin 256) : (V m c main_v0 : FVec Ideal S32x32x256 .f32) (ix3 r k b) = (m ((c : Thread nD τ).loc main_arg0) : FVec Ideal S256x32x32 .f32) (ix3 b r k) := by
  have e : V m c main_v0 = (transpose S32x32x256 [1, 2, 0] (m ((c : Thread nD τ).loc main_arg0)) transposes_S256x32x32_S32x32x256_1_2_0 : FVec Ideal S32x32x256 .f32) := by
    show StableHlo.after hostOps0 (fun b => m (c, b)) (Proc.devRef .tc main_v0) = _
    after_reads_simp
  rw [e]
  pointwise

/-- Operand 1 is argument 1, sentence pairs last. -/
theorem V1_at (c : Dev nD) (r k : Fin 32) (b : Fin 256) : (V m c main_v1 : FVec Ideal S32x32x256 .f32) (ix3 r k b) = (m ((c : Thread nD τ).loc main_arg1) : FVec Ideal S256x32x32 .f32) (ix3 b r k) := by
  have e : V m c main_v1 = (transpose S32x32x256 [1, 2, 0] (m ((c : Thread nD τ).loc main_arg1)) transposes_S256x32x32_S32x32x256_1_2_0 : FVec Ideal S32x32x256 .f32) := by
    show StableHlo.after hostOps0 (fun b => m (c, b)) (Proc.devRef .tc main_v1) = _
    after_reads_simp
  rw [e]
  pointwise

/-- Operand 2 is argument 2, sentence pairs last. -/
theorem V2_at (c : Dev nD) (r k : Fin 32) (b : Fin 256) : (V m c main_v2 : FVec Ideal S32x32x256 .f32) (ix3 r k b) = (m ((c : Thread nD τ).loc main_arg2) : FVec Ideal S256x32x32 .f32) (ix3 b r k) := by
  have e : V m c main_v2 = (transpose S32x32x256 [1, 2, 0] (m ((c : Thread nD τ).loc main_arg2)) transposes_S256x32x32_S32x32x256_1_2_0 : FVec Ideal S32x32x256 .f32) := by
    show StableHlo.after hostOps0 (fun b => m (c, b)) (Proc.devRef .tc main_v2) = _
    after_reads_simp
  rw [e]
  pointwise

/-- Operand 3 is argument 3, sentence pairs last. -/
theorem V3_at (c : Dev nD) (r k : Fin 32) (b : Fin 256) : (V m c main_v3 : FVec Ideal S32x32x256 .f32) (ix3 r k b) = (m ((c : Thread nD τ).loc main_arg3) : FVec Ideal S256x32x32 .f32) (ix3 b r k) := by
  have e : V m c main_v3 = (transpose S32x32x256 [1, 2, 0] (m ((c : Thread nD τ).loc main_arg3)) transposes_S256x32x32_S32x32x256_1_2_0 : FVec Ideal S32x32x256 .f32) := by
    show StableHlo.after hostOps0 (fun b => m (c, b)) (Proc.devRef .tc main_v3) = _
    after_reads_simp
  rw [e]
  pointwise

/-- Operand 4 is argument 4, sentence pairs last. -/
theorem V4_at (c : Dev nD) (r : Fin 32) (b : Fin 256) : (V m c main_v4 : FVec Ideal S32x256 .f32) (ix2 r b) = (m ((c : Thread nD τ).loc main_arg4) : FVec Ideal S256x32 .f32) (ix2 b r) := by
  have e : V m c main_v4 = (transpose S32x256 [1, 0] (m ((c : Thread nD τ).loc main_arg4)) transposes_S256x32_S32x256_1_0 : FVec Ideal S32x256 .f32) := by
    show StableHlo.after hostOps0 (fun b => m (c, b)) (Proc.devRef .tc main_v4) = _
    after_reads_simp
  rw [e]
  pointwise

/-- Operand 5 is argument 5, sentence pairs last. -/
theorem V5_at (c : Dev nD) (r : Fin 32) (b : Fin 256) : (V m c main_v5 : FVec Ideal S32x256 .f32) (ix2 r b) = (m ((c : Thread nD τ).loc main_arg5) : FVec Ideal S256x32 .f32) (ix2 b r) := by
  have e : V m c main_v5 = (transpose S32x256 [1, 0] (m ((c : Thread nD τ).loc main_arg5)) transposes_S256x32_S32x256_1_0 : FVec Ideal S32x256 .f32) := by
    show StableHlo.after hostOps0 (fun b => m (c, b)) (Proc.devRef .tc main_v5) = _
    after_reads_simp
  rw [e]
  pointwise

/-- Operand 6 is argument 6, sentence pairs last. -/
theorem V6_at (c : Dev nD) (r : Fin 32) (b : Fin 256) : (V m c main_v6 : FVec Ideal S32x256 .f32) (ix2 r b) = (m ((c : Thread nD τ).loc main_arg6) : FVec Ideal S256x32 .f32) (ix2 b r) := by
  have e : V m c main_v6 = (transpose S32x256 [1, 0] (m ((c : Thread nD τ).loc main_arg6)) transposes_S256x32_S32x256_1_0 : FVec Ideal S32x256 .f32) := by
    show StableHlo.after hostOps0 (fun b => m (c, b)) (Proc.devRef .tc main_v6) = _
    after_reads_simp
  rw [e]
  pointwise

/-- Operand 7 is argument 7, sentence pairs last. -/
theorem V7_at (c : Dev nD) (r : Fin 32) (b : Fin 256) : (V m c main_v7 : FVec Ideal S32x256 .f32) (ix2 r b) = (m ((c : Thread nD τ).loc main_arg7) : FVec Ideal S256x32 .f32) (ix2 b r) := by
  have e : V m c main_v7 = (transpose S32x256 [1, 0] (m ((c : Thread nD τ).loc main_arg7)) transposes_S256x32_S32x256_1_0 : FVec Ideal S32x256 .f32) := by
    show StableHlo.after hostOps0 (fun b => m (c, b)) (Proc.devRef .tc main_v7) = _
    after_reads_simp
  rw [e]
  pointwise

/-- Operand 8 is argument 8, sentence pairs last. -/
theorem V8_at (c : Dev nD) (r : Fin 32) (b : Fin 256) : (V m c main_v8 : FVec Ideal S32x256 .f32) (ix2 r b) = (m ((c : Thread nD τ).loc main_arg8) : FVec Ideal S256x32 .f32) (ix2 b r) := by
  have e : V m c main_v8 = (transpose S32x256 [1, 0] (m ((c : Thread nD τ).loc main_arg8)) transposes_S256x32_S32x256_1_0 : FVec Ideal S32x256 .f32) := by
    show StableHlo.after hostOps0 (fun b => m (c, b)) (Proc.devRef .tc main_v8) = _
    after_reads_simp
  rw [e]
  pointwise

/-- Operand 9 is argument 9, sentence pairs last. -/
theorem V9_at (c : Dev nD) (r : Fin 32) (b : Fin 256) : (V m c main_v9 : FVec Ideal S32x256 .f32) (ix2 r b) = (m ((c : Thread nD τ).loc main_arg9) : FVec Ideal S256x32 .f32) (ix2 b r) := by
  have e : V m c main_v9 = (transpose S32x256 [1, 0] (m ((c : Thread nD τ).loc main_arg9)) transposes_S256x32_S32x256_1_0 : FVec Ideal S32x256 .f32) := by
    show StableHlo.after hostOps0 (fun b => m (c, b)) (Proc.devRef .tc main_v9) = _
    after_reads_simp
  rw [e]
  pointwise

/-- Operand 10 is argument 10, the lengths. -/
theorem V10_at (c : Dev nD) (b : Fin 256) : (V m c main_v10 : IVec S1x256 32) (ix2 0 b) = (m ((c : Thread nD τ).loc main_arg10) : IVec S256 32) (ix1 b) := by
  have e : V m c main_v10 = (shapeCast S1x256 (m ((c : Thread nD τ).loc main_arg10) : IVec S256 32) shapeCasts_S256_S1x256 : IVec S1x256 32) := by
    show StableHlo.after hostOps0 (fun b => m (c, b)) (Proc.devRef .tc main_v10) = _
    after_reads_simp
    rfl
  rw [e]
  pointwise

/-- Operand 11 is argument 11, the lengths. -/
theorem V11_at (c : Dev nD) (b : Fin 256) : (V m c main_v11 : IVec S1x256 32) (ix2 0 b) = (m ((c : Thread nD τ).loc main_arg11) : IVec S256 32) (ix1 b) := by
  have e : V m c main_v11 = (shapeCast S1x256 (m ((c : Thread nD τ).loc main_arg11) : IVec S256 32) shapeCasts_S256_S1x256 : IVec S1x256 32) := by
    show StableHlo.after hostOps0 (fun b => m (c, b)) (Proc.devRef .tc main_v11) = _
    after_reads_simp
    rfl
  rw [e]
  pointwise

/-- The output array after the run. -/
theorem final (c : Dev nD) : (dats m 0 c).arrAt 12 cfg0.N = focus (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  unfold outsAt0
  rw [out_eq, blk0, blk1, blk2, blk3, blk4, blk5, blk6, blk7, blk8, blk9, blk10, blk11]
  have e := idx12 t
  have h0 : ((((cfg0.win 12).blk t).view.emb y) 0).val = (y 0).val := by blk_simp [idx12 t]
  have h1 : ((((cfg0.win 12).blk t).view.emb y) 1).val = (y 1).val := by blk_simp [idx12 t]
  have h2 : ((((cfg0.win 12).blk t).view.emb y) 2).val = (y 2).val := by blk_simp [idx12 t]
  have h3 : ((((cfg0.win 12).blk t).view.emb y) 3).val = t.val * 128 + (y 3).val := by blk_simp [idx12 t]
  have ht := e.2
  clear e
  generalize ((cfg0.win 12).blk t).view.emb y = i at h0 h1 h2 h3 ⊢
  have hy : (y 3).val < 128 := (y 3).isLt
  have d : (⟨(128 * t.val + (y 3).val) % 256, Nat.mod_lt _ (by decide)⟩ : Fin 256) = i 3 := Fin.ext (by show (128 * t.val + (y 3).val) % 256 = (i 3).val; omega)
  have d1 : y 1 = i 1 := Fin.ext h1.symm
  have d2 : y 2 = i 2 := Fin.ext h2.symm
  have w : (wordsBlk (tile3 (V m c main_v0) t.val) (tile3 (V m c main_v1) t.val) (tile3 (V m c main_v2) t.val) (tile3 (V m c main_v3) t.val) (tile2 (V m c main_v4) t.val) (tile2 (V m c main_v5) t.val) (tile2 (V m c main_v6) t.val) (tile2 (V m c main_v7) t.val) (tile2 (V m c main_v8) t.val) (tile2 (V m c main_v9) t.val) (y 3)) = wordsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 3) := by
    funext r k
    rw [← d]
    unfold wordsBlk wordsAt
    rw [← V0_at m c, ← V1_at m c, ← V2_at m c, ← V3_at m c, ← V4_at m c, ← V5_at m c, ← V6_at m c, ← V7_at m c, ← V8_at m c, ← V9_at m c]
    rfl
  have l0 : tile1 (V m c main_v10) t.val (ix2 0 (y 3)) = (m ((c : Thread nD τ).loc main_arg10) : IVec S256 32) (ix1 (i 3)) := by
    rw [← d, ← V10_at m c]
    rfl
  have l1 : tile1 (V m c main_v11) t.val (ix2 0 (y 3)) = (m ((c : Thread nD τ).loc main_arg11) : IVec S256 32) (ix1 (i 3)) := by
    rw [← d, ← V11_at m c]
    rfl
  unfold outBlk focus
  rw [w, l0, l1, h0, d1, d2]

/-- The kernel ends with the weighted similarities, its arguments unchanged. -/
theorem run : θ_run defs (onTc (τ := τ) (main (F := Ideal))) ⟨m, fun _ => 0, ρ⟩ fun r => ∀ c : Dev nD,
      r.2.mem ((c : Thread nD τ).loc main_v12) = focus (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.FocusIdeal.Out
-- ==== Proof.FocusRefPick.lean ====
module

public import proofs.«01_k».proof.Proof.Gen.FocusRefIdeal.Run
public import proofs.«01_k».proof.Proof.FocusSpec
public import proofs.«01_k».proof.Proof.ConvSpec

@[expose] public section

set_option maxRecDepth 16384

noncomputable section

open Idealize.ShloMosaic Idealize.ShloMosaic.TcCoe Idealize.SL.Sem Idealize.ShloMosaic.Tactic
open Idealize.ShloMosaic.StableHlo

namespace Cert.FocusRefIdeal.Pick

open Cert.FocusRefIdeal Cert.FocusRefIdeal.Gen Cert.FocusRefIdeal.Value Cert.FocusSpec

/-- The order of two pairs of a value and a position: the larger value, at one value the smaller position, comes first. -/
theorem pair_eq (a b : EReal × BitVec 32) :
    reducer_argmax_f32_i32 (F := Ideal) a b = if b.1 < a.1 then a else if a.1 = b.1 ∧ a.2.toInt < b.2.toInt then a else b := by
  obtain ⟨x, i⟩ := a
  obtain ⟨y, j⟩ := b
  unfold reducer_argmax_f32_i32
  dsimp only
  by_cases h : y < x
  · have e : FloatOps.cmpf (F := Ideal) (φ := .f32) .ogt x y = 1#1 := by
        simp [Ideal.cmpf_def, Ideal.cmp, h]
    have e' : FloatOps.cmpf (F := Ideal) (φ := .f32) .une x x = 0#1 := by
        simp [Ideal.cmpf_def, Ideal.cmp]
    rw [if_pos h, e, e']
    rcases bit_cases (IntOp.andi (FloatOps.cmpf (F := Ideal) (φ := .f32) .oeq x y) (IntOp.cmpi .slt i j)) with k | k <;> rw [k] <;> rfl
  · have e : FloatOps.cmpf (F := Ideal) (φ := .f32) .ogt x y = 0#1 := by
        simp [Ideal.cmpf_def, Ideal.cmp, h]
    have e' : FloatOps.cmpf (F := Ideal) (φ := .f32) .une x x = 0#1 := by
        simp [Ideal.cmpf_def, Ideal.cmp]
    rw [if_neg h, e, e']
    by_cases h1 : x = y
    · have e1 : FloatOps.cmpf (F := Ideal) (φ := .f32) .oeq x y = 1#1 := by
        simp [Ideal.cmpf_def, Ideal.cmp, h1]
      subst h1
      rw [e1]
      by_cases h2 : i.toInt < j.toInt
      · have e2 : IntOp.cmpi .slt i j = 1#1 := by
          show BitVec.ofBool (i.slt j) = 1#1
          rw [BitVec.slt_eq_decide, decide_eq_true h2]
          rfl
        rw [if_pos ⟨rfl, h2⟩, e2]
        rfl
      · have e2 : IntOp.cmpi .slt i j = 0#1 := by
          show BitVec.ofBool (i.slt j) = 0#1
          rw [BitVec.slt_eq_decide, decide_eq_false h2]
          rfl
        rw [if_neg (fun h => h2 h.2), e2]
        rfl
    · have e1 : FloatOps.cmpf (F := Ideal) (φ := .f32) .oeq x y = 0#1 := by
        simp [Ideal.cmpf_def, Ideal.cmp, h1]
      rw [if_neg (fun h => h1 h.1), e1]
      rcases bit_cases (IntOp.cmpi .slt i j) with k | k <;> rw [k] <;> rfl

/-- One of a list of pairs, that no pair comes before. -/
def First (z : EReal × BitVec 32) (l : List (EReal × BitVec 32)) : Prop :=
  z ∈ l ∧ ∀ p ∈ l, p.1 ≤ z.1 ∧ (p.1 = z.1 → z.2.toInt ≤ p.2.toInt)

/-- Of two pairs one comes first. -/
theorem first_two (a b : EReal × BitVec 32) : First (reducer_argmax_f32_i32 (F := Ideal) a b) [a, b] := by
  rw [pair_eq]
  unfold First
  simp only [List.mem_cons, List.not_mem_nil, or_false, forall_eq_or_imp, forall_eq]
  split
  · next h => exact ⟨Or.inl rfl, ⟨le_rfl, fun _ => le_rfl⟩, h.le, fun e => absurd h (e ▸ lt_irrefl _)⟩
  · next h =>
    split
    · next h' => exact ⟨Or.inl rfl, ⟨le_rfl, fun _ => le_rfl⟩, h'.1.ge, fun _ => h'.2.le⟩
    · next h' => exact ⟨Or.inr rfl, ⟨not_lt.mp h, fun e => not_lt.mp fun g => h' ⟨e, g⟩⟩, le_rfl, fun _ => le_rfl⟩

/-- The fold over a list of pairs takes the first. -/
theorem first_of (l : List (EReal × BitVec 32)) : ∀ a, First (l.foldl (reducer_argmax_f32_i32 (F := Ideal)) a) (a :: l) := by
  induction l with
  | nil => exact fun a => ⟨List.mem_cons_self, fun p hp => by
      obtain rfl := List.mem_singleton.mp hp
      exact ⟨le_rfl, fun _ => le_rfl⟩⟩
  | cons b l ih =>
    intro a
    obtain ⟨h1, h2⟩ := first_two a b
    obtain ⟨g1, g2⟩ := ih (reducer_argmax_f32_i32 (F := Ideal) a b)
    have g := g2 _ List.mem_cons_self
    have step : ∀ p ∈ [a, b], p.1 ≤ (List.foldl (reducer_argmax_f32_i32 (F := Ideal)) (reducer_argmax_f32_i32 (F := Ideal) a b) l).1 ∧ (p.1 = (List.foldl (reducer_argmax_f32_i32 (F := Ideal)) (reducer_argmax_f32_i32 (F := Ideal) a b) l).1 → (List.foldl (reducer_argmax_f32_i32 (F := Ideal)) (reducer_argmax_f32_i32 (F := Ideal) a b) l).2.toInt ≤ p.2.toInt) := fun p hp =>
      ⟨(h2 p hp).1.trans g.1, fun e => (g.2 (le_antisymm g.1 (e ▸ (h2 p hp).1))).trans ((h2 p hp).2 (le_antisymm (h2 p hp).1 (e ▸ g.1)))⟩
    refine ⟨?_, fun p hp => ?_⟩
    · rcases List.mem_cons.mp g1 with e | e
      · rw [List.foldl_cons, e]
        rcases List.mem_cons.mp h1 with e' | e'
        · exact List.mem_cons.mpr (Or.inl e')
        · exact List.mem_cons.mpr (Or.inr (List.mem_cons.mpr (Or.inl (List.mem_singleton.mp e'))))
      · exact List.mem_cons.mpr (Or.inr (List.mem_cons.mpr (Or.inr e)))
    · rw [List.foldl_cons]
      rcases List.mem_cons.mp hp with e | e
      · exact step p (e ▸ List.mem_cons_self)
      · rcases List.mem_cons.mp e with e' | e'
        · exact step p (e' ▸ List.mem_cons.mpr (Or.inr List.mem_cons_self))
        · exact g2 p (List.mem_cons.mpr (Or.inr e'))

/-- The reduced index of an entry of the flattened maps. -/
theorem drop_eq (i : S512x1024.Idx) : reducesTo_S512x1024_S512_d1.drop i = ix1 (i 0) := by
  funext a
  match a with
  | ⟨0, _⟩ => rfl

/-- The pairs of one flattened map. -/
theorem mem_fiber (x : FVec Ideal S512x1024 .f32) (y : IVec S512x1024 32) (n : Fin 512) (p : EReal × BitVec 32) :
    p ∈ Host.argReduceFiber (α := EReal) x y reducesTo_S512x1024_S512_d1 (ix1 n) ↔ ∃ q : Fin 1024, p = (x (ix2 n q), y (ix2 n q)) := by
  unfold Host.argReduceFiber
  simp only [List.mem_map, List.mem_filter, List.mem_finRange, true_and, decide_eq_true_eq]
  constructor
  · rintro ⟨k, hk, rfl⟩
    rw [drop_eq] at hk
    have h0 : (S512x1024.rowMajor.symm k) 0 = n := congrFun hk 0
    refine ⟨(S512x1024.rowMajor.symm k) 1, ?_⟩
    have e : S512x1024.rowMajor.symm k = ix2 n ((S512x1024.rowMajor.symm k) 1) := funext fun a => by
      match a with
      | ⟨0, _⟩ => exact h0
      | ⟨1, _⟩ => rfl
    exact congrArg (fun i => (x i, y i)) e
  · rintro ⟨q, rfl⟩
    exact ⟨S512x1024.rowMajor (ix2 n q), by rw [Equiv.symm_apply_apply, drop_eq]; rfl, by rw [Equiv.symm_apply_apply]⟩

/-- The arg-max of a flattened map, and its maximum, are the map's pick and its largest entry. -/
theorem argmax_at (x : FVec Ideal S512x1024 .f32) (M : Map) (n : Fin 512) (hM : ∀ q : Fin 1024, x (ix2 n q) = M ⟨q.val / 32, by omega⟩ ⟨q.val % 32, by omega⟩) :
    (Host.argReduce (F := Ideal) (φ := .f32) reducer_argmax_f32_i32 x (iotaInDim S512x1024 32 1) (constant (F := Ideal) S_ .f32 0xFF800000#32) (constantI S_ 32 0#32) reducesTo_S512x1024_S512_d1 h_S_ (ix1 n)).2
      = BitVec.ofNat 32 (pick M) := by
  have hw : ∀ n : Fin 1024, (BitVec.ofNat 32 n.val).toInt = (n.val : ℤ) := by decide +kernel
  rw [Ideal.argReduce_eq_reduce2, Host.reduce2_eq_foldl_fiber]
  have hF := first_of (Host.argReduceFiber (α := EReal) x (iotaInDim S512x1024 32 1) reducesTo_S512x1024_S512_d1 (ix1 n)) ((⊥ : EReal), 0#32)
  have hi : (constant (F := Ideal) S_ .f32 0xFF800000#32 (Shape.Idx.first h_S_), constantI S_ 32 0#32 (Shape.Idx.first h_S_)) = ((⊥ : EReal), 0#32) :=
    congrArg (fun v : EReal => (v, 0#32)) Cert.ConvSpec.bot_word
  rw [hi]
  generalize List.foldl _ _ _ = z at hF ⊢
  obtain ⟨h1, h2⟩ := hF
  have hmem : ∀ r c : Fin 32, (M r c, BitVec.ofNat 32 (r.val * 32 + c.val)) ∈ Host.argReduceFiber (α := EReal) x (iotaInDim S512x1024 32 1) reducesTo_S512x1024_S512_d1 (ix1 n) := fun r c => by
    refine (mem_fiber _ _ _ _).mpr ⟨⟨r.val * 32 + c.val, by omega⟩, ?_⟩
    rw [hM]
    refine Prod.ext (congrArg₂ M (Fin.ext ?_) (Fin.ext ?_)) rfl
    · show r.val = (r.val * 32 + c.val) / 32
      omega
    · show c.val = (r.val * 32 + c.val) % 32
      omega
  have hz : ∃ r c : Fin 32, M r c = z.1 ∧ z.2 = BitVec.ofNat 32 (r.val * 32 + c.val) := by
    rcases List.mem_cons.mp h1 with e | e
    · subst e
      exact ⟨0, 0, le_antisymm (h2 _ (List.mem_cons.mpr (Or.inr (hmem 0 0)))).1 bot_le, rfl⟩
    · obtain ⟨q, rfl⟩ := (mem_fiber _ _ _ _).mp e
      refine ⟨⟨q.val / 32, by omega⟩, ⟨q.val % 32, by omega⟩, (hM q).symm, ?_⟩
      show BitVec.ofNat 32 q.val = BitVec.ofNat 32 (q.val / 32 * 32 + q.val % 32)
      congr 1
      omega
  obtain ⟨r, c, e1, e2⟩ := hz
  have hp := pick_of M z.1 (r.val * 32 + c.val) (fun r' c' => (h2 _ (List.mem_cons.mpr (Or.inr (hmem r' c')))).1) r c rfl e1 (fun r' c' h => by
    have := (h2 _ (List.mem_cons.mpr (Or.inr (hmem r' c')))).2 h
    rw [e2, hw ⟨r.val * 32 + c.val, by omega⟩] at this
    have h3 := this.trans_eq (hw ⟨r'.val * 32 + c'.val, by omega⟩)
    exact_mod_cast h3)
  rw [hp.2, e2]

/-- The maximum of a flattened map is the map's largest entry. -/
theorem max_at (x : FVec Ideal S512x1024 .f32) (M : Map) (n : Fin 512) (hM : ∀ q : Fin 1024, x (ix2 n q) = M ⟨q.val / 32, by omega⟩ ⟨q.val % 32, by omega⟩) :
    Host.reduce (FloatOps.maximumf (F := Ideal) (φ := .f32)) x (constant (F := Ideal) S_ .f32 0xFF800000#32) reducesTo_S512x1024_S512_d1 h_S_ (ix1 n) = best M := by
  rw [Host.reduce_eq_fold]
  change Finset.fold (max : EReal → EReal → EReal) _ _ _ = _
  refine le_antisymm (Finset.fold_max_le _ |>.mpr ⟨?_, fun i hi => ?_⟩) ?_
  · exact le_of_eq_of_le Cert.ConvSpec.bot_word bot_le
  · have h0 : i 0 = n := congrFun ((drop_eq i).symm.trans (Finset.mem_filter.mp hi).2) 0
    have e : i = ix2 n (i 1) := funext fun a => by
      match a with
      | ⟨0, _⟩ => exact h0
      | ⟨1, _⟩ => rfl
    rw [e]
    exact (hM (i 1)).le.trans (le_best M _ _)
  · obtain ⟨r, c, h⟩ := best_mem M
    refine Finset.le_fold_max _ |>.mpr (Or.inr ⟨ix2 n ⟨r.val * 32 + c.val, by omega⟩, Finset.mem_filter.mpr ⟨Finset.mem_univ _, drop_eq _⟩, ?_⟩)
    rw [hM, ← h]
    refine le_of_eq (congrArg₂ M (Fin.ext ?_) (Fin.ext ?_))
    · show r.val = (r.val * 32 + c.val) / 32
      omega
    · show c.val = (r.val * 32 + c.val) % 32
      omega

end Cert.FocusRefIdeal.Pick
-- ==== Proof.FocusRefTrip.lean ====
module

public import proofs.«01_k».proof.Proof.Gen.FocusRefIdeal.Run
public import proofs.«01_k».proof.Proof.FocusSpec
public import proofs.«01_k».proof.Proof.FocusRefPick

@[expose] public section

set_option maxRecDepth 16384

noncomputable section

open Idealize.ShloMosaic Idealize.ShloMosaic.TcCoe Idealize.SL.Sem Idealize.ShloMosaic.Tactic
open Idealize.ShloMosaic.StableHlo

namespace Cert.FocusRefIdeal.Loop

open Cert.FocusRefIdeal Cert.FocusRefIdeal.Gen Cert.FocusRefIdeal.Value Cert.FocusSpec Cert.FocusRefIdeal.Pick

variable (X : Valuation τ sig (Elt Ideal))

/-- The maps laid flat. -/
theorem flat_at (n : Fin 512) (q : Fin 1024) :
    (after while0Ops0 X (Proc.devRef .tc main_while0b_v161) : FVec Ideal S512x1024 .f32) (ix2 n q)
      = (X (Proc.devRef .tc main_v146_3) : FVec Ideal S512x32x32 .f32) (ix3 n ⟨q.val / 32, by omega⟩ ⟨q.val % 32, by omega⟩) := by
  have e : after while0Ops0 X (Proc.devRef .tc main_while0b_v161) = (shapeCast S512x1024 (X (Proc.devRef .tc main_v146_3) : FVec Ideal S512x32x32 .f32) shapeCasts_S512x32x32_S512x1024 : FVec Ideal S512x1024 .f32) := by
    after_results
    rfl
  rw [e]
  pointwise

/-- The arg-max of the flat maps. -/
theorem arg_eq : after while0Ops0_1 X (Proc.devRef .tc main_while0b_v162)
    = fun j => (Host.argReduce (F := Ideal) (φ := .f32) reducer_argmax_f32_i32 (X (Proc.devRef .tc main_while0b_v161) : FVec Ideal S512x1024 .f32) (iotaInDim S512x1024 32 1) (constant (F := Ideal) S_ .f32 0xFF800000#32) (constantI S_ 32 0#32) reducesTo_S512x1024_S512_d1 h_S_ j).2 := by
  after_results
  rfl

/-- The maximum of the flat maps. -/
theorem max_eq : after while0Ops0_2 X (Proc.devRef .tc main_while0b_v163)
    = Host.reduce (FloatOps.maximumf (F := Ideal) (φ := .f32)) (X (Proc.devRef .tc main_while0b_v161) : FVec Ideal S512x1024 .f32) (constant (F := Ideal) S_ .f32 0xFF800000#32) reducesTo_S512x1024_S512_d1 h_S_ := by
  after_results

/-- The side of a map. -/
theorem side_eq : after while0Ops0_2 X (Proc.devRef .tc main_while0b_c_23) = constantI S_ 32 32#32 := by
  after_results

/-- The side of a map, once more. -/
theorem side_eq' : after while0Ops0_4 X (Proc.devRef .tc main_while0b_c_24) = constantI S_ 32 32#32 := by
  after_results

/-- The row of a position. -/
theorem row_at (h : X (Proc.devRef .tc main_while0b_c_23) = constantI S_ 32 32#32) (n : Fin 512) (q : Fin 1024)
    (hq : (X (Proc.devRef .tc main_while0b_v162) : IVec S512 32) (ix1 n) = BitVec.ofNat 32 q.val) :
    (after while0Ops0_3 X (Proc.devRef .tc main_while0b_v164) : IVec S512 32) (ix1 n) = BitVec.ofNat 32 (q.val / 32) := by
  after_reads_simp
  rw [h]
  simp -implicitDefEqProofs only [TRef.toBuf, TRef.ofBuf, cast_cast, cast_eq]
  generalize X (Proc.devRef .tc main_while0b_v162) = P at hq ⊢
  pointwise
  rw [hq]
  clear hq
  revert q
  decide +kernel

/-- The column of a position. -/
theorem col_at (h : X (Proc.devRef .tc main_while0b_c_24) = constantI S_ 32 32#32) (n : Fin 512) (q : Fin 1024)
    (hq : (X (Proc.devRef .tc main_while0b_v162) : IVec S512 32) (ix1 n) = BitVec.ofNat 32 q.val) :
    (after while0Ops0_5 X (Proc.devRef .tc main_while0b_v165) : IVec S512 32) (ix1 n) = BitVec.ofNat 32 (q.val % 32) := by
  after_reads_simp
  rw [h]
  simp -implicitDefEqProofs only [TRef.toBuf, TRef.ofBuf, cast_cast, cast_eq]
  generalize X (Proc.devRef .tc main_while0b_v162) = P at hq ⊢
  pointwise
  rw [hq]
  clear hq
  revert q
  decide +kernel

/-- The record of picks after one more. -/
theorem hit_at (n : Fin 512) (r c : Fin 32) :
    (after while0Ops0_6 X (Proc.devRef .tc main_while0b_v182) : IVec S512x32x32 1) (ix3 n r c)
      = IntOp.ori ((X (Proc.devRef .tc main_v146_4) : IVec S512x32x32 1) (ix3 n r c))
        (IntOp.andi (IntOp.andi (IntOp.cmpi .eq ((X (Proc.devRef .tc main_v146_0) : IVec S1x32x1 32) (ix3 0 r 0)) ((X (Proc.devRef .tc main_while0b_v164) : IVec S512 32) (ix1 n)))
          (IntOp.cmpi .eq ((X (Proc.devRef .tc main_v146_1) : IVec S1x1x32 32) (ix3 0 0 c)) ((X (Proc.devRef .tc main_while0b_v165) : IVec S512 32) (ix1 n))))
          (FloatOps.cmpf (F := Ideal) (φ := .f32) .oge ((X (Proc.devRef .tc main_while0b_v163) : FVec Ideal S512 .f32) (ix1 n)) (FloatOps.ofBits (F := Ideal) .f32 0xC59C4000#32))) := by
  after_reads_simp
  pointwise

/-- The entries to strike out. -/
theorem strike_at (n : Fin 512) (r c : Fin 32) :
    (after while0Ops0_6 X (Proc.devRef .tc main_while0b_v187) : IVec S512x32x32 1) (ix3 n r c)
      = IntOp.andi (IntOp.ori (IntOp.cmpi .eq ((X (Proc.devRef .tc main_v146_0) : IVec S1x32x1 32) (ix3 0 r 0)) ((X (Proc.devRef .tc main_while0b_v164) : IVec S512 32) (ix1 n)))
          (IntOp.cmpi .eq ((X (Proc.devRef .tc main_v146_1) : IVec S1x1x32 32) (ix3 0 0 c)) ((X (Proc.devRef .tc main_while0b_v165) : IVec S512 32) (ix1 n))))
          (FloatOps.cmpf (F := Ideal) (φ := .f32) .oge ((X (Proc.devRef .tc main_while0b_v163) : FVec Ideal S512 .f32) (ix1 n)) (FloatOps.ofBits (F := Ideal) .f32 0xC59C4000#32)) := by
  after_reads_simp
  pointwise

/-- The fill. -/
theorem fill_eq : after while0Ops0_6 X (Proc.devRef .tc main_while0b_cst_26) = (constant (F := Ideal) S_ .f32 0xC61C4000#32 : FVec Ideal S_ .f32) := by
  after_reads_simp

/-- The maps with the entries struck out. -/
theorem struck_at (h : X (Proc.devRef .tc main_while0b_cst_26) = (constant (F := Ideal) S_ .f32 0xC61C4000#32 : FVec Ideal S_ .f32)) (n : Fin 512) (r c : Fin 32) :
    (after while0Ops0_7 X (Proc.devRef .tc main_while0b_v188) : FVec Ideal S512x32x32 .f32) (ix3 n r c)
      = Scalar.select ((X (Proc.devRef .tc main_while0b_v187) : IVec S512x32x32 1) (ix3 n r c)) (FloatOps.ofBits (F := Ideal) .f32 0xC61C4000#32 : EReal) ((X (Proc.devRef .tc main_v146_3) : FVec Ideal S512x32x32 .f32) (ix3 n r c)) := by
  after_reads_simp
  rw [h]
  simp -implicitDefEqProofs only [TRef.toBuf, TRef.ofBuf, cast_cast, cast_eq]
  pointwise
  rfl

/-- The maps carried on. -/
theorem next_maps : after while0Ops0_8 X (Proc.devRef .tc main_v146_3) = X (Proc.devRef .tc main_while0b_v188) := by
  after_results
  rfl

/-- The record carried on. -/
theorem next_record : after while0Ops0_8 X (Proc.devRef .tc main_v146_4) = X (Proc.devRef .tc main_while0b_v182) := by
  after_results
  rfl

end Cert.FocusRefIdeal.Loop
-- ==== Proof.FocusRefLoop.lean ====
module

public import proofs.«01_k».proof.Proof.Gen.FocusRefIdeal.Run
public import proofs.«01_k».proof.Proof.FocusSpec
public import proofs.«01_k».proof.Proof.FocusRefTrip

@[expose] public section

set_option maxRecDepth 16384

noncomputable section

open Idealize.ShloMosaic Idealize.ShloMosaic.TcCoe Idealize.SL.Sem Idealize.ShloMosaic.Tactic
open Idealize.ShloMosaic.StableHlo

namespace Cert.FocusRefIdeal.Loop

open Cert.FocusRefIdeal Cert.FocusRefIdeal.Gen Cert.FocusRefIdeal.Value Cert.FocusSpec Cert.FocusRefIdeal.Pick

/-- The stretch leaves what it does not write. -/
theorem kc (r : Ref sig .tc) (X : Valuation τ sig (Elt Ideal)) (hr : r ∉ condOps_W) : after condOps X (Proc.devRef .tc r) = X (Proc.devRef .tc r) :=
  after_of_writes_sub condOps X condOps_writes hr

/-- The stretch leaves what it does not write. -/
theorem k0 (r : Ref sig .tc) (X : Valuation τ sig (Elt Ideal)) (hr : r ∉ while0Ops0_W) : after while0Ops0 X (Proc.devRef .tc r) = X (Proc.devRef .tc r) :=
  after_of_writes_sub while0Ops0 X while0Ops0_writes hr

/-- The stretch leaves what it does not write. -/
theorem k1 (r : Ref sig .tc) (X : Valuation τ sig (Elt Ideal)) (hr : r ∉ while0Ops0_1_W) : after while0Ops0_1 X (Proc.devRef .tc r) = X (Proc.devRef .tc r) :=
  after_of_writes_sub while0Ops0_1 X while0Ops0_1_writes hr

/-- The stretch leaves what it does not write. -/
theorem k2 (r : Ref sig .tc) (X : Valuation τ sig (Elt Ideal)) (hr : r ∉ while0Ops0_2_W) : after while0Ops0_2 X (Proc.devRef .tc r) = X (Proc.devRef .tc r) :=
  after_of_writes_sub while0Ops0_2 X while0Ops0_2_writes hr

/-- The stretch leaves what it does not write. -/
theorem k3 (r : Ref sig .tc) (X : Valuation τ sig (Elt Ideal)) (hr : r ∉ while0Ops0_3_W) : after while0Ops0_3 X (Proc.devRef .tc r) = X (Proc.devRef .tc r) :=
  after_of_writes_sub while0Ops0_3 X while0Ops0_3_writes hr

/-- The stretch leaves what it does not write. -/
theorem k4 (r : Ref sig .tc) (X : Valuation τ sig (Elt Ideal)) (hr : r ∉ while0Ops0_4_W) : after while0Ops0_4 X (Proc.devRef .tc r) = X (Proc.devRef .tc r) :=
  after_of_writes_sub while0Ops0_4 X while0Ops0_4_writes hr

/-- The stretch leaves what it does not write. -/
theorem k5 (r : Ref sig .tc) (X : Valuation τ sig (Elt Ideal)) (hr : r ∉ while0Ops0_5_W) : after while0Ops0_5 X (Proc.devRef .tc r) = X (Proc.devRef .tc r) :=
  after_of_writes_sub while0Ops0_5 X while0Ops0_5_writes hr

/-- The stretch leaves what it does not write. -/
theorem k6 (r : Ref sig .tc) (X : Valuation τ sig (Elt Ideal)) (hr : r ∉ while0Ops0_6_W) : after while0Ops0_6 X (Proc.devRef .tc r) = X (Proc.devRef .tc r) :=
  after_of_writes_sub while0Ops0_6 X while0Ops0_6_writes hr

/-- The stretch leaves what it does not write. -/
theorem k7 (r : Ref sig .tc) (X : Valuation τ sig (Elt Ideal)) (hr : r ∉ while0Ops0_7_W) : after while0Ops0_7 X (Proc.devRef .tc r) = X (Proc.devRef .tc r) :=
  after_of_writes_sub while0Ops0_7 X while0Ops0_7_writes hr

/-- The stretch leaves what it does not write. -/
theorem k8 (r : Ref sig .tc) (X : Valuation τ sig (Elt Ideal)) (hr : r ∉ while0Ops0_8_W) : after while0Ops0_8 X (Proc.devRef .tc r) = X (Proc.devRef .tc r) :=
  after_of_writes_sub while0Ops0_8 X while0Ops0_8_writes hr

/-- A trip leaves what it does not write. -/
theorem keep (r : Ref sig .tc) (V : Valuation τ sig (Elt Ideal)) (hr : ∀ W ∈ [condOps_W, while0Ops0_W, while0Ops0_1_W, while0Ops0_2_W, while0Ops0_3_W, while0Ops0_4_W, while0Ops0_5_W, while0Ops0_6_W, while0Ops0_7_W, while0Ops0_8_W], r ∉ W) :
    afterL bodyI (after condOps V) (Proc.devRef .tc r) = V (Proc.devRef .tc r) := by
  obtain ⟨hc, hr⟩ := List.forall_mem_cons.mp hr
  obtain ⟨h0, hr⟩ := List.forall_mem_cons.mp hr
  obtain ⟨h1, hr⟩ := List.forall_mem_cons.mp hr
  obtain ⟨h2, hr⟩ := List.forall_mem_cons.mp hr
  obtain ⟨h3, hr⟩ := List.forall_mem_cons.mp hr
  obtain ⟨h4, hr⟩ := List.forall_mem_cons.mp hr
  obtain ⟨h5, hr⟩ := List.forall_mem_cons.mp hr
  obtain ⟨h6, hr⟩ := List.forall_mem_cons.mp hr
  obtain ⟨h7, hr⟩ := List.forall_mem_cons.mp hr
  obtain ⟨h8, hr⟩ := List.forall_mem_cons.mp hr
  simp only [afterL_cons, afterL_nil]
  rw [k8 r _ h8, k7 r _ h7, k6 r _ h6, k5 r _ h5, k4 r _ h4, k3 r _ h3, k2 r _ h2, k1 r _ h1, k0 r _ h0, kc r _ hc]

/-- One trip strikes every map once and records its pick. -/
theorem trip (V : Valuation τ sig (Elt Ideal)) (M : Fin 512 → Map)
    (h3 : ∀ n r c, (V (Proc.devRef .tc main_v146_3) : FVec Ideal S512x32x32 .f32) (ix3 n r c) = M n r c)
    (h0 : ∀ r : Fin 32, (V (Proc.devRef .tc main_v146_0) : IVec S1x32x1 32) (ix3 0 r 0) = BitVec.ofNat 32 r.val)
    (h1 : ∀ c : Fin 32, (V (Proc.devRef .tc main_v146_1) : IVec S1x1x32 32) (ix3 0 0 c) = BitVec.ofNat 32 c.val) (n : Fin 512) (r c : Fin 32) :
    (afterL bodyI (after condOps V) (Proc.devRef .tc main_v146_3) : FVec Ideal S512x32x32 .f32) (ix3 n r c) = strike (M n) r c
      ∧ (afterL bodyI (after condOps V) (Proc.devRef .tc main_v146_4) : IVec S512x32x32 1) (ix3 n r c)
        = IntOp.ori ((V (Proc.devRef .tc main_v146_4) : IVec S512x32x32 1) (ix3 n r c)) (IntOp.andi (IntOp.andi (rowBit (M n) r) (colBit (M n) c)) (active (M n))) := by
  simp only [afterL_cons, afterL_nil]
  obtain ⟨X0, e0⟩ : ∃ X, X = after condOps V := ⟨_, rfl⟩
  obtain ⟨X1, e1⟩ : ∃ X, X = after while0Ops0 X0 := ⟨_, rfl⟩
  obtain ⟨X2, e2⟩ : ∃ X, X = after while0Ops0_1 X1 := ⟨_, rfl⟩
  obtain ⟨X3, e3⟩ : ∃ X, X = after while0Ops0_2 X2 := ⟨_, rfl⟩
  obtain ⟨X4, e4⟩ : ∃ X, X = after while0Ops0_3 X3 := ⟨_, rfl⟩
  obtain ⟨X5, e5⟩ : ∃ X, X = after while0Ops0_4 X4 := ⟨_, rfl⟩
  obtain ⟨X6, e6⟩ : ∃ X, X = after while0Ops0_5 X5 := ⟨_, rfl⟩
  obtain ⟨X7, e7⟩ : ∃ X, X = after while0Ops0_6 X6 := ⟨_, rfl⟩
  obtain ⟨X8, e8⟩ : ∃ X, X = after while0Ops0_7 X7 := ⟨_, rfl⟩
  rw [← e0, ← e1, ← e2, ← e3, ← e4, ← e5, ← e6, ← e7, ← e8, next_maps, next_record]
  have hflat : ∀ q : Fin 1024, (X1 (Proc.devRef .tc main_while0b_v161) : FVec Ideal S512x1024 .f32) (ix2 n q) = M n ⟨q.val / 32, by omega⟩ ⟨q.val % 32, by omega⟩ := fun q => by
    rw [e1, flat_at, e0, kc main_v146_3 _ (by decide +kernel)]
    exact h3 _ _ _
  have hlt : pick (M n) < 1024 := pick_lt (M n)
  have harg : (X2 (Proc.devRef .tc main_while0b_v162) : IVec S512 32) (ix1 n) = BitVec.ofNat 32 (pick (M n)) := by
    rw [e2, arg_eq]
    exact argmax_at _ (M n) n hflat
  have hmax : (X3 (Proc.devRef .tc main_while0b_v163) : FVec Ideal S512 .f32) (ix1 n) = best (M n) := by
    rw [e3, max_eq, e2, k1 main_while0b_v161 _ (by decide +kernel)]
    exact max_at _ (M n) n hflat
  have hrow : (X4 (Proc.devRef .tc main_while0b_v164) : IVec S512 32) (ix1 n) = BitVec.ofNat 32 (pick (M n) / 32) := by
    rw [e4]
    refine row_at X3 (e3 ▸ side_eq X2) n ⟨pick (M n), hlt⟩ ?_
    rw [e3, k2 main_while0b_v162 _ (by decide +kernel)]
    exact harg
  have hcol : (X6 (Proc.devRef .tc main_while0b_v165) : IVec S512 32) (ix1 n) = BitVec.ofNat 32 (pick (M n) % 32) := by
    rw [e6]
    refine col_at X5 (e5 ▸ side_eq' X4) n ⟨pick (M n), hlt⟩ ?_
    rw [e5, k4 main_while0b_v162 _ (by decide +kernel), e4, k3 main_while0b_v162 _ (by decide +kernel), e3, k2 main_while0b_v162 _ (by decide +kernel)]
    exact harg
  have hrow' : (X6 (Proc.devRef .tc main_while0b_v164) : IVec S512 32) (ix1 n) = BitVec.ofNat 32 (pick (M n) / 32) := by
    rw [e6, k5 main_while0b_v164 _ (by decide +kernel), e5, k4 main_while0b_v164 _ (by decide +kernel)]
    exact hrow
  have hmax' : (X6 (Proc.devRef .tc main_while0b_v163) : FVec Ideal S512 .f32) (ix1 n) = best (M n) := by
    rw [e6, k5 main_while0b_v163 _ (by decide +kernel), e5, k4 main_while0b_v163 _ (by decide +kernel), e4, k3 main_while0b_v163 _ (by decide +kernel)]
    exact hmax
  have g0 : X6 (Proc.devRef .tc main_v146_0) = V (Proc.devRef .tc main_v146_0) := by
    rw [e6, k5 main_v146_0 _ (by decide +kernel), e5, k4 main_v146_0 _ (by decide +kernel), e4, k3 main_v146_0 _ (by decide +kernel), e3, k2 main_v146_0 _ (by decide +kernel), e2, k1 main_v146_0 _ (by decide +kernel), e1, k0 main_v146_0 _ (by decide +kernel), e0, kc main_v146_0 _ (by decide +kernel)]
  have g1 : X6 (Proc.devRef .tc main_v146_1) = V (Proc.devRef .tc main_v146_1) := by
    rw [e6, k5 main_v146_1 _ (by decide +kernel), e5, k4 main_v146_1 _ (by decide +kernel), e4, k3 main_v146_1 _ (by decide +kernel), e3, k2 main_v146_1 _ (by decide +kernel), e2, k1 main_v146_1 _ (by decide +kernel), e1, k0 main_v146_1 _ (by decide +kernel), e0, kc main_v146_1 _ (by decide +kernel)]
  have g4 : X6 (Proc.devRef .tc main_v146_4) = V (Proc.devRef .tc main_v146_4) := by
    rw [e6, k5 main_v146_4 _ (by decide +kernel), e5, k4 main_v146_4 _ (by decide +kernel), e4, k3 main_v146_4 _ (by decide +kernel), e3, k2 main_v146_4 _ (by decide +kernel), e2, k1 main_v146_4 _ (by decide +kernel), e1, k0 main_v146_4 _ (by decide +kernel), e0, kc main_v146_4 _ (by decide +kernel)]
  have g3 : X7 (Proc.devRef .tc main_v146_3) = V (Proc.devRef .tc main_v146_3) := by
    rw [e7, k6 main_v146_3 _ (by decide +kernel), e6, k5 main_v146_3 _ (by decide +kernel), e5, k4 main_v146_3 _ (by decide +kernel), e4, k3 main_v146_3 _ (by decide +kernel), e3, k2 main_v146_3 _ (by decide +kernel), e2, k1 main_v146_3 _ (by decide +kernel), e1, k0 main_v146_3 _ (by decide +kernel), e0, kc main_v146_3 _ (by decide +kernel)]
  constructor
  · rw [e8, struck_at X7 (e7 ▸ fill_eq X6), g3, h3, e7, strike_at, g0, g1, h0, h1, hrow', hcol, hmax']
    rfl
  · rw [e8, k7 main_while0b_v182 _ (by decide +kernel), e7, hit_at, g0, g1, g4, h0, h1, hrow', hcol, hmax']
    rfl

variable (m : (ℓ : Loc nD τ sig) → Buf (Elt Ideal) ℓ) (c : Dev nD)

/-- What no trip writes is as at the loop's entry. -/
theorem kept (r : Ref sig .tc) (hr : ∀ W ∈ [condOps_W, while0Ops0_W, while0Ops0_1_W, while0Ops0_2_W, while0Ops0_3_W, while0Ops0_4_W, while0Ops0_5_W, while0Ops0_6_W, while0Ops0_7_W, while0Ops0_8_W], r ∉ W) (k : ℕ) :
    atK m k c (Proc.devRef .tc r) = entryContents preI m c (Proc.devRef .tc r) := by
  induction k with
  | zero => rfl
  | succ k ih =>
    rw [show atK m (k + 1) c = afterL bodyI (after condOps (atK m k c)) from rfl, keep r _ hr, ih]

/-- After `k` trips the maps are what is left after `k` picks, and the record is of those picks. -/
theorem loop_at (M : Fin 512 → Map)
    (h3 : ∀ n r q, (entryContents preI m c (Proc.devRef .tc main_v146_3) : FVec Ideal S512x32x32 .f32) (ix3 n r q) = M n r q)
    (h4 : ∀ n r q, (entryContents preI m c (Proc.devRef .tc main_v146_4) : IVec S512x32x32 1) (ix3 n r q) = 0#1)
    (h0 : ∀ r : Fin 32, (entryContents preI m c (Proc.devRef .tc main_v146_0) : IVec S1x32x1 32) (ix3 0 r 0) = BitVec.ofNat 32 r.val)
    (h1 : ∀ q : Fin 32, (entryContents preI m c (Proc.devRef .tc main_v146_1) : IVec S1x1x32 32) (ix3 0 0 q) = BitVec.ofNat 32 q.val) (k : ℕ) :
    (∀ n r q, (atK m k c (Proc.devRef .tc main_v146_3) : FVec Ideal S512x32x32 .f32) (ix3 n r q) = left (M n) k r q)
      ∧ ∀ n r q, (atK m k c (Proc.devRef .tc main_v146_4) : IVec S512x32x32 1) (ix3 n r q) = picked (M n) k r q := by
  induction k with
  | zero => exact ⟨h3, h4⟩
  | succ k ih =>
    have t := trip (atK m k c) (fun n => left (M n) k) ih.1 (fun r => by rw [kept m c main_v146_0 (by decide +kernel)]; exact h0 r)
      (fun q => by rw [kept m c main_v146_1 (by decide +kernel)]; exact h1 q)
    refine ⟨fun n r q => (t n r q).1, fun n r q => (t n r q).2.trans ?_⟩
    rw [ih.2]
    rfl

end Cert.FocusRefIdeal.Loop
-- ==== Proof.FocusRefEntry.lean ====
module

public import proofs.«01_k».proof.Proof.Gen.FocusRefIdeal.Run
public import proofs.«01_k».proof.Proof.FocusSpec

@[expose] public section

set_option maxRecDepth 16384

noncomputable section

open Idealize.ShloMosaic Idealize.ShloMosaic.TcCoe Idealize.SL.Sem Idealize.ShloMosaic.Tactic
open Idealize.ShloMosaic.StableHlo

namespace Cert.FocusRefIdeal.Entry

open Cert.FocusRefIdeal Cert.FocusRefIdeal.Gen Cert.FocusRefIdeal.Value Cert.FocusSpec

variable (m : (ℓ : Loc nD τ sig) → Buf (Elt Ideal) ℓ) (c : Dev nD)

/-- The rows' numbers. -/
theorem rows_at (r : Fin 32) : (entryContents preI m c (Proc.devRef .tc main_v146_0) : IVec S1x32x1 32) (ix3 0 r 0) = BitVec.ofNat 32 r.val := by
  simp only [entryContents, afterL_cons, afterL_nil]
  after_reads_simp
  rw [id_eq]
  pointwise

/-- The columns' numbers. -/
theorem cols_at (r : Fin 32) : (entryContents preI m c (Proc.devRef .tc main_v146_1) : IVec S1x1x32 32) (ix3 0 0 r) = BitVec.ofNat 32 r.val := by
  simp only [entryContents, afterL_cons, afterL_nil]
  after_reads_simp
  rw [id_eq]
  pointwise

/-- No pick is recorded. -/
theorem none_at (n : Fin 512) (r q : Fin 32) : (entryContents preI m c (Proc.devRef .tc main_v146_4) : IVec S512x32x32 1) (ix3 n r q) = 0#1 := by
  simp only [entryContents, afterL_cons, afterL_nil]
  after_reads_simp
  rw [id_eq]
  pointwise

/-- The words past a sentence's end, as numbers. -/
theorem pad_at (b : Fin 256) (r q : Fin 32) : (entryContents preI m c (Proc.devRef .tc main_v130) : FVec Ideal S256x32x32 .f32) (ix3 b r q)
    = num (padBit ((m ((c.tc : Thread nD τ).loc main_arg10) : IVec S256 32) (ix1 b)) ((m ((c.tc : Thread nD τ).loc main_arg11) : IVec S256 32) (ix1 b)) r q) := by
  simp only [entryContents, afterL_cons, afterL_nil]
  after_reads_simp
  unfold num padBit
  pointwise
  rfl

/-- The inner products and squared norms of a sentence pair, out of the arguments. -/
abbrev W (b : Fin 256) : Fin 32 → Fin 32 → Words :=
  wordsAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b

/-- The inner products of the concatenated states. -/
theorem sim00 (b : Fin 256) (r q : Fin 32) : (upto hostOps0 (launchContents m c) 30 (Proc.devRef .tc main_v24) : FVec Ideal S256x1x32x32 .f32) (ix4 b 0 r q) = sim (W m c b r q) 0 0 := by
  after_reads_simp
  unfold sim three W wordsAt
  pointwise

/-- The cosines of the concatenated states. -/
theorem sim01 (b : Fin 256) (r q : Fin 32) : (upto hostOps0 (launchContents m c) 30 (Proc.devRef .tc main_v25) : FVec Ideal S256x1x32x32 .f32) (ix4 b 0 r q) = sim (W m c b r q) 0 1 := by
  after_reads_simp
  unfold sim three W wordsAt
  pointwise

/-- The distances of the concatenated states. -/
theorem sim02 (b : Fin 256) (r q : Fin 32) : (upto hostOps0 (launchContents m c) 30 (Proc.devRef .tc main_v26) : FVec Ideal S256x1x32x32 .f32) (ix4 b 0 r q) = sim (W m c b r q) 0 2 := by
  after_reads_simp
  unfold sim three W wordsAt
  pointwise

/-- The three similarities of the concatenated states together. -/
theorem group0 (b : Fin 256) (j : Fin 3) (r q : Fin 32) : (upto hostOps0 (launchContents m c) 128 (Proc.devRef .tc main_v27) : FVec Ideal S256x3x32x32 .f32) (ix4 b j r q) = sim (W m c b r q) 0 j := by
  have e : (upto hostOps0 (launchContents m c) 128 (Proc.devRef .tc main_v27) : FVec Ideal S256x3x32x32 .f32) = concatenate S256x3x32x32 1 [⟨S256x1x32x32, (upto hostOps0 (launchContents m c) 30 (Proc.devRef .tc main_v24) : FVec Ideal S256x1x32x32 .f32)⟩, ⟨S256x1x32x32, (upto hostOps0 (launchContents m c) 30 (Proc.devRef .tc main_v25) : FVec Ideal S256x1x32x32 .f32)⟩, ⟨S256x1x32x32, (upto hostOps0 (launchContents m c) 30 (Proc.devRef .tc main_v26) : FVec Ideal S256x1x32x32 .f32)⟩] concatenates_S256x1x32x32_S256x1x32x32_S256x1x32x32_S256x3x32x32_d1 := by
    after_reads_simp
    rfl
  rw [e]
  have h0 := sim00 m c b r q
  have h1 := sim01 m c b r q
  have h2 := sim02 m c b r q
  generalize upto hostOps0 (launchContents m c) 30 (Proc.devRef .tc main_v24) = A0 at h0 ⊢
  generalize upto hostOps0 (launchContents m c) 30 (Proc.devRef .tc main_v25) = A1 at h1 ⊢
  generalize upto hostOps0 (launchContents m c) 30 (Proc.devRef .tc main_v26) = A2 at h2 ⊢
  clear e
  match j with
  | ⟨0, _⟩ =>
    pointwise
    exact h0
  | ⟨1, _⟩ =>
    pointwise
    exact h1
  | ⟨2, _⟩ =>
    pointwise
    exact h2

/-- The inner products of the forward states. -/
theorem sim10 (b : Fin 256) (r q : Fin 32) : (upto hostOps0 (launchContents m c) 58 (Proc.devRef .tc main_v49) : FVec Ideal S256x1x32x32 .f32) (ix4 b 0 r q) = sim (W m c b r q) 1 0 := by
  after_reads_simp
  unfold sim three W wordsAt
  pointwise

/-- The cosines of the forward states. -/
theorem sim11 (b : Fin 256) (r q : Fin 32) : (upto hostOps0 (launchContents m c) 58 (Proc.devRef .tc main_v50) : FVec Ideal S256x1x32x32 .f32) (ix4 b 0 r q) = sim (W m c b r q) 1 1 := by
  after_reads_simp
  unfold sim three W wordsAt
  pointwise

/-- The distances of the forward states. -/
theorem sim12 (b : Fin 256) (r q : Fin 32) : (upto hostOps0 (launchContents m c) 58 (Proc.devRef .tc main_v51) : FVec Ideal S256x1x32x32 .f32) (ix4 b 0 r q) = sim (W m c b r q) 1 2 := by
  after_reads_simp
  unfold sim three W wordsAt
  pointwise

/-- The three similarities of the forward states together. -/
theorem group1 (b : Fin 256) (j : Fin 3) (r q : Fin 32) : (upto hostOps0 (launchContents m c) 128 (Proc.devRef .tc main_v52) : FVec Ideal S256x3x32x32 .f32) (ix4 b j r q) = sim (W m c b r q) 1 j := by
  have e : (upto hostOps0 (launchContents m c) 128 (Proc.devRef .tc main_v52) : FVec Ideal S256x3x32x32 .f32) = concatenate S256x3x32x32 1 [⟨S256x1x32x32, (upto hostOps0 (launchContents m c) 58 (Proc.devRef .tc main_v49) : FVec Ideal S256x1x32x32 .f32)⟩, ⟨S256x1x32x32, (upto hostOps0 (launchContents m c) 58 (Proc.devRef .tc main_v50) : FVec Ideal S256x1x32x32 .f32)⟩, ⟨S256x1x32x32, (upto hostOps0 (launchContents m c) 58 (Proc.devRef .tc main_v51) : FVec Ideal S256x1x32x32 .f32)⟩] concatenates_S256x1x32x32_S256x1x32x32_S256x1x32x32_S256x3x32x32_d1 := by
    after_reads_simp
    rfl
  rw [e]
  have h0 := sim10 m c b r q
  have h1 := sim11 m c b r q
  have h2 := sim12 m c b r q
  generalize upto hostOps0 (launchContents m c) 58 (Proc.devRef .tc main_v49) = A0 at h0 ⊢
  generalize upto hostOps0 (launchContents m c) 58 (Proc.devRef .tc main_v50) = A1 at h1 ⊢
  generalize upto hostOps0 (launchContents m c) 58 (Proc.devRef .tc main_v51) = A2 at h2 ⊢
  clear e
  match j with
  | ⟨0, _⟩ =>
    pointwise
    exact h0
  | ⟨1, _⟩ =>
    pointwise
    exact h1
  | ⟨2, _⟩ =>
    pointwise
    exact h2

/-- The inner products of the backward states. -/
theorem sim20 (b : Fin 256) (r q : Fin 32) : (upto hostOps0 (launchContents m c) 86 (Proc.devRef .tc main_v74) : FVec Ideal S256x1x32x32 .f32) (ix4 b 0 r q) = sim (W m c b r q) 2 0 := by
  after_reads_simp
  unfold sim three W wordsAt
  pointwise

/-- The cosines of the backward states. -/
theorem sim21 (b : Fin 256) (r q : Fin 32) : (upto hostOps0 (launchContents m c) 86 (Proc.devRef .tc main_v75) : FVec Ideal S256x1x32x32 .f32) (ix4 b 0 r q) = sim (W m c b r q) 2 1 := by
  after_reads_simp
  unfold sim three W wordsAt
  pointwise

/-- The distances of the backward states. -/
theorem sim22 (b : Fin 256) (r q : Fin 32) : (upto hostOps0 (launchContents m c) 86 (Proc.devRef .tc main_v76) : FVec Ideal S256x1x32x32 .f32) (ix4 b 0 r q) = sim (W m c b r q) 2 2 := by
  after_reads_simp
  unfold sim three W wordsAt
  pointwise

/-- The three similarities of the backward states together. -/
theorem group2 (b : Fin 256) (j : Fin 3) (r q : Fin 32) : (upto hostOps0 (launchContents m c) 128 (Proc.devRef .tc main_v77) : FVec Ideal S256x3x32x32 .f32) (ix4 b j r q) = sim (W m c b r q) 2 j := by
  have e : (upto hostOps0 (launchContents m c) 128 (Proc.devRef .tc main_v77) : FVec Ideal S256x3x32x32 .f32) = concatenate S256x3x32x32 1 [⟨S256x1x32x32, (upto hostOps0 (launchContents m c) 86 (Proc.devRef .tc main_v74) : FVec Ideal S256x1x32x32 .f32)⟩, ⟨S256x1x32x32, (upto hostOps0 (launchContents m c) 86 (Proc.devRef .tc main_v75) : FVec Ideal S256x1x32x32 .f32)⟩, ⟨S256x1x32x32, (upto hostOps0 (launchContents m c) 86 (Proc.devRef .tc main_v76) : FVec Ideal S256x1x32x32 .f32)⟩] concatenates_S256x1x32x32_S256x1x32x32_S256x1x32x32_S256x3x32x32_d1 := by
    after_reads_simp
    rfl
  rw [e]
  have h0 := sim20 m c b r q
  have h1 := sim21 m c b r q
  have h2 := sim22 m c b r q
  generalize upto hostOps0 (launchContents m c) 86 (Proc.devRef .tc main_v74) = A0 at h0 ⊢
  generalize upto hostOps0 (launchContents m c) 86 (Proc.devRef .tc main_v75) = A1 at h1 ⊢
  generalize upto hostOps0 (launchContents m c) 86 (Proc.devRef .tc main_v76) = A2 at h2 ⊢
  clear e
  match j with
  | ⟨0, _⟩ =>
    pointwise
    exact h0
  | ⟨1, _⟩ =>
    pointwise
    exact h1
  | ⟨2, _⟩ =>
    pointwise
    exact h2

/-- The inner products of the added states. -/
theorem sim30 (b : Fin 256) (r q : Fin 32) : (upto hostOps0 (launchContents m c) 127 (Proc.devRef .tc main_v110) : FVec Ideal S256x1x32x32 .f32) (ix4 b 0 r q) = sim (W m c b r q) 3 0 := by
  after_reads_simp
  unfold sim three W wordsAt
  pointwise

/-- The cosines of the added states. -/
theorem sim31 (b : Fin 256) (r q : Fin 32) : (upto hostOps0 (launchContents m c) 127 (Proc.devRef .tc main_v111) : FVec Ideal S256x1x32x32 .f32) (ix4 b 0 r q) = sim (W m c b r q) 3 1 := by
  after_reads_simp
  unfold sim three W wordsAt
  pointwise

/-- The distances of the added states. -/
theorem sim32 (b : Fin 256) (r q : Fin 32) : (upto hostOps0 (launchContents m c) 127 (Proc.devRef .tc main_v112) : FVec Ideal S256x1x32x32 .f32) (ix4 b 0 r q) = sim (W m c b r q) 3 2 := by
  after_reads_simp
  unfold sim three W wordsAt
  pointwise

/-- The three similarities of the added states together. -/
theorem group3 (b : Fin 256) (j : Fin 3) (r q : Fin 32) : (upto hostOps0 (launchContents m c) 128 (Proc.devRef .tc main_v113) : FVec Ideal S256x3x32x32 .f32) (ix4 b j r q) = sim (W m c b r q) 3 j := by
  have e : (upto hostOps0 (launchContents m c) 128 (Proc.devRef .tc main_v113) : FVec Ideal S256x3x32x32 .f32) = concatenate S256x3x32x32 1 [⟨S256x1x32x32, (upto hostOps0 (launchContents m c) 127 (Proc.devRef .tc main_v110) : FVec Ideal S256x1x32x32 .f32)⟩, ⟨S256x1x32x32, (upto hostOps0 (launchContents m c) 127 (Proc.devRef .tc main_v111) : FVec Ideal S256x1x32x32 .f32)⟩, ⟨S256x1x32x32, (upto hostOps0 (launchContents m c) 127 (Proc.devRef .tc main_v112) : FVec Ideal S256x1x32x32 .f32)⟩] concatenates_S256x1x32x32_S256x1x32x32_S256x1x32x32_S256x3x32x32_d1 := by
    after_reads_simp
    rfl
  rw [e]
  have h0 := sim30 m c b r q
  have h1 := sim31 m c b r q
  have h2 := sim32 m c b r q
  generalize upto hostOps0 (launchContents m c) 127 (Proc.devRef .tc main_v110) = A0 at h0 ⊢
  generalize upto hostOps0 (launchContents m c) 127 (Proc.devRef .tc main_v111) = A1 at h1 ⊢
  generalize upto hostOps0 (launchContents m c) 127 (Proc.devRef .tc main_v112) = A2 at h2 ⊢
  clear e
  match j with
  | ⟨0, _⟩ =>
    pointwise
    exact h0
  | ⟨1, _⟩ =>
    pointwise
    exact h1
  | ⟨2, _⟩ =>
    pointwise
    exact h2

/-- The twelve similarities together. -/
theorem all_at (b : Fin 256) (k : Fin 12) (r q : Fin 32) : (after hostOps0 (launchContents m c) (Proc.devRef .tc main_v114) : FVec Ideal S256x12x32x32 .f32) (ix4 b k r q) = sim (W m c b r q) (chanQ k.val) (chanJ k.val) := by
  have e : (after hostOps0 (launchContents m c) (Proc.devRef .tc main_v114) : FVec Ideal S256x12x32x32 .f32) = concatenate S256x12x32x32 1 [⟨S256x3x32x32, (upto hostOps0 (launchContents m c) 128 (Proc.devRef .tc main_v27) : FVec Ideal S256x3x32x32 .f32)⟩, ⟨S256x3x32x32, (upto hostOps0 (launchContents m c) 128 (Proc.devRef .tc main_v52) : FVec Ideal S256x3x32x32 .f32)⟩, ⟨S256x3x32x32, (upto hostOps0 (launchContents m c) 128 (Proc.devRef .tc main_v77) : FVec Ideal S256x3x32x32 .f32)⟩, ⟨S256x3x32x32, (upto hostOps0 (launchContents m c) 128 (Proc.devRef .tc main_v113) : FVec Ideal S256x3x32x32 .f32)⟩] concatenates_S256x3x32x32_S256x3x32x32_S256x3x32x32_S256x3x32x32_S256x12x32x32_d1 := by
    after_reads_simp
    rfl
  rw [e]
  have h0 := fun j => group0 m c b j r q
  have h1 := fun j => group1 m c b j r q
  have h2 := fun j => group2 m c b j r q
  have h3 := fun j => group3 m c b j r q
  generalize upto hostOps0 (launchContents m c) 128 (Proc.devRef .tc main_v27) = A0 at h0 ⊢
  generalize upto hostOps0 (launchContents m c) 128 (Proc.devRef .tc main_v52) = A1 at h1 ⊢
  generalize upto hostOps0 (launchContents m c) 128 (Proc.devRef .tc main_v77) = A2 at h2 ⊢
  generalize upto hostOps0 (launchContents m c) 128 (Proc.devRef .tc main_v113) = A3 at h3 ⊢
  clear e
  match k with
  | ⟨0, _⟩ =>
    pointwise
    exact h0 0
  | ⟨1, _⟩ =>
    pointwise
    exact h0 1
  | ⟨2, _⟩ =>
    pointwise
    exact h0 2
  | ⟨3, _⟩ =>
    pointwise
    exact h1 0
  | ⟨4, _⟩ =>
    pointwise
    exact h1 1
  | ⟨5, _⟩ =>
    pointwise
    exact h1 2
  | ⟨6, _⟩ =>
    pointwise
    exact h2 0
  | ⟨7, _⟩ =>
    pointwise
    exact h2 1
  | ⟨8, _⟩ =>
    pointwise
    exact h2 2
  | ⟨9, _⟩ =>
    pointwise
    exact h3 0
  | ⟨10, _⟩ =>
    pointwise
    exact h3 1
  | ⟨11, _⟩ =>
    pointwise
    exact h3 2

/-- The similarities, a large negative number added past a sentence's end. -/
theorem masked_at (b : Fin 256) (k : Fin 12) (r q : Fin 32) : (entryContents preI m c (Proc.devRef .tc main_v135) : FVec Ideal S256x12x32x32 .f32) (ix4 b k r q)
    = simMap (W m c b) ((m ((c.tc : Thread nD τ).loc main_arg10)) (ix1 b)) ((m ((c.tc : Thread nD τ).loc main_arg11)) (ix1 b)) (chanQ k.val) (chanJ k.val) r q := by
  have hA := all_at m c b k r q
  have hP := pad_at m c b r q
  simp only [entryContents, afterL_cons, afterL_nil] at hP ⊢
  have e : (after hostOps0 (launchContents m c) (Proc.devRef .tc main_v135) : FVec Ideal S256x12x32x32 .f32)
      = addf (F := Ideal) (s := S256x12x32x32) (φ := .f32) (after hostOps0 (launchContents m c) (Proc.devRef .tc main_v114) : FVec Ideal S256x12x32x32 .f32) (broadcastInDim S256x12x32x32 ![0, 1, 2, 3] bcast_S256x1x32x32_S256x12x32x32_0_1_2_3
        (mulf (broadcastInDim S256x1x32x32 ![] bcast_S_S256x1x32x32 (constant S_ .f32 0xC61C4000#32))
          (broadcastInDim S256x1x32x32 ![0, 2, 3] bcast_S256x32x32_S256x1x32x32_0_2_3 (after hostOps0 (launchContents m c) (Proc.devRef .tc main_v130) : FVec Ideal S256x32x32 .f32)))) := by
    after_reads_simp
  rw [e]
  generalize after hostOps0 (launchContents m c) (Proc.devRef .tc main_v114) = A at hA ⊢
  generalize after hostOps0 (launchContents m c) (Proc.devRef .tc main_v130) = B at hP ⊢
  unfold simMap masked
  pointwise
  rw [hA, hP]

/-- The two batches of maps. -/
theorem maps_at (n : Fin 512) (r q : Fin 32) : (entryContents preI m c (Proc.devRef .tc main_v146_3) : FVec Ideal S512x32x32 .f32) (ix3 n r q)
    = (entryContents preI m c (Proc.devRef .tc main_v135) : FVec Ideal S256x12x32x32 .f32) (if n.val < 256 then ix4 ⟨n.val % 256, by omega⟩ 9 r q else ix4 ⟨n.val % 256, by omega⟩ 10 r q) := by
  simp only [entryContents, afterL_cons, afterL_nil]
  have e1 : (upto hostOps0 (launchContents m c) 155 (Proc.devRef .tc main_v137) : FVec Ideal S256x32x32 .f32) = shapeCast S256x32x32 (extractStridedSlice S256x1x32x32 ![0, 9, 0, 0] (after hostOps0 (launchContents m c) (Proc.devRef .tc main_v135) : FVec Ideal S256x12x32x32 .f32) slices_S256x12x32x32_S256x1x32x32_0_9_0_0) shapeCasts_S256x1x32x32_S256x32x32 := by
    after_reads_simp
    rfl
  have e2 : (upto hostOps0 (launchContents m c) 155 (Proc.devRef .tc main_v139) : FVec Ideal S256x32x32 .f32) = shapeCast S256x32x32 (extractStridedSlice S256x1x32x32 ![0, 10, 0, 0] (after hostOps0 (launchContents m c) (Proc.devRef .tc main_v135) : FVec Ideal S256x12x32x32 .f32) slices_S256x12x32x32_S256x1x32x32_0_10_0_0) shapeCasts_S256x1x32x32_S256x32x32 := by
    after_reads_simp
    rfl
  have e : (after hostOps0 (launchContents m c) (Proc.devRef .tc main_v146_3) : FVec Ideal S512x32x32 .f32) = concatenate S512x32x32 0 [⟨S256x32x32, (upto hostOps0 (launchContents m c) 155 (Proc.devRef .tc main_v137) : FVec Ideal S256x32x32 .f32)⟩, ⟨S256x32x32, (upto hostOps0 (launchContents m c) 155 (Proc.devRef .tc main_v139) : FVec Ideal S256x32x32 .f32)⟩] concatenates_S256x32x32_S256x32x32_S512x32x32_d0 := by
    after_reads_simp
    rfl
  rw [e, e1, e2]
  clear e e1 e2
  generalize after hostOps0 (launchContents m c) (Proc.devRef .tc main_v135) = A
  by_cases h : n.val < 256
  · rw [if_pos h]
    pointwise
    rw [dif_pos h]
    exact congrArg (fun b : Fin 256 => A (ix4 b 9 r q)) (Fin.ext (Nat.mod_eq_of_lt h).symm)
  · rw [if_neg h]
    pointwise
    rw [dif_neg h]
    refine congrArg (fun b : Fin 256 => A (ix4 b 10 r q)) (Fin.ext ?_)
    show n.val - 256 = n.val % 256
    omega

/-- A map of the first batch is the added states' inner products. -/
theorem first_map (b : Fin 256) (r q : Fin 32) : (entryContents preI m c (Proc.devRef .tc main_v146_3) : FVec Ideal S512x32x32 .f32) (ix3 ⟨b.val, by omega⟩ r q)
    = simMap (W m c b) ((m ((c.tc : Thread nD τ).loc main_arg10)) (ix1 b)) ((m ((c.tc : Thread nD τ).loc main_arg11)) (ix1 b)) 3 0 r q := by
  have e := maps_at m c ⟨b.val, by omega⟩ r q
  rw [if_pos b.isLt] at e
  have hb : (⟨b.val % 256, by omega⟩ : Fin 256) = b := Fin.ext (Nat.mod_eq_of_lt b.isLt)
  exact (e.trans (congrArg (fun b : Fin 256 => (entryContents preI m c (Proc.devRef .tc main_v135) : FVec Ideal S256x12x32x32 .f32) (ix4 b 9 r q)) hb)).trans (masked_at m c b 9 r q)

/-- A map of the second batch is their cosines. -/
theorem second_map (b : Fin 256) (r q : Fin 32) : (entryContents preI m c (Proc.devRef .tc main_v146_3) : FVec Ideal S512x32x32 .f32) (ix3 ⟨256 + b.val, by omega⟩ r q)
    = simMap (W m c b) ((m ((c.tc : Thread nD τ).loc main_arg10)) (ix1 b)) ((m ((c.tc : Thread nD τ).loc main_arg11)) (ix1 b)) 3 1 r q := by
  have e := maps_at m c ⟨256 + b.val, by omega⟩ r q
  rw [if_neg (show ¬ (256 + b.val < 256) by omega)] at e
  have hb : (⟨(256 + b.val) % 256, by omega⟩ : Fin 256) = b := Fin.ext (show (256 + b.val) % 256 = b.val by omega)
  exact (e.trans (congrArg (fun b : Fin 256 => (entryContents preI m c (Proc.devRef .tc main_v135) : FVec Ideal S256x12x32x32 .f32) (ix4 b 10 r q)) hb)).trans (masked_at m c b 10 r q)

end Cert.FocusRefIdeal.Entry
-- ==== Proof.FocusRefFinal.lean ====
module

public import proofs.«01_k».proof.Proof.Gen.FocusRefIdeal.Run
public import proofs.«01_k».proof.Proof.FocusSpec
public import proofs.«01_k».proof.Proof.FocusRefLoop
public import proofs.«01_k».proof.Proof.FocusRefEntry

@[expose] public section

set_option maxRecDepth 16384

noncomputable section

open Idealize.ShloMosaic Idealize.ShloMosaic.TcCoe Idealize.SL.Sem Idealize.ShloMosaic.Tactic
open Idealize.ShloMosaic.StableHlo

namespace Cert.FocusRefIdeal.Out

open Cert.FocusRefIdeal Cert.FocusRefIdeal.Gen Cert.FocusRefIdeal.Value Cert.FocusSpec

variable (X : Valuation τ sig (Elt Ideal))

/-- Either selection's record. -/
theorem either_at (b : Fin 256) (r q : Fin 32) : (after hostOps0_1 X (Proc.devRef .tc main_v150) : IVec S256x1x32x32 1) (ix4 b 0 r q)
    = IntOp.ori ((X (Proc.devRef .tc main_v146_4) : IVec S512x32x32 1) (ix3 ⟨b.val, by omega⟩ r q)) ((X (Proc.devRef .tc main_v146_4) : IVec S512x32x32 1) (ix3 ⟨256 + b.val, by omega⟩ r q)) := by
  after_reads_simp
  pointwise

/-- The full weight. -/
theorem full_eq : after hostOps0_1 X (Proc.devRef .tc main_cst_15) = (constant (F := Ideal) S_ .f32 0x3F800000#32 : FVec Ideal S_ .f32) := by
  after_reads_simp

/-- The small weight. -/
theorem tenth_eq : after hostOps0_1 X (Proc.devRef .tc main_cst_16) = (constant (F := Ideal) S_ .f32 0x3DCCCCCD#32 : FVec Ideal S_ .f32) := by
  after_reads_simp

/-- The weights. -/
theorem weight_at (h1 : X (Proc.devRef .tc main_cst_15) = (constant (F := Ideal) S_ .f32 0x3F800000#32 : FVec Ideal S_ .f32))
    (h2 : X (Proc.devRef .tc main_cst_16) = (constant (F := Ideal) S_ .f32 0x3DCCCCCD#32 : FVec Ideal S_ .f32)) (b : Fin 256) (r q : Fin 32) :
    (after hostOps0_2 X (Proc.devRef .tc main_v151) : FVec Ideal S256x1x32x32 .f32) (ix4 b 0 r q)
      = Scalar.select ((X (Proc.devRef .tc main_v150) : IVec S256x1x32x32 1) (ix4 b 0 r q)) (FloatOps.ofBits (F := Ideal) .f32 0x3F800000#32 : EReal) (FloatOps.ofBits (F := Ideal) .f32 0x3DCCCCCD#32 : EReal) := by
  after_reads_simp
  rw [h1, h2]
  simp -implicitDefEqProofs only [TRef.toBuf, TRef.ofBuf, cast_cast, cast_eq]
  pointwise

/-- A similarity with its weight, kept where no word is past its sentence's end. -/
def scaled (w v p : EReal) : EReal := w * v * (FloatOps.ofBits (F := Ideal) .f32 0x3F800000#32 - p)

/-- The weighted similarities. -/
theorem out_at (k : Fin 12) (r q : Fin 32) (b : Fin 256) : (after hostOps0_3 X (Proc.devRef .tc main_v160) : FVec Ideal S12x32x32x256 .f32) (ix4 k r q b)
    = scaled ((X (Proc.devRef .tc main_v151) : FVec Ideal S256x1x32x32 .f32) (ix4 b 0 r q)) ((X (Proc.devRef .tc main_v135) : FVec Ideal S256x12x32x32 .f32) (ix4 b k r q))
      ((X (Proc.devRef .tc main_v130) : FVec Ideal S256x32x32 .f32) (ix3 b r q)) := by
  unfold scaled
  after_reads_simp
  pointwise
  rfl

/-- What the three last stretches write. -/
abbrev post_W : List (Ref sig .tc) := [main_v147, main_v148, main_v149, main_v150, main_cst_15, main_cst_16, main_call4_v0, main_call4_v1, main_v151, main_v152, main_v153, main_v154, main_v155, main_cst_17, main_v156, main_v157, main_v158, main_v159, main_v160]

/-- The first of the last stretches leaves what they do not write. -/
theorem p1 (r : Ref sig .tc) (hr : r ∉ post_W) : after hostOps0_1 X (Proc.devRef .tc r) = X (Proc.devRef .tc r) :=
  after_of_writes_sub (W := [main_v147, main_v148, main_v149, main_v150, main_cst_15, main_cst_16]) hostOps0_1 X (StableHlo.forall_writes_sub_of_map rfl) fun h => hr (List.mem_append_left [main_call4_v0, main_call4_v1, main_v151, main_v152, main_v153, main_v154, main_v155, main_cst_17, main_v156, main_v157, main_v158, main_v159, main_v160] h)

/-- The second of the last stretches leaves what they do not write. -/
theorem p2 (r : Ref sig .tc) (hr : r ∉ post_W) : after hostOps0_2 X (Proc.devRef .tc r) = X (Proc.devRef .tc r) :=
  after_of_writes_sub (W := [main_call4_v0, main_call4_v1, main_v151]) hostOps0_2 X (StableHlo.forall_writes_sub_of_map rfl) fun h =>
    hr (List.mem_append_right [main_v147, main_v148, main_v149, main_v150, main_cst_15, main_cst_16] (List.mem_append_left [main_v152, main_v153, main_v154, main_v155, main_cst_17, main_v156, main_v157, main_v158, main_v159, main_v160] h))

/-- The third of the last stretches leaves what they do not write. -/
theorem p3 (r : Ref sig .tc) (hr : r ∉ post_W) : after hostOps0_3 X (Proc.devRef .tc r) = X (Proc.devRef .tc r) :=
  after_of_writes_sub (W := [main_v152, main_v153, main_v154, main_v155, main_cst_17, main_v156, main_v157, main_v158, main_v159, main_v160]) hostOps0_3 X (StableHlo.forall_writes_sub_of_map rfl) fun h =>
    hr (List.mem_append_right [main_v147, main_v148, main_v149, main_v150, main_cst_15, main_cst_16, main_call4_v0, main_call4_v1, main_v151] h)

variable (m : (ℓ : Loc nD τ sig) → Buf (Elt Ideal) ℓ) (c : Dev nD)

/-- The contents the reference ends with. -/
abbrev fin : Valuation τ sig (Elt Ideal) := finalContents condOps preI bodyI postI 32 m c

/-- The reference's ending contents, stretch by stretch. -/
theorem fin_eq : fin m c = after hostOps0_3 (after hostOps0_2 (after hostOps0_1 (after condOps (atK m 32 c)))) := rfl

/-- An argument is as at the launch. -/
theorem arg_kept (r : Ref sig .tc) (hp : r ∉ post_W) (hc : r ∉ condOps_W) (hb : ∀ W ∈ [condOps_W, while0Ops0_W, while0Ops0_1_W, while0Ops0_2_W, while0Ops0_3_W, while0Ops0_4_W, while0Ops0_5_W, while0Ops0_6_W, while0Ops0_7_W, while0Ops0_8_W], r ∉ W) (he : r ∉ hostOps0_W) :
    fin m c (Proc.devRef .tc r) = m ((c.tc : Thread nD τ).loc r) := by
  rw [fin_eq, p3 _ r hp, p2 _ r hp, p1 _ r hp, Loop.kc r _ hc, Loop.kept m c r hb]
  simp only [entryContents, afterL_cons, afterL_nil]
  exact after_of_writes_sub hostOps0 _ hostOps0_writes he

/-- The result is the weighted similarities of the arguments. -/
theorem out_eq : fin m c (Proc.devRef .tc main_v160) = focus (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext y
  idx_vars y
  rw [fin_eq]
  obtain ⟨M, hM⟩ : ∃ M : Fin 512 → Map, ∀ n r q, (entryContents preI m c (Proc.devRef .tc main_v146_3) : FVec Ideal S512x32x32 .f32) (ix3 n r q) = M n r q := ⟨_, fun _ _ _ => rfl⟩
  have hl := Loop.loop_at m c M hM (fun n r q => Entry.none_at m c n r q) (fun r => Entry.rows_at m c r) (fun q => Entry.cols_at m c q) 32
  have e1 : M ⟨y3.val, by omega⟩ = _ := funext fun r => funext fun q => (hM ⟨y3.val, by omega⟩ r q).symm.trans (Entry.first_map m c y3 r q)
  have e2 : M ⟨256 + y3.val, by omega⟩ = _ := funext fun r => funext fun q => (hM ⟨256 + y3.val, by omega⟩ r q).symm.trans (Entry.second_map m c y3 r q)
  refine (out_at _ y0 y1 y2 y3).trans ?_
  rw [weight_at _ (full_eq _) (tenth_eq _), either_at, Loop.kc main_v146_4 _ (by decide +kernel), hl.2, hl.2,
    p2 _ main_v135 (by decide +kernel), p1 _ main_v135 (by decide +kernel), Loop.kc main_v135 _ (by decide +kernel), Loop.kept m c main_v135 (by decide +kernel),
    p2 _ main_v130 (by decide +kernel), p1 _ main_v130 (by decide +kernel), Loop.kc main_v130 _ (by decide +kernel), Loop.kept m c main_v130 (by decide +kernel),
    Entry.masked_at, Entry.pad_at]
  rw [e1, e2]
  rfl

/-- The reference ends with the weighted similarities, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v160) = focus (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c main_v160 rfl).trans (out_eq m c),
    (h c main_arg0 rfl).trans (arg_kept m c main_arg0 (by decide +kernel) (by decide +kernel) (by decide +kernel) (by decide +kernel)),
    (h c main_arg1 rfl).trans (arg_kept m c main_arg1 (by decide +kernel) (by decide +kernel) (by decide +kernel) (by decide +kernel)),
    (h c main_arg2 rfl).trans (arg_kept m c main_arg2 (by decide +kernel) (by decide +kernel) (by decide +kernel) (by decide +kernel)),
    (h c main_arg3 rfl).trans (arg_kept m c main_arg3 (by decide +kernel) (by decide +kernel) (by decide +kernel) (by decide +kernel)),
    (h c main_arg4 rfl).trans (arg_kept m c main_arg4 (by decide +kernel) (by decide +kernel) (by decide +kernel) (by decide +kernel)),
    (h c main_arg5 rfl).trans (arg_kept m c main_arg5 (by decide +kernel) (by decide +kernel) (by decide +kernel) (by decide +kernel)),
    (h c main_arg6 rfl).trans (arg_kept m c main_arg6 (by decide +kernel) (by decide +kernel) (by decide +kernel) (by decide +kernel)),
    (h c main_arg7 rfl).trans (arg_kept m c main_arg7 (by decide +kernel) (by decide +kernel) (by decide +kernel) (by decide +kernel)),
    (h c main_arg8 rfl).trans (arg_kept m c main_arg8 (by decide +kernel) (by decide +kernel) (by decide +kernel) (by decide +kernel)),
    (h c main_arg9 rfl).trans (arg_kept m c main_arg9 (by decide +kernel) (by decide +kernel) (by decide +kernel) (by decide +kernel)),
    (h c main_arg10 rfl).trans (arg_kept m c main_arg10 (by decide +kernel) (by decide +kernel) (by decide +kernel) (by decide +kernel)),
    (h c main_arg11 rfl).trans (arg_kept m c main_arg11 (by decide +kernel) (by decide +kernel) (by decide +kernel) (by decide +kernel))⟩) (Value.run_fold m ρ)

end Cert.FocusRefIdeal.Out
-- ==== Proof.lean ====
module

public import proofs.«01_k».proof.Defs
public import proofs.«01_k».proof.Proof.Gen.Dots
public import proofs.«01_k».proof.Proof.Gen.Dots.Frame
public import proofs.«01_k».proof.Proof.Gen.DotsIdeal
public import proofs.«01_k».proof.Proof.Gen.DotsIdeal.Value
public import proofs.«01_k».proof.Proof.Gen.DotsRefIdeal
public import proofs.«01_k».proof.Proof.Gen.DotsRefIdeal.Run
public import proofs.«01_k».proof.Proof.Gen.Focus
public import proofs.«01_k».proof.Proof.Gen.Focus.Frame
public import proofs.«01_k».proof.Proof.Gen.FocusIdeal
public import proofs.«01_k».proof.Proof.Gen.FocusIdeal.Value
public import proofs.«01_k».proof.Proof.Gen.FocusRefIdeal
public import proofs.«01_k».proof.Proof.Gen.FocusRefIdeal.Run
public import proofs.«01_k».proof.Proof.Gen.Lstm
public import proofs.«01_k».proof.Proof.Gen.LstmIdeal
public import proofs.«01_k».proof.Proof.Gen.LstmRefIdeal
public import proofs.«01_k».proof.Proof.Gen.LstmRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.LstmBitsFrame
public import proofs.«01_k».proof.Proof.LstmRows
public import proofs.«01_k».proof.Proof.LstmRef
public import proofs.«01_k».proof.Proof.ConvRefFinal
public import proofs.«01_k».proof.Proof.DotsRef
public import proofs.«01_k».proof.Proof.DotsBlocks
public import proofs.«01_k».proof.Proof.ConvFinal
public import proofs.«01_k».proof.Proof.FocusFinal
public import proofs.«01_k».proof.Proof.FocusRefFinal
public import Idealize.ShloMosaic.Adequacy
public import Idealize.ShloMosaic.Init

@[expose] public section

open Idealize.ShloMosaic Idealize.ShloMosaic.TcCoe Idealize.SL.Sem Idealize.ShloMosaic.Tactic

/-- The idealized reference of the LSTM leaves its arguments as they were. -/
theorem Cert.Proof.frame_lstm_ref : Cert.quiescent_LstmRefIdeal := by
  intro m g hpre
  refine (θ_run _ _ _).mono (fun r h => ⟨fun c => ?_, ?_⟩) (Cert.LstmRefIdeal.Value.run m g)
  · exact (h c).2
  · funext s
    obtain ⟨t, s⟩ := s
    cases s with
    | reg s => exact Fin.elim0 s
    | dma s => exact Fin.elim0 s

/-- Both LSTM programs end with the recurrence's hidden rows. -/
theorem Cert.Proof.lstm : Cert.algebraic_LstmIdeal_LstmRefIdeal := by
  pair_intro
  · run_from Cert.LstmIdeal.Value.run_blocks m g
  · run_from Cert.LstmRefIdeal.Value.run m' g'
    rw [Cert.LstmRefIdeal.Rows.reference_all m' c, Cert.LstmIdeal.Out.final m c, Cert.LstmIdeal.Rows.kernel_all m c]
    obtain ⟨h0, h1, h2, h3, h4, h5⟩ := hagree c
    rw [h0, h1, h2, h3, h4, h5]

/-- The idealized reference of the convolutions leaves its arguments as they were. -/
theorem Cert.Proof.frame_conv_ref : Cert.quiescent_ConvRefIdeal := by
  intro m g hpre
  refine (θ_run _ _ _).mono (fun r h => ⟨fun c => ?_, ?_⟩) (Cert.ConvRefIdeal.Value.run m g)
  · exact (h c).2
  · funext s
    obtain ⟨t, s⟩ := s
    cases s with
    | reg s => exact Fin.elim0 s
    | dma s => exact Fin.elim0 s

/-- Both convolution programs end with the specification's log-probabilities. -/
theorem Cert.Proof.conv : Cert.algebraic_ConvIdeal_ConvRefIdeal := by
  pair_intro
  · run_from Cert.ConvIdeal.Out.run m g
  · run_from Cert.ConvRefIdeal.Out.run m' g'
    obtain ⟨h0, h1, h2, h3, h4, h5, h6, h7, h8, h9, h10, h11, h12, h13, h14⟩ := hagree c
    have e : Cert.ConvRefIdeal.Layers.args (StableHlo.launchContents m' c) = Cert.ConvIdeal.Host.args m c := by
      unfold Cert.ConvRefIdeal.Layers.args Cert.ConvIdeal.Host.args
      congr 1
    unfold Cert.ConvRefIdeal.Out.LP Cert.ConvIdeal.Out.LP
    rw [e]

/-- The idealized reference of the inner products leaves its arguments as they were. -/
theorem Cert.Proof.frame_dots_ref : Cert.quiescent_DotsRefIdeal := by
  intro m g hpre
  refine (θ_run _ _ _).mono (fun r h => ⟨fun c => ?_, ?_⟩) (Cert.DotsRefIdeal.Value.run m g)
  · exact (h c).2.2.2.2.2.2.2.2.2.2
  · funext s
    obtain ⟨t, s⟩ := s
    cases s with
    | reg s => exact Fin.elim0 s
    | dma s => exact Fin.elim0 s

/-- Both programs of the inner products end with the same ten arrays. -/
theorem Cert.Proof.dots : Cert.algebraic_DotsIdeal_DotsRefIdeal := by
  pair_intro
  · run_from Cert.DotsIdeal.Out.run m g
  · run_from Cert.DotsRefIdeal.Out.run m' g'
    all_goals
      obtain ⟨h0, h1, h2, h3⟩ := hagree c
      simp only [h0, h1, h2, h3]

/-- The idealized reference of the weighted similarities leaves its arguments as they were. -/
theorem Cert.Proof.frame_focus_ref : Cert.quiescent_FocusRefIdeal := by
  intro m g hpre
  refine (θ_run _ _ _).mono (fun r h => ⟨fun c => ?_, ?_⟩) (Cert.FocusRefIdeal.Out.run m g)
  · exact (h c).2
  · funext s
    obtain ⟨t, s⟩ := s
    cases s with
    | reg s => exact Fin.elim0 s
    | dma s => exact Fin.elim0 s

/-- Both programs of the weighted similarities end with the same twelve maps. -/
theorem Cert.Proof.focus : Cert.algebraic_FocusIdeal_FocusRefIdeal := by
  pair_intro
  · run_from Cert.FocusIdeal.Out.run m g
  · run_from Cert.FocusRefIdeal.Out.run m' g'

/-- All claims. -/
theorem Cert.Proof.claim : Cert.Claim :=
  ⟨Cert.Lstm.Gen.facts, Cert.LstmIdeal.Gen.facts, Cert.LstmRefIdeal.Gen.facts, Cert.Conv.Gen.facts, Cert.ConvIdeal.Gen.facts, Cert.ConvRefIdeal.Gen.facts, Cert.Dots.Gen.facts, Cert.DotsIdeal.Gen.facts, Cert.DotsRefIdeal.Gen.facts,
    Cert.Focus.Gen.facts, Cert.FocusIdeal.Gen.facts, Cert.FocusRefIdeal.Gen.facts,
    fun m ρ _ => Cert.Lstm.Gen.frame m ρ, fun m ρ _ => Cert.LstmIdeal.Gen.frame m ρ, Cert.Proof.frame_lstm_ref,
    fun m ρ _ => Cert.Conv.Gen.frame m ρ, fun m ρ _ => Cert.ConvIdeal.Gen.frame m ρ, Cert.Proof.frame_conv_ref, fun m ρ _ => Cert.Dots.Gen.frame m ρ, fun m ρ _ => Cert.DotsIdeal.Gen.frame m ρ, Cert.Proof.frame_dots_ref,
    fun m ρ _ => Cert.Focus.Gen.frame m ρ, fun m ρ _ => Cert.FocusIdeal.Gen.frame m ρ, Cert.Proof.frame_focus_ref,
    trivial, Cert.Proof.lstm, trivial, Cert.Proof.conv, trivial, Cert.Proof.dots, trivial, Cert.Proof.focus⟩
